-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite [hPre_finite : Cert.Pre_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite.fn (F := Ideal) (m ((c.tc : Thread Cert.AttentionIdeal.nD Cert.AttentionIdeal.τ).loc Cert.AttentionIdeal.main_arg0))) = (fun _ => 1#1)

def Pre_AttentionSpecIdeal (m : (ℓ : Loc Cert.AttentionSpecIdeal.nD Cert.AttentionSpecIdeal.τ Cert.AttentionSpecIdeal.sig) → Buf (Elt Ideal) ℓ) : Prop :=
  True

def Pre_AttentionSpecIdeal_finite [hPre_finite : Cert.Pre_finite.Facts] (m : (ℓ : Loc Cert.AttentionSpecIdeal.nD Cert.AttentionSpecIdeal.τ Cert.AttentionSpecIdeal.sig) → Buf (Elt Ideal) ℓ) : Prop :=
  ∀ c : Dev Cert.AttentionSpecIdeal.nD,
    (Cert.Pre_finite.fn (F := Ideal) (m ((c.tc : Thread Cert.AttentionSpecIdeal.nD Cert.AttentionSpecIdeal.τ).loc Cert.AttentionSpecIdeal.main_arg0))) = (fun _ => 1#1)

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsSpecIdeal (m : (ℓ : Loc Cert.ExpertsSpecIdeal.nD Cert.ExpertsSpecIdeal.τ Cert.ExpertsSpecIdeal.sig) → Buf (Elt Ideal) ℓ) : Prop :=
  True

def Pre_ExpertsSpecIdeal_tables [hPre_tables : Cert.Pre_tables.Facts] (m : (ℓ : Loc Cert.ExpertsSpecIdeal.nD Cert.ExpertsSpecIdeal.τ Cert.ExpertsSpecIdeal.sig) → Buf (Elt Ideal) ℓ) : Prop :=
  ∀ c : Dev Cert.ExpertsSpecIdeal.nD,
    (Cert.Pre_tables.fn (F := Ideal) (m ((c.tc : Thread Cert.ExpertsSpecIdeal.nD Cert.ExpertsSpecIdeal.τ).loc Cert.ExpertsSpecIdeal.main_arg0)) (m ((c.tc : Thread Cert.ExpertsSpecIdeal.nD Cert.ExpertsSpecIdeal.τ).loc Cert.ExpertsSpecIdeal.main_arg1)) (m ((c.tc : Thread Cert.ExpertsSpecIdeal.nD Cert.ExpertsSpecIdeal.τ).loc Cert.ExpertsSpecIdeal.main_arg2)) (m ((c.tc : Thread Cert.ExpertsSpecIdeal.nD Cert.ExpertsSpecIdeal.τ).loc Cert.ExpertsSpecIdeal.main_arg3)) (m ((c.tc : Thread Cert.ExpertsSpecIdeal.nD Cert.ExpertsSpecIdeal.τ).loc Cert.ExpertsSpecIdeal.main_arg4))) = (fun _ => 1#1)

def Pre_LastExperts [hPre_last_tables : Cert.Pre_last_tables.Facts] (m : (ℓ : Loc Cert.LastExperts.nD Cert.LastExperts.τ Cert.LastExperts.sig) → Buf (Elt Bits) ℓ) : Prop :=
  ∀ c : Dev Cert.LastExperts.nD,
    (Cert.Pre_last_tables.fn (F := Bits) (m ((c.tc : Thread Cert.LastExperts.nD Cert.LastExperts.τ).loc Cert.LastExperts.main_arg0)) (m ((c.tc : Thread Cert.LastExperts.nD Cert.LastExperts.τ).loc Cert.LastExperts.main_arg1)) (m ((c.tc : Thread Cert.LastExperts.nD Cert.LastExperts.τ).loc Cert.LastExperts.main_arg2)) (m ((c.tc : Thread Cert.LastExperts.nD Cert.LastExperts.τ).loc Cert.LastExperts.main_arg3)) (m ((c.tc : Thread Cert.LastExperts.nD Cert.LastExperts.τ).loc Cert.LastExperts.main_arg4))) = (fun _ => 1#1)

def Pre_LastExpertsIdeal [hPre_last_tables : Cert.Pre_last_tables.Facts] (m : (ℓ : Loc Cert.LastExpertsIdeal.nD Cert.LastExpertsIdeal.τ Cert.LastExpertsIdeal.sig) → Buf (Elt Ideal) ℓ) : Prop :=
  ∀ c : Dev Cert.LastExpertsIdeal.nD,
    (Cert.Pre_last_tables.fn (F := Ideal) (m ((c.tc : Thread Cert.LastExpertsIdeal.nD Cert.LastExpertsIdeal.τ).loc Cert.LastExpertsIdeal.main_arg0)) (m ((c.tc : Thread Cert.LastExpertsIdeal.nD Cert.LastExpertsIdeal.τ).loc Cert.LastExpertsIdeal.main_arg1)) (m ((c.tc : Thread Cert.LastExpertsIdeal.nD Cert.LastExpertsIdeal.τ).loc Cert.LastExpertsIdeal.main_arg2)) (m ((c.tc : Thread Cert.LastExpertsIdeal.nD Cert.LastExpertsIdeal.τ).loc Cert.LastExpertsIdeal.main_arg3)) (m ((c.tc : Thread Cert.LastExpertsIdeal.nD Cert.LastExpertsIdeal.τ).loc Cert.LastExpertsIdeal.main_arg4))) = (fun _ => 1#1)

def Pre_LastExpertsSpecIdeal (m : (ℓ : Loc Cert.LastExpertsSpecIdeal.nD Cert.LastExpertsSpecIdeal.τ Cert.LastExpertsSpecIdeal.sig) → Buf (Elt Ideal) ℓ) : Prop :=
  True

def Pre_LastExpertsSpecIdeal_last_tables [hPre_last_tables : Cert.Pre_last_tables.Facts] (m : (ℓ : Loc Cert.LastExpertsSpecIdeal.nD Cert.LastExpertsSpecIdeal.τ Cert.LastExpertsSpecIdeal.sig) → Buf (Elt Ideal) ℓ) : Prop :=
  ∀ c : Dev Cert.LastExpertsSpecIdeal.nD,
    (Cert.Pre_last_tables.fn (F := Ideal) (m ((c.tc : Thread Cert.LastExpertsSpecIdeal.nD Cert.LastExpertsSpecIdeal.τ).loc Cert.LastExpertsSpecIdeal.main_arg0)) (m ((c.tc : Thread Cert.LastExpertsSpecIdeal.nD Cert.LastExpertsSpecIdeal.τ).loc Cert.LastExpertsSpecIdeal.main_arg1)) (m ((c.tc : Thread Cert.LastExpertsSpecIdeal.nD Cert.LastExpertsSpecIdeal.τ).loc Cert.LastExpertsSpecIdeal.main_arg2)) (m ((c.tc : Thread Cert.LastExpertsSpecIdeal.nD Cert.LastExpertsSpecIdeal.τ).loc Cert.LastExpertsSpecIdeal.main_arg3)) (m ((c.tc : Thread Cert.LastExpertsSpecIdeal.nD Cert.LastExpertsSpecIdeal.τ).loc Cert.LastExpertsSpecIdeal.main_arg4))) = (fun _ => 1#1)

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputSpecIdeal (m : (ℓ : Loc Cert.OutputSpecIdeal.nD Cert.OutputSpecIdeal.τ Cert.OutputSpecIdeal.sig) → Buf (Elt Ideal) ℓ) : Prop :=
  True

def Pre_MlstmIn (m : (ℓ : Loc Cert.MlstmIn.nD Cert.MlstmIn.τ Cert.MlstmIn.sig) → Buf (Elt Bits) ℓ) : Prop :=
  True

def Pre_MlstmInIdeal (m : (ℓ : Loc Cert.MlstmInIdeal.nD Cert.MlstmInIdeal.τ Cert.MlstmInIdeal.sig) → Buf (Elt Ideal) ℓ) : Prop :=
  True

def Pre_MlstmInSpecIdeal (m : (ℓ : Loc Cert.MlstmInSpecIdeal.nD Cert.MlstmInSpecIdeal.τ Cert.MlstmInSpecIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvSpecIdeal (m : (ℓ : Loc Cert.QkvSpecIdeal.nD Cert.QkvSpecIdeal.τ Cert.QkvSpecIdeal.sig) → Buf (Elt Ideal) ℓ) : Prop :=
  True

def Pre_WindowQkv (m : (ℓ : Loc Cert.WindowQkv.nD Cert.WindowQkv.τ Cert.WindowQkv.sig) → Buf (Elt Bits) ℓ) : Prop :=
  True

def Pre_WindowQkvIdeal (m : (ℓ : Loc Cert.WindowQkvIdeal.nD Cert.WindowQkvIdeal.τ Cert.WindowQkvIdeal.sig) → Buf (Elt Ideal) ℓ) : Prop :=
  True

def Pre_WindowQkvSpecIdeal (m : (ℓ : Loc Cert.WindowQkvSpecIdeal.nD Cert.WindowQkvSpecIdeal.τ Cert.WindowQkvSpecIdeal.sig) → Buf (Elt Ideal) ℓ) : Prop :=
  True

def Pre_Finish [hPre_rows_taken : Cert.Pre_rows_taken.Facts] (m : (ℓ : Loc Cert.Finish.nD Cert.Finish.τ Cert.Finish.sig) → Buf (Elt Bits) ℓ) : Prop :=
  ∀ c : Dev Cert.Finish.nD,
    (Cert.Pre_rows_taken.fn (F := Bits) (m ((c.tc : Thread Cert.Finish.nD Cert.Finish.τ).loc Cert.Finish.main_arg0)) (m ((c.tc : Thread Cert.Finish.nD Cert.Finish.τ).loc Cert.Finish.main_arg1)) (m ((c.tc : Thread Cert.Finish.nD Cert.Finish.τ).loc Cert.Finish.main_arg2)) (m ((c.tc : Thread Cert.Finish.nD Cert.Finish.τ).loc Cert.Finish.main_arg3)) (m ((c.tc : Thread Cert.Finish.nD Cert.Finish.τ).loc Cert.Finish.main_arg4)) (m ((c.tc : Thread Cert.Finish.nD Cert.Finish.τ).loc Cert.Finish.main_arg5)) (m ((c.tc : Thread Cert.Finish.nD Cert.Finish.τ).loc Cert.Finish.main_arg6))) = (fun _ => 1#1)

def Pre_FinishIdeal [hPre_rows_taken : Cert.Pre_rows_taken.Facts] (m : (ℓ : Loc Cert.FinishIdeal.nD Cert.FinishIdeal.τ Cert.FinishIdeal.sig) → Buf (Elt Ideal) ℓ) : Prop :=
  ∀ c : Dev Cert.FinishIdeal.nD,
    (Cert.Pre_rows_taken.fn (F := Ideal) (m ((c.tc : Thread Cert.FinishIdeal.nD Cert.FinishIdeal.τ).loc Cert.FinishIdeal.main_arg0)) (m ((c.tc : Thread Cert.FinishIdeal.nD Cert.FinishIdeal.τ).loc Cert.FinishIdeal.main_arg1)) (m ((c.tc : Thread Cert.FinishIdeal.nD Cert.FinishIdeal.τ).loc Cert.FinishIdeal.main_arg2)) (m ((c.tc : Thread Cert.FinishIdeal.nD Cert.FinishIdeal.τ).loc Cert.FinishIdeal.main_arg3)) (m ((c.tc : Thread Cert.FinishIdeal.nD Cert.FinishIdeal.τ).loc Cert.FinishIdeal.main_arg4)) (m ((c.tc : Thread Cert.FinishIdeal.nD Cert.FinishIdeal.τ).loc Cert.FinishIdeal.main_arg5)) (m ((c.tc : Thread Cert.FinishIdeal.nD Cert.FinishIdeal.τ).loc Cert.FinishIdeal.main_arg6))) = (fun _ => 1#1)

def Pre_FinishSpecIdeal (m : (ℓ : Loc Cert.FinishSpecIdeal.nD Cert.FinishSpecIdeal.τ Cert.FinishSpecIdeal.sig) → Buf (Elt Ideal) ℓ) : Prop :=
  True

def Pre_FinishSpecIdeal_rows_taken [hPre_rows_taken : Cert.Pre_rows_taken.Facts] (m : (ℓ : Loc Cert.FinishSpecIdeal.nD Cert.FinishSpecIdeal.τ Cert.FinishSpecIdeal.sig) → Buf (Elt Ideal) ℓ) : Prop :=
  ∀ c : Dev Cert.FinishSpecIdeal.nD,
    (Cert.Pre_rows_taken.fn (F := Ideal) (m ((c.tc : Thread Cert.FinishSpecIdeal.nD Cert.FinishSpecIdeal.τ).loc Cert.FinishSpecIdeal.main_arg0)) (m ((c.tc : Thread Cert.FinishSpecIdeal.nD Cert.FinishSpecIdeal.τ).loc Cert.FinishSpecIdeal.main_arg1)) (m ((c.tc : Thread Cert.FinishSpecIdeal.nD Cert.FinishSpecIdeal.τ).loc Cert.FinishSpecIdeal.main_arg2)) (m ((c.tc : Thread Cert.FinishSpecIdeal.nD Cert.FinishSpecIdeal.τ).loc Cert.FinishSpecIdeal.main_arg3)) (m ((c.tc : Thread Cert.FinishSpecIdeal.nD Cert.FinishSpecIdeal.τ).loc Cert.FinishSpecIdeal.main_arg4)) (m ((c.tc : Thread Cert.FinishSpecIdeal.nD Cert.FinishSpecIdeal.τ).loc Cert.FinishSpecIdeal.main_arg5)) (m ((c.tc : Thread Cert.FinishSpecIdeal.nD Cert.FinishSpecIdeal.τ).loc Cert.FinishSpecIdeal.main_arg6))) = (fun _ => 1#1)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ r.2.sem = fun _ => 0)

def quiescent_AttentionIdeal_pre_finite [hAttentionIdeal : Cert.AttentionIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ r.2.sem = fun _ => 0)

def quiescent_AttentionSpecIdeal [hAttentionSpecIdeal : Cert.AttentionSpecIdeal.Facts] : Prop :=
  ∀ (m : (ℓ : Loc Cert.AttentionSpecIdeal.nD Cert.AttentionSpecIdeal.τ Cert.AttentionSpecIdeal.sig) → Buf (Elt Ideal) ℓ) (g : Dev Cert.AttentionSpecIdeal.nD → PrngReg), Pre_AttentionSpecIdeal m →
    θ_run (Cert.AttentionSpecIdeal.defs (F := Ideal)) (onTc (τ := Cert.AttentionSpecIdeal.τ) (Cert.AttentionSpecIdeal.main (F := Ideal))) ⟨m, fun _ => 0, g⟩ (fun r => (∀ c : Dev Cert.AttentionSpecIdeal.nD,
      r.2.mem ((c.tc : Thread Cert.AttentionSpecIdeal.nD Cert.AttentionSpecIdeal.τ).loc Cert.AttentionSpecIdeal.main_arg0) = m ((c.tc : Thread Cert.AttentionSpecIdeal.nD Cert.AttentionSpecIdeal.τ).loc Cert.AttentionSpecIdeal.main_arg0))
      ∧ r.2.sem = fun _ => 0)

def quiescent_AttentionSpecIdeal_pre_finite [hAttentionSpecIdeal : Cert.AttentionSpecIdeal.Facts] [hPre_finite : Cert.Pre_finite.Facts] : Prop :=
  ∀ (m : (ℓ : Loc Cert.AttentionSpecIdeal.nD Cert.AttentionSpecIdeal.τ Cert.AttentionSpecIdeal.sig) → Buf (Elt Ideal) ℓ) (g : Dev Cert.AttentionSpecIdeal.nD → PrngReg), Pre_AttentionSpecIdeal_finite m →
    θ_run (Cert.AttentionSpecIdeal.defs (F := Ideal)) (onTc (τ := Cert.AttentionSpecIdeal.τ) (Cert.AttentionSpecIdeal.main (F := Ideal))) ⟨m, fun _ => 0, g⟩ (fun r => (∀ c : Dev Cert.AttentionSpecIdeal.nD,
      r.2.mem ((c.tc : Thread Cert.AttentionSpecIdeal.nD Cert.AttentionSpecIdeal.τ).loc Cert.AttentionSpecIdeal.main_arg0) = m ((c.tc : Thread Cert.AttentionSpecIdeal.nD Cert.AttentionSpecIdeal.τ).loc Cert.AttentionSpecIdeal.main_arg0))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsSpecIdeal [hExpertsSpecIdeal : Cert.ExpertsSpecIdeal.Facts] : Prop :=
  ∀ (m : (ℓ : Loc Cert.ExpertsSpecIdeal.nD Cert.ExpertsSpecIdeal.τ Cert.ExpertsSpecIdeal.sig) → Buf (Elt Ideal) ℓ) (g : Dev Cert.ExpertsSpecIdeal.nD → PrngReg), Pre_ExpertsSpecIdeal m →
    θ_run (Cert.ExpertsSpecIdeal.defs (F := Ideal)) (onTc (τ := Cert.ExpertsSpecIdeal.τ) (Cert.ExpertsSpecIdeal.main (F := Ideal))) ⟨m, fun _ => 0, g⟩ (fun r => (∀ c : Dev Cert.ExpertsSpecIdeal.nD,
      r.2.mem ((c.tc : Thread Cert.ExpertsSpecIdeal.nD Cert.ExpertsSpecIdeal.τ).loc Cert.ExpertsSpecIdeal.main_arg0) = m ((c.tc : Thread Cert.ExpertsSpecIdeal.nD Cert.ExpertsSpecIdeal.τ).loc Cert.ExpertsSpecIdeal.main_arg0)
      ∧ r.2.mem ((c.tc : Thread Cert.ExpertsSpecIdeal.nD Cert.ExpertsSpecIdeal.τ).loc Cert.ExpertsSpecIdeal.main_arg1) = m ((c.tc : Thread Cert.ExpertsSpecIdeal.nD Cert.ExpertsSpecIdeal.τ).loc Cert.ExpertsSpecIdeal.main_arg1)
      ∧ r.2.mem ((c.tc : Thread Cert.ExpertsSpecIdeal.nD Cert.ExpertsSpecIdeal.τ).loc Cert.ExpertsSpecIdeal.main_arg2) = m ((c.tc : Thread Cert.ExpertsSpecIdeal.nD Cert.ExpertsSpecIdeal.τ).loc Cert.ExpertsSpecIdeal.main_arg2)
      ∧ r.2.mem ((c.tc : Thread Cert.ExpertsSpecIdeal.nD Cert.ExpertsSpecIdeal.τ).loc Cert.ExpertsSpecIdeal.main_arg3) = m ((c.tc : Thread Cert.ExpertsSpecIdeal.nD Cert.ExpertsSpecIdeal.τ).loc Cert.ExpertsSpecIdeal.main_arg3)
      ∧ r.2.mem ((c.tc : Thread Cert.ExpertsSpecIdeal.nD Cert.ExpertsSpecIdeal.τ).loc Cert.ExpertsSpecIdeal.main_arg4) = m ((c.tc : Thread Cert.ExpertsSpecIdeal.nD Cert.ExpertsSpecIdeal.τ).loc Cert.ExpertsSpecIdeal.main_arg4))
      ∧ r.2.sem = fun _ => 0)

def quiescent_ExpertsSpecIdeal_pre_tables [hExpertsSpecIdeal : Cert.ExpertsSpecIdeal.Facts] [hPre_tables : Cert.Pre_tables.Facts] : Prop :=
  ∀ (m : (ℓ : Loc Cert.ExpertsSpecIdeal.nD Cert.ExpertsSpecIdeal.τ Cert.ExpertsSpecIdeal.sig) → Buf (Elt Ideal) ℓ) (g : Dev Cert.ExpertsSpecIdeal.nD → PrngReg), Pre_ExpertsSpecIdeal_tables m →
    θ_run (Cert.ExpertsSpecIdeal.defs (F := Ideal)) (onTc (τ := Cert.ExpertsSpecIdeal.τ) (Cert.ExpertsSpecIdeal.main (F := Ideal))) ⟨m, fun _ => 0, g⟩ (fun r => (∀ c : Dev Cert.ExpertsSpecIdeal.nD,
      r.2.mem ((c.tc : Thread Cert.ExpertsSpecIdeal.nD Cert.ExpertsSpecIdeal.τ).loc Cert.ExpertsSpecIdeal.main_arg0) = m ((c.tc : Thread Cert.ExpertsSpecIdeal.nD Cert.ExpertsSpecIdeal.τ).loc Cert.ExpertsSpecIdeal.main_arg0)
      ∧ r.2.mem ((c.tc : Thread Cert.ExpertsSpecIdeal.nD Cert.ExpertsSpecIdeal.τ).loc Cert.ExpertsSpecIdeal.main_arg1) = m ((c.tc : Thread Cert.ExpertsSpecIdeal.nD Cert.ExpertsSpecIdeal.τ).loc Cert.ExpertsSpecIdeal.main_arg1)
      ∧ r.2.mem ((c.tc : Thread Cert.ExpertsSpecIdeal.nD Cert.ExpertsSpecIdeal.τ).loc Cert.ExpertsSpecIdeal.main_arg2) = m ((c.tc : Thread Cert.ExpertsSpecIdeal.nD Cert.ExpertsSpecIdeal.τ).loc Cert.ExpertsSpecIdeal.main_arg2)
      ∧ r.2.mem ((c.tc : Thread Cert.ExpertsSpecIdeal.nD Cert.ExpertsSpecIdeal.τ).loc Cert.ExpertsSpecIdeal.main_arg3) = m ((c.tc : Thread Cert.ExpertsSpecIdeal.nD Cert.ExpertsSpecIdeal.τ).loc Cert.ExpertsSpecIdeal.main_arg3)
      ∧ r.2.mem ((c.tc : Thread Cert.ExpertsSpecIdeal.nD Cert.ExpertsSpecIdeal.τ).loc Cert.ExpertsSpecIdeal.main_arg4) = m ((c.tc : Thread Cert.ExpertsSpecIdeal.nD Cert.ExpertsSpecIdeal.τ).loc Cert.ExpertsSpecIdeal.main_arg4))
      ∧ r.2.sem = fun _ => 0)

def quiescent_LastExperts [hLastExperts : Cert.LastExperts.Facts] [hPre_last_tables : Cert.Pre_last_tables.Facts] : Prop :=
  ∀ (m : (ℓ : Loc Cert.LastExperts.nD Cert.LastExperts.τ Cert.LastExperts.sig) → Buf (Elt Bits) ℓ) (g : Dev Cert.LastExperts.nD → PrngReg), Pre_LastExperts m →
    θ_run (Cert.LastExperts.defs (F := Bits)) (onTc (τ := Cert.LastExperts.τ) (Cert.LastExperts.main (F := Bits))) ⟨m, fun _ => 0, g⟩ (fun r => (∀ c : Dev Cert.LastExperts.nD,
      r.2.mem ((c.tc : Thread Cert.LastExperts.nD Cert.LastExperts.τ).loc Cert.LastExperts.main_arg0) = m ((c.tc : Thread Cert.LastExperts.nD Cert.LastExperts.τ).loc Cert.LastExperts.main_arg0)
      ∧ r.2.mem ((c.tc : Thread Cert.LastExperts.nD Cert.LastExperts.τ).loc Cert.LastExperts.main_arg1) = m ((c.tc : Thread Cert.LastExperts.nD Cert.LastExperts.τ).loc Cert.LastExperts.main_arg1)
      ∧ r.2.mem ((c.tc : Thread Cert.LastExperts.nD Cert.LastExperts.τ).loc Cert.LastExperts.main_arg2) = m ((c.tc : Thread Cert.LastExperts.nD Cert.LastExperts.τ).loc Cert.LastExperts.main_arg2)
      ∧ r.2.mem ((c.tc : Thread Cert.LastExperts.nD Cert.LastExperts.τ).loc Cert.LastExperts.main_arg3) = m ((c.tc : Thread Cert.LastExperts.nD Cert.LastExperts.τ).loc Cert.LastExperts.main_arg3)
      ∧ r.2.mem ((c.tc : Thread Cert.LastExperts.nD Cert.LastExperts.τ).loc Cert.LastExperts.main_arg4) = m ((c.tc : Thread Cert.LastExperts.nD Cert.LastExperts.τ).loc Cert.LastExperts.main_arg4))
      ∧ r.2.sem = fun _ => 0)

def quiescent_LastExpertsIdeal [hLastExpertsIdeal : Cert.LastExpertsIdeal.Facts] [hPre_last_tables : Cert.Pre_last_tables.Facts] : Prop :=
  ∀ (m : (ℓ : Loc Cert.LastExpertsIdeal.nD Cert.LastExpertsIdeal.τ Cert.LastExpertsIdeal.sig) → Buf (Elt Ideal) ℓ) (g : Dev Cert.LastExpertsIdeal.nD → PrngReg), Pre_LastExpertsIdeal m →
    θ_run (Cert.LastExpertsIdeal.defs (F := Ideal)) (onTc (τ := Cert.LastExpertsIdeal.τ) (Cert.LastExpertsIdeal.main (F := Ideal))) ⟨m, fun _ => 0, g⟩ (fun r => (∀ c : Dev Cert.LastExpertsIdeal.nD,
      r.2.mem ((c.tc : Thread Cert.LastExpertsIdeal.nD Cert.LastExpertsIdeal.τ).loc Cert.LastExpertsIdeal.main_arg0) = m ((c.tc : Thread Cert.LastExpertsIdeal.nD Cert.LastExpertsIdeal.τ).loc Cert.LastExpertsIdeal.main_arg0)
      ∧ r.2.mem ((c.tc : Thread Cert.LastExpertsIdeal.nD Cert.LastExpertsIdeal.τ).loc Cert.LastExpertsIdeal.main_arg1) = m ((c.tc : Thread Cert.LastExpertsIdeal.nD Cert.LastExpertsIdeal.τ).loc Cert.LastExpertsIdeal.main_arg1)
      ∧ r.2.mem ((c.tc : Thread Cert.LastExpertsIdeal.nD Cert.LastExpertsIdeal.τ).loc Cert.LastExpertsIdeal.main_arg2) = m ((c.tc : Thread Cert.LastExpertsIdeal.nD Cert.LastExpertsIdeal.τ).loc Cert.LastExpertsIdeal.main_arg2)
      ∧ r.2.mem ((c.tc : Thread Cert.LastExpertsIdeal.nD Cert.LastExpertsIdeal.τ).loc Cert.LastExpertsIdeal.main_arg3) = m ((c.tc : Thread Cert.LastExpertsIdeal.nD Cert.LastExpertsIdeal.τ).loc Cert.LastExpertsIdeal.main_arg3)
      ∧ r.2.mem ((c.tc : Thread Cert.LastExpertsIdeal.nD Cert.LastExpertsIdeal.τ).loc Cert.LastExpertsIdeal.main_arg4) = m ((c.tc : Thread Cert.LastExpertsIdeal.nD Cert.LastExpertsIdeal.τ).loc Cert.LastExpertsIdeal.main_arg4))
      ∧ r.2.sem = fun _ => 0)

def quiescent_LastExpertsSpecIdeal [hLastExpertsSpecIdeal : Cert.LastExpertsSpecIdeal.Facts] : Prop :=
  ∀ (m : (ℓ : Loc Cert.LastExpertsSpecIdeal.nD Cert.LastExpertsSpecIdeal.τ Cert.LastExpertsSpecIdeal.sig) → Buf (Elt Ideal) ℓ) (g : Dev Cert.LastExpertsSpecIdeal.nD → PrngReg), Pre_LastExpertsSpecIdeal m →
    θ_run (Cert.LastExpertsSpecIdeal.defs (F := Ideal)) (onTc (τ := Cert.LastExpertsSpecIdeal.τ) (Cert.LastExpertsSpecIdeal.main (F := Ideal))) ⟨m, fun _ => 0, g⟩ (fun r => (∀ c : Dev Cert.LastExpertsSpecIdeal.nD,
      r.2.mem ((c.tc : Thread Cert.LastExpertsSpecIdeal.nD Cert.LastExpertsSpecIdeal.τ).loc Cert.LastExpertsSpecIdeal.main_arg0) = m ((c.tc : Thread Cert.LastExpertsSpecIdeal.nD Cert.LastExpertsSpecIdeal.τ).loc Cert.LastExpertsSpecIdeal.main_arg0)
      ∧ r.2.mem ((c.tc : Thread Cert.LastExpertsSpecIdeal.nD Cert.LastExpertsSpecIdeal.τ).loc Cert.LastExpertsSpecIdeal.main_arg1) = m ((c.tc : Thread Cert.LastExpertsSpecIdeal.nD Cert.LastExpertsSpecIdeal.τ).loc Cert.LastExpertsSpecIdeal.main_arg1)
      ∧ r.2.mem ((c.tc : Thread Cert.LastExpertsSpecIdeal.nD Cert.LastExpertsSpecIdeal.τ).loc Cert.LastExpertsSpecIdeal.main_arg2) = m ((c.tc : Thread Cert.LastExpertsSpecIdeal.nD Cert.LastExpertsSpecIdeal.τ).loc Cert.LastExpertsSpecIdeal.main_arg2)
      ∧ r.2.mem ((c.tc : Thread Cert.LastExpertsSpecIdeal.nD Cert.LastExpertsSpecIdeal.τ).loc Cert.LastExpertsSpecIdeal.main_arg3) = m ((c.tc : Thread Cert.LastExpertsSpecIdeal.nD Cert.LastExpertsSpecIdeal.τ).loc Cert.LastExpertsSpecIdeal.main_arg3)
      ∧ r.2.mem ((c.tc : Thread Cert.LastExpertsSpecIdeal.nD Cert.LastExpertsSpecIdeal.τ).loc Cert.LastExpertsSpecIdeal.main_arg4) = m ((c.tc : Thread Cert.LastExpertsSpecIdeal.nD Cert.LastExpertsSpecIdeal.τ).loc Cert.LastExpertsSpecIdeal.main_arg4))
      ∧ r.2.sem = fun _ => 0)

def quiescent_LastExpertsSpecIdeal_pre_last_tables [hLastExpertsSpecIdeal : Cert.LastExpertsSpecIdeal.Facts] [hPre_last_tables : Cert.Pre_last_tables.Facts] : Prop :=
  ∀ (m : (ℓ : Loc Cert.LastExpertsSpecIdeal.nD Cert.LastExpertsSpecIdeal.τ Cert.LastExpertsSpecIdeal.sig) → Buf (Elt Ideal) ℓ) (g : Dev Cert.LastExpertsSpecIdeal.nD → PrngReg), Pre_LastExpertsSpecIdeal_last_tables m →
    θ_run (Cert.LastExpertsSpecIdeal.defs (F := Ideal)) (onTc (τ := Cert.LastExpertsSpecIdeal.τ) (Cert.LastExpertsSpecIdeal.main (F := Ideal))) ⟨m, fun _ => 0, g⟩ (fun r => (∀ c : Dev Cert.LastExpertsSpecIdeal.nD,
      r.2.mem ((c.tc : Thread Cert.LastExpertsSpecIdeal.nD Cert.LastExpertsSpecIdeal.τ).loc Cert.LastExpertsSpecIdeal.main_arg0) = m ((c.tc : Thread Cert.LastExpertsSpecIdeal.nD Cert.LastExpertsSpecIdeal.τ).loc Cert.LastExpertsSpecIdeal.main_arg0)
      ∧ r.2.mem ((c.tc : Thread Cert.LastExpertsSpecIdeal.nD Cert.LastExpertsSpecIdeal.τ).loc Cert.LastExpertsSpecIdeal.main_arg1) = m ((c.tc : Thread Cert.LastExpertsSpecIdeal.nD Cert.LastExpertsSpecIdeal.τ).loc Cert.LastExpertsSpecIdeal.main_arg1)
      ∧ r.2.mem ((c.tc : Thread Cert.LastExpertsSpecIdeal.nD Cert.LastExpertsSpecIdeal.τ).loc Cert.LastExpertsSpecIdeal.main_arg2) = m ((c.tc : Thread Cert.LastExpertsSpecIdeal.nD Cert.LastExpertsSpecIdeal.τ).loc Cert.LastExpertsSpecIdeal.main_arg2)
      ∧ r.2.mem ((c.tc : Thread Cert.LastExpertsSpecIdeal.nD Cert.LastExpertsSpecIdeal.τ).loc Cert.LastExpertsSpecIdeal.main_arg3) = m ((c.tc : Thread Cert.LastExpertsSpecIdeal.nD Cert.LastExpertsSpecIdeal.τ).loc Cert.LastExpertsSpecIdeal.main_arg3)
      ∧ r.2.mem ((c.tc : Thread Cert.LastExpertsSpecIdeal.nD Cert.LastExpertsSpecIdeal.τ).loc Cert.LastExpertsSpecIdeal.main_arg4) = m ((c.tc : Thread Cert.LastExpertsSpecIdeal.nD Cert.LastExpertsSpecIdeal.τ).loc Cert.LastExpertsSpecIdeal.main_arg4))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3))
      ∧ r.2.sem = fun _ => 0)

def quiescent_OutputSpecIdeal [hOutputSpecIdeal : Cert.OutputSpecIdeal.Facts] : Prop :=
  ∀ (m : (ℓ : Loc Cert.OutputSpecIdeal.nD Cert.OutputSpecIdeal.τ Cert.OutputSpecIdeal.sig) → Buf (Elt Ideal) ℓ) (g : Dev Cert.OutputSpecIdeal.nD → PrngReg), Pre_OutputSpecIdeal m →
    θ_run (Cert.OutputSpecIdeal.defs (F := Ideal)) (onTc (τ := Cert.OutputSpecIdeal.τ) (Cert.OutputSpecIdeal.main (F := Ideal))) ⟨m, fun _ => 0, g⟩ (fun r => (∀ c : Dev Cert.OutputSpecIdeal.nD,
      r.2.mem ((c.tc : Thread Cert.OutputSpecIdeal.nD Cert.OutputSpecIdeal.τ).loc Cert.OutputSpecIdeal.main_arg0) = m ((c.tc : Thread Cert.OutputSpecIdeal.nD Cert.OutputSpecIdeal.τ).loc Cert.OutputSpecIdeal.main_arg0)
      ∧ r.2.mem ((c.tc : Thread Cert.OutputSpecIdeal.nD Cert.OutputSpecIdeal.τ).loc Cert.OutputSpecIdeal.main_arg1) = m ((c.tc : Thread Cert.OutputSpecIdeal.nD Cert.OutputSpecIdeal.τ).loc Cert.OutputSpecIdeal.main_arg1)
      ∧ r.2.mem ((c.tc : Thread Cert.OutputSpecIdeal.nD Cert.OutputSpecIdeal.τ).loc Cert.OutputSpecIdeal.main_arg2) = m ((c.tc : Thread Cert.OutputSpecIdeal.nD Cert.OutputSpecIdeal.τ).loc Cert.OutputSpecIdeal.main_arg2)
      ∧ r.2.mem ((c.tc : Thread Cert.OutputSpecIdeal.nD Cert.OutputSpecIdeal.τ).loc Cert.OutputSpecIdeal.main_arg3) = m ((c.tc : Thread Cert.OutputSpecIdeal.nD Cert.OutputSpecIdeal.τ).loc Cert.OutputSpecIdeal.main_arg3))
      ∧ r.2.sem = fun _ => 0)

def quiescent_MlstmIn [hMlstmIn : Cert.MlstmIn.Facts] : Prop :=
  ∀ (m : (ℓ : Loc Cert.MlstmIn.nD Cert.MlstmIn.τ Cert.MlstmIn.sig) → Buf (Elt Bits) ℓ) (g : Dev Cert.MlstmIn.nD → PrngReg), Pre_MlstmIn m →
    θ_run (Cert.MlstmIn.defs (F := Bits)) (onTc (τ := Cert.MlstmIn.τ) (Cert.MlstmIn.main (F := Bits))) ⟨m, fun _ => 0, g⟩ (fun r => (∀ c : Dev Cert.MlstmIn.nD,
      r.2.mem ((c.tc : Thread Cert.MlstmIn.nD Cert.MlstmIn.τ).loc Cert.MlstmIn.main_arg0) = m ((c.tc : Thread Cert.MlstmIn.nD Cert.MlstmIn.τ).loc Cert.MlstmIn.main_arg0)
      ∧ r.2.mem ((c.tc : Thread Cert.MlstmIn.nD Cert.MlstmIn.τ).loc Cert.MlstmIn.main_arg1) = m ((c.tc : Thread Cert.MlstmIn.nD Cert.MlstmIn.τ).loc Cert.MlstmIn.main_arg1))
      ∧ r.2.sem = fun _ => 0)

def quiescent_MlstmInIdeal [hMlstmInIdeal : Cert.MlstmInIdeal.Facts] : Prop :=
  ∀ (m : (ℓ : Loc Cert.MlstmInIdeal.nD Cert.MlstmInIdeal.τ Cert.MlstmInIdeal.sig) → Buf (Elt Ideal) ℓ) (g : Dev Cert.MlstmInIdeal.nD → PrngReg), Pre_MlstmInIdeal m →
    θ_run (Cert.MlstmInIdeal.defs (F := Ideal)) (onTc (τ := Cert.MlstmInIdeal.τ) (Cert.MlstmInIdeal.main (F := Ideal))) ⟨m, fun _ => 0, g⟩ (fun r => (∀ c : Dev Cert.MlstmInIdeal.nD,
      r.2.mem ((c.tc : Thread Cert.MlstmInIdeal.nD Cert.MlstmInIdeal.τ).loc Cert.MlstmInIdeal.main_arg0) = m ((c.tc : Thread Cert.MlstmInIdeal.nD Cert.MlstmInIdeal.τ).loc Cert.MlstmInIdeal.main_arg0)
      ∧ r.2.mem ((c.tc : Thread Cert.MlstmInIdeal.nD Cert.MlstmInIdeal.τ).loc Cert.MlstmInIdeal.main_arg1) = m ((c.tc : Thread Cert.MlstmInIdeal.nD Cert.MlstmInIdeal.τ).loc Cert.MlstmInIdeal.main_arg1))
      ∧ r.2.sem = fun _ => 0)

def quiescent_MlstmInSpecIdeal [hMlstmInSpecIdeal : Cert.MlstmInSpecIdeal.Facts] : Prop :=
  ∀ (m : (ℓ : Loc Cert.MlstmInSpecIdeal.nD Cert.MlstmInSpecIdeal.τ Cert.MlstmInSpecIdeal.sig) → Buf (Elt Ideal) ℓ) (g : Dev Cert.MlstmInSpecIdeal.nD → PrngReg), Pre_MlstmInSpecIdeal m →
    θ_run (Cert.MlstmInSpecIdeal.defs (F := Ideal)) (onTc (τ := Cert.MlstmInSpecIdeal.τ) (Cert.MlstmInSpecIdeal.main (F := Ideal))) ⟨m, fun _ => 0, g⟩ (fun r => (∀ c : Dev Cert.MlstmInSpecIdeal.nD,
      r.2.mem ((c.tc : Thread Cert.MlstmInSpecIdeal.nD Cert.MlstmInSpecIdeal.τ).loc Cert.MlstmInSpecIdeal.main_arg0) = m ((c.tc : Thread Cert.MlstmInSpecIdeal.nD Cert.MlstmInSpecIdeal.τ).loc Cert.MlstmInSpecIdeal.main_arg0)
      ∧ r.2.mem ((c.tc : Thread Cert.MlstmInSpecIdeal.nD Cert.MlstmInSpecIdeal.τ).loc Cert.MlstmInSpecIdeal.main_arg1) = m ((c.tc : Thread Cert.MlstmInSpecIdeal.nD Cert.MlstmInSpecIdeal.τ).loc Cert.MlstmInSpecIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvSpecIdeal [hQkvSpecIdeal : Cert.QkvSpecIdeal.Facts] : Prop :=
  ∀ (m : (ℓ : Loc Cert.QkvSpecIdeal.nD Cert.QkvSpecIdeal.τ Cert.QkvSpecIdeal.sig) → Buf (Elt Ideal) ℓ) (g : Dev Cert.QkvSpecIdeal.nD → PrngReg), Pre_QkvSpecIdeal m →
    θ_run (Cert.QkvSpecIdeal.defs (F := Ideal)) (onTc (τ := Cert.QkvSpecIdeal.τ) (Cert.QkvSpecIdeal.main (F := Ideal))) ⟨m, fun _ => 0, g⟩ (fun r => (∀ c : Dev Cert.QkvSpecIdeal.nD,
      r.2.mem ((c.tc : Thread Cert.QkvSpecIdeal.nD Cert.QkvSpecIdeal.τ).loc Cert.QkvSpecIdeal.main_arg0) = m ((c.tc : Thread Cert.QkvSpecIdeal.nD Cert.QkvSpecIdeal.τ).loc Cert.QkvSpecIdeal.main_arg0)
      ∧ r.2.mem ((c.tc : Thread Cert.QkvSpecIdeal.nD Cert.QkvSpecIdeal.τ).loc Cert.QkvSpecIdeal.main_arg1) = m ((c.tc : Thread Cert.QkvSpecIdeal.nD Cert.QkvSpecIdeal.τ).loc Cert.QkvSpecIdeal.main_arg1)
      ∧ r.2.mem ((c.tc : Thread Cert.QkvSpecIdeal.nD Cert.QkvSpecIdeal.τ).loc Cert.QkvSpecIdeal.main_arg2) = m ((c.tc : Thread Cert.QkvSpecIdeal.nD Cert.QkvSpecIdeal.τ).loc Cert.QkvSpecIdeal.main_arg2)
      ∧ r.2.mem ((c.tc : Thread Cert.QkvSpecIdeal.nD Cert.QkvSpecIdeal.τ).loc Cert.QkvSpecIdeal.main_arg3) = m ((c.tc : Thread Cert.QkvSpecIdeal.nD Cert.QkvSpecIdeal.τ).loc Cert.QkvSpecIdeal.main_arg3)
      ∧ r.2.mem ((c.tc : Thread Cert.QkvSpecIdeal.nD Cert.QkvSpecIdeal.τ).loc Cert.QkvSpecIdeal.main_arg4) = m ((c.tc : Thread Cert.QkvSpecIdeal.nD Cert.QkvSpecIdeal.τ).loc Cert.QkvSpecIdeal.main_arg4)
      ∧ r.2.mem ((c.tc : Thread Cert.QkvSpecIdeal.nD Cert.QkvSpecIdeal.τ).loc Cert.QkvSpecIdeal.main_arg5) = m ((c.tc : Thread Cert.QkvSpecIdeal.nD Cert.QkvSpecIdeal.τ).loc Cert.QkvSpecIdeal.main_arg5))
      ∧ r.2.sem = fun _ => 0)

def quiescent_WindowQkv [hWindowQkv : Cert.WindowQkv.Facts] : Prop :=
  ∀ (m : (ℓ : Loc Cert.WindowQkv.nD Cert.WindowQkv.τ Cert.WindowQkv.sig) → Buf (Elt Bits) ℓ) (g : Dev Cert.WindowQkv.nD → PrngReg), Pre_WindowQkv m →
    θ_run (Cert.WindowQkv.defs (F := Bits)) (onTc (τ := Cert.WindowQkv.τ) (Cert.WindowQkv.main (F := Bits))) ⟨m, fun _ => 0, g⟩ (fun r => (∀ c : Dev Cert.WindowQkv.nD,
      r.2.mem ((c.tc : Thread Cert.WindowQkv.nD Cert.WindowQkv.τ).loc Cert.WindowQkv.main_arg0) = m ((c.tc : Thread Cert.WindowQkv.nD Cert.WindowQkv.τ).loc Cert.WindowQkv.main_arg0)
      ∧ r.2.mem ((c.tc : Thread Cert.WindowQkv.nD Cert.WindowQkv.τ).loc Cert.WindowQkv.main_arg1) = m ((c.tc : Thread Cert.WindowQkv.nD Cert.WindowQkv.τ).loc Cert.WindowQkv.main_arg1)
      ∧ r.2.mem ((c.tc : Thread Cert.WindowQkv.nD Cert.WindowQkv.τ).loc Cert.WindowQkv.main_arg2) = m ((c.tc : Thread Cert.WindowQkv.nD Cert.WindowQkv.τ).loc Cert.WindowQkv.main_arg2)
      ∧ r.2.mem ((c.tc : Thread Cert.WindowQkv.nD Cert.WindowQkv.τ).loc Cert.WindowQkv.main_arg3) = m ((c.tc : Thread Cert.WindowQkv.nD Cert.WindowQkv.τ).loc Cert.WindowQkv.main_arg3)
      ∧ r.2.mem ((c.tc : Thread Cert.WindowQkv.nD Cert.WindowQkv.τ).loc Cert.WindowQkv.main_arg4) = m ((c.tc : Thread Cert.WindowQkv.nD Cert.WindowQkv.τ).loc Cert.WindowQkv.main_arg4)
      ∧ r.2.mem ((c.tc : Thread Cert.WindowQkv.nD Cert.WindowQkv.τ).loc Cert.WindowQkv.main_arg5) = m ((c.tc : Thread Cert.WindowQkv.nD Cert.WindowQkv.τ).loc Cert.WindowQkv.main_arg5))
      ∧ r.2.sem = fun _ => 0)

def quiescent_WindowQkvIdeal [hWindowQkvIdeal : Cert.WindowQkvIdeal.Facts] : Prop :=
  ∀ (m : (ℓ : Loc Cert.WindowQkvIdeal.nD Cert.WindowQkvIdeal.τ Cert.WindowQkvIdeal.sig) → Buf (Elt Ideal) ℓ) (g : Dev Cert.WindowQkvIdeal.nD → PrngReg), Pre_WindowQkvIdeal m →
    θ_run (Cert.WindowQkvIdeal.defs (F := Ideal)) (onTc (τ := Cert.WindowQkvIdeal.τ) (Cert.WindowQkvIdeal.main (F := Ideal))) ⟨m, fun _ => 0, g⟩ (fun r => (∀ c : Dev Cert.WindowQkvIdeal.nD,
      r.2.mem ((c.tc : Thread Cert.WindowQkvIdeal.nD Cert.WindowQkvIdeal.τ).loc Cert.WindowQkvIdeal.main_arg0) = m ((c.tc : Thread Cert.WindowQkvIdeal.nD Cert.WindowQkvIdeal.τ).loc Cert.WindowQkvIdeal.main_arg0)
      ∧ r.2.mem ((c.tc : Thread Cert.WindowQkvIdeal.nD Cert.WindowQkvIdeal.τ).loc Cert.WindowQkvIdeal.main_arg1) = m ((c.tc : Thread Cert.WindowQkvIdeal.nD Cert.WindowQkvIdeal.τ).loc Cert.WindowQkvIdeal.main_arg1)
      ∧ r.2.mem ((c.tc : Thread Cert.WindowQkvIdeal.nD Cert.WindowQkvIdeal.τ).loc Cert.WindowQkvIdeal.main_arg2) = m ((c.tc : Thread Cert.WindowQkvIdeal.nD Cert.WindowQkvIdeal.τ).loc Cert.WindowQkvIdeal.main_arg2)
      ∧ r.2.mem ((c.tc : Thread Cert.WindowQkvIdeal.nD Cert.WindowQkvIdeal.τ).loc Cert.WindowQkvIdeal.main_arg3) = m ((c.tc : Thread Cert.WindowQkvIdeal.nD Cert.WindowQkvIdeal.τ).loc Cert.WindowQkvIdeal.main_arg3)
      ∧ r.2.mem ((c.tc : Thread Cert.WindowQkvIdeal.nD Cert.WindowQkvIdeal.τ).loc Cert.WindowQkvIdeal.main_arg4) = m ((c.tc : Thread Cert.WindowQkvIdeal.nD Cert.WindowQkvIdeal.τ).loc Cert.WindowQkvIdeal.main_arg4)
      ∧ r.2.mem ((c.tc : Thread Cert.WindowQkvIdeal.nD Cert.WindowQkvIdeal.τ).loc Cert.WindowQkvIdeal.main_arg5) = m ((c.tc : Thread Cert.WindowQkvIdeal.nD Cert.WindowQkvIdeal.τ).loc Cert.WindowQkvIdeal.main_arg5))
      ∧ r.2.sem = fun _ => 0)

def quiescent_WindowQkvSpecIdeal [hWindowQkvSpecIdeal : Cert.WindowQkvSpecIdeal.Facts] : Prop :=
  ∀ (m : (ℓ : Loc Cert.WindowQkvSpecIdeal.nD Cert.WindowQkvSpecIdeal.τ Cert.WindowQkvSpecIdeal.sig) → Buf (Elt Ideal) ℓ) (g : Dev Cert.WindowQkvSpecIdeal.nD → PrngReg), Pre_WindowQkvSpecIdeal m →
    θ_run (Cert.WindowQkvSpecIdeal.defs (F := Ideal)) (onTc (τ := Cert.WindowQkvSpecIdeal.τ) (Cert.WindowQkvSpecIdeal.main (F := Ideal))) ⟨m, fun _ => 0, g⟩ (fun r => (∀ c : Dev Cert.WindowQkvSpecIdeal.nD,
      r.2.mem ((c.tc : Thread Cert.WindowQkvSpecIdeal.nD Cert.WindowQkvSpecIdeal.τ).loc Cert.WindowQkvSpecIdeal.main_arg0) = m ((c.tc : Thread Cert.WindowQkvSpecIdeal.nD Cert.WindowQkvSpecIdeal.τ).loc Cert.WindowQkvSpecIdeal.main_arg0)
      ∧ r.2.mem ((c.tc : Thread Cert.WindowQkvSpecIdeal.nD Cert.WindowQkvSpecIdeal.τ).loc Cert.WindowQkvSpecIdeal.main_arg1) = m ((c.tc : Thread Cert.WindowQkvSpecIdeal.nD Cert.WindowQkvSpecIdeal.τ).loc Cert.WindowQkvSpecIdeal.main_arg1)
      ∧ r.2.mem ((c.tc : Thread Cert.WindowQkvSpecIdeal.nD Cert.WindowQkvSpecIdeal.τ).loc Cert.WindowQkvSpecIdeal.main_arg2) = m ((c.tc : Thread Cert.WindowQkvSpecIdeal.nD Cert.WindowQkvSpecIdeal.τ).loc Cert.WindowQkvSpecIdeal.main_arg2)
      ∧ r.2.mem ((c.tc : Thread Cert.WindowQkvSpecIdeal.nD Cert.WindowQkvSpecIdeal.τ).loc Cert.WindowQkvSpecIdeal.main_arg3) = m ((c.tc : Thread Cert.WindowQkvSpecIdeal.nD Cert.WindowQkvSpecIdeal.τ).loc Cert.WindowQkvSpecIdeal.main_arg3)
      ∧ r.2.mem ((c.tc : Thread Cert.WindowQkvSpecIdeal.nD Cert.WindowQkvSpecIdeal.τ).loc Cert.WindowQkvSpecIdeal.main_arg4) = m ((c.tc : Thread Cert.WindowQkvSpecIdeal.nD Cert.WindowQkvSpecIdeal.τ).loc Cert.WindowQkvSpecIdeal.main_arg4)
      ∧ r.2.mem ((c.tc : Thread Cert.WindowQkvSpecIdeal.nD Cert.WindowQkvSpecIdeal.τ).loc Cert.WindowQkvSpecIdeal.main_arg5) = m ((c.tc : Thread Cert.WindowQkvSpecIdeal.nD Cert.WindowQkvSpecIdeal.τ).loc Cert.WindowQkvSpecIdeal.main_arg5))
      ∧ r.2.sem = fun _ => 0)

def quiescent_Finish [hFinish : Cert.Finish.Facts] [hPre_rows_taken : Cert.Pre_rows_taken.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6))
      ∧ r.2.sem = fun _ => 0)

def quiescent_FinishIdeal [hFinishIdeal : Cert.FinishIdeal.Facts] [hPre_rows_taken : Cert.Pre_rows_taken.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6))
      ∧ r.2.sem = fun _ => 0)

def quiescent_FinishSpecIdeal [hFinishSpecIdeal : Cert.FinishSpecIdeal.Facts] : Prop :=
  ∀ (m : (ℓ : Loc Cert.FinishSpecIdeal.nD Cert.FinishSpecIdeal.τ Cert.FinishSpecIdeal.sig) → Buf (Elt Ideal) ℓ) (g : Dev Cert.FinishSpecIdeal.nD → PrngReg), Pre_FinishSpecIdeal m →
    θ_run (Cert.FinishSpecIdeal.defs (F := Ideal)) (onTc (τ := Cert.FinishSpecIdeal.τ) (Cert.FinishSpecIdeal.main (F := Ideal))) ⟨m, fun _ => 0, g⟩ (fun r => (∀ c : Dev Cert.FinishSpecIdeal.nD,
      r.2.mem ((c.tc : Thread Cert.FinishSpecIdeal.nD Cert.FinishSpecIdeal.τ).loc Cert.FinishSpecIdeal.main_arg0) = m ((c.tc : Thread Cert.FinishSpecIdeal.nD Cert.FinishSpecIdeal.τ).loc Cert.FinishSpecIdeal.main_arg0)
      ∧ r.2.mem ((c.tc : Thread Cert.FinishSpecIdeal.nD Cert.FinishSpecIdeal.τ).loc Cert.FinishSpecIdeal.main_arg1) = m ((c.tc : Thread Cert.FinishSpecIdeal.nD Cert.FinishSpecIdeal.τ).loc Cert.FinishSpecIdeal.main_arg1)
      ∧ r.2.mem ((c.tc : Thread Cert.FinishSpecIdeal.nD Cert.FinishSpecIdeal.τ).loc Cert.FinishSpecIdeal.main_arg2) = m ((c.tc : Thread Cert.FinishSpecIdeal.nD Cert.FinishSpecIdeal.τ).loc Cert.FinishSpecIdeal.main_arg2)
      ∧ r.2.mem ((c.tc : Thread Cert.FinishSpecIdeal.nD Cert.FinishSpecIdeal.τ).loc Cert.FinishSpecIdeal.main_arg3) = m ((c.tc : Thread Cert.FinishSpecIdeal.nD Cert.FinishSpecIdeal.τ).loc Cert.FinishSpecIdeal.main_arg3)
      ∧ r.2.mem ((c.tc : Thread Cert.FinishSpecIdeal.nD Cert.FinishSpecIdeal.τ).loc Cert.FinishSpecIdeal.main_arg4) = m ((c.tc : Thread Cert.FinishSpecIdeal.nD Cert.FinishSpecIdeal.τ).loc Cert.FinishSpecIdeal.main_arg4)
      ∧ r.2.mem ((c.tc : Thread Cert.FinishSpecIdeal.nD Cert.FinishSpecIdeal.τ).loc Cert.FinishSpecIdeal.main_arg5) = m ((c.tc : Thread Cert.FinishSpecIdeal.nD Cert.FinishSpecIdeal.τ).loc Cert.FinishSpecIdeal.main_arg5)
      ∧ r.2.mem ((c.tc : Thread Cert.FinishSpecIdeal.nD Cert.FinishSpecIdeal.τ).loc Cert.FinishSpecIdeal.main_arg6) = m ((c.tc : Thread Cert.FinishSpecIdeal.nD Cert.FinishSpecIdeal.τ).loc Cert.FinishSpecIdeal.main_arg6))
      ∧ r.2.sem = fun _ => 0)

def quiescent_FinishSpecIdeal_pre_rows_taken [hFinishSpecIdeal : Cert.FinishSpecIdeal.Facts] [hPre_rows_taken : Cert.Pre_rows_taken.Facts] : Prop :=
  ∀ (m : (ℓ : Loc Cert.FinishSpecIdeal.nD Cert.FinishSpecIdeal.τ Cert.FinishSpecIdeal.sig) → Buf (Elt Ideal) ℓ) (g : Dev Cert.FinishSpecIdeal.nD → PrngReg), Pre_FinishSpecIdeal_rows_taken m →
    θ_run (Cert.FinishSpecIdeal.defs (F := Ideal)) (onTc (τ := Cert.FinishSpecIdeal.τ) (Cert.FinishSpecIdeal.main (F := Ideal))) ⟨m, fun _ => 0, g⟩ (fun r => (∀ c : Dev Cert.FinishSpecIdeal.nD,
      r.2.mem ((c.tc : Thread Cert.FinishSpecIdeal.nD Cert.FinishSpecIdeal.τ).loc Cert.FinishSpecIdeal.main_arg0) = m ((c.tc : Thread Cert.FinishSpecIdeal.nD Cert.FinishSpecIdeal.τ).loc Cert.FinishSpecIdeal.main_arg0)
      ∧ r.2.mem ((c.tc : Thread Cert.FinishSpecIdeal.nD Cert.FinishSpecIdeal.τ).loc Cert.FinishSpecIdeal.main_arg1) = m ((c.tc : Thread Cert.FinishSpecIdeal.nD Cert.FinishSpecIdeal.τ).loc Cert.FinishSpecIdeal.main_arg1)
      ∧ r.2.mem ((c.tc : Thread Cert.FinishSpecIdeal.nD Cert.FinishSpecIdeal.τ).loc Cert.FinishSpecIdeal.main_arg2) = m ((c.tc : Thread Cert.FinishSpecIdeal.nD Cert.FinishSpecIdeal.τ).loc Cert.FinishSpecIdeal.main_arg2)
      ∧ r.2.mem ((c.tc : Thread Cert.FinishSpecIdeal.nD Cert.FinishSpecIdeal.τ).loc Cert.FinishSpecIdeal.main_arg3) = m ((c.tc : Thread Cert.FinishSpecIdeal.nD Cert.FinishSpecIdeal.τ).loc Cert.FinishSpecIdeal.main_arg3)
      ∧ r.2.mem ((c.tc : Thread Cert.FinishSpecIdeal.nD Cert.FinishSpecIdeal.τ).loc Cert.FinishSpecIdeal.main_arg4) = m ((c.tc : Thread Cert.FinishSpecIdeal.nD Cert.FinishSpecIdeal.τ).loc Cert.FinishSpecIdeal.main_arg4)
      ∧ r.2.mem ((c.tc : Thread Cert.FinishSpecIdeal.nD Cert.FinishSpecIdeal.τ).loc Cert.FinishSpecIdeal.main_arg5) = m ((c.tc : Thread Cert.FinishSpecIdeal.nD Cert.FinishSpecIdeal.τ).loc Cert.FinishSpecIdeal.main_arg5)
      ∧ r.2.mem ((c.tc : Thread Cert.FinishSpecIdeal.nD Cert.FinishSpecIdeal.τ).loc Cert.FinishSpecIdeal.main_arg6) = m ((c.tc : Thread Cert.FinishSpecIdeal.nD Cert.FinishSpecIdeal.τ).loc Cert.FinishSpecIdeal.main_arg6))
      ∧ r.2.sem = fun _ => 0)

def preserves_Attention_AttentionIdeal : Prop :=
  True

def algebraic_AttentionIdeal_AttentionSpecIdeal_pre_finite [hAttentionIdeal : Cert.AttentionIdeal.Facts] [hAttentionSpecIdeal : Cert.AttentionSpecIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionSpecIdeal.nD Cert.AttentionSpecIdeal.τ Cert.AttentionSpecIdeal.sig) → Buf (Elt Ideal) ℓ) (g' : Dev Cert.AttentionSpecIdeal.nD → PrngReg), Pre_AttentionIdeal_finite m →
    (∀ c : Dev Cert.AttentionIdeal.nD,
      m' ((c.tc : Thread Cert.AttentionSpecIdeal.nD Cert.AttentionSpecIdeal.τ).loc Cert.AttentionSpecIdeal.main_arg0) = m ((c.tc : Thread Cert.AttentionIdeal.nD Cert.AttentionIdeal.τ).loc Cert.AttentionIdeal.main_arg0)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ θ_run (Cert.AttentionSpecIdeal.defs (F := Ideal)) (onTc (τ := Cert.AttentionSpecIdeal.τ) (Cert.AttentionSpecIdeal.main (F := Ideal))) ⟨m', fun _ => 0, g'⟩ (fun r => ∀ c : Dev Cert.AttentionSpecIdeal.nD,
          r.2.mem ((c.tc : Thread Cert.AttentionSpecIdeal.nD Cert.AttentionSpecIdeal.τ).loc Cert.AttentionSpecIdeal.main_v33) = v0 c
          ∧ r.2.mem ((c.tc : Thread Cert.AttentionSpecIdeal.nD Cert.AttentionSpecIdeal.τ).loc Cert.AttentionSpecIdeal.main_arg0) = m' ((c.tc : Thread Cert.AttentionSpecIdeal.nD Cert.AttentionSpecIdeal.τ).loc Cert.AttentionSpecIdeal.main_arg0))

def preserves_Experts_ExpertsIdeal : Prop :=
  True

def algebraic_ExpertsIdeal_ExpertsSpecIdeal_on_live_rows [hExpertsIdeal : Cert.ExpertsIdeal.Facts] [hExpertsSpecIdeal : Cert.ExpertsSpecIdeal.Facts] [hPre_tables : Cert.Pre_tables.Facts] [hOn_live_rows : Cert.On_live_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsSpecIdeal.nD Cert.ExpertsSpecIdeal.τ Cert.ExpertsSpecIdeal.sig) → Buf (Elt Ideal) ℓ) (g' : Dev Cert.ExpertsSpecIdeal.nD → PrngReg), Pre_ExpertsIdeal m →
    (∀ c : Dev Cert.ExpertsIdeal.nD,
      m' ((c.tc : Thread Cert.ExpertsSpecIdeal.nD Cert.ExpertsSpecIdeal.τ).loc Cert.ExpertsSpecIdeal.main_arg0) = m ((c.tc : Thread Cert.ExpertsIdeal.nD Cert.ExpertsIdeal.τ).loc Cert.ExpertsIdeal.main_arg0)
      ∧ m' ((c.tc : Thread Cert.ExpertsSpecIdeal.nD Cert.ExpertsSpecIdeal.τ).loc Cert.ExpertsSpecIdeal.main_arg1) = m ((c.tc : Thread Cert.ExpertsIdeal.nD Cert.ExpertsIdeal.τ).loc Cert.ExpertsIdeal.main_arg1)
      ∧ m' ((c.tc : Thread Cert.ExpertsSpecIdeal.nD Cert.ExpertsSpecIdeal.τ).loc Cert.ExpertsSpecIdeal.main_arg2) = m ((c.tc : Thread Cert.ExpertsIdeal.nD Cert.ExpertsIdeal.τ).loc Cert.ExpertsIdeal.main_arg2)
      ∧ m' ((c.tc : Thread Cert.ExpertsSpecIdeal.nD Cert.ExpertsSpecIdeal.τ).loc Cert.ExpertsSpecIdeal.main_arg3) = m ((c.tc : Thread Cert.ExpertsIdeal.nD Cert.ExpertsIdeal.τ).loc Cert.ExpertsIdeal.main_arg3)
      ∧ m' ((c.tc : Thread Cert.ExpertsSpecIdeal.nD Cert.ExpertsSpecIdeal.τ).loc Cert.ExpertsSpecIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![180224, 4096]⟩ : Shape).Idx, (Cert.On_live_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsSpecIdeal.defs (F := Ideal)) (onTc (τ := Cert.ExpertsSpecIdeal.τ) (Cert.ExpertsSpecIdeal.main (F := Ideal))) ⟨m', fun _ => 0, g'⟩ (fun r => ∀ c : Dev Cert.ExpertsSpecIdeal.nD,
          (∀ i : (⟨2, ![180224, 4096]⟩ : Shape).Idx, (Cert.On_live_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) i = 1#1 → r.2.mem ((c.tc : Thread Cert.ExpertsSpecIdeal.nD Cert.ExpertsSpecIdeal.τ).loc Cert.ExpertsSpecIdeal.main_v19) i = v0 c i)
          ∧ r.2.mem ((c.tc : Thread Cert.ExpertsSpecIdeal.nD Cert.ExpertsSpecIdeal.τ).loc Cert.ExpertsSpecIdeal.main_arg0) = m' ((c.tc : Thread Cert.ExpertsSpecIdeal.nD Cert.ExpertsSpecIdeal.τ).loc Cert.ExpertsSpecIdeal.main_arg0)
          ∧ r.2.mem ((c.tc : Thread Cert.ExpertsSpecIdeal.nD Cert.ExpertsSpecIdeal.τ).loc Cert.ExpertsSpecIdeal.main_arg1) = m' ((c.tc : Thread Cert.ExpertsSpecIdeal.nD Cert.ExpertsSpecIdeal.τ).loc Cert.ExpertsSpecIdeal.main_arg1)
          ∧ r.2.mem ((c.tc : Thread Cert.ExpertsSpecIdeal.nD Cert.ExpertsSpecIdeal.τ).loc Cert.ExpertsSpecIdeal.main_arg2) = m' ((c.tc : Thread Cert.ExpertsSpecIdeal.nD Cert.ExpertsSpecIdeal.τ).loc Cert.ExpertsSpecIdeal.main_arg2)
          ∧ r.2.mem ((c.tc : Thread Cert.ExpertsSpecIdeal.nD Cert.ExpertsSpecIdeal.τ).loc Cert.ExpertsSpecIdeal.main_arg3) = m' ((c.tc : Thread Cert.ExpertsSpecIdeal.nD Cert.ExpertsSpecIdeal.τ).loc Cert.ExpertsSpecIdeal.main_arg3)
          ∧ r.2.mem ((c.tc : Thread Cert.ExpertsSpecIdeal.nD Cert.ExpertsSpecIdeal.τ).loc Cert.ExpertsSpecIdeal.main_arg4) = m' ((c.tc : Thread Cert.ExpertsSpecIdeal.nD Cert.ExpertsSpecIdeal.τ).loc Cert.ExpertsSpecIdeal.main_arg4))

def preserves_LastExperts_LastExpertsIdeal : Prop :=
  True

def algebraic_LastExpertsIdeal_LastExpertsSpecIdeal_on_last_live_rows [hLastExpertsIdeal : Cert.LastExpertsIdeal.Facts] [hLastExpertsSpecIdeal : Cert.LastExpertsSpecIdeal.Facts] [hPre_last_tables : Cert.Pre_last_tables.Facts] [hOn_last_live_rows : Cert.On_last_live_rows.Facts] : Prop :=
  ∀ (m : (ℓ : Loc Cert.LastExpertsIdeal.nD Cert.LastExpertsIdeal.τ Cert.LastExpertsIdeal.sig) → Buf (Elt Ideal) ℓ) (g : Dev Cert.LastExpertsIdeal.nD → PrngReg)
    (m' : (ℓ : Loc Cert.LastExpertsSpecIdeal.nD Cert.LastExpertsSpecIdeal.τ Cert.LastExpertsSpecIdeal.sig) → Buf (Elt Ideal) ℓ) (g' : Dev Cert.LastExpertsSpecIdeal.nD → PrngReg), Pre_LastExpertsIdeal m →
    (∀ c : Dev Cert.LastExpertsIdeal.nD,
      m' ((c.tc : Thread Cert.LastExpertsSpecIdeal.nD Cert.LastExpertsSpecIdeal.τ).loc Cert.LastExpertsSpecIdeal.main_arg0) = m ((c.tc : Thread Cert.LastExpertsIdeal.nD Cert.LastExpertsIdeal.τ).loc Cert.LastExpertsIdeal.main_arg0)
      ∧ m' ((c.tc : Thread Cert.LastExpertsSpecIdeal.nD Cert.LastExpertsSpecIdeal.τ).loc Cert.LastExpertsSpecIdeal.main_arg1) = m ((c.tc : Thread Cert.LastExpertsIdeal.nD Cert.LastExpertsIdeal.τ).loc Cert.LastExpertsIdeal.main_arg1)
      ∧ m' ((c.tc : Thread Cert.LastExpertsSpecIdeal.nD Cert.LastExpertsSpecIdeal.τ).loc Cert.LastExpertsSpecIdeal.main_arg2) = m ((c.tc : Thread Cert.LastExpertsIdeal.nD Cert.LastExpertsIdeal.τ).loc Cert.LastExpertsIdeal.main_arg2)
      ∧ m' ((c.tc : Thread Cert.LastExpertsSpecIdeal.nD Cert.LastExpertsSpecIdeal.τ).loc Cert.LastExpertsSpecIdeal.main_arg3) = m ((c.tc : Thread Cert.LastExpertsIdeal.nD Cert.LastExpertsIdeal.τ).loc Cert.LastExpertsIdeal.main_arg3)
      ∧ m' ((c.tc : Thread Cert.LastExpertsSpecIdeal.nD Cert.LastExpertsSpecIdeal.τ).loc Cert.LastExpertsSpecIdeal.main_arg4) = m ((c.tc : Thread Cert.LastExpertsIdeal.nD Cert.LastExpertsIdeal.τ).loc Cert.LastExpertsIdeal.main_arg4)) →
    ∃ (v0 : (c : Dev Cert.LastExpertsIdeal.nD) → Buf (Elt Ideal) ((c.tc : Thread Cert.LastExpertsIdeal.nD Cert.LastExpertsIdeal.τ).loc Cert.LastExpertsIdeal.main_v0)),
      θ_run (Cert.LastExpertsIdeal.defs (F := Ideal)) (onTc (τ := Cert.LastExpertsIdeal.τ) (Cert.LastExpertsIdeal.main (F := Ideal))) ⟨m, fun _ => 0, g⟩ (fun r => ∀ c : Dev Cert.LastExpertsIdeal.nD,
          (∀ i : (⟨2, ![163840, 4096]⟩ : Shape).Idx, (Cert.On_last_live_rows.fn (F := Ideal) (m ((c.tc : Thread Cert.LastExpertsIdeal.nD Cert.LastExpertsIdeal.τ).loc Cert.LastExpertsIdeal.main_arg0)) (m ((c.tc : Thread Cert.LastExpertsIdeal.nD Cert.LastExpertsIdeal.τ).loc Cert.LastExpertsIdeal.main_arg1)) (m ((c.tc : Thread Cert.LastExpertsIdeal.nD Cert.LastExpertsIdeal.τ).loc Cert.LastExpertsIdeal.main_arg2)) (m ((c.tc : Thread Cert.LastExpertsIdeal.nD Cert.LastExpertsIdeal.τ).loc Cert.LastExpertsIdeal.main_arg3)) (m ((c.tc : Thread Cert.LastExpertsIdeal.nD Cert.LastExpertsIdeal.τ).loc Cert.LastExpertsIdeal.main_arg4))) i = 1#1 → r.2.mem ((c.tc : Thread Cert.LastExpertsIdeal.nD Cert.LastExpertsIdeal.τ).loc Cert.LastExpertsIdeal.main_v0) i = v0 c i)
          ∧ r.2.mem ((c.tc : Thread Cert.LastExpertsIdeal.nD Cert.LastExpertsIdeal.τ).loc Cert.LastExpertsIdeal.main_arg0) = m ((c.tc : Thread Cert.LastExpertsIdeal.nD Cert.LastExpertsIdeal.τ).loc Cert.LastExpertsIdeal.main_arg0)
          ∧ r.2.mem ((c.tc : Thread Cert.LastExpertsIdeal.nD Cert.LastExpertsIdeal.τ).loc Cert.LastExpertsIdeal.main_arg1) = m ((c.tc : Thread Cert.LastExpertsIdeal.nD Cert.LastExpertsIdeal.τ).loc Cert.LastExpertsIdeal.main_arg1)
          ∧ r.2.mem ((c.tc : Thread Cert.LastExpertsIdeal.nD Cert.LastExpertsIdeal.τ).loc Cert.LastExpertsIdeal.main_arg2) = m ((c.tc : Thread Cert.LastExpertsIdeal.nD Cert.LastExpertsIdeal.τ).loc Cert.LastExpertsIdeal.main_arg2)
          ∧ r.2.mem ((c.tc : Thread Cert.LastExpertsIdeal.nD Cert.LastExpertsIdeal.τ).loc Cert.LastExpertsIdeal.main_arg3) = m ((c.tc : Thread Cert.LastExpertsIdeal.nD Cert.LastExpertsIdeal.τ).loc Cert.LastExpertsIdeal.main_arg3)
          ∧ r.2.mem ((c.tc : Thread Cert.LastExpertsIdeal.nD Cert.LastExpertsIdeal.τ).loc Cert.LastExpertsIdeal.main_arg4) = m ((c.tc : Thread Cert.LastExpertsIdeal.nD Cert.LastExpertsIdeal.τ).loc Cert.LastExpertsIdeal.main_arg4))
      ∧ θ_run (Cert.LastExpertsSpecIdeal.defs (F := Ideal)) (onTc (τ := Cert.LastExpertsSpecIdeal.τ) (Cert.LastExpertsSpecIdeal.main (F := Ideal))) ⟨m', fun _ => 0, g'⟩ (fun r => ∀ c : Dev Cert.LastExpertsSpecIdeal.nD,
          (∀ i : (⟨2, ![163840, 4096]⟩ : Shape).Idx, (Cert.On_last_live_rows.fn (F := Ideal) (m ((c.tc : Thread Cert.LastExpertsIdeal.nD Cert.LastExpertsIdeal.τ).loc Cert.LastExpertsIdeal.main_arg0)) (m ((c.tc : Thread Cert.LastExpertsIdeal.nD Cert.LastExpertsIdeal.τ).loc Cert.LastExpertsIdeal.main_arg1)) (m ((c.tc : Thread Cert.LastExpertsIdeal.nD Cert.LastExpertsIdeal.τ).loc Cert.LastExpertsIdeal.main_arg2)) (m ((c.tc : Thread Cert.LastExpertsIdeal.nD Cert.LastExpertsIdeal.τ).loc Cert.LastExpertsIdeal.main_arg3)) (m ((c.tc : Thread Cert.LastExpertsIdeal.nD Cert.LastExpertsIdeal.τ).loc Cert.LastExpertsIdeal.main_arg4))) i = 1#1 → r.2.mem ((c.tc : Thread Cert.LastExpertsSpecIdeal.nD Cert.LastExpertsSpecIdeal.τ).loc Cert.LastExpertsSpecIdeal.main_v19) i = v0 c i)
          ∧ r.2.mem ((c.tc : Thread Cert.LastExpertsSpecIdeal.nD Cert.LastExpertsSpecIdeal.τ).loc Cert.LastExpertsSpecIdeal.main_arg0) = m' ((c.tc : Thread Cert.LastExpertsSpecIdeal.nD Cert.LastExpertsSpecIdeal.τ).loc Cert.LastExpertsSpecIdeal.main_arg0)
          ∧ r.2.mem ((c.tc : Thread Cert.LastExpertsSpecIdeal.nD Cert.LastExpertsSpecIdeal.τ).loc Cert.LastExpertsSpecIdeal.main_arg1) = m' ((c.tc : Thread Cert.LastExpertsSpecIdeal.nD Cert.LastExpertsSpecIdeal.τ).loc Cert.LastExpertsSpecIdeal.main_arg1)
          ∧ r.2.mem ((c.tc : Thread Cert.LastExpertsSpecIdeal.nD Cert.LastExpertsSpecIdeal.τ).loc Cert.LastExpertsSpecIdeal.main_arg2) = m' ((c.tc : Thread Cert.LastExpertsSpecIdeal.nD Cert.LastExpertsSpecIdeal.τ).loc Cert.LastExpertsSpecIdeal.main_arg2)
          ∧ r.2.mem ((c.tc : Thread Cert.LastExpertsSpecIdeal.nD Cert.LastExpertsSpecIdeal.τ).loc Cert.LastExpertsSpecIdeal.main_arg3) = m' ((c.tc : Thread Cert.LastExpertsSpecIdeal.nD Cert.LastExpertsSpecIdeal.τ).loc Cert.LastExpertsSpecIdeal.main_arg3)
          ∧ r.2.mem ((c.tc : Thread Cert.LastExpertsSpecIdeal.nD Cert.LastExpertsSpecIdeal.τ).loc Cert.LastExpertsSpecIdeal.main_arg4) = m' ((c.tc : Thread Cert.LastExpertsSpecIdeal.nD Cert.LastExpertsSpecIdeal.τ).loc Cert.LastExpertsSpecIdeal.main_arg4))

def preserves_Output_OutputIdeal : Prop :=
  True

def algebraic_OutputIdeal_OutputSpecIdeal [hOutputIdeal : Cert.OutputIdeal.Facts] [hOutputSpecIdeal : Cert.OutputSpecIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputSpecIdeal.nD Cert.OutputSpecIdeal.τ Cert.OutputSpecIdeal.sig) → Buf (Elt Ideal) ℓ) (g' : Dev Cert.OutputSpecIdeal.nD → PrngReg), Pre_OutputIdeal m →
    (∀ c : Dev Cert.OutputIdeal.nD,
      m' ((c.tc : Thread Cert.OutputSpecIdeal.nD Cert.OutputSpecIdeal.τ).loc Cert.OutputSpecIdeal.main_arg0) = m ((c.tc : Thread Cert.OutputIdeal.nD Cert.OutputIdeal.τ).loc Cert.OutputIdeal.main_arg0)
      ∧ m' ((c.tc : Thread Cert.OutputSpecIdeal.nD Cert.OutputSpecIdeal.τ).loc Cert.OutputSpecIdeal.main_arg1) = m ((c.tc : Thread Cert.OutputIdeal.nD Cert.OutputIdeal.τ).loc Cert.OutputIdeal.main_arg1)
      ∧ m' ((c.tc : Thread Cert.OutputSpecIdeal.nD Cert.OutputSpecIdeal.τ).loc Cert.OutputSpecIdeal.main_arg2) = m ((c.tc : Thread Cert.OutputIdeal.nD Cert.OutputIdeal.τ).loc Cert.OutputIdeal.main_arg2)
      ∧ m' ((c.tc : Thread Cert.OutputSpecIdeal.nD Cert.OutputSpecIdeal.τ).loc Cert.OutputSpecIdeal.main_arg3) = m ((c.tc : Thread Cert.OutputIdeal.nD Cert.OutputIdeal.τ).loc Cert.OutputIdeal.main_arg3)) →
    ∃ (v0 : (c : Dev Cert.OutputIdeal.nD) → Buf (Elt Ideal) ((c.tc : Thread Cert.OutputIdeal.nD Cert.OutputIdeal.τ).loc Cert.OutputIdeal.main_v0)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v0) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3))
      ∧ θ_run (Cert.OutputSpecIdeal.defs (F := Ideal)) (onTc (τ := Cert.OutputSpecIdeal.τ) (Cert.OutputSpecIdeal.main (F := Ideal))) ⟨m', fun _ => 0, g'⟩ (fun r => ∀ c : Dev Cert.OutputSpecIdeal.nD,
          r.2.mem ((c.tc : Thread Cert.OutputSpecIdeal.nD Cert.OutputSpecIdeal.τ).loc Cert.OutputSpecIdeal.main_v23) = v0 c
          ∧ r.2.mem ((c.tc : Thread Cert.OutputSpecIdeal.nD Cert.OutputSpecIdeal.τ).loc Cert.OutputSpecIdeal.main_arg0) = m' ((c.tc : Thread Cert.OutputSpecIdeal.nD Cert.OutputSpecIdeal.τ).loc Cert.OutputSpecIdeal.main_arg0)
          ∧ r.2.mem ((c.tc : Thread Cert.OutputSpecIdeal.nD Cert.OutputSpecIdeal.τ).loc Cert.OutputSpecIdeal.main_arg1) = m' ((c.tc : Thread Cert.OutputSpecIdeal.nD Cert.OutputSpecIdeal.τ).loc Cert.OutputSpecIdeal.main_arg1)
          ∧ r.2.mem ((c.tc : Thread Cert.OutputSpecIdeal.nD Cert.OutputSpecIdeal.τ).loc Cert.OutputSpecIdeal.main_arg2) = m' ((c.tc : Thread Cert.OutputSpecIdeal.nD Cert.OutputSpecIdeal.τ).loc Cert.OutputSpecIdeal.main_arg2)
          ∧ r.2.mem ((c.tc : Thread Cert.OutputSpecIdeal.nD Cert.OutputSpecIdeal.τ).loc Cert.OutputSpecIdeal.main_arg3) = m' ((c.tc : Thread Cert.OutputSpecIdeal.nD Cert.OutputSpecIdeal.τ).loc Cert.OutputSpecIdeal.main_arg3))

def preserves_MlstmIn_MlstmInIdeal : Prop :=
  True

def algebraic_MlstmInIdeal_MlstmInSpecIdeal [hMlstmInIdeal : Cert.MlstmInIdeal.Facts] [hMlstmInSpecIdeal : Cert.MlstmInSpecIdeal.Facts] : Prop :=
  ∀ (m : (ℓ : Loc Cert.MlstmInIdeal.nD Cert.MlstmInIdeal.τ Cert.MlstmInIdeal.sig) → Buf (Elt Ideal) ℓ) (g : Dev Cert.MlstmInIdeal.nD → PrngReg)
    (m' : (ℓ : Loc Cert.MlstmInSpecIdeal.nD Cert.MlstmInSpecIdeal.τ Cert.MlstmInSpecIdeal.sig) → Buf (Elt Ideal) ℓ) (g' : Dev Cert.MlstmInSpecIdeal.nD → PrngReg), Pre_MlstmInIdeal m →
    (∀ c : Dev Cert.MlstmInIdeal.nD,
      m' ((c.tc : Thread Cert.MlstmInSpecIdeal.nD Cert.MlstmInSpecIdeal.τ).loc Cert.MlstmInSpecIdeal.main_arg0) = m ((c.tc : Thread Cert.MlstmInIdeal.nD Cert.MlstmInIdeal.τ).loc Cert.MlstmInIdeal.main_arg0)
      ∧ m' ((c.tc : Thread Cert.MlstmInSpecIdeal.nD Cert.MlstmInSpecIdeal.τ).loc Cert.MlstmInSpecIdeal.main_arg1) = m ((c.tc : Thread Cert.MlstmInIdeal.nD Cert.MlstmInIdeal.τ).loc Cert.MlstmInIdeal.main_arg1)) →
    ∃ (v0 : (c : Dev Cert.MlstmInIdeal.nD) → Buf (Elt Ideal) ((c.tc : Thread Cert.MlstmInIdeal.nD Cert.MlstmInIdeal.τ).loc Cert.MlstmInIdeal.main_v0)),
      θ_run (Cert.MlstmInIdeal.defs (F := Ideal)) (onTc (τ := Cert.MlstmInIdeal.τ) (Cert.MlstmInIdeal.main (F := Ideal))) ⟨m, fun _ => 0, g⟩ (fun r => ∀ c : Dev Cert.MlstmInIdeal.nD,
          r.2.mem ((c.tc : Thread Cert.MlstmInIdeal.nD Cert.MlstmInIdeal.τ).loc Cert.MlstmInIdeal.main_v0) = v0 c
          ∧ r.2.mem ((c.tc : Thread Cert.MlstmInIdeal.nD Cert.MlstmInIdeal.τ).loc Cert.MlstmInIdeal.main_arg0) = m ((c.tc : Thread Cert.MlstmInIdeal.nD Cert.MlstmInIdeal.τ).loc Cert.MlstmInIdeal.main_arg0)
          ∧ r.2.mem ((c.tc : Thread Cert.MlstmInIdeal.nD Cert.MlstmInIdeal.τ).loc Cert.MlstmInIdeal.main_arg1) = m ((c.tc : Thread Cert.MlstmInIdeal.nD Cert.MlstmInIdeal.τ).loc Cert.MlstmInIdeal.main_arg1))
      ∧ θ_run (Cert.MlstmInSpecIdeal.defs (F := Ideal)) (onTc (τ := Cert.MlstmInSpecIdeal.τ) (Cert.MlstmInSpecIdeal.main (F := Ideal))) ⟨m', fun _ => 0, g'⟩ (fun r => ∀ c : Dev Cert.MlstmInSpecIdeal.nD,
          r.2.mem ((c.tc : Thread Cert.MlstmInSpecIdeal.nD Cert.MlstmInSpecIdeal.τ).loc Cert.MlstmInSpecIdeal.main_v11) = v0 c
          ∧ r.2.mem ((c.tc : Thread Cert.MlstmInSpecIdeal.nD Cert.MlstmInSpecIdeal.τ).loc Cert.MlstmInSpecIdeal.main_arg0) = m' ((c.tc : Thread Cert.MlstmInSpecIdeal.nD Cert.MlstmInSpecIdeal.τ).loc Cert.MlstmInSpecIdeal.main_arg0)
          ∧ r.2.mem ((c.tc : Thread Cert.MlstmInSpecIdeal.nD Cert.MlstmInSpecIdeal.τ).loc Cert.MlstmInSpecIdeal.main_arg1) = m' ((c.tc : Thread Cert.MlstmInSpecIdeal.nD Cert.MlstmInSpecIdeal.τ).loc Cert.MlstmInSpecIdeal.main_arg1))

def preserves_Qkv_QkvIdeal : Prop :=
  True

def algebraic_QkvIdeal_QkvSpecIdeal [hQkvIdeal : Cert.QkvIdeal.Facts] [hQkvSpecIdeal : Cert.QkvSpecIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvSpecIdeal.nD Cert.QkvSpecIdeal.τ Cert.QkvSpecIdeal.sig) → Buf (Elt Ideal) ℓ) (g' : Dev Cert.QkvSpecIdeal.nD → PrngReg), Pre_QkvIdeal m →
    (∀ c : Dev Cert.QkvIdeal.nD,
      m' ((c.tc : Thread Cert.QkvSpecIdeal.nD Cert.QkvSpecIdeal.τ).loc Cert.QkvSpecIdeal.main_arg0) = m ((c.tc : Thread Cert.QkvIdeal.nD Cert.QkvIdeal.τ).loc Cert.QkvIdeal.main_arg0)
      ∧ m' ((c.tc : Thread Cert.QkvSpecIdeal.nD Cert.QkvSpecIdeal.τ).loc Cert.QkvSpecIdeal.main_arg1) = m ((c.tc : Thread Cert.QkvIdeal.nD Cert.QkvIdeal.τ).loc Cert.QkvIdeal.main_arg1)
      ∧ m' ((c.tc : Thread Cert.QkvSpecIdeal.nD Cert.QkvSpecIdeal.τ).loc Cert.QkvSpecIdeal.main_arg2) = m ((c.tc : Thread Cert.QkvIdeal.nD Cert.QkvIdeal.τ).loc Cert.QkvIdeal.main_arg2)
      ∧ m' ((c.tc : Thread Cert.QkvSpecIdeal.nD Cert.QkvSpecIdeal.τ).loc Cert.QkvSpecIdeal.main_arg3) = m ((c.tc : Thread Cert.QkvIdeal.nD Cert.QkvIdeal.τ).loc Cert.QkvIdeal.main_arg3)
      ∧ m' ((c.tc : Thread Cert.QkvSpecIdeal.nD Cert.QkvSpecIdeal.τ).loc Cert.QkvSpecIdeal.main_arg4) = m ((c.tc : Thread Cert.QkvIdeal.nD Cert.QkvIdeal.τ).loc Cert.QkvIdeal.main_arg4)
      ∧ m' ((c.tc : Thread Cert.QkvSpecIdeal.nD Cert.QkvSpecIdeal.τ).loc Cert.QkvSpecIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvSpecIdeal.defs (F := Ideal)) (onTc (τ := Cert.QkvSpecIdeal.τ) (Cert.QkvSpecIdeal.main (F := Ideal))) ⟨m', fun _ => 0, g'⟩ (fun r => ∀ c : Dev Cert.QkvSpecIdeal.nD,
          r.2.mem ((c.tc : Thread Cert.QkvSpecIdeal.nD Cert.QkvSpecIdeal.τ).loc Cert.QkvSpecIdeal.main_v77) = v0 c
          ∧ r.2.mem ((c.tc : Thread Cert.QkvSpecIdeal.nD Cert.QkvSpecIdeal.τ).loc Cert.QkvSpecIdeal.main_arg0) = m' ((c.tc : Thread Cert.QkvSpecIdeal.nD Cert.QkvSpecIdeal.τ).loc Cert.QkvSpecIdeal.main_arg0)
          ∧ r.2.mem ((c.tc : Thread Cert.QkvSpecIdeal.nD Cert.QkvSpecIdeal.τ).loc Cert.QkvSpecIdeal.main_arg1) = m' ((c.tc : Thread Cert.QkvSpecIdeal.nD Cert.QkvSpecIdeal.τ).loc Cert.QkvSpecIdeal.main_arg1)
          ∧ r.2.mem ((c.tc : Thread Cert.QkvSpecIdeal.nD Cert.QkvSpecIdeal.τ).loc Cert.QkvSpecIdeal.main_arg2) = m' ((c.tc : Thread Cert.QkvSpecIdeal.nD Cert.QkvSpecIdeal.τ).loc Cert.QkvSpecIdeal.main_arg2)
          ∧ r.2.mem ((c.tc : Thread Cert.QkvSpecIdeal.nD Cert.QkvSpecIdeal.τ).loc Cert.QkvSpecIdeal.main_arg3) = m' ((c.tc : Thread Cert.QkvSpecIdeal.nD Cert.QkvSpecIdeal.τ).loc Cert.QkvSpecIdeal.main_arg3)
          ∧ r.2.mem ((c.tc : Thread Cert.QkvSpecIdeal.nD Cert.QkvSpecIdeal.τ).loc Cert.QkvSpecIdeal.main_arg4) = m' ((c.tc : Thread Cert.QkvSpecIdeal.nD Cert.QkvSpecIdeal.τ).loc Cert.QkvSpecIdeal.main_arg4)
          ∧ r.2.mem ((c.tc : Thread Cert.QkvSpecIdeal.nD Cert.QkvSpecIdeal.τ).loc Cert.QkvSpecIdeal.main_arg5) = m' ((c.tc : Thread Cert.QkvSpecIdeal.nD Cert.QkvSpecIdeal.τ).loc Cert.QkvSpecIdeal.main_arg5))

def preserves_WindowQkv_WindowQkvIdeal : Prop :=
  True

def algebraic_WindowQkvIdeal_WindowQkvSpecIdeal [hWindowQkvIdeal : Cert.WindowQkvIdeal.Facts] [hWindowQkvSpecIdeal : Cert.WindowQkvSpecIdeal.Facts] : Prop :=
  ∀ (m : (ℓ : Loc Cert.WindowQkvIdeal.nD Cert.WindowQkvIdeal.τ Cert.WindowQkvIdeal.sig) → Buf (Elt Ideal) ℓ) (g : Dev Cert.WindowQkvIdeal.nD → PrngReg)
    (m' : (ℓ : Loc Cert.WindowQkvSpecIdeal.nD Cert.WindowQkvSpecIdeal.τ Cert.WindowQkvSpecIdeal.sig) → Buf (Elt Ideal) ℓ) (g' : Dev Cert.WindowQkvSpecIdeal.nD → PrngReg), Pre_WindowQkvIdeal m →
    (∀ c : Dev Cert.WindowQkvIdeal.nD,
      m' ((c.tc : Thread Cert.WindowQkvSpecIdeal.nD Cert.WindowQkvSpecIdeal.τ).loc Cert.WindowQkvSpecIdeal.main_arg0) = m ((c.tc : Thread Cert.WindowQkvIdeal.nD Cert.WindowQkvIdeal.τ).loc Cert.WindowQkvIdeal.main_arg0)
      ∧ m' ((c.tc : Thread Cert.WindowQkvSpecIdeal.nD Cert.WindowQkvSpecIdeal.τ).loc Cert.WindowQkvSpecIdeal.main_arg1) = m ((c.tc : Thread Cert.WindowQkvIdeal.nD Cert.WindowQkvIdeal.τ).loc Cert.WindowQkvIdeal.main_arg1)
      ∧ m' ((c.tc : Thread Cert.WindowQkvSpecIdeal.nD Cert.WindowQkvSpecIdeal.τ).loc Cert.WindowQkvSpecIdeal.main_arg2) = m ((c.tc : Thread Cert.WindowQkvIdeal.nD Cert.WindowQkvIdeal.τ).loc Cert.WindowQkvIdeal.main_arg2)
      ∧ m' ((c.tc : Thread Cert.WindowQkvSpecIdeal.nD Cert.WindowQkvSpecIdeal.τ).loc Cert.WindowQkvSpecIdeal.main_arg3) = m ((c.tc : Thread Cert.WindowQkvIdeal.nD Cert.WindowQkvIdeal.τ).loc Cert.WindowQkvIdeal.main_arg3)
      ∧ m' ((c.tc : Thread Cert.WindowQkvSpecIdeal.nD Cert.WindowQkvSpecIdeal.τ).loc Cert.WindowQkvSpecIdeal.main_arg4) = m ((c.tc : Thread Cert.WindowQkvIdeal.nD Cert.WindowQkvIdeal.τ).loc Cert.WindowQkvIdeal.main_arg4)
      ∧ m' ((c.tc : Thread Cert.WindowQkvSpecIdeal.nD Cert.WindowQkvSpecIdeal.τ).loc Cert.WindowQkvSpecIdeal.main_arg5) = m ((c.tc : Thread Cert.WindowQkvIdeal.nD Cert.WindowQkvIdeal.τ).loc Cert.WindowQkvIdeal.main_arg5)) →
    ∃ (v0 : (c : Dev Cert.WindowQkvIdeal.nD) → Buf (Elt Ideal) ((c.tc : Thread Cert.WindowQkvIdeal.nD Cert.WindowQkvIdeal.τ).loc Cert.WindowQkvIdeal.main_v2)),
      θ_run (Cert.WindowQkvIdeal.defs (F := Ideal)) (onTc (τ := Cert.WindowQkvIdeal.τ) (Cert.WindowQkvIdeal.main (F := Ideal))) ⟨m, fun _ => 0, g⟩ (fun r => ∀ c : Dev Cert.WindowQkvIdeal.nD,
          r.2.mem ((c.tc : Thread Cert.WindowQkvIdeal.nD Cert.WindowQkvIdeal.τ).loc Cert.WindowQkvIdeal.main_v2) = v0 c
          ∧ r.2.mem ((c.tc : Thread Cert.WindowQkvIdeal.nD Cert.WindowQkvIdeal.τ).loc Cert.WindowQkvIdeal.main_arg0) = m ((c.tc : Thread Cert.WindowQkvIdeal.nD Cert.WindowQkvIdeal.τ).loc Cert.WindowQkvIdeal.main_arg0)
          ∧ r.2.mem ((c.tc : Thread Cert.WindowQkvIdeal.nD Cert.WindowQkvIdeal.τ).loc Cert.WindowQkvIdeal.main_arg1) = m ((c.tc : Thread Cert.WindowQkvIdeal.nD Cert.WindowQkvIdeal.τ).loc Cert.WindowQkvIdeal.main_arg1)
          ∧ r.2.mem ((c.tc : Thread Cert.WindowQkvIdeal.nD Cert.WindowQkvIdeal.τ).loc Cert.WindowQkvIdeal.main_arg2) = m ((c.tc : Thread Cert.WindowQkvIdeal.nD Cert.WindowQkvIdeal.τ).loc Cert.WindowQkvIdeal.main_arg2)
          ∧ r.2.mem ((c.tc : Thread Cert.WindowQkvIdeal.nD Cert.WindowQkvIdeal.τ).loc Cert.WindowQkvIdeal.main_arg3) = m ((c.tc : Thread Cert.WindowQkvIdeal.nD Cert.WindowQkvIdeal.τ).loc Cert.WindowQkvIdeal.main_arg3)
          ∧ r.2.mem ((c.tc : Thread Cert.WindowQkvIdeal.nD Cert.WindowQkvIdeal.τ).loc Cert.WindowQkvIdeal.main_arg4) = m ((c.tc : Thread Cert.WindowQkvIdeal.nD Cert.WindowQkvIdeal.τ).loc Cert.WindowQkvIdeal.main_arg4)
          ∧ r.2.mem ((c.tc : Thread Cert.WindowQkvIdeal.nD Cert.WindowQkvIdeal.τ).loc Cert.WindowQkvIdeal.main_arg5) = m ((c.tc : Thread Cert.WindowQkvIdeal.nD Cert.WindowQkvIdeal.τ).loc Cert.WindowQkvIdeal.main_arg5))
      ∧ θ_run (Cert.WindowQkvSpecIdeal.defs (F := Ideal)) (onTc (τ := Cert.WindowQkvSpecIdeal.τ) (Cert.WindowQkvSpecIdeal.main (F := Ideal))) ⟨m', fun _ => 0, g'⟩ (fun r => ∀ c : Dev Cert.WindowQkvSpecIdeal.nD,
          r.2.mem ((c.tc : Thread Cert.WindowQkvSpecIdeal.nD Cert.WindowQkvSpecIdeal.τ).loc Cert.WindowQkvSpecIdeal.main_v51) = v0 c
          ∧ r.2.mem ((c.tc : Thread Cert.WindowQkvSpecIdeal.nD Cert.WindowQkvSpecIdeal.τ).loc Cert.WindowQkvSpecIdeal.main_arg0) = m' ((c.tc : Thread Cert.WindowQkvSpecIdeal.nD Cert.WindowQkvSpecIdeal.τ).loc Cert.WindowQkvSpecIdeal.main_arg0)
          ∧ r.2.mem ((c.tc : Thread Cert.WindowQkvSpecIdeal.nD Cert.WindowQkvSpecIdeal.τ).loc Cert.WindowQkvSpecIdeal.main_arg1) = m' ((c.tc : Thread Cert.WindowQkvSpecIdeal.nD Cert.WindowQkvSpecIdeal.τ).loc Cert.WindowQkvSpecIdeal.main_arg1)
          ∧ r.2.mem ((c.tc : Thread Cert.WindowQkvSpecIdeal.nD Cert.WindowQkvSpecIdeal.τ).loc Cert.WindowQkvSpecIdeal.main_arg2) = m' ((c.tc : Thread Cert.WindowQkvSpecIdeal.nD Cert.WindowQkvSpecIdeal.τ).loc Cert.WindowQkvSpecIdeal.main_arg2)
          ∧ r.2.mem ((c.tc : Thread Cert.WindowQkvSpecIdeal.nD Cert.WindowQkvSpecIdeal.τ).loc Cert.WindowQkvSpecIdeal.main_arg3) = m' ((c.tc : Thread Cert.WindowQkvSpecIdeal.nD Cert.WindowQkvSpecIdeal.τ).loc Cert.WindowQkvSpecIdeal.main_arg3)
          ∧ r.2.mem ((c.tc : Thread Cert.WindowQkvSpecIdeal.nD Cert.WindowQkvSpecIdeal.τ).loc Cert.WindowQkvSpecIdeal.main_arg4) = m' ((c.tc : Thread Cert.WindowQkvSpecIdeal.nD Cert.WindowQkvSpecIdeal.τ).loc Cert.WindowQkvSpecIdeal.main_arg4)
          ∧ r.2.mem ((c.tc : Thread Cert.WindowQkvSpecIdeal.nD Cert.WindowQkvSpecIdeal.τ).loc Cert.WindowQkvSpecIdeal.main_arg5) = m' ((c.tc : Thread Cert.WindowQkvSpecIdeal.nD Cert.WindowQkvSpecIdeal.τ).loc Cert.WindowQkvSpecIdeal.main_arg5))

def preserves_Finish_FinishIdeal : Prop :=
  True

def algebraic_FinishIdeal_FinishSpecIdeal [hFinishIdeal : Cert.FinishIdeal.Facts] [hFinishSpecIdeal : Cert.FinishSpecIdeal.Facts] [hPre_rows_taken : Cert.Pre_rows_taken.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishSpecIdeal.nD Cert.FinishSpecIdeal.τ Cert.FinishSpecIdeal.sig) → Buf (Elt Ideal) ℓ) (g' : Dev Cert.FinishSpecIdeal.nD → PrngReg), Pre_FinishIdeal m →
    (∀ c : Dev Cert.FinishIdeal.nD,
      m' ((c.tc : Thread Cert.FinishSpecIdeal.nD Cert.FinishSpecIdeal.τ).loc Cert.FinishSpecIdeal.main_arg0) = m ((c.tc : Thread Cert.FinishIdeal.nD Cert.FinishIdeal.τ).loc Cert.FinishIdeal.main_arg0)
      ∧ m' ((c.tc : Thread Cert.FinishSpecIdeal.nD Cert.FinishSpecIdeal.τ).loc Cert.FinishSpecIdeal.main_arg1) = m ((c.tc : Thread Cert.FinishIdeal.nD Cert.FinishIdeal.τ).loc Cert.FinishIdeal.main_arg1)
      ∧ m' ((c.tc : Thread Cert.FinishSpecIdeal.nD Cert.FinishSpecIdeal.τ).loc Cert.FinishSpecIdeal.main_arg2) = m ((c.tc : Thread Cert.FinishIdeal.nD Cert.FinishIdeal.τ).loc Cert.FinishIdeal.main_arg2)
      ∧ m' ((c.tc : Thread Cert.FinishSpecIdeal.nD Cert.FinishSpecIdeal.τ).loc Cert.FinishSpecIdeal.main_arg3) = m ((c.tc : Thread Cert.FinishIdeal.nD Cert.FinishIdeal.τ).loc Cert.FinishIdeal.main_arg3)
      ∧ m' ((c.tc : Thread Cert.FinishSpecIdeal.nD Cert.FinishSpecIdeal.τ).loc Cert.FinishSpecIdeal.main_arg4) = m ((c.tc : Thread Cert.FinishIdeal.nD Cert.FinishIdeal.τ).loc Cert.FinishIdeal.main_arg4)
      ∧ m' ((c.tc : Thread Cert.FinishSpecIdeal.nD Cert.FinishSpecIdeal.τ).loc Cert.FinishSpecIdeal.main_arg5) = m ((c.tc : Thread Cert.FinishIdeal.nD Cert.FinishIdeal.τ).loc Cert.FinishIdeal.main_arg5)
      ∧ m' ((c.tc : Thread Cert.FinishSpecIdeal.nD Cert.FinishSpecIdeal.τ).loc Cert.FinishSpecIdeal.main_arg6) = m ((c.tc : Thread Cert.FinishIdeal.nD Cert.FinishIdeal.τ).loc Cert.FinishIdeal.main_arg6)) →
    ∃ (v0 : (c : Dev Cert.FinishIdeal.nD) → Buf (Elt Ideal) ((c.tc : Thread Cert.FinishIdeal.nD Cert.FinishIdeal.τ).loc Cert.FinishIdeal.main_v1)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v1) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6))
      ∧ θ_run (Cert.FinishSpecIdeal.defs (F := Ideal)) (onTc (τ := Cert.FinishSpecIdeal.τ) (Cert.FinishSpecIdeal.main (F := Ideal))) ⟨m', fun _ => 0, g'⟩ (fun r => ∀ c : Dev Cert.FinishSpecIdeal.nD,
          r.2.mem ((c.tc : Thread Cert.FinishSpecIdeal.nD Cert.FinishSpecIdeal.τ).loc Cert.FinishSpecIdeal.main_v43) = v0 c
          ∧ r.2.mem ((c.tc : Thread Cert.FinishSpecIdeal.nD Cert.FinishSpecIdeal.τ).loc Cert.FinishSpecIdeal.main_arg0) = m' ((c.tc : Thread Cert.FinishSpecIdeal.nD Cert.FinishSpecIdeal.τ).loc Cert.FinishSpecIdeal.main_arg0)
          ∧ r.2.mem ((c.tc : Thread Cert.FinishSpecIdeal.nD Cert.FinishSpecIdeal.τ).loc Cert.FinishSpecIdeal.main_arg1) = m' ((c.tc : Thread Cert.FinishSpecIdeal.nD Cert.FinishSpecIdeal.τ).loc Cert.FinishSpecIdeal.main_arg1)
          ∧ r.2.mem ((c.tc : Thread Cert.FinishSpecIdeal.nD Cert.FinishSpecIdeal.τ).loc Cert.FinishSpecIdeal.main_arg2) = m' ((c.tc : Thread Cert.FinishSpecIdeal.nD Cert.FinishSpecIdeal.τ).loc Cert.FinishSpecIdeal.main_arg2)
          ∧ r.2.mem ((c.tc : Thread Cert.FinishSpecIdeal.nD Cert.FinishSpecIdeal.τ).loc Cert.FinishSpecIdeal.main_arg3) = m' ((c.tc : Thread Cert.FinishSpecIdeal.nD Cert.FinishSpecIdeal.τ).loc Cert.FinishSpecIdeal.main_arg3)
          ∧ r.2.mem ((c.tc : Thread Cert.FinishSpecIdeal.nD Cert.FinishSpecIdeal.τ).loc Cert.FinishSpecIdeal.main_arg4) = m' ((c.tc : Thread Cert.FinishSpecIdeal.nD Cert.FinishSpecIdeal.τ).loc Cert.FinishSpecIdeal.main_arg4)
          ∧ r.2.mem ((c.tc : Thread Cert.FinishSpecIdeal.nD Cert.FinishSpecIdeal.τ).loc Cert.FinishSpecIdeal.main_arg5) = m' ((c.tc : Thread Cert.FinishSpecIdeal.nD Cert.FinishSpecIdeal.τ).loc Cert.FinishSpecIdeal.main_arg5)
          ∧ r.2.mem ((c.tc : Thread Cert.FinishSpecIdeal.nD Cert.FinishSpecIdeal.τ).loc Cert.FinishSpecIdeal.main_arg6) = m' ((c.tc : Thread Cert.FinishSpecIdeal.nD Cert.FinishSpecIdeal.τ).loc Cert.FinishSpecIdeal.main_arg6))

def Claim : Prop :=
  ∃ (hAttention : Cert.Attention.Facts) (hAttentionIdeal : Cert.AttentionIdeal.Facts) (hAttentionSpecIdeal : Cert.AttentionSpecIdeal.Facts) (hExperts : Cert.Experts.Facts) (hExpertsIdeal : Cert.ExpertsIdeal.Facts) (hExpertsSpecIdeal : Cert.ExpertsSpecIdeal.Facts) (hLastExperts : Cert.LastExperts.Facts) (hLastExpertsIdeal : Cert.LastExpertsIdeal.Facts) (hLastExpertsSpecIdeal : Cert.LastExpertsSpecIdeal.Facts) (hOutput : Cert.Output.Facts) (hOutputIdeal : Cert.OutputIdeal.Facts) (hOutputSpecIdeal : Cert.OutputSpecIdeal.Facts) (hMlstmIn : Cert.MlstmIn.Facts) (hMlstmInIdeal : Cert.MlstmInIdeal.Facts) (hMlstmInSpecIdeal : Cert.MlstmInSpecIdeal.Facts) (hQkv : Cert.Qkv.Facts) (hQkvIdeal : Cert.QkvIdeal.Facts) (hQkvSpecIdeal : Cert.QkvSpecIdeal.Facts) (hWindowQkv : Cert.WindowQkv.Facts) (hWindowQkvIdeal : Cert.WindowQkvIdeal.Facts) (hWindowQkvSpecIdeal : Cert.WindowQkvSpecIdeal.Facts) (hFinish : Cert.Finish.Facts) (hFinishIdeal : Cert.FinishIdeal.Facts) (hFinishSpecIdeal : Cert.FinishSpecIdeal.Facts) (hPre_finite : Cert.Pre_finite.Facts) (hPre_tables : Cert.Pre_tables.Facts) (hPre_last_tables : Cert.Pre_last_tables.Facts) (hPre_rows_taken : Cert.Pre_rows_taken.Facts) (hOn_live_rows : Cert.On_live_rows.Facts) (hOn_last_live_rows : Cert.On_last_live_rows.Facts),
    quiescent_Attention (hAttention := hAttention)
    ∧ quiescent_AttentionIdeal (hAttentionIdeal := hAttentionIdeal)
    ∧ quiescent_AttentionIdeal_pre_finite (hAttentionIdeal := hAttentionIdeal) (hPre_finite := hPre_finite)
    ∧ quiescent_AttentionSpecIdeal (hAttentionSpecIdeal := hAttentionSpecIdeal)
    ∧ quiescent_AttentionSpecIdeal_pre_finite (hAttentionSpecIdeal := hAttentionSpecIdeal) (hPre_finite := hPre_finite)
    ∧ quiescent_Experts (hExperts := hExperts) (hPre_tables := hPre_tables)
    ∧ quiescent_ExpertsIdeal (hExpertsIdeal := hExpertsIdeal) (hPre_tables := hPre_tables)
    ∧ quiescent_ExpertsSpecIdeal (hExpertsSpecIdeal := hExpertsSpecIdeal)
    ∧ quiescent_ExpertsSpecIdeal_pre_tables (hExpertsSpecIdeal := hExpertsSpecIdeal) (hPre_tables := hPre_tables)
    ∧ quiescent_LastExperts (hLastExperts := hLastExperts) (hPre_last_tables := hPre_last_tables)
    ∧ quiescent_LastExpertsIdeal (hLastExpertsIdeal := hLastExpertsIdeal) (hPre_last_tables := hPre_last_tables)
    ∧ quiescent_LastExpertsSpecIdeal (hLastExpertsSpecIdeal := hLastExpertsSpecIdeal)
    ∧ quiescent_LastExpertsSpecIdeal_pre_last_tables (hLastExpertsSpecIdeal := hLastExpertsSpecIdeal) (hPre_last_tables := hPre_last_tables)
    ∧ quiescent_Output (hOutput := hOutput)
    ∧ quiescent_OutputIdeal (hOutputIdeal := hOutputIdeal)
    ∧ quiescent_OutputSpecIdeal (hOutputSpecIdeal := hOutputSpecIdeal)
    ∧ quiescent_MlstmIn (hMlstmIn := hMlstmIn)
    ∧ quiescent_MlstmInIdeal (hMlstmInIdeal := hMlstmInIdeal)
    ∧ quiescent_MlstmInSpecIdeal (hMlstmInSpecIdeal := hMlstmInSpecIdeal)
    ∧ quiescent_Qkv (hQkv := hQkv)
    ∧ quiescent_QkvIdeal (hQkvIdeal := hQkvIdeal)
    ∧ quiescent_QkvSpecIdeal (hQkvSpecIdeal := hQkvSpecIdeal)
    ∧ quiescent_WindowQkv (hWindowQkv := hWindowQkv)
    ∧ quiescent_WindowQkvIdeal (hWindowQkvIdeal := hWindowQkvIdeal)
    ∧ quiescent_WindowQkvSpecIdeal (hWindowQkvSpecIdeal := hWindowQkvSpecIdeal)
    ∧ quiescent_Finish (hFinish := hFinish) (hPre_rows_taken := hPre_rows_taken)
    ∧ quiescent_FinishIdeal (hFinishIdeal := hFinishIdeal) (hPre_rows_taken := hPre_rows_taken)
    ∧ quiescent_FinishSpecIdeal (hFinishSpecIdeal := hFinishSpecIdeal)
    ∧ quiescent_FinishSpecIdeal_pre_rows_taken (hFinishSpecIdeal := hFinishSpecIdeal) (hPre_rows_taken := hPre_rows_taken)
    ∧ preserves_Attention_AttentionIdeal
    ∧ algebraic_AttentionIdeal_AttentionSpecIdeal_pre_finite (hAttentionIdeal := hAttentionIdeal) (hAttentionSpecIdeal := hAttentionSpecIdeal) (hPre_finite := hPre_finite)
    ∧ preserves_Experts_ExpertsIdeal
    ∧ algebraic_ExpertsIdeal_ExpertsSpecIdeal_on_live_rows (hExpertsIdeal := hExpertsIdeal) (hExpertsSpecIdeal := hExpertsSpecIdeal) (hPre_tables := hPre_tables) (hOn_live_rows := hOn_live_rows)
    ∧ preserves_LastExperts_LastExpertsIdeal
    ∧ algebraic_LastExpertsIdeal_LastExpertsSpecIdeal_on_last_live_rows (hLastExpertsIdeal := hLastExpertsIdeal) (hLastExpertsSpecIdeal := hLastExpertsSpecIdeal) (hPre_last_tables := hPre_last_tables) (hOn_last_live_rows := hOn_last_live_rows)
    ∧ preserves_Output_OutputIdeal
    ∧ algebraic_OutputIdeal_OutputSpecIdeal (hOutputIdeal := hOutputIdeal) (hOutputSpecIdeal := hOutputSpecIdeal)
    ∧ preserves_MlstmIn_MlstmInIdeal
    ∧ algebraic_MlstmInIdeal_MlstmInSpecIdeal (hMlstmInIdeal := hMlstmInIdeal) (hMlstmInSpecIdeal := hMlstmInSpecIdeal)
    ∧ preserves_Qkv_QkvIdeal
    ∧ algebraic_QkvIdeal_QkvSpecIdeal (hQkvIdeal := hQkvIdeal) (hQkvSpecIdeal := hQkvSpecIdeal)
    ∧ preserves_WindowQkv_WindowQkvIdeal
    ∧ algebraic_WindowQkvIdeal_WindowQkvSpecIdeal (hWindowQkvIdeal := hWindowQkvIdeal) (hWindowQkvSpecIdeal := hWindowQkvSpecIdeal)
    ∧ preserves_Finish_FinishIdeal
    ∧ algebraic_FinishIdeal_FinishSpecIdeal (hFinishIdeal := hFinishIdeal) (hFinishSpecIdeal := hFinishSpecIdeal) (hPre_rows_taken := hPre_rows_taken)
-- ==== On_last_live_rows.lean ====
abbrev S320 : Shape := ⟨1, ![320]⟩
abbrev S1 : Shape := ⟨1, ![1]⟩
abbrev S163840x4096 : Shape := ⟨2, ![163840, 4096]⟩
abbrev S64x4096x384 : Shape := ⟨3, ![64, 4096, 384]⟩
abbrev S64x192x4096 : Shape := ⟨3, ![64, 192, 4096]⟩
abbrev S_ : Shape := ⟨0, ![]⟩

class Facts : Prop where
  shapeCasts_S1_S_ : S1.ShapeCasts S_
  bcast_S_S163840x4096 : S_.BroadcastsInDim S163840x4096 (![] : Fin 0 → Fin S163840x4096.rank)

variable [Facts]

def fn {F : FTy → Type} [FloatOps F] (main_arg0 : IVec S320 32) (main_arg1 : IVec S1 32) (main_arg2 : FVec F S163840x4096 .bf16) (main_arg3 : FVec F S64x4096x384 .f32) (main_arg4 : FVec F S64x192x4096 .f32) : IVec S163840x4096 1 :=
  let main_v0 : IVec S163840x4096 32 := iotaInDim S163840x4096 32 0
  let main_v1 : IVec S_ 32 := shapeCast S_ main_arg1 shapeCasts_S1_S_
  let main_c : IVec S_ 32 := constantI S_ 32 320#32
  let main_v2 : IVec S_ 32 := minsi main_v1 main_c
  let main_c_0 : IVec S_ 32 := constantI S_ 32 512#32
  let main_v3 : IVec S_ 32 := muli main_v2 main_c_0
  let main_v4 : IVec S163840x4096 32 := broadcastInDim S163840x4096 ![] bcast_S_S163840x4096 main_v3
  let main_v5 : IVec S163840x4096 1 := cmpi .slt main_v0 main_v4
  main_v5
-- ==== On_live_rows.lean ====
abbrev S352 : Shape := ⟨1, ![352]⟩
abbrev S1 : Shape := ⟨1, ![1]⟩
abbrev S180224x4096 : Shape := ⟨2, ![180224, 4096]⟩
abbrev S64x4096x384 : Shape := ⟨3, ![64, 4096, 384]⟩
abbrev S64x192x4096 : Shape := ⟨3, ![64, 192, 4096]⟩
abbrev S_ : Shape := ⟨0, ![]⟩

class Facts : Prop where
  shapeCasts_S1_S_ : S1.ShapeCasts S_
  bcast_S_S180224x4096 : S_.BroadcastsInDim S180224x4096 (![] : Fin 0 → Fin S180224x4096.rank)

variable [Facts]

def fn {F : FTy → Type} [FloatOps F] (main_arg0 : IVec S352 32) (main_arg1 : IVec S1 32) (main_arg2 : FVec F S180224x4096 .bf16) (main_arg3 : FVec F S64x4096x384 .f32) (main_arg4 : FVec F S64x192x4096 .f32) : IVec S180224x4096 1 :=
  let main_v0 : IVec S180224x4096 32 := iotaInDim S180224x4096 32 0
  let main_v1 : IVec S_ 32 := shapeCast S_ main_arg1 shapeCasts_S1_S_
  let main_c : IVec S_ 32 := constantI S_ 32 352#32
  let main_v2 : IVec S_ 32 := minsi main_v1 main_c
  let main_c_0 : IVec S_ 32 := constantI S_ 32 512#32
  let main_v3 : IVec S_ 32 := muli main_v2 main_c_0
  let main_v4 : IVec S180224x4096 32 := broadcastInDim S180224x4096 ![] bcast_S_S180224x4096 main_v3
  let main_v5 : IVec S180224x4096 1 := cmpi .slt main_v0 main_v4
  main_v5
-- ==== Pre_finite.lean ====
abbrev S18432x6144 : Shape := ⟨2, ![18432, 6144]⟩
abbrev S_ : Shape := ⟨0, ![]⟩

class Facts : Prop where
  bitsLt_bf16_f32 : FTy.bits .bf16 < FTy.bits .f32
  bcast_S_S18432x6144 : S_.BroadcastsInDim S18432x6144 (![] : Fin 0 → Fin S18432x6144.rank)

variable [Facts]

def fn {F : FTy → Type} [FloatOps F] (main_arg0 : FVec F S18432x6144 .bf16) : IVec S18432x6144 1 :=
  let main_v0 : FVec F S18432x6144 .f32 := (extf .f32 · bitsLt_bf16_f32) main_arg0
  let main_v1 : FVec F S18432x6144 .f32 := Host.absf main_v0
  let main_cst : FVec F S_ .f32 := constant S_ .f32 0x7F800000#32
  let main_v2 : FVec F S18432x6144 .f32 := broadcastInDim S18432x6144 ![] bcast_S_S18432x6144 main_cst
  let main_v3 : IVec S18432x6144 1 := cmpf .olt main_v1 main_v2
  main_v3
-- ==== Pre_last_tables.lean ====
abbrev S320 : Shape := ⟨1, ![320]⟩
abbrev S1 : Shape := ⟨1, ![1]⟩
abbrev S163840x4096 : Shape := ⟨2, ![163840, 4096]⟩
abbrev S64x4096x384 : Shape := ⟨3, ![64, 4096, 384]⟩
abbrev S64x192x4096 : Shape := ⟨3, ![64, 192, 4096]⟩
abbrev S_ : Shape := ⟨0, ![]⟩

class Facts : Prop where
  bcast_S_S320 : S_.BroadcastsInDim S320 (![] : Fin 0 → Fin S320.rank)
  shapeCasts_S1_S_ : S1.ShapeCasts S_

variable [Facts]

def fn {F : FTy → Type} [FloatOps F] (main_arg0 : IVec S320 32) (main_arg1 : IVec S1 32) (main_arg2 : FVec F S163840x4096 .bf16) (main_arg3 : FVec F S64x4096x384 .f32) (main_arg4 : FVec F S64x192x4096 .f32) : IVec S320 1 :=
  let main_c : IVec S_ 32 := constantI S_ 32 0#32
  let main_v0 : IVec S320 32 := broadcastInDim S320 ![] bcast_S_S320 main_c
  let main_v1 : IVec S320 1 := cmpi .sge main_arg0 main_v0
  let main_c_0 : IVec S_ 32 := constantI S_ 32 64#32
  let main_v2 : IVec S320 32 := broadcastInDim S320 ![] bcast_S_S320 main_c_0
  let main_v3 : IVec S320 1 := cmpi .slt main_arg0 main_v2
  let main_v4 : IVec S320 1 := andi main_v1 main_v3
  let main_v5 : IVec S_ 32 := shapeCast S_ main_arg1 shapeCasts_S1_S_
  let main_c_1 : IVec S_ 32 := constantI S_ 32 1#32
  let main_v6 : IVec S_ 1 := cmpi .sge main_v5 main_c_1
  let main_v7 : IVec S320 1 := broadcastInDim S320 ![] bcast_S_S320 main_v6
  let main_v8 : IVec S320 1 := andi main_v4 main_v7
  main_v8
-- ==== Pre_rows_taken.lean ====
abbrev S16384x4096 : Shape := ⟨2, ![16384, 4096]⟩
abbrev S8x16384 : Shape := ⟨2, ![8, 16384]⟩
abbrev S163840x2048 : Shape := ⟨2, ![163840, 2048]⟩
abbrev S16384x128 : Shape := ⟨2, ![16384, 128]⟩
abbrev S16x6x4096 : Shape := ⟨3, ![16, 6, 4096]⟩
abbrev S4096 : Shape := ⟨1, ![4096]⟩
abbrev S_ : Shape := ⟨0, ![]⟩

class Facts : Prop where
  bcast_S_S8x16384 : S_.BroadcastsInDim S8x16384 (![] : Fin 0 → Fin S8x16384.rank)

variable [Facts]

def fn {F : FTy → Type} [FloatOps F] (main_arg0 : FVec F S16384x4096 .f32) (main_arg1 : IVec S8x16384 32) (main_arg2 : IVec S163840x2048 32) (main_arg3 : FVec F S16384x128 .f32) (main_arg4 : FVec F S16384x4096 .bf16) (main_arg5 : FVec F S16x6x4096 .f32) (main_arg6 : FVec F S4096 .f32) : IVec S8x16384 1 :=
  let main_c : IVec S_ 32 := constantI S_ 32 0#32
  let main_v0 : IVec S8x16384 32 := broadcastInDim S8x16384 ![] bcast_S_S8x16384 main_c
  let main_v1 : IVec S8x16384 1 := cmpi .sge main_arg1 main_v0
  let main_c_0 : IVec S_ 32 := constantI S_ 32 163840#32
  let main_v2 : IVec S8x16384 32 := broadcastInDim S8x16384 ![] bcast_S_S8x16384 main_c_0
  let main_v3 : IVec S8x16384 1 := cmpi .slt main_arg1 main_v2
  let main_v4 : IVec S8x16384 1 := andi main_v1 main_v3
  main_v4
-- ==== Pre_tables.lean ====
abbrev S352 : Shape := ⟨1, ![352]⟩
abbrev S1 : Shape := ⟨1, ![1]⟩
abbrev S180224x4096 : Shape := ⟨2, ![180224, 4096]⟩
abbrev S64x4096x384 : Shape := ⟨3, ![64, 4096, 384]⟩
abbrev S64x192x4096 : Shape := ⟨3, ![64, 192, 4096]⟩
abbrev S_ : Shape := ⟨0, ![]⟩

class Facts : Prop where
  bcast_S_S352 : S_.BroadcastsInDim S352 (![] : Fin 0 → Fin S352.rank)
  shapeCasts_S1_S_ : S1.ShapeCasts S_

variable [Facts]

def fn {F : FTy → Type} [FloatOps F] (main_arg0 : IVec S352 32) (main_arg1 : IVec S1 32) (main_arg2 : FVec F S180224x4096 .bf16) (main_arg3 : FVec F S64x4096x384 .f32) (main_arg4 : FVec F S64x192x4096 .f32) : IVec S352 1 :=
  let main_c : IVec S_ 32 := constantI S_ 32 0#32
  let main_v0 : IVec S352 32 := broadcastInDim S352 ![] bcast_S_S352 main_c
  let main_v1 : IVec S352 1 := cmpi .sge main_arg0 main_v0
  let main_c_0 : IVec S_ 32 := constantI S_ 32 64#32
  let main_v2 : IVec S352 32 := broadcastInDim S352 ![] bcast_S_S352 main_c_0
  let main_v3 : IVec S352 1 := cmpi .slt main_arg0 main_v2
  let main_v4 : IVec S352 1 := andi main_v1 main_v3
  let main_v5 : IVec S_ 32 := shapeCast S_ main_arg1 shapeCasts_S1_S_
  let main_c_1 : IVec S_ 32 := constantI S_ 32 1#32
  let main_v6 : IVec S_ 1 := cmpi .sge main_v5 main_c_1
  let main_v7 : IVec S352 1 := broadcastInDim S352 ![] bcast_S_S352 main_v6
  let main_v8 : IVec S352 1 := andi main_v4 main_v7
  main_v8
-- ==== Attention.lean ====
abbrev S18432x6144 : Shape := ⟨2, ![18432, 6144]⟩
abbrev S16384x4096 : Shape := ⟨2, ![16384, 4096]⟩
abbrev S512x512 : Shape := ⟨2, ![512, 512]⟩
abbrev S256x128 : Shape := ⟨2, ![256, 128]⟩
abbrev S2048x128 : Shape := ⟨2, ![2048, 128]⟩
abbrev S256x256 : Shape := ⟨2, ![256, 256]⟩
abbrev S2048x256 : Shape := ⟨2, ![2048, 256]⟩
abbrev S512x128 : Shape := ⟨2, ![512, 128]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 2
  | .vmem => 12
  | .smem => 0
  | _ => 0

abbrev bufTy : (tb : Table) → Fin (tcTables nBuf tb) → BufTy
  | .hbm, ⟨0, _⟩ => ⟨S18432x6144, .bf16⟩
  | .hbm, ⟨1, _⟩ => ⟨S16384x4096, .bf16⟩
  | .local _ .vmem, ⟨0, _⟩ => ⟨S512x512, .bf16⟩
  | .local _ .vmem, ⟨1, _⟩ => ⟨S512x512, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S512x512, .bf16⟩
  | .local _ .vmem, ⟨11, _⟩ => ⟨S512x512, .bf16⟩
  | _, _ => ⟨S18432x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c32_i32 : BitVec 32 := 32#32
  let v1 : BitVec 32 := Scalar.addi c32_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c40_i32 : BitVec 32 := 40#32
  let v1 : BitVec 32 := Scalar.addi c40_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttentionSpecIdeal.lean ====
abbrev S18432x6144 : Shape := ⟨2, ![18432, 6144]⟩
abbrev S16384x6144 : Shape := ⟨2, ![16384, 6144]⟩
abbrev S8x2048x6144 : Shape := ⟨3, ![8, 2048, 6144]⟩
abbrev S2048x6144 : Shape := ⟨2, ![2048, 6144]⟩
abbrev S8x256x6144 : Shape := ⟨3, ![8, 256, 6144]⟩
abbrev S8x2048x4096 : Shape := ⟨3, ![8, 2048, 4096]⟩
abbrev S8x2048x1024 : Shape := ⟨3, ![8, 2048, 1024]⟩
abbrev S8x256x4096 : Shape := ⟨3, ![8, 256, 4096]⟩
abbrev S8x256x1024 : Shape := ⟨3, ![8, 256, 1024]⟩
abbrev S8x2048x8x4x128 : Shape := ⟨5, ![8, 2048, 8, 4, 128]⟩
abbrev S8x2304x1024 : Shape := ⟨3, ![8, 2304, 1024]⟩
abbrev S8x2304x8x128 : Shape := ⟨4, ![8, 2304, 8, 128]⟩
abbrev S8x8x2304x2048x4 : Shape := ⟨5, ![8, 8, 2304, 2048, 4]⟩
abbrev S8x8x4x2048x2304 : Shape := ⟨5, ![8, 8, 4, 2048, 2304]⟩
abbrev S_ : Shape := ⟨0, ![]⟩
abbrev S8x8x4x2048 : Shape := ⟨4, ![8, 8, 4, 2048]⟩
abbrev S8x8x4x2048x1 : Shape := ⟨5, ![8, 8, 4, 2048, 1]⟩
abbrev S8x8x128x4x2048 : Shape := ⟨5, ![8, 8, 128, 4, 2048]⟩
abbrev S16384x4096 : Shape := ⟨2, ![16384, 4096]⟩

abbrev nBuf : Space → Nat
  | .hbm => 38
  | .vmem => 0
  | .smem => 0
  | _ => 0

abbrev bufTy : (tb : Table) → Fin (tcTables nBuf tb) → BufTy
  | .hbm, ⟨0, _⟩ => ⟨S18432x6144, .bf16⟩
  | .hbm, ⟨1, _⟩ => ⟨S16384x6144, .bf16⟩
  | .hbm, ⟨2, _⟩ => ⟨S16384x6144, .f32⟩
  | .hbm, ⟨3, _⟩ => ⟨S8x2048x6144, .f32⟩
  | .hbm, ⟨4, _⟩ => ⟨S2048x6144, .bf16⟩
  | .hbm, ⟨5, _⟩ => ⟨S2048x6144, .f32⟩
  | .hbm, ⟨6, _⟩ => ⟨S8x256x6144, .f32⟩
  | .hbm, ⟨7, _⟩ => ⟨S8x2048x4096, .f32⟩
  | .hbm, ⟨8, _⟩ => ⟨S8x2048x1024, .f32⟩
  | .hbm, ⟨9, _⟩ => ⟨S8x2048x1024, .f32⟩
  | .hbm, ⟨10, _⟩ => ⟨S8x256x4096, .f32⟩
  | .hbm, ⟨11, _⟩ => ⟨S8x256x1024, .f32⟩
  | .hbm, ⟨12, _⟩ => ⟨S8x256x1024, .f32⟩
  | .hbm, ⟨13, _⟩ => ⟨S8x2048x8x4x128, .f32⟩
  | .hbm, ⟨14, _⟩ => ⟨S8x2304x1024, .f32⟩
  | .hbm, ⟨15, _⟩ => ⟨S8x2304x8x128, .f32⟩
  | .hbm, ⟨16, _⟩ => ⟨S8x2304x1024, .f32⟩
  | .hbm, ⟨17, _⟩ => ⟨S8x2304x8x128, .f32⟩
  | .hbm, ⟨18, _⟩ => ⟨S8x8x2304x2048x4, .f32⟩
  | .hbm, ⟨19, _⟩ => ⟨S8x8x4x2048x2304, .f32⟩
  | .hbm, ⟨20, _⟩ => ⟨S_, .f32⟩
  | .hbm, ⟨21, _⟩ => ⟨S8x8x4x2048, .f32⟩
  | .hbm, ⟨22, _⟩ => ⟨S_, .f32⟩
  | .hbm, ⟨23, _⟩ => ⟨S8x8x4x2048, .f32⟩
  | .hbm, ⟨24, _⟩ => ⟨S8x8x4x2048, .f32⟩
  | .hbm, ⟨25, _⟩ => ⟨S8x8x4x2048x1, .f32⟩
  | .hbm, ⟨26, _⟩ => ⟨S8x8x4x2048x2304, .f32⟩
  | .hbm, ⟨27, _⟩ => ⟨S8x8x4x2048x2304, .f32⟩
  | .hbm, ⟨28, _⟩ => ⟨S8x8x4x2048x2304, .f32⟩
  | .hbm, ⟨29, _⟩ => ⟨S_, .f32⟩
  | .hbm, ⟨30, _⟩ => ⟨S8x8x4x2048, .f32⟩
  | .hbm, ⟨31, _⟩ => ⟨S8x8x4x2048x1, .f32⟩
  | .hbm, ⟨32, _⟩ => ⟨S8x8x4x2048x2304, .f32⟩
  | .hbm, ⟨33, _⟩ => ⟨S8x8x4x2048x2304, .f32⟩
  | .hbm, ⟨34, _⟩ => ⟨S8x8x128x4x2048, .f32⟩
  | .hbm, ⟨35, _⟩ => ⟨S8x2048x8x4x128, .f32⟩
  | .hbm, ⟨36, _⟩ => ⟨S16384x4096, .f32⟩
  | .hbm, ⟨37, _⟩ => ⟨S16384x4096, .bf16⟩
  | _, _ => ⟨S18432x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_cst : Ref sig .tc := ⟨.hbm, 20, rfl⟩
abbrev main_v19 : Ref sig .tc := ⟨.hbm, 21, rfl⟩
abbrev main_cst_0 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_1 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩

abbrev nD : Nat := 1
abbrev τ : Topo := Topo.v7x

variable {F : FTy → Type} [FloatOps F]
-- ==== Experts.lean ====
abbrev S352 : Shape := ⟨1, ![352]⟩
abbrev S1 : Shape := ⟨1, ![1]⟩
abbrev S180224x4096 : Shape := ⟨2, ![180224, 4096]⟩
abbrev S64x4096x384 : Shape := ⟨3, ![64, 4096, 384]⟩
abbrev S64x192x4096 : Shape := ⟨3, ![64, 192, 4096]⟩
abbrev S512x4096 : Shape := ⟨2, ![512, 4096]⟩
abbrev S1x4096x384 : Shape := ⟨3, ![1, 4096, 384]⟩
abbrev S1x192x4096 : Shape := ⟨3, ![1, 192, 4096]⟩
abbrev S4096x384 : Shape := ⟨2, ![4096, 384]⟩
abbrev S192x4096 : Shape := ⟨2, ![192, 4096]⟩
abbrev S512x512 : Shape := ⟨2, ![512, 512]⟩
abbrev S512x384 : Shape := ⟨2, ![512, 384]⟩
abbrev S512x192 : Shape := ⟨2, ![512, 192]⟩
abbrev S192x512 : Shape := ⟨2, ![192, 512]⟩

abbrev nBuf : Space → Nat
  | .hbm => 4
  | .vmem => 10
  | .smem => 2
  | _ => 0

abbrev bufTy : (tb : Table) → Fin (tcTables nBuf tb) → BufTy
  | .hbm, ⟨0, _⟩ => ⟨S180224x4096, .bf16⟩
  | .hbm, ⟨1, _⟩ => ⟨S64x4096x384, .f32⟩
  | .hbm, ⟨2, _⟩ => ⟨S64x192x4096, .f32⟩
  | .hbm, ⟨3, _⟩ => ⟨S180224x4096, .bf16⟩
  | .local _ .vmem, ⟨0, _⟩ => ⟨S512x4096, .bf16⟩
  | .local _ .vmem, ⟨1, _⟩ => ⟨S512x4096, .bf16⟩
  | .local _ .vmem, ⟨2, _⟩ => ⟨S1x4096x384, .f32⟩
  | .local _ .vmem, ⟨3, _⟩ => ⟨S1x4096x384, .f32⟩
  | .local _ .vmem, ⟨4, _⟩ => ⟨S1x192x4096, .f32⟩
  | .local _ .vmem, ⟨5, _⟩ => ⟨S1x192x4096, .f32⟩
  | .local _ .vmem, ⟨6, _⟩ => ⟨S512x4096, .bf16⟩
  | .local _ .vmem, ⟨7, _⟩ => ⟨S512x4096, .bf16⟩
  | .local _ .vmem, ⟨8, _⟩ => ⟨S4096x384, .bf16⟩
  | .local _ .vmem, ⟨9, _⟩ => ⟨S192x4096, .bf16⟩
  | .local _ .smem, ⟨0, _⟩ => ⟨S352, .i32⟩
  | .local _ .smem, ⟨1, _⟩ => ⟨S1, .i32⟩
  | _, _ => ⟨S180224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![352], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x192x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsIdeal.lean ====
abbrev S352 : Shape := ⟨1, ![352]⟩
abbrev S1 : Shape := ⟨1, ![1]⟩
abbrev S180224x4096 : Shape := ⟨2, ![180224, 4096]⟩
abbrev S64x4096x384 : Shape := ⟨3, ![64, 4096, 384]⟩
abbrev S64x192x4096 : Shape := ⟨3, ![64, 192, 4096]⟩
abbrev S512x4096 : Shape := ⟨2, ![512, 4096]⟩
abbrev S1x4096x384 : Shape := ⟨3, ![1, 4096, 384]⟩
abbrev S1x192x4096 : Shape := ⟨3, ![1, 192, 4096]⟩
abbrev S4096x384 : Shape := ⟨2, ![4096, 384]⟩
abbrev S192x4096 : Shape := ⟨2, ![192, 4096]⟩
abbrev S512x512 : Shape := ⟨2, ![512, 512]⟩
abbrev S512x384 : Shape := ⟨2, ![512, 384]⟩
abbrev S512x192 : Shape := ⟨2, ![512, 192]⟩
abbrev S192x512 : Shape := ⟨2, ![192, 512]⟩

abbrev nBuf : Space → Nat
  | .hbm => 4
  | .vmem => 10
  | .smem => 2
  | _ => 0

abbrev bufTy : (tb : Table) → Fin (tcTables nBuf tb) → BufTy
  | .hbm, ⟨0, _⟩ => ⟨S180224x4096, .bf16⟩
  | .hbm, ⟨1, _⟩ => ⟨S64x4096x384, .f32⟩
  | .hbm, ⟨2, _⟩ => ⟨S64x192x4096, .f32⟩
  | .hbm, ⟨3, _⟩ => ⟨S180224x4096, .bf16⟩
  | .local _ .vmem, ⟨0, _⟩ => ⟨S512x4096, .bf16⟩
  | .local _ .vmem, ⟨1, _⟩ => ⟨S512x4096, .bf16⟩
  | .local _ .vmem, ⟨2, _⟩ => ⟨S1x4096x384, .f32⟩
  | .local _ .vmem, ⟨3, _⟩ => ⟨S1x4096x384, .f32⟩
  | .local _ .vmem, ⟨4, _⟩ => ⟨S1x192x4096, .f32⟩
  | .local _ .vmem, ⟨5, _⟩ => ⟨S1x192x4096, .f32⟩
  | .local _ .vmem, ⟨6, _⟩ => ⟨S512x4096, .bf16⟩
  | .local _ .vmem, ⟨7, _⟩ => ⟨S512x4096, .bf16⟩
  | .local _ .vmem, ⟨8, _⟩ => ⟨S4096x384, .bf16⟩
  | .local _ .vmem, ⟨9, _⟩ => ⟨S192x4096, .bf16⟩
  | .local _ .smem, ⟨0, _⟩ => ⟨S352, .i32⟩
  | .local _ .smem, ⟨1, _⟩ => ⟨S1, .i32⟩
  | _, _ => ⟨S180224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![352], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x192x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsSpecIdeal.lean ====
abbrev S352 : Shape := ⟨1, ![352]⟩
abbrev S1 : Shape := ⟨1, ![1]⟩
abbrev S180224x4096 : Shape := ⟨2, ![180224, 4096]⟩
abbrev S64x4096x384 : Shape := ⟨3, ![64, 4096, 384]⟩
abbrev S64x192x4096 : Shape := ⟨3, ![64, 192, 4096]⟩
abbrev S352x512 : Shape := ⟨2, ![352, 512]⟩
abbrev S180224 : Shape := ⟨1, ![180224]⟩
abbrev S180224x1 : Shape := ⟨2, ![180224, 1]⟩
abbrev S64 : Shape := ⟨1, ![64]⟩
abbrev S1x64 : Shape := ⟨2, ![1, 64]⟩
abbrev S180224x64 : Shape := ⟨2, ![180224, 64]⟩
abbrev S180224x64x384 : Shape := ⟨3, ![180224, 64, 384]⟩
abbrev S180224x64x192 : Shape := ⟨3, ![180224, 64, 192]⟩
abbrev S_ : Shape := ⟨0, ![]⟩
abbrev S180224x64x1 : Shape := ⟨3, ![180224, 64, 1]⟩

abbrev nBuf : Space → Nat
  | .hbm => 33
  | .vmem => 0
  | .smem => 0
  | _ => 0

abbrev bufTy : (tb : Table) → Fin (tcTables nBuf tb) → BufTy
  | .hbm, ⟨0, _⟩ => ⟨S352, .i32⟩
  | .hbm, ⟨1, _⟩ => ⟨S1, .i32⟩
  | .hbm, ⟨2, _⟩ => ⟨S180224x4096, .bf16⟩
  | .hbm, ⟨3, _⟩ => ⟨S64x4096x384, .f32⟩
  | .hbm, ⟨4, _⟩ => ⟨S64x192x4096, .f32⟩
  | .hbm, ⟨5, _⟩ => ⟨S180224x4096, .f32⟩
  | .hbm, ⟨6, _⟩ => ⟨S352x512, .i32⟩
  | .hbm, ⟨7, _⟩ => ⟨S180224, .i32⟩
  | .hbm, ⟨8, _⟩ => ⟨S180224x1, .i32⟩
  | .hbm, ⟨9, _⟩ => ⟨S64, .i32⟩
  | .hbm, ⟨10, _⟩ => ⟨S1x64, .i32⟩
  | .hbm, ⟨11, _⟩ => ⟨S180224x64, .i32⟩
  | .hbm, ⟨12, _⟩ => ⟨S180224x64, .i32⟩
  | .hbm, ⟨13, _⟩ => ⟨S180224x64, .i1⟩
  | .hbm, ⟨14, _⟩ => ⟨S180224x64x384, .f32⟩
  | .hbm, ⟨15, _⟩ => ⟨S180224x64x192, .f32⟩
  | .hbm, ⟨16, _⟩ => ⟨S180224x64x192, .f32⟩
  | .hbm, ⟨17, _⟩ => ⟨S180224x64x192, .f32⟩
  | .hbm, ⟨18, _⟩ => ⟨S180224x64x192, .f32⟩
  | .hbm, ⟨19, _⟩ => ⟨S_, .f32⟩
  | .hbm, ⟨20, _⟩ => ⟨S180224x64x192, .f32⟩
  | .hbm, ⟨21, _⟩ => ⟨S180224x64x192, .f32⟩
  | .hbm, ⟨22, _⟩ => ⟨S_, .f32⟩
  | .hbm, ⟨23, _⟩ => ⟨S180224x64x192, .f32⟩
  | .hbm, ⟨24, _⟩ => ⟨S180224x64x192, .f32⟩
  | .hbm, ⟨25, _⟩ => ⟨S180224x64x192, .f32⟩
  | .hbm, ⟨26, _⟩ => ⟨S180224x64x192, .f32⟩
  | .hbm, ⟨27, _⟩ => ⟨S180224x64x1, .i1⟩
  | .hbm, ⟨28, _⟩ => ⟨S180224x64x1, .f32⟩
  | .hbm, ⟨29, _⟩ => ⟨S180224x64x192, .f32⟩
  | .hbm, ⟨30, _⟩ => ⟨S180224x64x192, .f32⟩
  | .hbm, ⟨31, _⟩ => ⟨S180224x4096, .f32⟩
  | .hbm, ⟨32, _⟩ => ⟨S180224x4096, .bf16⟩
  | _, _ => ⟨S352, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== LastExperts.lean ====
abbrev S320 : Shape := ⟨1, ![320]⟩
abbrev S1 : Shape := ⟨1, ![1]⟩
abbrev S163840x4096 : Shape := ⟨2, ![163840, 4096]⟩
abbrev S64x4096x384 : Shape := ⟨3, ![64, 4096, 384]⟩
abbrev S64x192x4096 : Shape := ⟨3, ![64, 192, 4096]⟩
abbrev S512x4096 : Shape := ⟨2, ![512, 4096]⟩
abbrev S1x4096x384 : Shape := ⟨3, ![1, 4096, 384]⟩
abbrev S1x192x4096 : Shape := ⟨3, ![1, 192, 4096]⟩
abbrev S4096x384 : Shape := ⟨2, ![4096, 384]⟩
abbrev S192x4096 : Shape := ⟨2, ![192, 4096]⟩
abbrev S512x512 : Shape := ⟨2, ![512, 512]⟩
abbrev S512x384 : Shape := ⟨2, ![512, 384]⟩
abbrev S512x192 : Shape := ⟨2, ![512, 192]⟩
abbrev S192x512 : Shape := ⟨2, ![192, 512]⟩

abbrev nBuf : Space → Nat
  | .hbm => 4
  | .vmem => 10
  | .smem => 2
  | _ => 0

abbrev bufTy : (tb : Table) → Fin (tcTables nBuf tb) → BufTy
  | .hbm, ⟨0, _⟩ => ⟨S163840x4096, .bf16⟩
  | .hbm, ⟨1, _⟩ => ⟨S64x4096x384, .f32⟩
  | .hbm, ⟨2, _⟩ => ⟨S64x192x4096, .f32⟩
  | .hbm, ⟨3, _⟩ => ⟨S163840x4096, .bf16⟩
  | .local _ .vmem, ⟨0, _⟩ => ⟨S512x4096, .bf16⟩
  | .local _ .vmem, ⟨1, _⟩ => ⟨S512x4096, .bf16⟩
  | .local _ .vmem, ⟨2, _⟩ => ⟨S1x4096x384, .f32⟩
  | .local _ .vmem, ⟨3, _⟩ => ⟨S1x4096x384, .f32⟩
  | .local _ .vmem, ⟨4, _⟩ => ⟨S1x192x4096, .f32⟩
  | .local _ .vmem, ⟨5, _⟩ => ⟨S1x192x4096, .f32⟩
  | .local _ .vmem, ⟨6, _⟩ => ⟨S512x4096, .bf16⟩
  | .local _ .vmem, ⟨7, _⟩ => ⟨S512x4096, .bf16⟩
  | .local _ .vmem, ⟨8, _⟩ => ⟨S4096x384, .bf16⟩
  | .local _ .vmem, ⟨9, _⟩ => ⟨S192x4096, .bf16⟩
  | .local _ .smem, ⟨0, _⟩ => ⟨S320, .i32⟩
  | .local _ .smem, ⟨1, _⟩ => ⟨S1, .i32⟩
  | _, _ => ⟨S163840x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x192x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LastExpertsSpecIdeal.lean ====
abbrev S320 : Shape := ⟨1, ![320]⟩
abbrev S1 : Shape := ⟨1, ![1]⟩
abbrev S163840x4096 : Shape := ⟨2, ![163840, 4096]⟩
abbrev S64x4096x384 : Shape := ⟨3, ![64, 4096, 384]⟩
abbrev S64x192x4096 : Shape := ⟨3, ![64, 192, 4096]⟩
abbrev S320x512 : Shape := ⟨2, ![320, 512]⟩
abbrev S163840 : Shape := ⟨1, ![163840]⟩
abbrev S163840x1 : Shape := ⟨2, ![163840, 1]⟩
abbrev S64 : Shape := ⟨1, ![64]⟩
abbrev S1x64 : Shape := ⟨2, ![1, 64]⟩
abbrev S163840x64 : Shape := ⟨2, ![163840, 64]⟩
abbrev S163840x64x384 : Shape := ⟨3, ![163840, 64, 384]⟩
abbrev S163840x64x192 : Shape := ⟨3, ![163840, 64, 192]⟩
abbrev S_ : Shape := ⟨0, ![]⟩
abbrev S163840x64x1 : Shape := ⟨3, ![163840, 64, 1]⟩

abbrev nBuf : Space → Nat
  | .hbm => 33
  | .vmem => 0
  | .smem => 0
  | _ => 0

abbrev bufTy : (tb : Table) → Fin (tcTables nBuf tb) → BufTy
  | .hbm, ⟨0, _⟩ => ⟨S320, .i32⟩
  | .hbm, ⟨1, _⟩ => ⟨S1, .i32⟩
  | .hbm, ⟨2, _⟩ => ⟨S163840x4096, .bf16⟩
  | .hbm, ⟨3, _⟩ => ⟨S64x4096x384, .f32⟩
  | .hbm, ⟨4, _⟩ => ⟨S64x192x4096, .f32⟩
  | .hbm, ⟨5, _⟩ => ⟨S163840x4096, .f32⟩
  | .hbm, ⟨6, _⟩ => ⟨S320x512, .i32⟩
  | .hbm, ⟨7, _⟩ => ⟨S163840, .i32⟩
  | .hbm, ⟨8, _⟩ => ⟨S163840x1, .i32⟩
  | .hbm, ⟨9, _⟩ => ⟨S64, .i32⟩
  | .hbm, ⟨10, _⟩ => ⟨S1x64, .i32⟩
  | .hbm, ⟨11, _⟩ => ⟨S163840x64, .i32⟩
  | .hbm, ⟨12, _⟩ => ⟨S163840x64, .i32⟩
  | .hbm, ⟨13, _⟩ => ⟨S163840x64, .i1⟩
  | .hbm, ⟨14, _⟩ => ⟨S163840x64x384, .f32⟩
  | .hbm, ⟨15, _⟩ => ⟨S163840x64x192, .f32⟩
  | .hbm, ⟨16, _⟩ => ⟨S163840x64x192, .f32⟩
  | .hbm, ⟨17, _⟩ => ⟨S163840x64x192, .f32⟩
  | .hbm, ⟨18, _⟩ => ⟨S163840x64x192, .f32⟩
  | .hbm, ⟨19, _⟩ => ⟨S_, .f32⟩
  | .hbm, ⟨20, _⟩ => ⟨S163840x64x192, .f32⟩
  | .hbm, ⟨21, _⟩ => ⟨S163840x64x192, .f32⟩
  | .hbm, ⟨22, _⟩ => ⟨S_, .f32⟩
  | .hbm, ⟨23, _⟩ => ⟨S163840x64x192, .f32⟩
  | .hbm, ⟨24, _⟩ => ⟨S163840x64x192, .f32⟩
  | .hbm, ⟨25, _⟩ => ⟨S163840x64x192, .f32⟩
  | .hbm, ⟨26, _⟩ => ⟨S163840x64x192, .f32⟩
  | .hbm, ⟨27, _⟩ => ⟨S163840x64x1, .i1⟩
  | .hbm, ⟨28, _⟩ => ⟨S163840x64x1, .f32⟩
  | .hbm, ⟨29, _⟩ => ⟨S163840x64x192, .f32⟩
  | .hbm, ⟨30, _⟩ => ⟨S163840x64x192, .f32⟩
  | .hbm, ⟨31, _⟩ => ⟨S163840x4096, .f32⟩
  | .hbm, ⟨32, _⟩ => ⟨S163840x4096, .bf16⟩
  | _, _ => ⟨S320, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== Output.lean ====
abbrev S18432x4096 : Shape := ⟨2, ![18432, 4096]⟩
abbrev S4096x4096 : Shape := ⟨2, ![4096, 4096]⟩
abbrev S16x6x4096 : Shape := ⟨3, ![16, 6, 4096]⟩
abbrev S1024x4096 : Shape := ⟨2, ![1024, 4096]⟩
abbrev S4096x512 : Shape := ⟨2, ![4096, 512]⟩
abbrev S1024x512 : Shape := ⟨2, ![1024, 512]⟩
abbrev S1x6x512 : Shape := ⟨3, ![1, 6, 512]⟩
abbrev S1x1x512 : Shape := ⟨3, ![1, 1, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S18432x4096, .bf16⟩
  | .hbm, ⟨1, _⟩ => ⟨S4096x4096, .bf16⟩
  | .hbm, ⟨2, _⟩ => ⟨S18432x4096, .f32⟩
  | .hbm, ⟨3, _⟩ => ⟨S16x6x4096, .f32⟩
  | .hbm, ⟨4, _⟩ => ⟨S18432x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x6x512, .f32⟩
  | .local _ .vmem, ⟨7, _⟩ => ⟨S1x6x512, .f32⟩
  | .local _ .vmem, ⟨8, _⟩ => ⟨S1024x512, .f32⟩
  | .local _ .vmem, ⟨9, _⟩ => ⟨S1024x512, .f32⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![18, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutputSpecIdeal.lean ====
abbrev S18432x4096 : Shape := ⟨2, ![18432, 4096]⟩
abbrev S4096x4096 : Shape := ⟨2, ![4096, 4096]⟩
abbrev S16x6x4096 : Shape := ⟨3, ![16, 6, 4096]⟩
abbrev S16x1x4096 : Shape := ⟨3, ![16, 1, 4096]⟩
abbrev S16x4096 : Shape := ⟨2, ![16, 4096]⟩
abbrev S16384x4096 : Shape := ⟨2, ![16384, 4096]⟩
abbrev S8x2048x4096 : Shape := ⟨3, ![8, 2048, 4096]⟩
abbrev S8x4096 : Shape := ⟨2, ![8, 4096]⟩
abbrev S8x1x4096 : Shape := ⟨3, ![8, 1, 4096]⟩
abbrev S2048x4096 : Shape := ⟨2, ![2048, 4096]⟩
abbrev S1x4096 : Shape := ⟨2, ![1, 4096]⟩
abbrev S4096 : Shape := ⟨1, ![4096]⟩

abbrev nBuf : Space → Nat
  | .hbm => 28
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4096x4096, .bf16⟩
  | .hbm, ⟨2, _⟩ => ⟨S18432x4096, .f32⟩
  | .hbm, ⟨3, _⟩ => ⟨S16x6x4096, .f32⟩
  | .hbm, ⟨4, _⟩ => ⟨S18432x4096, .f32⟩
  | .hbm, ⟨5, _⟩ => ⟨S4096x4096, .f32⟩
  | .hbm, ⟨6, _⟩ => ⟨S18432x4096, .f32⟩
  | .hbm, ⟨7, _⟩ => ⟨S16x1x4096, .f32⟩
  | .hbm, ⟨8, _⟩ => ⟨S16x4096, .f32⟩
  | .hbm, ⟨9, _⟩ => ⟨S16384x4096, .f32⟩
  | .hbm, ⟨10, _⟩ => ⟨S8x2048x4096, .f32⟩
  | .hbm, ⟨11, _⟩ => ⟨S8x4096, .f32⟩
  | .hbm, ⟨12, _⟩ => ⟨S8x1x4096, .f32⟩
  | .hbm, ⟨13, _⟩ => ⟨S16384x4096, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S8x2048x4096, .f32⟩
  | .hbm, ⟨18, _⟩ => ⟨S2048x4096, .f32⟩
  | .hbm, ⟨19, _⟩ => ⟨S1x4096, .f32⟩
  | .hbm, ⟨20, _⟩ => ⟨S4096, .f32⟩
  | .hbm, ⟨21, _⟩ => ⟨S2048x4096, .f32⟩
  | .hbm, ⟨22, _⟩ => ⟨S1x4096, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S16384x4096, .f32⟩
  | .hbm, ⟨27, _⟩ => ⟨S18432x4096, .f32⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== MlstmIn.lean ====
abbrev S18432x4096 : Shape := ⟨2, ![18432, 4096]⟩
abbrev S4096x12320 : Shape := ⟨2, ![4096, 12320]⟩
abbrev S18432x12288 : Shape := ⟨2, ![18432, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S18432x4096, .bf16⟩
  | .hbm, ⟨1, _⟩ => ⟨S4096x12320, .bf16⟩
  | .hbm, ⟨2, _⟩ => ⟨S18432x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![18, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlstmInSpecIdeal.lean ====
abbrev S18432x4096 : Shape := ⟨2, ![18432, 4096]⟩
abbrev S4096x12320 : Shape := ⟨2, ![4096, 12320]⟩
abbrev S18432x12320 : Shape := ⟨2, ![18432, 12320]⟩
abbrev S18432x2048 : Shape := ⟨2, ![18432, 2048]⟩
abbrev S18432x32 : Shape := ⟨2, ![18432, 32]⟩
abbrev S_ : Shape := ⟨0, ![]⟩
abbrev S18432x12288 : Shape := ⟨2, ![18432, 12288]⟩

abbrev nBuf : Space → Nat
  | .hbm => 15
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4096x12320, .bf16⟩
  | .hbm, ⟨2, _⟩ => ⟨S18432x4096, .f32⟩
  | .hbm, ⟨3, _⟩ => ⟨S4096x12320, .f32⟩
  | .hbm, ⟨4, _⟩ => ⟨S18432x12320, .f32⟩
  | .hbm, ⟨5, _⟩ => ⟨S18432x2048, .f32⟩
  | .hbm, ⟨6, _⟩ => ⟨S18432x2048, .f32⟩
  | .hbm, ⟨7, _⟩ => ⟨S18432x4096, .f32⟩
  | .hbm, ⟨8, _⟩ => ⟨S18432x4096, .f32⟩
  | .hbm, ⟨9, _⟩ => ⟨S18432x32, .f32⟩
  | .hbm, ⟨10, _⟩ => ⟨S_, .f32⟩
  | .hbm, ⟨11, _⟩ => ⟨S18432x2048, .f32⟩
  | .hbm, ⟨12, _⟩ => ⟨S18432x2048, .f32⟩
  | .hbm, ⟨13, _⟩ => ⟨S18432x12288, .f32⟩
  | .hbm, ⟨14, _⟩ => ⟨S18432x12288, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Qkv.lean ====
abbrev S18432x4096 : Shape := ⟨2, ![18432, 4096]⟩
abbrev S4096x6144 : Shape := ⟨2, ![4096, 6144]⟩
abbrev S18432x128 : Shape := ⟨2, ![18432, 128]⟩
abbrev S128 : Shape := ⟨1, ![128]⟩
abbrev S1x128 : Shape := ⟨2, ![1, 128]⟩
abbrev S18432x6144 : Shape := ⟨2, ![18432, 6144]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩
abbrev S256x4096 : Shape := ⟨2, ![256, 4096]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S18432x4096, .bf16⟩
  | .hbm, ⟨1, _⟩ => ⟨S4096x6144, .bf16⟩
  | .hbm, ⟨2, _⟩ => ⟨S18432x128, .f32⟩
  | .hbm, ⟨3, _⟩ => ⟨S18432x128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S18432x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x128, .f32⟩
  | .local _ .vmem, ⟨9, _⟩ => ⟨S1x128, .f32⟩
  | .local _ .vmem, ⟨10, _⟩ => ⟨S1024x512, .bf16⟩
  | .local _ .vmem, ⟨11, _⟩ => ⟨S1024x512, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![18, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QkvSpecIdeal.lean ====
abbrev S18432x4096 : Shape := ⟨2, ![18432, 4096]⟩
abbrev S4096x6144 : Shape := ⟨2, ![4096, 6144]⟩
abbrev S18432x128 : Shape := ⟨2, ![18432, 128]⟩
abbrev S128 : Shape := ⟨1, ![128]⟩
abbrev S18432x6144 : Shape := ⟨2, ![18432, 6144]⟩
abbrev S18432x1024 : Shape := ⟨2, ![18432, 1024]⟩
abbrev S18432x32x128 : Shape := ⟨3, ![18432, 32, 128]⟩
abbrev S18432x8x128 : Shape := ⟨3, ![18432, 8, 128]⟩
abbrev S_ : Shape := ⟨0, ![]⟩
abbrev S18432x32 : Shape := ⟨2, ![18432, 32]⟩
abbrev S18432x32x1 : Shape := ⟨3, ![18432, 32, 1]⟩
abbrev S1x1x128 : Shape := ⟨3, ![1, 1, 128]⟩
abbrev S18432x1x128 : Shape := ⟨3, ![18432, 1, 128]⟩
abbrev S18432x1x64 : Shape := ⟨3, ![18432, 1, 64]⟩
abbrev S18432x32x64 : Shape := ⟨3, ![18432, 32, 64]⟩
abbrev S18432x8 : Shape := ⟨2, ![18432, 8]⟩
abbrev S18432x8x1 : Shape := ⟨3, ![18432, 8, 1]⟩
abbrev S18432x8x64 : Shape := ⟨3, ![18432, 8, 64]⟩

abbrev nBuf : Space → Nat
  | .hbm => 91
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4096x6144, .bf16⟩
  | .hbm, ⟨2, _⟩ => ⟨S18432x128, .f32⟩
  | .hbm, ⟨3, _⟩ => ⟨S18432x128, .f32⟩
  | .hbm, ⟨4, _⟩ => ⟨S128, .f32⟩
  | .hbm, ⟨5, _⟩ => ⟨S128, .f32⟩
  | .hbm, ⟨6, _⟩ => ⟨S18432x4096, .f32⟩
  | .hbm, ⟨7, _⟩ => ⟨S4096x6144, .f32⟩
  | .hbm, ⟨8, _⟩ => ⟨S18432x6144, .f32⟩
  | .hbm, ⟨9, _⟩ => ⟨S18432x4096, .f32⟩
  | .hbm, ⟨10, _⟩ => ⟨S18432x1024, .f32⟩
  | .hbm, ⟨11, _⟩ => ⟨S18432x1024, .f32⟩
  | .hbm, ⟨12, _⟩ => ⟨S18432x32x128, .f32⟩
  | .hbm, ⟨13, _⟩ => ⟨S18432x8x128, .f32⟩
  | .hbm, ⟨14, _⟩ => ⟨S18432x32x128, .f32⟩
  | .hbm, ⟨15, _⟩ => ⟨S_, .f32⟩
  | .hbm, ⟨16, _⟩ => ⟨S18432x32, .f32⟩
  | .hbm, ⟨17, _⟩ => ⟨S18432x32x1, .f32⟩
  | .hbm, ⟨18, _⟩ => ⟨S_, .f32⟩
  | .hbm, ⟨19, _⟩ => ⟨S18432x32x1, .f32⟩
  | .hbm, ⟨20, _⟩ => ⟨S18432x32x1, .f32⟩
  | .hbm, ⟨21, _⟩ => ⟨S_, .f32⟩
  | .hbm, ⟨22, _⟩ => ⟨S18432x32x1, .f32⟩
  | .hbm, ⟨23, _⟩ => ⟨S18432x32x1, .f32⟩
  | .hbm, ⟨24, _⟩ => ⟨S18432x32x1, .f32⟩
  | .hbm, ⟨25, _⟩ => ⟨S18432x32x128, .f32⟩
  | .hbm, ⟨26, _⟩ => ⟨S18432x32x128, .f32⟩
  | .hbm, ⟨27, _⟩ => ⟨S1x1x128, .f32⟩
  | .hbm, ⟨28, _⟩ => ⟨S18432x32x128, .f32⟩
  | .hbm, ⟨29, _⟩ => ⟨S18432x32x128, .f32⟩
  | .hbm, ⟨30, _⟩ => ⟨S18432x1x128, .f32⟩
  | .hbm, ⟨31, _⟩ => ⟨S18432x1x64, .f32⟩
  | .hbm, ⟨32, _⟩ => ⟨S18432x1x64, .f32⟩
  | .hbm, ⟨33, _⟩ => ⟨S18432x1x128, .f32⟩
  | .hbm, ⟨34, _⟩ => ⟨S18432x1x64, .f32⟩
  | .hbm, ⟨35, _⟩ => ⟨S18432x1x64, .f32⟩
  | .hbm, ⟨36, _⟩ => ⟨S18432x32x64, .f32⟩
  | .hbm, ⟨37, _⟩ => ⟨S18432x32x64, .f32⟩
  | .hbm, ⟨38, _⟩ => ⟨S18432x32x64, .f32⟩
  | .hbm, ⟨39, _⟩ => ⟨S18432x32x64, .f32⟩
  | .hbm, ⟨40, _⟩ => ⟨S18432x32x64, .f32⟩
  | .hbm, ⟨41, _⟩ => ⟨S18432x32x64, .f32⟩
  | .hbm, ⟨42, _⟩ => ⟨S18432x32x64, .f32⟩
  | .hbm, ⟨43, _⟩ => ⟨S18432x32x64, .f32⟩
  | .hbm, ⟨44, _⟩ => ⟨S18432x32x64, .f32⟩
  | .hbm, ⟨45, _⟩ => ⟨S18432x32x64, .f32⟩
  | .hbm, ⟨46, _⟩ => ⟨S18432x32x64, .f32⟩
  | .hbm, ⟨47, _⟩ => ⟨S18432x32x64, .f32⟩
  | .hbm, ⟨48, _⟩ => ⟨S18432x32x128, .f32⟩
  | .hbm, ⟨49, _⟩ => ⟨S18432x8x128, .f32⟩
  | .hbm, ⟨50, _⟩ => ⟨S_, .f32⟩
  | .hbm, ⟨51, _⟩ => ⟨S18432x8, .f32⟩
  | .hbm, ⟨52, _⟩ => ⟨S18432x8x1, .f32⟩
  | .hbm, ⟨53, _⟩ => ⟨S_, .f32⟩
  | .hbm, ⟨54, _⟩ => ⟨S18432x8x1, .f32⟩
  | .hbm, ⟨55, _⟩ => ⟨S18432x8x1, .f32⟩
  | .hbm, ⟨56, _⟩ => ⟨S_, .f32⟩
  | .hbm, ⟨57, _⟩ => ⟨S18432x8x1, .f32⟩
  | .hbm, ⟨58, _⟩ => ⟨S18432x8x1, .f32⟩
  | .hbm, ⟨59, _⟩ => ⟨S18432x8x1, .f32⟩
  | .hbm, ⟨60, _⟩ => ⟨S18432x8x128, .f32⟩
  | .hbm, ⟨61, _⟩ => ⟨S18432x8x128, .f32⟩
  | .hbm, ⟨62, _⟩ => ⟨S1x1x128, .f32⟩
  | .hbm, ⟨63, _⟩ => ⟨S18432x8x128, .f32⟩
  | .hbm, ⟨64, _⟩ => ⟨S18432x8x128, .f32⟩
  | .hbm, ⟨65, _⟩ => ⟨S18432x1x128, .f32⟩
  | .hbm, ⟨66, _⟩ => ⟨S18432x1x64, .f32⟩
  | .hbm, ⟨67, _⟩ => ⟨S18432x1x64, .f32⟩
  | .hbm, ⟨68, _⟩ => ⟨S18432x1x128, .f32⟩
  | .hbm, ⟨69, _⟩ => ⟨S18432x1x64, .f32⟩
  | .hbm, ⟨70, _⟩ => ⟨S18432x1x64, .f32⟩
  | .hbm, ⟨71, _⟩ => ⟨S18432x8x64, .f32⟩
  | .hbm, ⟨72, _⟩ => ⟨S18432x8x64, .f32⟩
  | .hbm, ⟨73, _⟩ => ⟨S18432x8x64, .f32⟩
  | .hbm, ⟨74, _⟩ => ⟨S18432x8x64, .f32⟩
  | .hbm, ⟨75, _⟩ => ⟨S18432x8x64, .f32⟩
  | .hbm, ⟨76, _⟩ => ⟨S18432x8x64, .f32⟩
  | .hbm, ⟨77, _⟩ => ⟨S18432x8x64, .f32⟩
  | .hbm, ⟨78, _⟩ => ⟨S18432x8x64, .f32⟩
  | .hbm, ⟨79, _⟩ => ⟨S18432x8x64, .f32⟩
  | .hbm, ⟨80, _⟩ => ⟨S18432x8x64, .f32⟩
  | .hbm, ⟨81, _⟩ => ⟨S18432x8x64, .f32⟩
  | .hbm, ⟨82, _⟩ => ⟨S18432x8x64, .f32⟩
  | .hbm, ⟨83, _⟩ => ⟨S18432x8x128, .f32⟩
  | .hbm, ⟨84, _⟩ => ⟨S_, .f32⟩
  | .hbm, ⟨85, _⟩ => ⟨S18432x32x128, .f32⟩
  | .hbm, ⟨86, _⟩ => ⟨S18432x32x128, .f32⟩
  | .hbm, ⟨87, _⟩ => ⟨S18432x4096, .f32⟩
  | .hbm, ⟨88, _⟩ => ⟨S18432x1024, .f32⟩
  | .hbm, ⟨89, _⟩ => ⟨S18432x6144, .f32⟩
  | .hbm, ⟨90, _⟩ => ⟨S18432x6144, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_5 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩

abbrev nD : Nat := 1
abbrev τ : Topo := Topo.v7x

variable {F : FTy → Type} [FloatOps F]
-- ==== WindowQkv.lean ====
abbrev S18432x4096 : Shape := ⟨2, ![18432, 4096]⟩
abbrev S4096x6144 : Shape := ⟨2, ![4096, 6144]⟩
abbrev S18432x128 : Shape := ⟨2, ![18432, 128]⟩
abbrev S128 : Shape := ⟨1, ![128]⟩
abbrev S1x128 : Shape := ⟨2, ![1, 128]⟩
abbrev S18432x6144 : Shape := ⟨2, ![18432, 6144]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩
abbrev S256x4096 : Shape := ⟨2, ![256, 4096]⟩
abbrev S256x512 : Shape := ⟨2, ![256, 512]⟩
abbrev S256x128 : Shape := ⟨2, ![256, 128]⟩

abbrev nBuf : Space → Nat
  | .hbm => 9
  | .vmem => 12
  | .smem => 0
  | _ => 0

abbrev bufTy : (tb : Table) → Fin (tcTables nBuf tb) → BufTy
  | .hbm, ⟨0, _⟩ => ⟨S18432x4096, .bf16⟩
  | .hbm, ⟨1, _⟩ => ⟨S4096x6144, .bf16⟩
  | .hbm, ⟨2, _⟩ => ⟨S18432x128, .f32⟩
  | .hbm, ⟨3, _⟩ => ⟨S18432x128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S18432x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x128, .f32⟩
  | .local _ .vmem, ⟨9, _⟩ => ⟨S1x128, .f32⟩
  | .local _ .vmem, ⟨10, _⟩ => ⟨S1024x512, .bf16⟩
  | .local _ .vmem, ⟨11, _⟩ => ⟨S1024x512, .bf16⟩
  | _, _ => ⟨S18432x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![18, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== WindowQkvSpecIdeal.lean ====
abbrev S18432x4096 : Shape := ⟨2, ![18432, 4096]⟩
abbrev S4096x6144 : Shape := ⟨2, ![4096, 6144]⟩
abbrev S18432x128 : Shape := ⟨2, ![18432, 128]⟩
abbrev S128 : Shape := ⟨1, ![128]⟩
abbrev S18432x6144 : Shape := ⟨2, ![18432, 6144]⟩
abbrev S18432x1024 : Shape := ⟨2, ![18432, 1024]⟩
abbrev S18432x32x128 : Shape := ⟨3, ![18432, 32, 128]⟩
abbrev S18432x8x128 : Shape := ⟨3, ![18432, 8, 128]⟩
abbrev S18432x1x128 : Shape := ⟨3, ![18432, 1, 128]⟩
abbrev S18432x1x64 : Shape := ⟨3, ![18432, 1, 64]⟩
abbrev S18432x32x64 : Shape := ⟨3, ![18432, 32, 64]⟩
abbrev S18432x8x64 : Shape := ⟨3, ![18432, 8, 64]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S18432x4096, .bf16⟩
  | .hbm, ⟨1, _⟩ => ⟨S4096x6144, .bf16⟩
  | .hbm, ⟨2, _⟩ => ⟨S18432x128, .f32⟩
  | .hbm, ⟨3, _⟩ => ⟨S18432x128, .f32⟩
  | .hbm, ⟨4, _⟩ => ⟨S128, .f32⟩
  | .hbm, ⟨5, _⟩ => ⟨S128, .f32⟩
  | .hbm, ⟨6, _⟩ => ⟨S18432x4096, .f32⟩
  | .hbm, ⟨7, _⟩ => ⟨S4096x6144, .f32⟩
  | .hbm, ⟨8, _⟩ => ⟨S18432x6144, .f32⟩
  | .hbm, ⟨9, _⟩ => ⟨S18432x4096, .f32⟩
  | .hbm, ⟨10, _⟩ => ⟨S18432x1024, .f32⟩
  | .hbm, ⟨11, _⟩ => ⟨S18432x1024, .f32⟩
  | .hbm, ⟨12, _⟩ => ⟨S18432x32x128, .f32⟩
  | .hbm, ⟨13, _⟩ => ⟨S18432x8x128, .f32⟩
  | .hbm, ⟨14, _⟩ => ⟨S18432x1x128, .f32⟩
  | .hbm, ⟨15, _⟩ => ⟨S18432x1x64, .f32⟩
  | .hbm, ⟨16, _⟩ => ⟨S18432x1x64, .f32⟩
  | .hbm, ⟨17, _⟩ => ⟨S18432x1x128, .f32⟩
  | .hbm, ⟨18, _⟩ => ⟨S18432x1x64, .f32⟩
  | .hbm, ⟨19, _⟩ => ⟨S18432x1x64, .f32⟩
  | .hbm, ⟨20, _⟩ => ⟨S18432x32x64, .f32⟩
  | .hbm, ⟨21, _⟩ => ⟨S18432x32x64, .f32⟩
  | .hbm, ⟨22, _⟩ => ⟨S18432x32x64, .f32⟩
  | .hbm, ⟨23, _⟩ => ⟨S18432x32x64, .f32⟩
  | .hbm, ⟨24, _⟩ => ⟨S18432x32x64, .f32⟩
  | .hbm, ⟨25, _⟩ => ⟨S18432x32x64, .f32⟩
  | .hbm, ⟨26, _⟩ => ⟨S18432x32x64, .f32⟩
  | .hbm, ⟨27, _⟩ => ⟨S18432x32x64, .f32⟩
  | .hbm, ⟨28, _⟩ => ⟨S18432x32x64, .f32⟩
  | .hbm, ⟨29, _⟩ => ⟨S18432x32x64, .f32⟩
  | .hbm, ⟨30, _⟩ => ⟨S18432x32x64, .f32⟩
  | .hbm, ⟨31, _⟩ => ⟨S18432x32x64, .f32⟩
  | .hbm, ⟨32, _⟩ => ⟨S18432x32x128, .f32⟩
  | .hbm, ⟨33, _⟩ => ⟨S18432x1x128, .f32⟩
  | .hbm, ⟨34, _⟩ => ⟨S18432x1x64, .f32⟩
  | .hbm, ⟨35, _⟩ => ⟨S18432x1x64, .f32⟩
  | .hbm, ⟨36, _⟩ => ⟨S18432x1x128, .f32⟩
  | .hbm, ⟨37, _⟩ => ⟨S18432x1x64, .f32⟩
  | .hbm, ⟨38, _⟩ => ⟨S18432x1x64, .f32⟩
  | .hbm, ⟨39, _⟩ => ⟨S18432x8x64, .f32⟩
  | .hbm, ⟨40, _⟩ => ⟨S18432x8x64, .f32⟩
  | .hbm, ⟨41, _⟩ => ⟨S18432x8x64, .f32⟩
  | .hbm, ⟨42, _⟩ => ⟨S18432x8x64, .f32⟩
  | .hbm, ⟨43, _⟩ => ⟨S18432x8x64, .f32⟩
  | .hbm, ⟨44, _⟩ => ⟨S18432x8x64, .f32⟩
  | .hbm, ⟨45, _⟩ => ⟨S18432x8x64, .f32⟩
  | .hbm, ⟨46, _⟩ => ⟨S18432x8x64, .f32⟩
  | .hbm, ⟨47, _⟩ => ⟨S18432x8x64, .f32⟩
  | .hbm, ⟨48, _⟩ => ⟨S18432x8x64, .f32⟩
  | .hbm, ⟨49, _⟩ => ⟨S18432x8x64, .f32⟩
  | .hbm, ⟨50, _⟩ => ⟨S18432x8x64, .f32⟩
  | .hbm, ⟨51, _⟩ => ⟨S18432x8x128, .f32⟩
  | .hbm, ⟨52, _⟩ => ⟨S_, .f32⟩
  | .hbm, ⟨53, _⟩ => ⟨S18432x32x128, .f32⟩
  | .hbm, ⟨54, _⟩ => ⟨S18432x32x128, .f32⟩
  | .hbm, ⟨55, _⟩ => ⟨S18432x4096, .f32⟩
  | .hbm, ⟨56, _⟩ => ⟨S18432x1024, .f32⟩
  | .hbm, ⟨57, _⟩ => ⟨S18432x6144, .f32⟩
  | .hbm, ⟨58, _⟩ => ⟨S18432x6144, .bf16⟩
  | _, _ => ⟨S18432x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩

abbrev nD : Nat := 1
abbrev τ : Topo := Topo.v7x

variable {F : FTy → Type} [FloatOps F]
-- ==== Finish.lean ====
abbrev S16384x4096 : Shape := ⟨2, ![16384, 4096]⟩
abbrev S8x16384 : Shape := ⟨2, ![8, 16384]⟩
abbrev S163840x2048 : Shape := ⟨2, ![163840, 2048]⟩
abbrev S16384x128 : Shape := ⟨2, ![16384, 128]⟩
abbrev S16x6x4096 : Shape := ⟨3, ![16, 6, 4096]⟩
abbrev S4096 : Shape := ⟨1, ![4096]⟩
abbrev S1x4096 : Shape := ⟨2, ![1, 4096]⟩
abbrev S128x4096 : Shape := ⟨2, ![128, 4096]⟩
abbrev S8x128 : Shape := ⟨2, ![8, 128]⟩
abbrev S128x128 : Shape := ⟨2, ![128, 128]⟩
abbrev S1x6x4096 : Shape := ⟨3, ![1, 6, 4096]⟩
abbrev S8x128x2048 : Shape := ⟨3, ![8, 128, 2048]⟩
abbrev S_ : Shape := ⟨0, ![]⟩
abbrev S1x1 : Shape := ⟨2, ![1, 1]⟩
abbrev S1x1x2048 : Shape := ⟨3, ![1, 1, 2048]⟩
abbrev S1x2048 : Shape := ⟨2, ![1, 2048]⟩
abbrev S128x2048 : Shape := ⟨2, ![128, 2048]⟩
abbrev S1x128x2048 : Shape := ⟨3, ![1, 128, 2048]⟩
abbrev S128x1 : Shape := ⟨2, ![128, 1]⟩
abbrev S1x1x4096 : Shape := ⟨3, ![1, 1, 4096]⟩
abbrev S128 : Shape := ⟨1, ![128]⟩

abbrev nBuf : Space → Nat
  | .hbm => 9
  | .vmem => 12
  | .smem => 2
  | _ => 0

abbrev bufTy : (tb : Table) → Fin (tcTables nBuf tb) → BufTy
  | .hbm, ⟨0, _⟩ => ⟨S16384x4096, .f32⟩
  | .hbm, ⟨1, _⟩ => ⟨S8x16384, .i32⟩
  | .hbm, ⟨2, _⟩ => ⟨S163840x2048, .i32⟩
  | .hbm, ⟨3, _⟩ => ⟨S16384x128, .f32⟩
  | .hbm, ⟨4, _⟩ => ⟨S16384x4096, .bf16⟩
  | .hbm, ⟨5, _⟩ => ⟨S16x6x4096, .f32⟩
  | .hbm, ⟨6, _⟩ => ⟨S4096, .f32⟩
  | .hbm, ⟨7, _⟩ => ⟨S1x4096, .f32⟩
  | .hbm, ⟨8, _⟩ => ⟨S16384x4096, .f32⟩
  | .local _ .vmem, ⟨0, _⟩ => ⟨S128x4096, .f32⟩
  | .local _ .vmem, ⟨1, _⟩ => ⟨S128x4096, .f32⟩
  | .local _ .vmem, ⟨2, _⟩ => ⟨S128x128, .f32⟩
  | .local _ .vmem, ⟨3, _⟩ => ⟨S128x128, .f32⟩
  | .local _ .vmem, ⟨4, _⟩ => ⟨S128x4096, .bf16⟩
  | .local _ .vmem, ⟨5, _⟩ => ⟨S128x4096, .bf16⟩
  | .local _ .vmem, ⟨6, _⟩ => ⟨S1x6x4096, .f32⟩
  | .local _ .vmem, ⟨7, _⟩ => ⟨S1x6x4096, .f32⟩
  | .local _ .vmem, ⟨8, _⟩ => ⟨S1x4096, .f32⟩
  | .local _ .vmem, ⟨9, _⟩ => ⟨S128x4096, .f32⟩
  | .local _ .vmem, ⟨10, _⟩ => ⟨S128x4096, .f32⟩
  | .local _ .vmem, ⟨11, _⟩ => ⟨S8x128x2048, .i32⟩
  | .local _ .smem, ⟨0, _⟩ => ⟨S8x128, .i32⟩
  | .local _ .smem, ⟨1, _⟩ => ⟨S8x128, .i32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_stg1_0 : Ref sig .tc := ⟨.smem, 0, rfl⟩
abbrev cc0_stg1_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_off1 (k0_t1 : Fin k0_t1_loop.trips) : Fin 2 → Nat :=
  let c0_50 : Index := 0#32
  let c0_i32 : BitVec 32 := 0#32
  let c1_i32 : BitVec 32 := 1#32
  let arg11 : BitVec 32 := Scf.iv c0_i32 c1_i32 k0_t1
  let v157 : Index := Scalar.indexCast arg11
  ![0, v157.toNat]
def k0_off2 (k0_t1 : Fin k0_t1_loop.trips) : Fin 3 → Nat :=
  let c0_i32_51 : BitVec 32 := 0#32
  let c0_i32 : BitVec 32 := 0#32
  let c1_i32 : BitVec 32 := 1#32
  let arg11 : BitVec 32 := Scf.iv c0_i32 c1_i32 k0_t1
  let c0_i32_52 : BitVec 32 := 0#32
  ![0, arg11.toNat, 0]
def k0_off3 (v158 : BitVec 32) : Fin 2 → Nat :=
  let c0_i32_53 : BitVec 32 := 0#32
  ![v158.toNat, 0]

def k0_chk1 (v158 : BitVec 32) : Prop :=
  (∀ a, (k0_off3 v158) a + S1x2048.size a ≤ S163840x2048.size a)
theorem k0_off3_inb : ∀ (v158 : BitVec 32) (k0_hw1 : k0_chk1 v158), ∀ a, (k0_off3 v158) a + S1x2048.size a ≤ S163840x2048.size a := fun v158 k0_hw1 => k0_hw1

def k0_off4 (k0_t1 : Fin k0_t1_loop.trips) : Fin 2 → Nat :=
  let c1_54 : Index := 1#32
  let c0_i32 : BitVec 32 := 0#32
  let c1_i32 : BitVec 32 := 1#32
  let arg11 : BitVec 32 := Scf.iv c0_i32 c1_i32 k0_t1
  let v162 : Index := Scalar.indexCast arg11
  ![1, v162.toNat]
def k0_off5 (k0_t1 : Fin k0_t1_loop.trips) : Fin 3 → Nat :=
  let c1_i32_55 : BitVec 32 := 1#32
  let c0_i32 : BitVec 32 := 0#32
  let c1_i32 : BitVec 32 := 1#32
  let arg11 : BitVec 32 := Scf.iv c0_i32 c1_i32 k0_t1
  let c0_i32_56 : BitVec 32 := 0#32
  ![1, arg11.toNat, 0]
def k0_off6 (v163 : BitVec 32) : Fin 2 → Nat :=
  let c0_i32_57 : BitVec 32 := 0#32
  ![v163.toNat, 0]

def k0_chk2 (v163 : BitVec 32) : Prop :=
  (∀ a, (k0_off6 v163) a + S1x2048.size a ≤ S163840x2048.size a)
theorem k0_off6_inb : ∀ (v163 : BitVec 32) (k0_hw2 : k0_chk2 v163), ∀ a, (k0_off6 v163) a + S1x2048.size a ≤ S163840x2048.size a := fun v163 k0_hw2 => k0_hw2

def k0_off7 (k0_t1 : Fin k0_t1_loop.trips) : Fin 2 → Nat :=
  let c2_58 : Index := 2#32
  let c0_i32 : BitVec 32 := 0#32
  let c1_i32 : BitVec 32 := 1#32
  let arg11 : BitVec 32 := Scf.iv c0_i32 c1_i32 k0_t1
  let v167 : Index := Scalar.indexCast arg11
  ![2, v167.toNat]
def k0_off8 (k0_t1 : Fin k0_t1_loop.trips) : Fin 3 → Nat :=
  let c2_i32 : BitVec 32 := 2#32
  let c0_i32 : BitVec 32 := 0#32
  let c1_i32 : BitVec 32 := 1#32
  let arg11 : BitVec 32 := Scf.iv c0_i32 c1_i32 k0_t1
  let c0_i32_59 : BitVec 32 := 0#32
  ![2, arg11.toNat, 0]
def k0_off9 (v168 : BitVec 32) : Fin 2 → Nat :=
  let c0_i32_60 : BitVec 32 := 0#32
  ![v168.toNat, 0]

def k0_chk3 (v168 : BitVec 32) : Prop :=
  (∀ a, (k0_off9 v168) a + S1x2048.size a ≤ S163840x2048.size a)
theorem k0_off9_inb : ∀ (v168 : BitVec 32) (k0_hw3 : k0_chk3 v168), ∀ a, (k0_off9 v168) a + S1x2048.size a ≤ S163840x2048.size a := fun v168 k0_hw3 => k0_hw3

def k0_off10 (k0_t1 : Fin k0_t1_loop.trips) : Fin 2 → Nat :=
  let c3_61 : Index := 3#32
  let c0_i32 : BitVec 32 := 0#32
  let c1_i32 : BitVec 32 := 1#32
  let arg11 : BitVec 32 := Scf.iv c0_i32 c1_i32 k0_t1
  let v172 : Index := Scalar.indexCast arg11
  ![3, v172.toNat]
def k0_off11 (k0_t1 : Fin k0_t1_loop.trips) : Fin 3 → Nat :=
  let c3_i32 : BitVec 32 := 3#32
  let c0_i32 : BitVec 32 := 0#32
  let c1_i32 : BitVec 32 := 1#32
  let arg11 : BitVec 32 := Scf.iv c0_i32 c1_i32 k0_t1
  let c0_i32_62 : BitVec 32 := 0#32
  ![3, arg11.toNat, 0]
def k0_off12 (v173 : BitVec 32) : Fin 2 → Nat :=
  let c0_i32_63 : BitVec 32 := 0#32
  ![v173.toNat, 0]

def k0_chk4 (v173 : BitVec 32) : Prop :=
  (∀ a, (k0_off12 v173) a + S1x2048.size a ≤ S163840x2048.size a)
theorem k0_off12_inb : ∀ (v173 : BitVec 32) (k0_hw4 : k0_chk4 v173), ∀ a, (k0_off12 v173) a + S1x2048.size a ≤ S163840x2048.size a := fun v173 k0_hw4 => k0_hw4

def k0_off13 (k0_t1 : Fin k0_t1_loop.trips) : Fin 2 → Nat :=
  let c4_64 : Index := 4#32
  let c0_i32 : BitVec 32 := 0#32
  let c1_i32 : BitVec 32 := 1#32
  let arg11 : BitVec 32 := Scf.iv c0_i32 c1_i32 k0_t1
  let v177 : Index := Scalar.indexCast arg11
  ![4, v177.toNat]
def k0_off14 (k0_t1 : Fin k0_t1_loop.trips) : Fin 3 → Nat :=
  let c4_i32 : BitVec 32 := 4#32
  let c0_i32 : BitVec 32 := 0#32
  let c1_i32 : BitVec 32 := 1#32
  let arg11 : BitVec 32 := Scf.iv c0_i32 c1_i32 k0_t1
  let c0_i32_65 : BitVec 32 := 0#32
  ![4, arg11.toNat, 0]
def k0_off15 (v178 : BitVec 32) : Fin 2 → Nat :=
  let c0_i32_66 : BitVec 32 := 0#32
  ![v178.toNat, 0]

def k0_chk5 (v178 : BitVec 32) : Prop :=
  (∀ a, (k0_off15 v178) a + S1x2048.size a ≤ S163840x2048.size a)
theorem k0_off15_inb : ∀ (v178 : BitVec 32) (k0_hw5 : k0_chk5 v178), ∀ a, (k0_off15 v178) a + S1x2048.size a ≤ S163840x2048.size a := fun v178 k0_hw5 => k0_hw5

def k0_off16 (k0_t1 : Fin k0_t1_loop.trips) : Fin 2 → Nat :=
  let c5_67 : Index := 5#32
  let c0_i32 : BitVec 32 := 0#32
  let c1_i32 : BitVec 32 := 1#32
  let arg11 : BitVec 32 := Scf.iv c0_i32 c1_i32 k0_t1
  let v182 : Index := Scalar.indexCast arg11
  ![5, v182.toNat]
def k0_off17 (k0_t1 : Fin k0_t1_loop.trips) : Fin 3 → Nat :=
  let c5_i32 : BitVec 32 := 5#32
  let c0_i32 : BitVec 32 := 0#32
  let c1_i32 : BitVec 32 := 1#32
  let arg11 : BitVec 32 := Scf.iv c0_i32 c1_i32 k0_t1
  let c0_i32_68 : BitVec 32 := 0#32
  ![5, arg11.toNat, 0]
def k0_off18 (v183 : BitVec 32) : Fin 2 → Nat :=
  let c0_i32_69 : BitVec 32 := 0#32
  ![v183.toNat, 0]

def k0_chk6 (v183 : BitVec 32) : Prop :=
  (∀ a, (k0_off18 v183) a + S1x2048.size a ≤ S163840x2048.size a)
theorem k0_off18_inb : ∀ (v183 : BitVec 32) (k0_hw6 : k0_chk6 v183), ∀ a, (k0_off18 v183) a + S1x2048.size a ≤ S163840x2048.size a := fun v183 k0_hw6 => k0_hw6

def k0_off19 (k0_t1 : Fin k0_t1_loop.trips) : Fin 2 → Nat :=
  let c6_70 : Index := 6#32
  let c0_i32 : BitVec 32 := 0#32
  let c1_i32 : BitVec 32 := 1#32
  let arg11 : BitVec 32 := Scf.iv c0_i32 c1_i32 k0_t1
  let v187 : Index := Scalar.indexCast arg11
  ![6, v187.toNat]
def k0_off20 (k0_t1 : Fin k0_t1_loop.trips) : Fin 3 → Nat :=
  let c6_i32 : BitVec 32 := 6#32
  let c0_i32 : BitVec 32 := 0#32
  let c1_i32 : BitVec 32 := 1#32
  let arg11 : BitVec 32 := Scf.iv c0_i32 c1_i32 k0_t1
  let c0_i32_71 : BitVec 32 := 0#32
  ![6, arg11.toNat, 0]
def k0_off21 (v188 : BitVec 32) : Fin 2 → Nat :=
  let c0_i32_72 : BitVec 32 := 0#32
  ![v188.toNat, 0]

def k0_chk7 (v188 : BitVec 32) : Prop :=
  (∀ a, (k0_off21 v188) a + S1x2048.size a ≤ S163840x2048.size a)
theorem k0_off21_inb : ∀ (v188 : BitVec 32) (k0_hw7 : k0_chk7 v188), ∀ a, (k0_off21 v188) a + S1x2048.size a ≤ S163840x2048.size a := fun v188 k0_hw7 => k0_hw7

def k0_off22 (k0_t1 : Fin k0_t1_loop.trips) : Fin 2 → Nat :=
  let c7_73 : Index := 7#32
  let c0_i32 : BitVec 32 := 0#32
  let c1_i32 : BitVec 32 := 1#32
  let arg11 : BitVec 32 := Scf.iv c0_i32 c1_i32 k0_t1
  let v192 : Index := Scalar.indexCast arg11
  ![7, v192.toNat]
def k0_off23 (k0_t1 : Fin k0_t1_loop.trips) : Fin 3 → Nat :=
  let c7_i32 : BitVec 32 := 7#32
  let c0_i32 : BitVec 32 := 0#32
  let c1_i32 : BitVec 32 := 1#32
  let arg11 : BitVec 32 := Scf.iv c0_i32 c1_i32 k0_t1
  let c0_i32_74 : BitVec 32 := 0#32
  ![7, arg11.toNat, 0]
def k0_off24 (v193 : BitVec 32) : Fin 2 → Nat :=
  let c0_i32_75 : BitVec 32 := 0#32
  ![v193.toNat, 0]

def k0_chk8 (v193 : BitVec 32) : Prop :=
  (∀ a, (k0_off24 v193) a + S1x2048.size a ≤ S163840x2048.size a)
theorem k0_off24_inb : ∀ (v193 : BitVec 32) (k0_hw8 : k0_chk8 v193), ∀ a, (k0_off24 v193) a + S1x2048.size a ≤ S163840x2048.size a := fun v193 k0_hw8 => k0_hw8

@[reducible] def k0_t2_loop : Scf.Loop 32 :=
  let c0_i32_1 : BitVec 32 := 0#32
  let c128_i32_2 : BitVec 32 := 128#32
  let v1 : BitVec 32 := Scalar.addi c0_i32_1 c128_i32_2
  let c1_i32_3 : BitVec 32 := 1#32
  ⟨c0_i32_1, v1, c1_i32_3⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c128_i32 : BitVec 32 := 128#32
  let v0 : BitVec 32 := Scalar.muli arg0 c128_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32 : BitVec 32 := 8#32
  let v18 : BitVec 32 := Scalar.minsi v17 c8_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FinishSpecIdeal.lean ====
abbrev S16384x4096 : Shape := ⟨2, ![16384, 4096]⟩
abbrev S8x16384 : Shape := ⟨2, ![8, 16384]⟩
abbrev S163840x2048 : Shape := ⟨2, ![163840, 2048]⟩
abbrev S16384x128 : Shape := ⟨2, ![16384, 128]⟩
abbrev S16x6x4096 : Shape := ⟨3, ![16, 6, 4096]⟩
abbrev S4096 : Shape := ⟨1, ![4096]⟩
abbrev S_ : Shape := ⟨0, ![]⟩
abbrev S8x16384x1 : Shape := ⟨3, ![8, 16384, 1]⟩
abbrev S8x16384x2048 : Shape := ⟨3, ![8, 16384, 2048]⟩
abbrev S8x16384x4096 : Shape := ⟨3, ![8, 16384, 4096]⟩
abbrev S16384x8 : Shape := ⟨2, ![16384, 8]⟩
abbrev S8x2048x4096 : Shape := ⟨3, ![8, 2048, 4096]⟩
abbrev S8x1x4096 : Shape := ⟨3, ![8, 1, 4096]⟩
abbrev S8x4096 : Shape := ⟨2, ![8, 4096]⟩
abbrev S8x2048 : Shape := ⟨2, ![8, 2048]⟩
abbrev S8x2048x1 : Shape := ⟨3, ![8, 2048, 1]⟩
abbrev S1x1x4096 : Shape := ⟨3, ![1, 1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8x16384, .i32⟩
  | .hbm, ⟨2, _⟩ => ⟨S163840x2048, .i32⟩
  | .hbm, ⟨3, _⟩ => ⟨S16384x128, .f32⟩
  | .hbm, ⟨4, _⟩ => ⟨S16384x4096, .bf16⟩
  | .hbm, ⟨5, _⟩ => ⟨S16x6x4096, .f32⟩
  | .hbm, ⟨6, _⟩ => ⟨S4096, .f32⟩
  | .hbm, ⟨7, _⟩ => ⟨S_, .i32⟩
  | .hbm, ⟨8, _⟩ => ⟨S8x16384, .i32⟩
  | .hbm, ⟨9, _⟩ => ⟨S8x16384, .i1⟩
  | .hbm, ⟨10, _⟩ => ⟨S_, .i32⟩
  | .hbm, ⟨11, _⟩ => ⟨S8x16384, .i32⟩
  | .hbm, ⟨12, _⟩ => ⟨S8x16384, .i32⟩
  | .hbm, ⟨13, _⟩ => ⟨S8x16384, .i32⟩
  | .hbm, ⟨14, _⟩ => ⟨S8x16384x1, .i32⟩
  | .hbm, ⟨15, _⟩ => ⟨S8x16384x2048, .i32⟩
  | .hbm, ⟨16, _⟩ => ⟨S_, .i32⟩
  | .hbm, ⟨17, _⟩ => ⟨S8x16384x2048, .i32⟩
  | .hbm, ⟨18, _⟩ => ⟨S8x16384x2048, .i32⟩
  | .hbm, ⟨19, _⟩ => ⟨S8x16384x2048, .f32⟩
  | .hbm, ⟨20, _⟩ => ⟨S_, .i32⟩
  | .hbm, ⟨21, _⟩ => ⟨S8x16384x2048, .i32⟩
  | .hbm, ⟨22, _⟩ => ⟨S8x16384x2048, .i32⟩
  | .hbm, ⟨23, _⟩ => ⟨S8x16384x2048, .f32⟩
  | .hbm, ⟨24, _⟩ => ⟨S8x16384x4096, .f32⟩
  | .hbm, ⟨25, _⟩ => ⟨S16384x8, .f32⟩
  | .hbm, ⟨26, _⟩ => ⟨S8x16384, .f32⟩
  | .hbm, ⟨27, _⟩ => ⟨S8x16384x1, .f32⟩
  | .hbm, ⟨28, _⟩ => ⟨S8x16384x4096, .f32⟩
  | .hbm, ⟨29, _⟩ => ⟨S8x16384x4096, .f32⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S8x2048x4096, .f32⟩
  | .hbm, ⟨35, _⟩ => ⟨S8x2048x4096, .f32⟩
  | .hbm, ⟨36, _⟩ => ⟨S8x1x4096, .f32⟩
  | .hbm, ⟨37, _⟩ => ⟨S8x4096, .f32⟩
  | .hbm, ⟨38, _⟩ => ⟨S8x1x4096, .f32⟩
  | .hbm, ⟨39, _⟩ => ⟨S8x2048x4096, .f32⟩
  | .hbm, ⟨40, _⟩ => ⟨S8x2048x4096, .f32⟩
  | .hbm, ⟨41, _⟩ => ⟨S8x2048x4096, .f32⟩
  | .hbm, ⟨42, _⟩ => ⟨S8x2048x4096, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x4096, .f32⟩
  | .hbm, ⟨54, _⟩ => ⟨S8x2048x4096, .f32⟩
  | .hbm, ⟨55, _⟩ => ⟨S1x1x4096, .f32⟩
  | .hbm, ⟨56, _⟩ => ⟨S8x2048x4096, .f32⟩
  | .hbm, ⟨57, _⟩ => ⟨S8x2048x4096, .f32⟩
  | .hbm, ⟨58, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Proof.AttMath.lean ====
module

public import Idealize.ShloMosaic.PureOps.Ideal
public import Mathlib.Algebra.BigOperators.Fin

@[expose] public section

noncomputable section

/-! The weighted mean that attention computes: a quotient of two sums that two lists of scores share, against the sum
of the values times the normalised weights. -/

namespace Cert.AttMath

open Idealize.ShloMosaic

/-- The maximum of a list of scores, started at minus infinity. -/
def top {n : ℕ} (s : Fin n → EReal) : EReal :=
  Finset.fold max (Ideal.ofBits FTy.f32 4286578688#32) s Finset.univ

/-- The weighted values of two lists over the sum of the weights, all weights taken against one common maximum. -/
def quot {a b : ℕ} (sc : Fin a → EReal) (sl : Fin b → EReal) (vc : Fin a → EReal) (vl : Fin b → EReal) : EReal :=
  Ideal.div
    (∑ k, Ideal.exp (sc k - max (top sc) (top sl)) * vc k + ∑ k, Ideal.exp (sl k - max (top sc) (top sl)) * vl k)
    (∑ k, Ideal.exp (sc k - max (top sc) (top sl)) + ∑ k, Ideal.exp (sl k - max (top sc) (top sl)))

/-- The values times the normalised weights, summed over one list. -/
def mean {n : ℕ} (s : Fin n → EReal) (v : Fin n → EReal) : EReal :=
  ∑ k, v k * Ideal.div
    (Ideal.exp (s k - max (Ideal.ofBits FTy.f32 4286578688#32) (top s)))
    (∑ j, Ideal.exp (s j - max (Ideal.ofBits FTy.f32 4286578688#32) (top s)))

theorem bot_bits : Ideal.ofBits FTy.f32 4286578688#32 = ⊥ := by
  simp [Ideal.ofBits, Ideal.ieee]

theorem top_eq {n : ℕ} (s : Fin n → EReal) : top s = Finset.univ.sup s := by
  unfold top
  rw [bot_bits]
  rfl

theorem top_split {a b : ℕ} (s : Fin (a + b) → EReal) :
    max (top fun k : Fin a => s (Fin.castAdd b k)) (top fun k : Fin b => s (Fin.natAdd a k)) = top s := by
  simp only [top_eq]
  apply le_antisymm
  · refine max_le (Finset.sup_le fun k _ => ?_) (Finset.sup_le fun k _ => ?_)
    · exact Finset.le_sup (f := s) (Finset.mem_univ _)
    · exact Finset.le_sup (f := s) (Finset.mem_univ _)
  · refine Finset.sup_le fun k _ => ?_
    induction k using Fin.addCases with
    | left k => exact le_max_of_le_left (Finset.le_sup (f := fun k : Fin a => s (Fin.castAdd b k)) (Finset.mem_univ k))
    | right k => exact le_max_of_le_right (Finset.le_sup (f := fun k : Fin b => s (Fin.natAdd a k)) (Finset.mem_univ k))

theorem top_coe {n : ℕ} (hn : 0 < n) (s : Fin n → ℝ) : ∃ M : ℝ, top (fun k => ((s k : ℝ) : EReal)) = M := by
  have hne : top (fun k => ((s k : ℝ) : EReal)) ≠ ⊥ := by
    rw [top_eq]
    have h : ((s ⟨0, hn⟩ : ℝ) : EReal) ≤ Finset.univ.sup (fun k => ((s k : ℝ) : EReal)) :=
      Finset.le_sup (f := fun k => ((s k : ℝ) : EReal)) (Finset.mem_univ _)
    intro e
    rw [e] at h
    exact absurd (le_bot_iff.mp h) (EReal.coe_ne_bot _)
  have hnt : top (fun k => ((s k : ℝ) : EReal)) ≠ ⊤ := by
    rw [top_eq]
    refine ne_of_lt ((Finset.sup_lt_iff (by simp)).mpr fun k _ => EReal.coe_lt_top _)
  exact ⟨_, (EReal.coe_toReal hnt hne).symm⟩

theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- For finite scores and values the two are one. -/
theorem quot_eq_mean {a b : ℕ} (hn : 0 < a + b) (s v : Fin (a + b) → ℝ) :
    quot (fun k : Fin a => ((s (Fin.castAdd b k) : ℝ) : EReal)) (fun k : Fin b => ((s (Fin.natAdd a k) : ℝ) : EReal))
        (fun k : Fin a => ((v (Fin.castAdd b k) : ℝ) : EReal)) (fun k : Fin b => ((v (Fin.natAdd a k) : ℝ) : EReal))
      = mean (fun k => ((s k : ℝ) : EReal)) (fun k => ((v k : ℝ) : EReal)) := by
  unfold quot mean
  rw [top_split (fun k => ((s k : ℝ) : EReal)), bot_bits, max_eq_right (bot_le : ⊥ ≤ top _)]
  obtain ⟨M, hM⟩ := top_coe hn s
  rw [hM]
  have he : ∀ k, Ideal.exp (((s k : ℝ) : EReal) - (M : EReal)) = ((Real.exp (s k - M) : ℝ) : EReal) := fun k => by
    rw [← EReal.coe_sub, Ideal.exp_coe]
  simp only [he]
  rw [← Fin.sum_univ_add (fun k : Fin (a + b) => ((Real.exp (s k - M) : ℝ) : EReal) * ((v k : ℝ) : EReal)),
    ← Fin.sum_univ_add (fun k : Fin (a + b) => ((Real.exp (s k - M) : ℝ) : EReal))]
  simp only [← EReal.coe_mul, coe_sum]
  have hpos : 0 < ∑ k, Real.exp (s k - M) :=
    Finset.sum_pos (fun k _ => Real.exp_pos _) ⟨⟨0, hn⟩, Finset.mem_univ _⟩
  simp only [Ideal.div_coe hpos.ne', ← EReal.coe_mul, coe_sum]
  congr 1
  rw [Finset.sum_mul]
  refine Finset.sum_congr rfl fun k _ => ?_
  ring

/-- A value whose absolute value is below infinity is a real number. -/
theorem real_of_abs_lt {x : EReal} (h : max x (-x) < ⊤) : ∃ y : ℝ, x = y := by
  induction x with
  | bot => simp at h
  | top => simp at h
  | coe y => exact ⟨y, rfl⟩

end Cert.AttMath

end
-- ==== Proof.AttBlock.lean ====
module

public import proofs.«01_k».proof.Proof.Gen.AttentionIdeal.Value
public import proofs.«01_k».proof.Proof.AttMath
public import Idealize.ShloMosaic.Lib.Pointwise
public import Idealize.ShloMosaic.Lib.Pipeline.ValueKit
public import Idealize.ShloMosaic.Lib.Pipeline.Covers

@[expose] public section

set_option maxRecDepth 16384

noncomputable section

namespace Cert.AttBlock

open Cert.AttentionIdeal Cert.AttentionIdeal.Gen Idealize.ShloMosaic Idealize.ShloMosaic.TcCoe

/-- `quot` of a query block's row, two key blocks and two value blocks' columns. -/
def head (q : Fin 128 → EReal) (kc vc : Vec Ideal S256x128 .bf16) (kl vl : Vec Ideal S2048x128 .bf16) (d : Fin 128) : EReal :=
  AttMath.quot (fun k => ∑ e, q e * kc (ix2 k e)) (fun k => ∑ e, q e * kl (ix2 k e)) (fun k => vc (ix2 k d)) (fun k => vl (ix2 k d))

theorem out_at (x0 : Vec Ideal S512x512 .bf16) (kc vc : Vec Ideal S256x128 .bf16) (kl vl : Vec Ideal S2048x128 .bf16)
    (y : S512x512.Idx) (r : Fin 512) (g : Fin 4) (d : Fin 128) (hr : (y 0 : ℕ) = r) (hd : (y 1 : ℕ) = g * 128 + d) :
    out0_5 x0 kc vc kl vl y = head (fun e => x0 (ix2 r ⟨g * 128 + e, by omega⟩)) kc vc kl vl d := by
  unfold out0_5
  canon_tiles x h
  all_goals
    obtain ⟨a, b, rfl⟩ : ∃ (a : Fin 512) (b : Fin 128), x = ix2 a b := ⟨x 0, x 1, eq_ix2 x⟩
    have ha : (ix2 a b : S512x128.Idx) 0 = a := rfl
    have hb : (ix2 a b : S512x128.Idx) 1 = b := rfl
    simp only [ha, hb] at h0 h1
    have e0 : a = r := Fin.ext (by omega)
    subst e0
    have hb2 : (b : ℕ) < 128 := b.isLt
    have hd2 : (d : ℕ) < 128 := d.isLt
  case piece0 =>
    obtain rfl : g = 3 := Fin.ext (by show (g : ℕ) = 3; omega)
    obtain rfl : b = d := Fin.ext (by change _ = 3 * 128 + (d : ℕ) at hd; omega)
    unfold_payloads
    pointwise [head, AttMath.quot, AttMath.top]
  case piece1 =>
    obtain rfl : g = 2 := Fin.ext (by show (g : ℕ) = 2; omega)
    obtain rfl : b = d := Fin.ext (by change _ = 2 * 128 + (d : ℕ) at hd; omega)
    unfold_payloads
    pointwise [head, AttMath.quot, AttMath.top]
  case piece2 =>
    obtain rfl : g = 1 := Fin.ext (by show (g : ℕ) = 1; omega)
    obtain rfl : b = d := Fin.ext (by change _ = 1 * 128 + (d : ℕ) at hd; omega)
    unfold_payloads
    pointwise [head, AttMath.quot, AttMath.top]
  case piece3 =>
    obtain rfl : g = 0 := Fin.ext (by show (g : ℕ) = 0; omega)
    obtain rfl : b = d := Fin.ext (by change _ = 0 * 128 + (d : ℕ) at hd; omega)
    unfold_payloads
    pointwise [head, AttMath.quot, AttMath.top]
end Cert.AttBlock

end
-- ==== Proof.AttKernel.lean ====
module

public import proofs.«01_k».proof.Proof.AttBlock

@[expose] public section

set_option maxRecDepth 16384

noncomputable section

/-! The kernel's result array after the run, element by element. -/

namespace Cert.AttKernel

open Cert.AttentionIdeal Cert.AttentionIdeal.Gen Idealize.ShloMosaic Idealize.ShloMosaic.TcCoe

/-- The element at row `r`, column `d` of the result, from the array of queries, keys and values. -/
def elt (X : Vec Ideal S18432x6144 .bf16) (r : Fin 16384) (d : Fin 4096) : EReal :=
  AttMath.quot
    (fun k : Fin 256 => ∑ e : Fin 128, X (ix2 ⟨r, by omega⟩ ⟨d / 128 * 128 + e, by omega⟩)
      * X (ix2 ⟨16384 + (r / 2048 * 256 + k), by omega⟩ ⟨4096 + (d / 512 * 128 + e), by omega⟩))
    (fun k : Fin 2048 => ∑ e : Fin 128, X (ix2 ⟨r, by omega⟩ ⟨d / 128 * 128 + e, by omega⟩)
      * X (ix2 ⟨r / 2048 * 2048 + k, by omega⟩ ⟨4096 + (d / 512 * 128 + e), by omega⟩))
    (fun k => X (ix2 ⟨16384 + (r / 2048 * 256 + k), by omega⟩ ⟨5120 + (d / 512 * 128 + d % 128), by omega⟩))
    (fun k => X (ix2 ⟨r / 2048 * 2048 + k, by omega⟩ ⟨5120 + (d / 512 * 128 + d % 128), by omega⟩))

theorem idx : ∀ t : Fin grid0.N,
    (win0_0.index t = ![t.val / 32 * 4 + t.val % 4, t.val / 4 % 8] ∧ win0_1.index t = ![64 + t.val / 32, 32 + t.val / 4 % 8])
    ∧ (win0_2.index t = ![64 + t.val / 32, 40 + t.val / 4 % 8] ∧ win0_3.index t = ![t.val / 32, 32 + t.val / 4 % 8])
    ∧ win0_4.index t = ![t.val / 32, 40 + t.val / 4 % 8] ∧ win0_5.index t = ![t.val / 32 * 4 + t.val % 4, t.val / 4 % 8] := by
  decide +kernel

variable (m : (ℓ : Loc nD τ sig) → Buf (Elt Ideal) ℓ)

theorem final (c : Dev nD) :
    (dats m 0 c).arrAt 5 cfg0.N = fun i => elt (m ((c : Thread nD τ).loc main_arg0)) (i 0) (i 1) := by
  refine (dats m 0 c).arrAt_eq_of_covers 5 _ (by decide +kernel) fun t hf y => ?_
  obtain ⟨⟨e0, e1⟩, ⟨e2, e3⟩, e4, e5⟩ := idx t
  blk_simp [e5]
  rw [after0_5]
  have hR : (((win0_5.blk t).view.emb y 0 : Fin 16384) : ℕ) = (t.val / 32 * 4 + t.val % 4) * 512 + (y 0).val := by blk_simp [e5]
  have hC : (((win0_5.blk t).view.emb y 1 : Fin 4096) : ℕ) = t.val / 4 % 8 * 512 + (y 1).val := by blk_simp [e5]
  have hy0 : (y 0).val < 512 := (y 0).isLt
  have hy1 : (y 1).val < 512 := (y 1).isLt
  have ht : t.val < 256 := t.isLt
  generalize ((win0_5.blk t).view.emb y 0 : Fin 16384) = R at hR ⊢
  generalize ((win0_5.blk t).view.emb y 1 : Fin 4096) = C at hC ⊢
  refine (AttBlock.out_at _ _ _ _ _ y ⟨(y 0).val, hy0⟩ ⟨(y 1).val / 128, by omega⟩ ⟨(y 1).val % 128, by omega⟩ rfl
    (by show (y 1).val = (y 1).val / 128 * 128 + (y 1).val % 128; omega)).trans ?_
  unfold AttBlock.head elt
  congr 1
  · funext k
    refine Finset.sum_congr rfl fun e _ => ?_
    congr 1 <;> blk_ext [iblk, V, e0, e1]
  · funext k
    refine Finset.sum_congr rfl fun e _ => ?_
    congr 1 <;> blk_ext [iblk, V, e0, e3]
  · funext k
    blk_ext [iblk, V, e2]
  · funext k
    blk_ext [iblk, V, e4]

end Cert.AttKernel

end
-- ==== Proof.AttRef.lean ====
module

public import proofs.«01_k».proof.Proof.Gen.AttentionSpecIdeal.Run
public import proofs.«01_k».proof.Proof.AttMath
public import Idealize.ShloMosaic.Lib.Pointwise
public import Idealize.ShloMosaic.Lib.Tactic.CleanTypes

@[expose] public section

set_option maxRecDepth 16384

noncomputable section

/-! The reference attention's result at an index. -/

namespace Cert.AttRef

open Cert.AttentionSpecIdeal Cert.AttentionSpecIdeal.Gen Idealize.ShloMosaic

/-- The latents' rows by batch and the contexts' rows by batch. -/
def lat (X : FVec Ideal S18432x6144 .bf16) : FVec Ideal S8x2048x6144 .f32 :=
  shapeCast _ (extf .f32 (extractStridedSlice S16384x6144 ![0, 0] X slices_S18432x6144_S16384x6144_0_0) bitsLt_bf16_f32) shapeCasts_S16384x6144_S8x2048x6144
def ctx (X : FVec Ideal S18432x6144 .bf16) : FVec Ideal S8x256x6144 .f32 :=
  shapeCast _ (extf .f32 (extractStridedSlice S2048x6144 ![16384, 0] X slices_S18432x6144_S2048x6144_16384_0) bitsLt_bf16_f32) shapeCasts_S2048x6144_S8x256x6144

/-- The keys and the values of a batch, the context's before the latents'. -/
def keys (X : FVec Ideal S18432x6144 .bf16) : FVec Ideal S8x2304x8x128 .f32 :=
  shapeCast _ (concatenate S8x2304x1024 1 [⟨S8x256x1024, extractStridedSlice S8x256x1024 ![0, 0, 4096] (ctx X) slices_S8x256x6144_S8x256x1024_0_0_4096⟩, ⟨S8x2048x1024, extractStridedSlice S8x2048x1024 ![0, 0, 4096] (lat X) slices_S8x2048x6144_S8x2048x1024_0_0_4096⟩] concatenates_S8x256x1024_S8x2048x1024_S8x2304x1024_d1) shapeCasts_S8x2304x1024_S8x2304x8x128
def vals (X : FVec Ideal S18432x6144 .bf16) : FVec Ideal S8x2304x8x128 .f32 :=
  shapeCast _ (concatenate S8x2304x1024 1 [⟨S8x256x1024, extractStridedSlice S8x256x1024 ![0, 0, 5120] (ctx X) slices_S8x256x6144_S8x256x1024_0_0_5120⟩, ⟨S8x2048x1024, extractStridedSlice S8x2048x1024 ![0, 0, 5120] (lat X) slices_S8x2048x6144_S8x2048x1024_0_0_5120⟩] concatenates_S8x256x1024_S8x2048x1024_S8x2304x1024_d1) shapeCasts_S8x2304x1024_S8x2304x8x128
def qrys (X : FVec Ideal S18432x6144 .bf16) : FVec Ideal S8x2048x8x4x128 .f32 :=
  shapeCast _ (extractStridedSlice S8x2048x4096 ![0, 0, 0] (lat X) slices_S8x2048x6144_S8x2048x4096_0_0_0) shapeCasts_S8x2048x4096_S8x2048x8x4x128

def scores (k : FVec Ideal S8x2304x8x128 .f32) (q : FVec Ideal S8x2048x8x4x128 .f32) : FVec Ideal S8x8x4x2048x2304 .f32 :=
  transpose S8x8x4x2048x2304 [0, 1, 4, 3, 2] (Host.dotGeneral dot_S8x2304x8x128_S8x2048x8x4x128_S8x8x2304x2048x4_3_4_1_13_02_02 none k q) transposes_S8x8x2304x2048x4_S8x8x4x2048x2304_0_1_4_3_2

def largest (s : FVec Ideal S8x8x4x2048x2304 .f32) : FVec Ideal S8x8x4x2048 .f32 :=
  Host.reduce FloatOps.maximumf s (constant S_ .f32 0xFF800000#32) reducesTo_S8x8x4x2048x2304_S8x8x4x2048_d4 h_S_

def expd (s : FVec Ideal S8x8x4x2048x2304 .f32) (M : FVec Ideal S8x8x4x2048 .f32) : FVec Ideal S8x8x4x2048x2304 .f32 :=
  Host.exp (subf s (broadcastInDim S8x8x4x2048x2304 ![0, 1, 2, 3, 4] bcast_S8x8x4x2048x1_S8x8x4x2048x2304_0_1_2_3_4 (broadcastInDim S8x8x4x2048x1 ![0, 1, 2, 3] bcast_S8x8x4x2048_S8x8x4x2048x1_0_1_2_3 (maximumf (broadcastInDim S8x8x4x2048 ![] bcast_S_S8x8x4x2048 (constant S_ .f32 0xFF800000#32)) M))))

def normd (e : FVec Ideal S8x8x4x2048x2304 .f32) : FVec Ideal S8x8x4x2048x2304 .f32 :=
  Host.divf e (broadcastInDim S8x8x4x2048x2304 ![0, 1, 2, 3, 4] bcast_S8x8x4x2048x1_S8x8x4x2048x2304_0_1_2_3_4 (broadcastInDim S8x8x4x2048x1 ![0, 1, 2, 3] bcast_S8x8x4x2048_S8x8x4x2048x1_0_1_2_3 (Host.reduceAdd e (constant S_ .f32 0x00000000#32) reducesTo_S8x8x4x2048x2304_S8x8x4x2048_d4 h_S_)))

def outs (v : FVec Ideal S8x2304x8x128 .f32) (p : FVec Ideal S8x8x4x2048x2304 .f32) : FVec Ideal S16384x4096 .bf16 :=
  truncf .bf16 (shapeCast _ (transpose S8x2048x8x4x128 [0, 4, 1, 3, 2] (Host.dotGeneral dot_S8x2304x8x128_S8x8x4x2048x2304_S8x8x128x4x2048_1_4_3_23_02_01 none v p) transposes_S8x8x128x4x2048_S8x2048x8x4x128_0_4_1_3_2) shapeCasts_S8x2048x8x4x128_S16384x4096) bitsLt_bf16_f32

def scoresOf (X : FVec Ideal S18432x6144 .bf16) : FVec Ideal S8x8x4x2048x2304 .f32 := scores (keys X) (qrys X)

theorem res_eq (m : (ℓ : Loc nD τ sig) → Buf (Elt Ideal) ℓ) (c : Dev nD) :
    Value.res_main_v33 m c = outs (vals (m ((c.tc : Thread nD τ).loc main_arg0)))
      (normd (expd (scoresOf (m ((c.tc : Thread nD τ).loc main_arg0))) (largest (scoresOf (m ((c.tc : Thread nD τ).loc main_arg0)))))) := rfl

theorem keys_at (X : FVec Ideal S18432x6144 .bf16) (b : Fin 8) (k : Fin 2304) (h : Fin 8) (e : Fin 128) :
    keys X (ix4 b k h e) = if k.val < 256 then X (ix2 ⟨16384 + (b * 256 + k % 256), by omega⟩ ⟨4096 + (h * 128 + e), by omega⟩)
      else X (ix2 ⟨b * 2048 + (k - 256), by omega⟩ ⟨4096 + (h * 128 + e), by omega⟩) := by
  unfold keys lat ctx
  pointwise
  split
  · rename_i hk
    simp only [Nat.mod_eq_of_lt hk]
  · rfl

theorem vals_at (X : FVec Ideal S18432x6144 .bf16) (b : Fin 8) (k : Fin 2304) (h : Fin 8) (e : Fin 128) :
    vals X (ix4 b k h e) = if k.val < 256 then X (ix2 ⟨16384 + (b * 256 + k % 256), by omega⟩ ⟨5120 + (h * 128 + e), by omega⟩)
      else X (ix2 ⟨b * 2048 + (k - 256), by omega⟩ ⟨5120 + (h * 128 + e), by omega⟩) := by
  unfold vals lat ctx
  pointwise
  split
  · rename_i hk
    simp only [Nat.mod_eq_of_lt hk]
  · rfl

theorem qrys_at (X : FVec Ideal S18432x6144 .bf16) (b : Fin 8) (q : Fin 2048) (h : Fin 8) (g : Fin 4) (e : Fin 128) :
    qrys X (ix5 b q h g e) = X (ix2 ⟨b * 2048 + q, by omega⟩ ⟨h * 512 + g * 128 + e, by omega⟩) := by
  unfold qrys lat
  pointwise

theorem scores_at (k : FVec Ideal S8x2304x8x128 .f32) (q : FVec Ideal S8x2048x8x4x128 .f32) (b h : Fin 8) (g : Fin 4) (i : Fin 2048) (j : Fin 2304) :
    scores k q (ix5 b h g i j) = ∑ e, k (ix4 b j h e) * q (ix5 b i h g e) := by
  unfold scores
  pointwise

theorem largest_at (s : FVec Ideal S8x8x4x2048x2304 .f32) (b h : Fin 8) (g : Fin 4) (i : Fin 2048) :
    largest s (ix4 b h g i) = AttMath.top fun j => s (ix5 b h g i j) := by
  unfold largest AttMath.top
  rw [Host.reduce_eq_fold, Shape.ReducesTo.fold_fiber_r5_a4]
  rfl

theorem expd_at (s : FVec Ideal S8x8x4x2048x2304 .f32) (M : FVec Ideal S8x8x4x2048 .f32) (b h : Fin 8) (g : Fin 4) (i : Fin 2048) (j : Fin 2304) :
    expd s M (ix5 b h g i j) = Ideal.exp (s (ix5 b h g i j) - max (Ideal.ofBits FTy.f32 4286578688#32) (M (ix4 b h g i))) := by
  unfold expd
  pointwise

theorem normd_at (e : FVec Ideal S8x8x4x2048x2304 .f32) (b h : Fin 8) (g : Fin 4) (i : Fin 2048) (j : Fin 2304) :
    normd e (ix5 b h g i j) = Ideal.div (e (ix5 b h g i j)) (∑ j, e (ix5 b h g i j)) := by
  unfold normd
  pointwise

theorem outs_at (v : FVec Ideal S8x2304x8x128 .f32) (p : FVec Ideal S8x8x4x2048x2304 .f32) (r : Fin 16384) (d : Fin 4096) :
    outs v p (ix2 r d) = ∑ x, v (ix4 ⟨r / 2048, by omega⟩ x ⟨d / 512, by omega⟩ ⟨d % 128, by omega⟩)
      * p (ix5 ⟨r / 2048, by omega⟩ ⟨d / 512, by omega⟩ ⟨d / 128 % 4, by omega⟩ ⟨r % 2048, by omega⟩ x) := by
  unfold outs
  pointwise

/-- The reference's result at row `r`, column `d`: the weighted mean of the values' column. -/
theorem ref_at (m : (ℓ : Loc nD τ sig) → Buf (Elt Ideal) ℓ) (c : Dev nD) (r : Fin 16384) (d : Fin 4096) :
    (Value.res_main_v33 m c : FVec Ideal S16384x4096 .bf16) (ix2 r d) = AttMath.mean
      (fun k : Fin 2304 => ∑ e, keys (m ((c.tc : Thread nD τ).loc main_arg0)) (ix4 ⟨r / 2048, by omega⟩ k ⟨d / 512, by omega⟩ e)
        * qrys (m ((c.tc : Thread nD τ).loc main_arg0)) (ix5 ⟨r / 2048, by omega⟩ ⟨r % 2048, by omega⟩ ⟨d / 512, by omega⟩ ⟨d / 128 % 4, by omega⟩ e))
      (fun k => vals (m ((c.tc : Thread nD τ).loc main_arg0)) (ix4 ⟨r / 2048, by omega⟩ k ⟨d / 512, by omega⟩ ⟨d % 128, by omega⟩)) := by
  rw [res_eq, outs_at]
  simp only [normd_at, expd_at, largest_at, scoresOf, scores_at]
  rfl

end Cert.AttRef

end
-- ==== Proof.Att.lean ====
module

public import proofs.«01_k».proof.Defs
public import proofs.«01_k».proof.Proof.AttKernel
public import proofs.«01_k».proof.Proof.AttRef
public import proofs.«01_k».proof.Proof.Gen.Pre_finite

@[expose] public section

set_option maxRecDepth 16384

noncomputable section

/-! The kernel's attention is the reference's, where the queries, keys and values are finite. -/

namespace Cert.Att

open Idealize.ShloMosaic Idealize.ShloMosaic.TcCoe Idealize.SL.Sem

/-- Every element of an array is a real number. -/
def Real (X : FVec Ideal Cert.Pre_finite.S18432x6144 .bf16) : Prop := ∀ i, ∃ y : ℝ, X i = (y : EReal)

theorem of_bit {p : Prop} [Decidable p] (h : BitVec.ofBool (decide p) = 1#1) : p := by
  by_contra hn
  rw [decide_eq_false hn] at h
  exact absurd h (by decide)

theorem real_of_pre (X : FVec Ideal Cert.Pre_finite.S18432x6144 .bf16)
    (h : @Cert.Pre_finite.fn Cert.Pre_finite.Gen.facts Ideal _ X = fun _ => 1#1) : Real X := by
  intro i
  refine AttMath.real_of_abs_lt ?_
  have hi := congrFun h i
  pointwise [Cert.Pre_finite.fn] at hi
  have ht : Ideal.ofBits FTy.f32 2139095040#32 = ⊤ := by simp [Ideal.ofBits, Ideal.ieee]
  rw [ht] at hi
  exact of_bit hi

theorem real_mul {x y : EReal} (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩

theorem real_sum {n : ℕ} (f : Fin n → EReal) (hf : ∀ k, ∃ a : ℝ, f k = a) : ∃ a : ℝ, ∑ k, f k = a := by
  choose g hg using hf
  exact ⟨∑ k, g k, by simp only [hg, AttMath.coe_sum]⟩

theorem elt_eq (X : FVec Ideal Cert.Pre_finite.S18432x6144 .bf16) (hX : Real X) (r : Fin 16384) (d : Fin 4096) :
    AttKernel.elt X r d = AttMath.mean
      (fun k : Fin 2304 => ∑ e, AttRef.keys X (ix4 ⟨r / 2048, by omega⟩ k ⟨d / 512, by omega⟩ e)
        * AttRef.qrys X (ix5 ⟨r / 2048, by omega⟩ ⟨r % 2048, by omega⟩ ⟨d / 512, by omega⟩ ⟨d / 128 % 4, by omega⟩ e))
      (fun k => AttRef.vals X (ix4 ⟨r / 2048, by omega⟩ k ⟨d / 512, by omega⟩ ⟨d % 128, by omega⟩)) := by
  have hk : ∀ i, ∃ y : ℝ, AttRef.keys X i = y := fun i => by
    idx_vars i
    rw [AttRef.keys_at]
    split <;> exact hX _
  have hv : ∀ i, ∃ y : ℝ, AttRef.vals X i = y := fun i => by
    idx_vars i
    rw [AttRef.vals_at]
    split <;> exact hX _
  have hq : ∀ i, ∃ y : ℝ, AttRef.qrys X i = y := fun i => by
    idx_vars i
    rw [AttRef.qrys_at]
    exact hX _
  have hs : ∀ k : Fin (256 + 2048), ∃ y : ℝ, ∑ e : Fin 128, AttRef.keys X (ix4 ⟨r / 2048, by omega⟩ k ⟨d / 512, by omega⟩ e)
        * AttRef.qrys X (ix5 ⟨r / 2048, by omega⟩ ⟨r % 2048, by omega⟩ ⟨d / 512, by omega⟩ ⟨d / 128 % 4, by omega⟩ e) = y :=
    fun k => real_sum _ fun e => real_mul (hk _) (hq _)
  have hw : ∀ k : Fin (256 + 2048), ∃ y : ℝ, AttRef.vals X (ix4 ⟨r / 2048, by omega⟩ k ⟨d / 512, by omega⟩ ⟨d % 128, by omega⟩) = y :=
    fun k => hv _
  choose S hS using hs
  choose W hW using hw
  refine Eq.trans ?_ ((AttMath.quot_eq_mean (a := 256) (b := 2048) (by omega) S W).trans ?_)
  · unfold AttKernel.elt
    congr 1
    · funext k
      rw [← hS]
      refine Finset.sum_congr rfl fun e _ => ?_
      rw [AttRef.keys_at, AttRef.qrys_at, if_pos (by show k.val < 256; omega), mul_comm]
      congr 2 <;> (congr 1 <;> (apply Fin.ext; first | rfl | (simp only [Fin.val_castAdd]; omega)))
    · funext k
      rw [← hS]
      refine Finset.sum_congr rfl fun e _ => ?_
      rw [AttRef.keys_at, AttRef.qrys_at, if_neg (by simp only [Fin.val_natAdd]; omega), mul_comm]
      congr 2 <;> (congr 1 <;> (apply Fin.ext; first | rfl | (simp only [Fin.val_natAdd]; omega)))
    · funext k
      rw [← hW, AttRef.vals_at, if_pos (by show k.val < 256; omega)]
      congr 2 <;> (apply Fin.ext; simp only [Fin.val_castAdd]; omega)
    · funext k
      rw [← hW, AttRef.vals_at, if_neg (by simp only [Fin.val_natAdd]; omega)]
      congr 2 <;> (apply Fin.ext; simp only [Fin.val_natAdd]; omega)
  · congr 1
    · funext k; exact (hS k).symm
    · funext k; exact (hW k).symm

/-- The claim about the values of the attention call. -/
theorem algebraic :
    Cert.algebraic_AttentionIdeal_AttentionSpecIdeal_pre_finite (hAttentionIdeal := Cert.AttentionIdeal.Gen.facts)
      (hAttentionSpecIdeal := Cert.AttentionSpecIdeal.Gen.facts) (hPre_finite := Cert.Pre_finite.Gen.facts) := by
  intro m g m' g' hpre hagree
  refine ⟨fun c => fun i => AttKernel.elt (m ((c.tc : Thread _ _).loc Cert.AttentionIdeal.main_arg0)) (i 0) (i 1),
    (θ_run _ _ _).mono (fun r h c => ⟨(h c).1.trans (AttKernel.final m c), (h c).2⟩) (Cert.AttentionIdeal.Value.run_blocks m g),
    (θ_run _ _ _).mono (fun r h c => ⟨(h c).1.trans ?_, (h c).2⟩) (Cert.AttentionSpecIdeal.Value.run m' g')⟩
  funext i
  idx_vars i
  refine (AttRef.ref_at m' c _ _).trans ?_
  rw [hagree c]
  exact (elt_eq _ (real_of_pre _ (hpre c)) _ _).symm

end Cert.Att

end
-- ==== Proof.ExpLaunchB.lean ====
module

public import proofs.«01_k».proof.Proof.ExpRunB
public import Idealize.ShloMosaic.Lib.Pipeline.Quiescent
public import Idealize.ShloMosaic.Lib.Pipeline.TableIdle
public import Idealize.ShloMosaic.Lib.Pipeline.FrameBody
public import Idealize.ShloMosaic.Lib.Pipeline.ValueKit
public import Idealize.ShloMosaic.Lib.VecWindow
public import Idealize.ShloMosaic.Lib.Ring
public import Idealize.ShloMosaic.Adequacy

/-! The grouped experts at any admissible tables: the launch, what every run leaves, and the arguments unchanged. -/

@[expose] public section

set_option maxRecDepth 16384
set_option Elab.async false

noncomputable section

namespace Cert.Experts.Tab

open Cert.Experts Cert.Experts.Gen
open Idealize.ShloMosaic Idealize.ShloMosaic.Pointwise
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

variable {T0 : S352.Idx → BitVec 32} {T1 : S1.Idx → BitVec 32} (h : Good T0 T1)
variable (m : (ℓ : Loc nD τ sig) → Buf (Elt Bits) ℓ) (ρ : Dev nD → PrngReg)

/-- The memory holds the tables. -/
def Pinned (T0 : S352.Idx → BitVec 32) (T1 : S1.Idx → BitVec 32) : Prop :=
  (∀ c : Dev nD, m ((c.tc : Thread nD τ).loc main_arg0) = T0) ∧ (∀ c : Dev nD, m ((c.tc : Thread nD τ).loc main_arg1) = T1)

abbrev EP : Emb (UR sig nD τ) 𝕄 := emb₁

/-- The launch element. -/
def u₀ : UR sig nD τ :=
  initOf (Pipeline.cells (pcs h) ((launch0 (F := Bits)).cellOf_inj fun _ => adm h))
    (Pipeline.launchToks (pcs h) ((launch0 (F := Bits)).cellOf_inj fun _ => adm h))

theorem share_eq (c : Dev nD) (w : Fin (cfgA h).W) : (dats h m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point. -/
theorem phi0_intro (c : Dev nD) :
    iprop(BI.emp ∗ Pipeline.prefHeld pre0 c (fun _ => fullShare.right) (adm h).1 ∗ Pipeline.scopedRest spec0 c) ⊢ (dats h m ρ 0 c).Φ 0 := by
  rw [prefHeld_eq, scopedRest0_eq, show (dats h m ρ 0 c).Φ 0 = Phi h m ρ c 0 from rfl]
  unfold Phi Held
  iintro ⟨-, ⟨HT0, HT1⟩, ⟨%a0, HS0⟩, ⟨%a1, HS1⟩⟩
  isplitl [HS0]
  · iexists a0; isplitr; swap
    · iexact HS0
    · ipureintro; intro z; exact absurd rfl z
  isplitl [HS1]
  · iexists a1; isplitr; swap
    · iexact HS1
    · ipureintro; intro z; exact absurd rfl z
  isplitl [HT0]
  · iexact HT0
  iexact HT1

/-- After the last point the scratches are given back. -/
theorem phiN_exit (c : Dev nD) : (dats h m ρ 0 c).Φ (Fin.last (cfgA h).N) ⊢ iprop(BI.emp ∗ Pipeline.scopedRest spec0 c) := by
  rw [scopedRest0_eq, show (dats h m ρ 0 c).Φ (Fin.last (cfgA h).N) = Phi h m ρ c (Fin.last _) from rfl]
  unfold Phi Held
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Bits) → Prop := fun r =>
  ∀ c : Dev nD, (∀ w : Fin (cfgA h).W, r.2.mem (((cfgA h).win w).arr.view.loc (c : Thread nD τ)) = (dats h m ρ 0 c).arrAt w (cfgA h).N)
    ∧ ∀ j, r.2.mem ((c : Thread nD τ).loc (pre0.ref j)) = (adm h).1 j

theorem V_pre (hp : Pinned m T0 T1) (c : Dev nD) (j : Fin 2) : m ((c : Thread nD τ).loc (pre0.ref j)) = (adm h).1 j := by
  fin_cases j
  · exact hp.1 c
  · exact hp.2 c

set_option backward.isDefEq.respectTransparency.types false in
set_option maxHeartbeats 4000000 in
/-- Every run ends, each array at the computed contents, the tables as they were, the counters zero. -/
theorem run_main_quiescent (hp : Pinned m T0 T1) : θ_run (defs (F := Bits)) (onTc (τ := τ) (main (F := Bits))) (s₀ m ρ) (fun r => QC h m ρ r ∧ r.2.sem = fun _ => 0) :=
  Pipeline.θ_run_region_noSem_pf_quiescent pcfgs (fun _ => adm h) (dats h m ρ) () ((launch0 (F := Bits)).cellOf_inj fun _ => adm h) (0 : Fin 1)
    (launch0 (F := Bits)).win.to₀ (launch0 (F := Bits)).pre EP defs₀ Variants.none m ρ main
    (hbody := fun c => (body_obligation h m ρ c).loose) (hne := (launch0 (F := Bits)).block_pos)
    (harr := (launch0 (F := Bits)).arr_whole) (hstage := (launch0 (F := Bits)).stage_whole) (howed := fun _ _ => rfl)
    (u₀ := u₀ h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs h) (dats h m ρ) 0 (launch0 (F := Bits)).win.arr_inj c (launch0 (F := Bits)).arr_whole
      (share_eq h m ρ c) _ _ fun _ => rfl)
    (hpf := V_pre h m hp)
    (X := fun _ => iprop(emp)) (Y := fun _ => iprop(emp)) (Z := fun _ => iprop(emp))
    (hX := fun c => by rw [unscopedRestP0_eq]; iintro -; isplitr <;> iempintro)
    (hin := phi0_intro h m ρ)
    (hout := phiN_exit h m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned m T0 T1) : θ_run (defs (F := Bits)) (onTc (τ := τ) (main (F := Bits))) (s₀ m ρ) (QC h m ρ) :=
  (θ_run defs _ _).mono (fun _ h => h.1) (run_main_quiescent h m ρ hp)

include h

/-- The frame without the counters: the argument arrays end unchanged. -/
theorem unchanged (hp : Pinned m T0 T1) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ k c => ⟨((k c).2 0).trans (hp.1 c).symm, ((k c).2 1).trans (hp.2 c).symm, ((k c).1 (0 : Fin 4)).trans ((dats h m ρ 0 c).arrAt_in (0 : Fin 4) rfl _), ((k c).1 (1 : Fin 4)).trans ((dats h m ρ 0 c).arrAt_in (1 : Fin 4) rfl _), ((k c).1 (2 : Fin 4)).trans ((dats h m ρ 0 c).arrAt_in (2 : Fin 4) rfl _)⟩) (run_main h m ρ hp)

/-- Every run from the tables' memory ends, the arguments unchanged and the counters zero. -/
theorem frame (hp : Pinned m T0 T1) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged h m ρ hp) ((θ_run defs _ _).mono (fun _ h => h.2) (run_main_quiescent h m ρ hp))

end Cert.Experts.Tab
-- ==== Proof.ExpTab.lean ====
module

public import proofs.«01_k».proof.Proof.Gen.ExpertsIdeal.Flash.Runs
public import Idealize.ShloMosaic.Lib.WordArith
public import Idealize.ShloMosaic.Lib.WordCmp
public import Idealize.ShloMosaic.Lib.Pointwise
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody

@[expose] public section

set_option maxRecDepth 16384

noncomputable section

namespace Cert.ExpertsIdeal.Tab

open Cert.ExpertsIdeal Cert.ExpertsIdeal.Gen
open Idealize.ShloMosaic Idealize.ShloMosaic.Pointwise

/-- What the precondition says of the two tables: the experts are below 64, there is at least one tile. -/
structure Good (T0 : S352.Idx → BitVec 32) (T1 : S1.Idx → BitVec 32) : Prop where
  te : ∀ x, (T0 x).toNat < 64
  nt : ∀ x, 1 ≤ (T1 x).toNat
  small : ∀ x, (T1 x).toNat < 2 ^ 31

variable (T0 : S352.Idx → BitVec 32) (T1 : S1.Idx → BitVec 32)

/-- The number of tiles. -/
def count : ℕ := (T1 (ix1 0)).toNat

/-- The expert of tile `n`. -/
def expert (n : Fin 352) : ℕ := (T0 (ix1 n)).toNat

/-- The tables as the region reads them. -/
def pf : pre0.Contents (Elt Ideal) :=
  fun | ⟨0, _⟩ => T0 | ⟨1, _⟩ => T1 | ⟨_ + 2, h⟩ => absurd h (by simp)

theorem word1 (x : S1.Idx) : T1 x = T1 (ix1 0) := by
  have h : (x 0).val < 1 := (x 0).isLt
  congr 1; funext a; fin_cases a; apply Fin.ext
  show (x 0).val = 0
  omega

/-- The last tile's word. -/
theorem last_word {T0 T1} (h : Good T0 T1) (i : grid0.Coords) (x : S1.Idx) :
    (Scalar.minsi (BitVec.ofNat 32 (i 0).val) (Scalar.subi (T1 x) 1#32)).toNat = min (i 0).val (count T1 - 1) := by
  have hi : (i 0).val < 352 := (i 0).isLt
  have h1 := h.nt x; have h2 := h.small x
  have e : (Scalar.subi (T1 x) 1#32).toNat = (T1 x).toNat - 1 := by
    show (T1 x - 1#32).toNat = _
    rw [BitVec.toNat_sub]; simp; omega
  have e0 : (BitVec.ofNat 32 (i 0).val).toNat = (i 0).val := by simp; omega
  show (IntOp.minsi _ _).toNat = _
  rw [WordArith.toNat_minsi_of_lt _ _ (by omega) (by omega), e, e0]
  rw [word1 T1 x]; rfl

theorem index0 {T0 T1} (h : Good T0 T1) (i : grid0.Coords) :
    cc0_transform_0 inb_S1_S1_0 numel1_S1 (pf T0 T1) i = ![min (i 0).val (count T1 - 1), 0] := by
  unfold cc0_transform_0
  exact congrArg (fun n => ![n, 0]) (last_word h i _)

theorem index3 {T0 T1} (h : Good T0 T1) (i : grid0.Coords) :
    cc0_transform_3 inb_S1_S1_0 numel1_S1 (pf T0 T1) i = ![min (i 0).val (count T1 - 1), 0] := by
  unfold cc0_transform_3
  exact congrArg (fun n => ![n, 0]) (last_word h i _)

theorem word0 (i : grid0.Coords) (x : S352.Idx) (h : ((x 0 : Fin _) : ℕ) = (i 0).val) : T0 x = T0 (ix1 (i 0)) := by
  congr 1; funext a; fin_cases a; exact Fin.ext h

theorem off_val (i : grid0.Coords) : (Scalar.indexCast (BitVec.ofNat 32 (i 0).val)).toNat = (i 0).val := by
  have hi : (i 0).val < 352 := (i 0).isLt
  show (BitVec.ofNat 32 (i 0).val).toNat = _
  simp; omega

theorem index1 (i : grid0.Coords) :
    cc0_transform_1 k0_off1_inb numel1_S1 (pf T0 T1) i = ![expert T0 (i 0), 0, 0] := by
  unfold cc0_transform_1
  refine congrArg (fun n : BitVec 32 => ![n.toNat, 0, 0]) (word0 T0 i _ ?_)
  exact (Nat.add_zero _).trans (off_val i)

theorem index2 (i : grid0.Coords) :
    cc0_transform_2 k0_off1_inb numel1_S1 (pf T0 T1) i = ![expert T0 (i 0), 0, 0] := by
  unfold cc0_transform_2
  refine congrArg (fun n : BitVec 32 => ![n.toNat, 0, 0]) (word0 T0 i _ ?_)
  exact (Nat.add_zero _).trans (off_val i)

variable {T0 T1}

theorem ok (h : Good T0 T1) : ok0 (F := Ideal) (pf T0 T1) := by
  have hb : ∀ i : grid0.Coords, min (i 0).val (count T1 - 1) < 352 := fun i => by
    have hi : (i 0).val < 352 := (i 0).isLt
    omega
  have he : ∀ i : grid0.Coords, expert T0 (i 0) < 64 := fun i => h.te _
  refine ⟨fun i => ⟨?_, .inr (Affine.block_words_dvd (by decide) (by decide))⟩, fun i => ⟨?_, .inl rfl⟩, fun i => ⟨?_, .inl rfl⟩, fun i => ⟨?_, .inr (Affine.block_words_dvd (by decide) (by decide))⟩⟩
  · rw [index0 h]; intro a; have := hb i; fin_cases a <;> simp [S512x4096, S180224x4096] <;> omega
  · rw [index1]; intro a; have := he i; fin_cases a <;> simp [S1x4096x384, S64x4096x384] <;> omega
  · rw [index2]; intro a; have := he i; fin_cases a <;> simp [S1x192x4096, S64x192x4096] <;> omega
  · rw [index3 h]; intro a; have := hb i; fin_cases a <;> simp [S512x4096, S180224x4096] <;> omega

theorem coord (t : Fin grid0.N) : (grid0.coords t 0).val = t.val := by
  have h : ∀ t : Fin 352, (grid0.coords t 0).val = t.val := by decide +kernel
  exact h t

/-- The body runs at the tiles below the count. -/
theorem runs_iff (h : Good T0 T1) (i : grid0.Coords) (x : S1.Idx) : k0_cond1 i (T1 x) = 1#1 ↔ (i 0).val < count T1 := by
  have hi : (i 0).val < 352 := (i 0).isLt
  have h2 := h.small x
  have e0 : (BitVec.ofNat 32 (i 0).val).toNat = (i 0).val := by simp; omega
  have e : (i 0).val < count T1 ↔ (BitVec.ofNat 32 (i 0).val).slt (T1 x) = true := by
    rw [show count T1 = (T1 x).toNat from by rw [word1 T1 x]; rfl, BitVec.slt, decide_eq_true_eq, BitVec.toInt_eq_toNat_of_lt (by omega), BitVec.toInt_eq_toNat_of_lt (by omega), e0]
    omega
  rw [e]
  show IntOp.cmpi .ne ((BitVec.ofBool _).setWidth 32) 0#32 = 1#1 ↔ _
  show IntOp.cmpi .ne ((BitVec.ofBool (BitVec.slt (BitVec.ofNat 32 (i 0).val) (T1 x))).setWidth 32) 0#32 = 1#1 ↔ _
  generalize BitVec.slt (BitVec.ofNat 32 (i 0).val) (T1 x) = b
  revert b; decide

/-- Where the weights are kept the tile is not the first and its expert is the one before's. -/
theorem kept_words (a u v : BitVec 32)
    (h : ¬(Scalar.cmpi .ne (Scalar.extui (Scalar.ori (Scalar.cmpi .eq a 0#32) (Scalar.cmpi .ne u v))) 0#32) = 1#1) : a ≠ 0#32 ∧ u = v := by
  have key : ∀ p q : Bool, ¬(Scalar.cmpi .ne ((Scalar.extui (Scalar.ori (BitVec.ofBool p) (BitVec.ofBool q)) : BitVec 32)) 0#32) = 1#1 → p = false ∧ q = false := by decide
  have := key (a == 0#32) (u != v) h
  simpa using this

end Cert.ExpertsIdeal.Tab

end
-- ==== Proof.ExpRun.lean ====
module

public import proofs.«01_k».proof.Proof.ExpTab
public import Idealize.ShloMosaic.Lib.Pipeline.Quiescent
public import Idealize.ShloMosaic.Lib.Pipeline.TableIdle
public import Idealize.ShloMosaic.Lib.Pipeline.FrameBody
public import Idealize.ShloMosaic.Lib.Pipeline.ValueKit
public import Idealize.ShloMosaic.Lib.VecWindow
public import Idealize.ShloMosaic.Lib.Ring
public import Idealize.ShloMosaic.Adequacy

/-! The grouped experts at any admissible tables: the schedule in closed form, the body at a point, and what a run leaves. -/

@[expose] public section

set_option maxRecDepth 16384
set_option Elab.async false

noncomputable section

namespace Cert.ExpertsIdeal.Tab

open Cert.ExpertsIdeal Cert.ExpertsIdeal.Gen
open Idealize.ShloMosaic Idealize.ShloMosaic.Pointwise
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable {T0 : S352.Idx → BitVec 32} {T1 : S1.Idx → BitVec 32} (h : Good T0 T1)

/-- The region at the tables. -/
def adm : (pcfg0 (F := Ideal)).Adm := ⟨pf T0 T1, ok h⟩
abbrev cfgA : Pipeline.Cfg sig Λ₀ := cfg0 (F := Ideal) (adm h)
abbrev pcs : Fin 1 → Pipeline.Cfg sig Λ₀ := Pipeline.pin (pcfgs (F := Ideal)) fun _ => adm h
abbrev crd (t : Fin (cfgA h).N) : (cfgA h).grid.Coords := (cfgA h).grid.coords t
abbrev st0 (t : Fin (cfgA h).N) : Memref sig .tc .vmem S512x4096 .bf16 := spec0_0.stage ((cfgA h).slots t (0 : Fin 4))
abbrev hst0 (t : Fin (cfgA h).N) : (st0 h t).IsWhole := hstage0_0 (((cfgA h).slots t (0 : Fin 4)).cast nbuf0_0)
abbrev st1 (t : Fin (cfgA h).N) : Memref sig .tc .vmem S1x4096x384 .f32 := spec0_1.stage ((cfgA h).slots t (1 : Fin 4))
abbrev hst1 (t : Fin (cfgA h).N) : (st1 h t).IsWhole := hstage0_1 (((cfgA h).slots t (1 : Fin 4)).cast nbuf0_1)
abbrev st2 (t : Fin (cfgA h).N) : Memref sig .tc .vmem S1x192x4096 .f32 := spec0_2.stage ((cfgA h).slots t (2 : Fin 4))
abbrev hst2 (t : Fin (cfgA h).N) : (st2 h t).IsWhole := hstage0_2 (((cfgA h).slots t (2 : Fin 4)).cast nbuf0_2)
abbrev st3 (t : Fin (cfgA h).N) : Memref sig .tc .vmem S512x4096 .bf16 := spec0_3.stage ((cfgA h).slots t (3 : Fin 4))
abbrev hst3 (t : Fin (cfgA h).N) : (st3 h t).IsWhole := hstage0_3 (((cfgA h).slots t (3 : Fin 4)).cast nbuf0_3)

theorem N_eq : (cfgA h).N = 352 := rfl

theorem crd_val (t : Fin (cfgA h).N) : (crd h t 0).val = t.val := coord t

theorem crd_eq (t : Fin (cfgA h).N) : (crd h t 0 : Fin 352) = (t : Fin 352) := Fin.ext (crd_val h t)

/-- The tile a point works on: its own, the last one when there are no more. -/
def tileAt (t : Fin (cfgA h).N) : Fin (cfgA h).N := ⟨min t.val (count T1 - 1), by have := t.isLt; omega⟩

theorem at0 (t : Fin (cfgA h).N) : ((cfgA h).win (0 : Fin 4)).index t = ![min t.val (count T1 - 1), 0] := by
  rw [← crd_val h t]; exact index0 h (crd h t)
theorem at1 (t : Fin (cfgA h).N) : ((cfgA h).win (1 : Fin 4)).index t = ![expert T0 t, 0, 0] := by
  exact (index1 T0 T1 (crd h t)).trans (congrArg (fun n : Fin 352 => ![expert T0 n, 0, 0]) (crd_eq h t))
theorem at2 (t : Fin (cfgA h).N) : ((cfgA h).win (2 : Fin 4)).index t = ![expert T0 t, 0, 0] := by
  exact (index2 T0 T1 (crd h t)).trans (congrArg (fun n : Fin 352 => ![expert T0 n, 0, 0]) (crd_eq h t))
theorem at3 (t : Fin (cfgA h).N) : ((cfgA h).win (3 : Fin 4)).index t = ![min t.val (count T1 - 1), 0] := by
  rw [← crd_val h t]; exact index3 h (crd h t)

theorem count_pos (h : Good T0 T1) : 1 ≤ count T1 := h.nt _

/-! ## The schedule -/

/-- The body runs at the point. -/
def runs (t : Fin (cfgA h).N) : Prop :=
  k0_cond1 (crd h t) (View.readAt (Elt Ideal) (tbM0_1).view (Rect.unit (s := S1) ![0] S1.size inb_S1_S1_0).toLoadRect T1 (Shape.Idx.first (numel1_S1.symm ▸ Nat.one_pos))) = 1#1

theorem runs_lt (t : Fin (cfgA h).N) : runs h t ↔ t.val < count T1 := by
  rw [← crd_val h t]; exact runs_iff h (crd h t) _

theorem idle3 (t : Fin (cfgA h).N) : (cfgA h).idle (3 : Fin 4) ((cfgA h).grid.coords t) = decide (count T1 ≤ t.val) := by
  have key : ∀ v : BitVec 32, (∃ x, v = T1 x) → (!(k0_cond1 (crd h t) v == 1#1)) = decide (count T1 ≤ t.val) := by
    rintro v ⟨x, rfl⟩
    have e := (runs_iff h (crd h t) x).trans (by rw [crd_val h t])
    by_cases hc : t.val < count T1
    · rw [e.2 hc]; simp [hc]
    · have : k0_cond1 (crd h t) (T1 x) ≠ 1#1 := fun hk => hc (e.1 hk)
      rw [decide_eq_true (show count T1 ≤ t.val by omega)]; simpa using this
  exact key _ ⟨_, rfl⟩

theorem flush3 (t : Fin (cfgA h).N) : ((cfgA h).win (3 : Fin 4)).flush t = true ↔ t.val + 1 < count T1 ∨ t.val = 351 := by
  rw [Pipeline.Window.flush_eq_flushF]
  unfold Pipeline.Window.flushF
  have ht : t.val < 352 := t.isLt
  rw [show ((cfgA h).win (3 : Fin 4)).isOut = true from rfl, Bool.true_and, Bool.or_eq_true, decide_eq_true_eq, decide_eq_true_eq]
  have hN : (cfgA h).grid.N = 352 := rfl
  constructor
  · rintro (e | ⟨hn, a, ha⟩)
    · right; omega
    · left
      rw [at3, at3] at ha
      by_contra hc
      apply ha
      have e : min (t.val + 1) (count T1 - 1) = min t.val (count T1 - 1) := by omega
      exact congrFun (congrArg (fun n : ℕ => ![n, 0]) e) a
  · rintro (e | e)
    · by_cases h351 : t.val = 351
      · left; omega
      · right
        refine ⟨by omega, (0 : Fin 2), ?_⟩
        rw [at3, at3]
        show min (t.val + 1) _ ≠ min t.val _
        omega
    · left; omega

theorem fresh3 (n : ℕ) (hn : n < 352) (hc : count T1 ≤ n) : (cfgA h).fresh (3 : Fin 4) n = false := by
  induction n with
  | zero => have := count_pos h; omega
  | succ k ih =>
    rw [Pipeline.Cfg.fresh_succ _ _ k (show k < (cfgA h).N from by have := N_eq h; omega), idle3]
    have hf : ((cfgA h).win (3 : Fin 4)).flush ⟨k, (show k < (cfgA h).N from by have := N_eq h; omega)⟩ = false := by
      rw [← Bool.not_eq_true, flush3]; simp only; omega
    rw [hf, Bool.false_or]
    by_cases hk : count T1 ≤ k
    · rw [ih (by omega) hk, Bool.and_false]
    · rw [decide_eq_false (by simpa using hk), Bool.false_and]

/-! ## The blocks -/

variable (m : (ℓ : Loc nD τ sig) → Buf (Elt Ideal) ℓ) (ρ : Dev nD → PrngReg)

/-- Window `w`'s block at point `t`, read off its array at launch. -/
def iblk (c : Dev nD) (w : Fin (cfgA h).W) (t : Fin (cfgA h).N) : (((cfgA h).win w).xblock (crd h t)).Idx → Elt Ideal ((cfgA h).win w).elt :=
  (((cfgA h).win w).blk t).view.read (Elt Ideal) ((s₀ m ρ).mem (((cfgA h).win w).arr.view.loc (c : Thread nD τ)))

theorem iblk0_at (c : Dev nD) (t : Fin (cfgA h).N) (y : S512x4096.Idx) :
    (iblk h m ρ c (0 : Fin 4) t : S512x4096.Idx → _) y = m (c.tc.loc main_arg2) (ix2 ⟨min t.val (count T1 - 1) * 512 + (y 0).val, by have h1 : t.val < 352 := t.isLt; have h2 : (y 0).val < 512 := (y 0).isLt; omega⟩ (y 1)) := by
  have e := at0 h t
  blk_ext [iblk, e]

theorem iblk1_at (c : Dev nD) (t : Fin (cfgA h).N) (y : S1x4096x384.Idx) :
    (iblk h m ρ c (1 : Fin 4) t : S1x4096x384.Idx → _) y = m (c.tc.loc main_arg3) (ix3 ⟨expert T0 t, h.te _⟩ (y 1) (y 2)) := by
  have e := at1 h t
  blk_ext [iblk, e]

theorem iblk2_at (c : Dev nD) (t : Fin (cfgA h).N) (y : S1x192x4096.Idx) :
    (iblk h m ρ c (2 : Fin 4) t : S1x192x4096.Idx → _) y = m (c.tc.loc main_arg4) (ix3 ⟨expert T0 t, h.te _⟩ (y 1) (y 2)) := by
  have e := at2 h t
  blk_ext [iblk, e]

/-- Two points of one expert see one pair of weight blocks. -/
theorem iblk1_eq (c : Dev nD) (t u : Fin (cfgA h).N) (e : expert T0 t = expert T0 u) :
    (iblk h m ρ c (1 : Fin 4) t : S1x4096x384.Idx → _) = (iblk h m ρ c (1 : Fin 4) u : S1x4096x384.Idx → _) := by
  funext y
  refine (iblk1_at h m ρ c t y).trans (Eq.trans ?_ (iblk1_at h m ρ c u y).symm)
  congr 2; exact Fin.ext e

theorem iblk2_eq (c : Dev nD) (t u : Fin (cfgA h).N) (e : expert T0 t = expert T0 u) :
    (iblk h m ρ c (2 : Fin 4) t : S1x192x4096.Idx → _) = (iblk h m ρ c (2 : Fin 4) u : S1x192x4096.Idx → _) := by
  funext y
  refine (iblk2_at h m ρ c t y).trans (Eq.trans ?_ (iblk2_at h m ρ c u y).symm)
  congr 2; exact Fin.ext e

/-! ## What the body leaves -/

/-- The scratches once the weights are reloaded: the blocks cast. -/
def keep0 (x1 : S1x4096x384.Idx → Elt Ideal .f32) := scM0_0.view.writes (Elt Ideal) scM0_0.view.junk (kernelRun0_A.sl.HS0_1 (Memref.whole cc0_stg1_0) x1)
def keep1 (x2 : S1x192x4096.Idx → Elt Ideal .f32) := scM0_1.view.writes (Elt Ideal) scM0_1.view.junk (kernelRun0_A.sl.HS1_1 (Memref.whole cc0_stg2_0) x2)

/-- The tile the body stores, from its rows and its expert's weights. -/
def tile (c : Dev nD) (x0 : S512x4096.Idx → Elt Ideal .bf16) (x1 : S1x4096x384.Idx → Elt Ideal .f32) (x2 : S1x192x4096.Idx → Elt Ideal .f32) : S512x4096.Idx → Elt Ideal .bf16 :=
  VO0_3.read (Elt Ideal) (VO0_3.writes (Elt Ideal) VO0_3.junk (kernelRun0_B.sl.HO3_8 c (Memref.whole cc0_stg0_0) x0 (keep0 x1) (keep1 x2)))

theorem scr0 (a : Memref sig .tc .vmem S1x4096x384 .f32) (x1) : kernelRun0_A.sl.HS0_1 a x1 = kernelRun0_A.sl.HS0_1 (Memref.whole cc0_stg1_0) x1 := by
  unfold kernelRun0_A.sl.HS0_1; rw [View.readAt_rep, View.readAt_rep]
theorem scr1 (a : Memref sig .tc .vmem S1x192x4096 .f32) (x2) : kernelRun0_A.sl.HS1_1 a x2 = kernelRun0_A.sl.HS1_1 (Memref.whole cc0_stg2_0) x2 := by
  unfold kernelRun0_A.sl.HS1_1; rw [View.readAt_rep, View.readAt_rep]

theorem pieces_B (c : Dev nD) (a : Memref sig .tc .vmem S512x4096 .bf16) (x0 s0 s1) :
    kernelRun0_B.sl.HO3_8 c a x0 s0 s1 = kernelRun0_B.sl.HO3_8 c (Memref.whole cc0_stg0_0) x0 s0 s1 := by
  simp only [kernelRun0_B.sl.HO3_8, kernelRun0_B.sl.r, kernelRun0_B.sl.r_1, kernelRun0_B.sl.r_10, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v11, kernelRun0_B.sl.v12, kernelRun0_B.sl.v13, kernelRun0_B.sl.v14, kernelRun0_B.sl.v4, View.readAt_rep]

theorem pieces_A (c : Dev nD) (a3 : Memref sig .tc .vmem S512x4096 .bf16) (a4 : Memref sig .tc .vmem S1x4096x384 .f32) (a5 : Memref sig .tc .vmem S1x192x4096 .f32) (x0 x1 x2) :
    kernelRun0_A.sl.HO3_8 a3 a4 a5 x0 x1 x2 = kernelRun0_B.sl.HO3_8 c (Memref.whole cc0_stg0_0) x0 (keep0 x1) (keep1 x2) := by
  simp only [kernelRun0_A.sl.HO3_8, kernelRun0_A.sl.r, kernelRun0_A.sl.r_1, kernelRun0_A.sl.r_10, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v11, kernelRun0_A.sl.v12, kernelRun0_A.sl.v13, kernelRun0_A.sl.v14, kernelRun0_A.sl.v19, kernelRun0_A.sl.v21, kernelRun0_A.sl.v26, kernelRun0_A.sl.v28, kernelRun0_A.sl.v34, kernelRun0_A.sl.v36, kernelRun0_A.sl.v4, kernelRun0_A.sl.v40, kernelRun0_A.sl.v42, kernelRun0_A.sl.v52, kernelRun0_A.sl.v54, kernelRun0_A.sl.v56, kernelRun0_A.sl.v58, kernelRun0_A.sl.v64, kernelRun0_A.sl.v66, kernelRun0_A.sl.v72, kernelRun0_A.sl.v74,
    kernelRun0_B.sl.HO3_8, kernelRun0_B.sl.r, kernelRun0_B.sl.r_1, kernelRun0_B.sl.r_10, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v11, kernelRun0_B.sl.v12, kernelRun0_B.sl.v13, kernelRun0_B.sl.v14, kernelRun0_B.sl.v4, View.readAt_rep, View.readCov, keep0, keep1, scr0 a4 x1, scr1 a5 x2]

/-! ## The invariant and the data -/

/-- The tile whose expert's weights the scratches hold before point `n`. -/
def lastAt (n : ℕ) : Fin (cfgA h).N := ⟨min (n - 1) (count T1 - 1) % 352, Nat.mod_lt _ (by decide)⟩

theorem lastAt_succ (t : Fin (cfgA h).N) : lastAt h (t.val + 1) = tileAt h t := by
  have ht : t.val < 352 := t.isLt
  apply Fin.ext; show min (t.val + 1 - 1) (count T1 - 1) % 352 = min t.val (count T1 - 1)
  rw [Nat.mod_eq_of_lt (by omega)]; omega

theorem lastAt_val (t : Fin (cfgA h).N) : (lastAt h t.val).val = min (t.val - 1) (count T1 - 1) := by
  have ht : t.val < 352 := t.isLt
  exact Nat.mod_eq_of_lt (by omega)

/-- The scratches at tile `u`'s weights where `z`, the body's halves of the tables. -/
def Held (c : Dev nD) (z : Prop) (u : Fin (cfgA h).N) : sProp 𝕄 :=
  iprop((∃ a, ⌜z → a = keep0 (iblk h m ρ c (1 : Fin 4) u)⌝ ∗ (scM0_0.view.loc (c : Thread nD τ) ↦{fullShare} a))
    ∗ (∃ a, ⌜z → a = keep1 (iblk h m ρ c (2 : Fin 4) u)⌝ ∗ (scM0_1.view.loc (c : Thread nD τ) ↦{fullShare} a))
    ∗ (tbM0_0.view.loc (c : Thread nD τ) ↦{fullShare.right} T0) ∗ (tbM0_1.view.loc (c : Thread nD τ) ↦{fullShare.right} T1))

/-- Before point `t`: from the second on, the scratches hold the weights of the tile worked on last. -/
def Phi (c : Dev nD) (t : Fin ((cfgA h).N + 1)) : sProp 𝕄 := Held h m ρ c (t.val ≠ 0) (lastAt h t.val)

theorem Phi_before (c : Dev nD) (t : Fin (cfgA h).N) : Phi h m ρ c t.castSucc = Held h m ρ c (t.val ≠ 0) (lastAt h t.val) := rfl
theorem Phi_after (c : Dev nD) (t : Fin (cfgA h).N) : Phi h m ρ c t.succ = Held h m ρ c (t.val + 1 ≠ 0) (tileAt h t) :=
  congrArg (Held h m ρ c (t.val + 1 ≠ 0)) (lastAt_succ h t)

/-- The tile of a point's rows and its expert. -/
def tileOf (c : Dev nD) (t : Fin (cfgA h).N) : S512x4096.Idx → Elt Ideal .bf16 :=
  tile c (iblk h m ρ c (0 : Fin 4) t) (iblk h m ρ c (1 : Fin 4) t) (iblk h m ρ c (2 : Fin 4) t)

def dats (_ : Fin 1) (c : Dev nD) : Dat τ (Elt Ideal) Unit ℕ (UR sig nD τ) ℕ (cfgA h) c where
  A w := (s₀ m ρ).mem (((cfgA h).win w).arr.view.loc (c : Thread nD τ))
  after w t := match w with
    | ⟨0, _⟩ => iblk h m ρ c (0 : Fin 4) t
    | ⟨1, _⟩ => iblk h m ρ c (1 : Fin 4) t
    | ⟨2, _⟩ => iblk h m ρ c (2 : Fin 4) t
    | ⟨3, _⟩ => tileOf h m ρ c (tileAt h t)
  Φ t := Phi h m ρ c t
  q _ := fullShare
  owed _ := 0

theorem after0 (c : Dev nD) (t : Fin (cfgA h).N) : (dats h m ρ 0 c).after (0 : Fin 4) t = iblk h m ρ c (0 : Fin 4) t := rfl
theorem after1 (c : Dev nD) (t : Fin (cfgA h).N) : (dats h m ρ 0 c).after (1 : Fin 4) t = iblk h m ρ c (1 : Fin 4) t := rfl
theorem after2 (c : Dev nD) (t : Fin (cfgA h).N) : (dats h m ρ 0 c).after (2 : Fin 4) t = iblk h m ρ c (2 : Fin 4) t := rfl
attribute [local irreducible] tileOf in
theorem after3 (c : Dev nD) (t : Fin (cfgA h).N) : (dats h m ρ 0 c).after (3 : Fin 4) t = tileOf h m ρ c (tileAt h t) := rfl

theorem before0 (c : Dev nD) (t : Fin (cfgA h).N) (d) : (dats h m ρ 0 c).before (0 : Fin 4) t d = iblk h m ρ c (0 : Fin 4) t :=
  ((dats h m ρ 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA h).N) (d) : (dats h m ρ 0 c).before (1 : Fin 4) t d = iblk h m ρ c (1 : Fin 4) t :=
  ((dats h m ρ 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA h).N) (d) : (dats h m ρ 0 c).before (2 : Fin 4) t d = iblk h m ρ c (2 : Fin 4) t :=
  ((dats h m ρ 0 c).before_in_eq_fetched (2 : Fin 4) rfl (fun _ => rfl) (fun _ _ _ => rfl) (fun t => by rw [after2]; unfold Dat.blockOf iblk; rfl) t d).trans
    (by unfold Dat.fetched Dat.blockOf iblk; rfl)

/-- Past the count the tile stays. -/
theorem tileAt_pred (t : Fin (cfgA h).N) (hc : count T1 ≤ t.val) : tileAt h t = tileAt h ⟨t.val - 1, by omega⟩ := by
  apply Fin.ext; show min t.val (count T1 - 1) = min (t.val - 1) (count T1 - 1); omega

theorem before3 (c : Dev nD) (t : Fin (cfgA h).N) (d) (hc : count T1 ≤ t.val) :
    (dats h m ρ 0 c).before (3 : Fin 4) t d = tileOf h m ρ c (tileAt h t) := by
  rw [(dats h m ρ 0 c).before_out_traj (3 : Fin 4) rfl (fun _ _ => rfl) (fun u hu hi _ => by
    rw [idle3, decide_eq_true_eq] at hi
    rw [after3, after3, tileAt_pred h u hi]) t.val t rfl d]
  rw [fresh3 h t.val t.isLt hc, after3, tileAt_pred h t hc]; rfl

theorem lastAt_past (t : Fin (cfgA h).N) (hc : count T1 ≤ t.val) : lastAt h t.val = tileAt h t := by
  apply Fin.ext; rw [lastAt_val]; show min (t.val - 1) (count T1 - 1) = min t.val (count T1 - 1); omega

theorem tileAt_live (t : Fin (cfgA h).N) (hc : t.val < count T1) : tileAt h t = t := by
  apply Fin.ext; show min t.val (count T1 - 1) = t.val; omega

/-! ## The body at a point -/

/-- The weights are reloaded at the point. -/
def loads (t : Fin (cfgA h).N) : Prop :=
  (Scalar.cmpi .ne (Scalar.extui (Scalar.ori (Scalar.cmpi .eq (BitVec.ofNat 32 ((crd h t) 0).val) 0#32) (Scalar.cmpi .ne
    (View.readAt (Elt Ideal) (tbM0_0).view (Rect.unit (s := S352) (k0_off2 (crd h t)) S1.size (k0_off2_inb (crd h t))).toLoadRect T0 (Shape.Idx.first (numel1_S1.symm ▸ Nat.one_pos)))
    (View.readAt (Elt Ideal) (tbM0_0).view (Rect.unit (s := S352) (k0_off3 (crd h t)) S1.size (k0_off3_inb (crd h t))).toLoadRect T0 (Shape.Idx.first (numel1_S1.symm ▸ Nat.one_pos)))))) 0#32) = 1#1

theorem prev_val (i : grid0.Coords) (h0 : (i 0).val ≠ 0) :
    (Scalar.indexCast (Scalar.maxsi (Scalar.subi (BitVec.ofNat 32 (i 0).val) 1#32) 0#32)).toNat = (i 0).val - 1 := by
  have hi : (i 0).val < 352 := (i 0).isLt
  have e0 : (BitVec.ofNat 32 (i 0).val).toNat = (i 0).val := by simp; omega
  have e : (Scalar.subi (BitVec.ofNat 32 (i 0).val) 1#32).toNat = (i 0).val - 1 := by
    show (BitVec.ofNat 32 (i 0).val - 1#32).toNat = _
    rw [BitVec.toNat_sub, e0]; simp; omega
  show (IntOp.maxsi _ _).toNat = _
  unfold IntOp.maxsi
  split
  · exact e
  · rename_i hs
    rw [BitVec.slt, decide_eq_true_eq, BitVec.toInt_eq_toNat_of_lt (x := Scalar.subi _ _) (by omega), e] at hs
    simp at hs ⊢; omega

/-- Where they are kept the point is not the first and its expert is the one before's. -/
theorem kept (t : Fin (cfgA h).N) (hl : ¬ loads h t) :
    t.val ≠ 0 ∧ ∀ u : Fin (cfgA h).N, u.val = t.val - 1 → expert T0 t = expert T0 u := by
  have ht : t.val < 352 := t.isLt
  have hi : (crd h t 0).val < 352 := (crd h t 0).isLt
  obtain ⟨ha, hb⟩ := kept_words _ _ _ hl
  have h0 : t.val ≠ 0 := by
    intro e; apply ha; rw [crd_val h t, e]
  refine ⟨h0, fun u hu => ?_⟩
  have e1 := word0 T0 (crd h t) ((Rect.unit (s := S352) (k0_off2 (crd h t)) S1.size (k0_off2_inb (crd h t))).toLoadRect.idx (Shape.Idx.first (numel1_S1.symm ▸ Nat.one_pos)))
    ((Nat.add_zero _).trans (off_val (crd h t)))
  have e2 : T0 ((Rect.unit (s := S352) (k0_off3 (crd h t)) S1.size (k0_off3_inb (crd h t))).toLoadRect.idx (Shape.Idx.first (numel1_S1.symm ▸ Nat.one_pos))) = T0 (ix1 (u : Fin 352)) := by
    congr 1; funext a; fin_cases a; apply Fin.ext
    refine ((Nat.add_zero _).trans (prev_val (crd h t) (by rw [crd_val]; exact h0))).trans ?_
    rw [crd_val]; exact hu.symm
  have e3 : T0 (ix1 (t : Fin 352)) = T0 (ix1 (u : Fin 352)) := by
    rw [← crd_eq h t]; exact e1.symm.trans (hb.trans e2)
  exact congrArg BitVec.toNat e3

/-- The body at point `t` on its staging memrefs. -/
abbrev bodyAt (t : Fin (cfgA h).N) : Prog (TpuEff nD τ sig (Elt Ideal) Λ₀ .tc) PUnit :=
  cc0_grouped_experts (crd h t) (Memref.whole main_arg0) (Memref.isWhole_whole _) (Memref.whole main_arg1) (Memref.isWhole_whole _) (st0 h t) (hst0 h t) (st1 h t) (hst1 h t) (st2 h t) (hst2 h t) (st3 h t) (hst3 h t) (Memref.whole cc0_scratch0) (Memref.isWhole_whole _) (Memref.whole cc0_scratch1) (Memref.isWhole_whole _)

/-- The body's obligation at a point. -/
def Sound (c : Dev nD) (t : Fin (cfgA h).N) : Prop :=
    iprop((dats h m ρ 0 c).Φ t.castSucc ∗ (dats h m ρ 0 c).owesAt () t.castSucc
        ∗ (∃ d, owns (c : Thread nD τ) (st0 h t) fullShare ((dats h m ρ 0 c).before (0 : Fin 4) t d))
        ∗ (∃ d, owns (c : Thread nD τ) (st1 h t) fullShare ((dats h m ρ 0 c).before (1 : Fin 4) t d))
        ∗ (∃ d, owns (c : Thread nD τ) (st2 h t) fullShare ((dats h m ρ 0 c).before (2 : Fin 4) t d))
        ∗ (∃ d, owns (c : Thread nD τ) (st3 h t) fullShare ((dats h m ρ 0 c).before (3 : Fin 4) t d)))
      ⊢ wp frame (wpE (defs₀ (F := Ideal)) Variants.none c none) Set.univ (bodyAt h t) fun _ =>
          iprop((dats h m ρ 0 c).Φ t.succ ∗ (dats h m ρ 0 c).owesAt () t.succ
            ∗ bigSep Finset.univ fun w : Fin (cfgA h).W =>
                match (cfgA h).idle w ((cfgA h).grid.coords t) with
                | true =>
                  match ((cfgA h).win w).flush t with
                  | false => iprop(∃ d, owns (c : Thread nD τ) (((cfgA h).win w).stage ((cfgA h).slots t w)) fullShare ((dats h m ρ 0 c).before w t d))
                  | true => owns (c : Thread nD τ) (((cfgA h).win w).stage ((cfgA h).slots t w)) fullShare ((dats h m ρ 0 c).after w t)
                | false => owns (c : Thread nD τ) (((cfgA h).win w).stage ((cfgA h).slots t w)) fullShare ((dats h m ρ 0 c).after w t))

attribute [local irreducible] keep0 keep1 iblk lastAt tileAt tileOf

section
variable (c : Dev nD) (i : grid0.Coords) (a3 : Memref sig .tc .vmem S512x4096 .bf16) (h3 : a3.IsWhole) (a4 : Memref sig .tc .vmem S1x4096x384 .f32) (h4 : a4.IsWhole)
  (a5 : Memref sig .tc .vmem S1x192x4096 .f32) (h5 : a5.IsWhole) (a6 : Memref sig .tc .vmem S512x4096 .bf16) (h6 : a6.IsWhole)
theorem runA_out {x0 x1 x2 k q} : (kernelRun0_A c i a3 h3 a4 h4 a5 h5 a6 h6 T0 T1 x0 x1 x2 k q).1 = kernelRun0_A.sl.HO3_8 a3 a4 a5 x0 x1 x2 := rfl
attribute [local irreducible] View.writes kernelRun0_A.sl.HS0_1 in
theorem runA_scr0 {x0 x1 x2 k q} : (kernelRun0_A c i a3 h3 a4 h4 a5 h5 a6 h6 T0 T1 x0 x1 x2 k q).2.1 = scM0_0.view.writes (Elt Ideal) scM0_0.view.junk (kernelRun0_A.sl.HS0_1 a4 x1) := rfl
attribute [local irreducible] View.writes kernelRun0_A.sl.HS1_1 in
theorem runA_scr1 {x0 x1 x2 k q} : (kernelRun0_A c i a3 h3 a4 h4 a5 h5 a6 h6 T0 T1 x0 x1 x2 k q).2.2.1 = scM0_1.view.writes (Elt Ideal) scM0_1.view.junk (kernelRun0_A.sl.HS1_1 a5 x2) := rfl
theorem runB_out {x0 x1 x2 s0 s1 k q} : (kernelRun0_B c i a3 h3 a4 h4 a5 h5 a6 h6 T0 T1 x0 x1 x2 s0 s1 k q).1 = kernelRun0_B.sl.HO3_8 c a3 x0 s0 s1 := rfl
end

theorem tileOf_A (c : Dev nD) (t : Fin (cfgA h).N) (a3 : Memref sig .tc .vmem S512x4096 .bf16) (a4 : Memref sig .tc .vmem S1x4096x384 .f32) (a5 : Memref sig .tc .vmem S1x192x4096 .f32) :
    VO0_3.read (Elt Ideal) (VO0_3.writes (Elt Ideal) VO0_3.junk (kernelRun0_A.sl.HO3_8 a3 a4 a5 (iblk h m ρ c (0 : Fin 4) t) (iblk h m ρ c (1 : Fin 4) t) (iblk h m ρ c (2 : Fin 4) t))) = tileOf h m ρ c t := by
  unfold tileOf tile; rw [pieces_A c]

theorem tileOf_B (c : Dev nD) (t : Fin (cfgA h).N) (a3 : Memref sig .tc .vmem S512x4096 .bf16) (s0 s1) (e0 : s0 = keep0 (iblk h m ρ c (1 : Fin 4) t)) (e1 : s1 = keep1 (iblk h m ρ c (2 : Fin 4) t)) :
    VO0_3.read (Elt Ideal) (VO0_3.writes (Elt Ideal) VO0_3.junk (kernelRun0_B.sl.HO3_8 c a3 (iblk h m ρ c (0 : Fin 4) t) s0 s1)) = tileOf h m ρ c t := by
  unfold tileOf tile; rw [pieces_B c, e0, e1]

theorem keep0_A (a : Memref sig .tc .vmem S1x4096x384 .f32) (x1) : scM0_0.view.writes (Elt Ideal) scM0_0.view.junk (kernelRun0_A.sl.HS0_1 a x1) = keep0 x1 := by
  unfold keep0; rw [scr0]
theorem keep1_A (a : Memref sig .tc .vmem S1x192x4096 .f32) (x2) : scM0_1.view.writes (Elt Ideal) scM0_1.view.junk (kernelRun0_A.sl.HS1_1 a x2) = keep1 x2 := by
  unfold keep1; rw [scr1]

set_option maxHeartbeats 1000000 in
theorem sound_A (c : Dev nD) (t : Fin (cfgA h).N) (q0 : runs h t) (q1 : loads h t) : Sound h m ρ c t := by
  unfold Sound
  rw [bigSep_W0]
  have i3 := idle3 h t
  have hc := (runs_lt h t).1 q0
  rw [decide_eq_false (by omega)] at i3
  rewrite [i3]
  simp only [before0, before1, before2, after0, after1, after2, after3]
  rewrite [show (dats h m ρ 0 c).Φ t.succ = Phi h m ρ c t.succ from rfl, show (dats h m ρ 0 c).Φ t.castSucc = Phi h m ρ c t.castSucc from rfl,
    show (dats h m ρ 0 c).owesAt () t.succ = (dats h m ρ 0 c).owesAt () t.castSucc from rfl, Phi_before, Phi_after, tileAt_live h t hc]
  unfold Held
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  iapply ((kernelRun0_A c (crd h t) (st0 h t) (hst0 h t) (st1 h t) (hst1 h t) (st2 h t) (hst2 h t) (st3 h t) (hst3 h t) T0 T1 (iblk h m ρ c (0 : Fin 4) t) (iblk h m ρ c (1 : Fin 4) t) (iblk h m ρ c (2 : Fin 4) t) q0 q1).2.2.2 a0 a1 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  iintro ⟨H0, H1, H2, HT0, HT1, ⟨%e3, H3⟩, HS0, HS1⟩
  isplitl [HS0 HS1 HT0 HT1]
  · isplitl [HS0]
    · iexists _; isplitr; swap
      · iexact HS0
      · ipureintro; intro _; exact (runA_scr0 _ _ _ _ _ _ _ _ _ _).trans (keep0_A _ _)
    isplitl [HS1]
    · iexists _; isplitr; swap
      · iexact HS1
      · ipureintro; intro _; exact (runA_scr1 _ _ _ _ _ _ _ _ _ _).trans (keep1_A _ _)
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  unfold owns; iexists _; isplitr; swap
  · iexact H3
  · ipureintro
    exact (View.read_writes_of_cover _ _ _ _ _ (cover0_A_3 c _ _ _ _ _ _ _ _ _ _ _ _ _ _ _ _)).trans
      ((congrArg (fun L => VO0_3.read (Elt Ideal) (VO0_3.writes (Elt Ideal) VO0_3.junk L)) (runA_out c _ _ _ _ _ _ _ _ _)).trans (tileOf_A h m ρ c t _ _ _))

set_option maxHeartbeats 1000000 in
theorem sound_B (c : Dev nD) (t : Fin (cfgA h).N) (q0 : runs h t) (q1 : ¬ loads h t) : Sound h m ρ c t := by
  unfold Sound
  rw [bigSep_W0]
  have i3 := idle3 h t
  have hc := (runs_lt h t).1 q0
  rw [decide_eq_false (by omega)] at i3
  obtain ⟨h0, hx⟩ := kept h t q1
  have hl : (lastAt h t.val).val = t.val - 1 := by rw [lastAt_val]; omega
  have w1 := iblk1_eq h m ρ c t _ (hx _ hl)
  have w2 := iblk2_eq h m ρ c t _ (hx _ hl)
  rewrite [i3]
  simp only [before0, before1, before2, after0, after1, after2, after3]
  rewrite [show (dats h m ρ 0 c).Φ t.succ = Phi h m ρ c t.succ from rfl, show (dats h m ρ 0 c).Φ t.castSucc = Phi h m ρ c t.castSucc from rfl,
    show (dats h m ρ 0 c).owesAt () t.succ = (dats h m ρ 0 c).owesAt () t.castSucc from rfl, Phi_before, Phi_after, tileAt_live h t hc]
  unfold Held
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  iapply ((kernelRun0_B c (crd h t) (st0 h t) (hst0 h t) (st1 h t) (hst1 h t) (st2 h t) (hst2 h t) (st3 h t) (hst3 h t) T0 T1 (iblk h m ρ c (0 : Fin 4) t) (iblk h m ρ c (1 : Fin 4) t) (iblk h m ρ c (2 : Fin 4) t) a0 a1 q0 q1).2.2.2 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  iintro ⟨H0, H1, H2, HT0, HT1, ⟨%e3, H3⟩, HS0, HS1⟩
  isplitl [HS0 HS1 HT0 HT1]
  · isplitl [HS0]
    · iexists _; isplitr; swap
      · iexact HS0
      · ipureintro; intro _; exact (ha0 h0).trans (congrArg keep0 w1.symm)
    isplitl [HS1]
    · iexists _; isplitr; swap
      · iexact HS1
      · ipureintro; intro _; exact (ha1 h0).trans (congrArg keep1 w2.symm)
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  unfold owns; iexists _; isplitr; swap
  · iexact H3
  · ipureintro
    refine (View.read_writes_of_cover _ _ _ _ _ (cover0_B_3 c _ _ _ _ _ _ _ _ _ _ _ _ _ _ _ _ _ _)).trans
      ((congrArg (fun L => VO0_3.read (Elt Ideal) (VO0_3.writes (Elt Ideal) VO0_3.junk L)) (runB_out c _ _ _ _ _ _ _ _ _)).trans (tileOf_B h m ρ c t _ _ _ ((ha0 h0).trans (congrArg keep0 w1.symm)) ((ha1 h0).trans (congrArg keep1 w2.symm))))

set_option maxHeartbeats 1000000 in
theorem sound_C (c : Dev nD) (t : Fin (cfgA h).N) (q0 : ¬ runs h t) (f3 : ((cfgA h).win (3 : Fin 4)).flush t = false) : Sound h m ρ c t := by
  unfold Sound
  rw [bigSep_W0]
  have i3 := idle3 h t
  have hc : count T1 ≤ t.val := by by_contra hk; exact q0 ((runs_lt h t).2 (by omega))
  have h0 : t.val ≠ 0 := by have := count_pos h; omega
  have hp := lastAt_past h t hc
  rw [decide_eq_true hc] at i3
  rewrite [i3]
  simp only [before0, before1, before2, f3, after0, after1, after2, after3]
  rewrite [show (dats h m ρ 0 c).Φ t.succ = Phi h m ρ c t.succ from rfl, show (dats h m ρ 0 c).Φ t.castSucc = Phi h m ρ c t.castSucc from rfl,
    show (dats h m ρ 0 c).owesAt () t.succ = (dats h m ρ 0 c).owesAt () t.castSucc from rfl, Phi_before, Phi_after]
  unfold Held
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  iapply ((kernelRun0_C c (crd h t) (st0 h t) (hst0 h t) (st1 h t) (hst1 h t) (st2 h t) (hst2 h t) (st3 h t) (hst3 h t) T0 T1 (iblk h m ρ c (0 : Fin 4) t) (iblk h m ρ c (1 : Fin 4) t) (iblk h m ρ c (2 : Fin 4) t) a0 a1 q0).2.2 _ _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  iintro ⟨H0, H1, H2, HT0, HT1, H3, HS0, HS1⟩
  isplitl [HS0 HS1 HT0 HT1]
  · isplitl [HS0]
    · iexists _; isplitr; swap
      · iexact HS0
      · ipureintro; intro _; rw [← hp]; exact ha0 h0
    isplitl [HS1]
    · iexists _; isplitr; swap
      · iexact HS1
      · ipureintro; intro _; rw [← hp]; exact ha1 h0
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  first | (iexists d3; iexact H3) | iexact H3

set_option maxHeartbeats 1000000 in
theorem sound_D (c : Dev nD) (t : Fin (cfgA h).N) (q0 : ¬ runs h t) (f3 : ((cfgA h).win (3 : Fin 4)).flush t = true) : Sound h m ρ c t := by
  unfold Sound
  rw [bigSep_W0]
  have i3 := idle3 h t
  have hc : count T1 ≤ t.val := by by_contra hk; exact q0 ((runs_lt h t).2 (by omega))
  have h0 : t.val ≠ 0 := by have := count_pos h; omega
  have hp := lastAt_past h t hc
  rw [decide_eq_true hc] at i3
  have b3 := fun d => before3 h m ρ c t d hc
  rewrite [i3]
  simp only [before0, before1, before2, f3, b3, after0, after1, after2, after3]
  rewrite [show (dats h m ρ 0 c).Φ t.succ = Phi h m ρ c t.succ from rfl, show (dats h m ρ 0 c).Φ t.castSucc = Phi h m ρ c t.castSucc from rfl,
    show (dats h m ρ 0 c).owesAt () t.succ = (dats h m ρ 0 c).owesAt () t.castSucc from rfl, Phi_before, Phi_after]
  unfold Held
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  iapply ((kernelRun0_C c (crd h t) (st0 h t) (hst0 h t) (st1 h t) (hst1 h t) (st2 h t) (hst2 h t) (st3 h t) (hst3 h t) T0 T1 (iblk h m ρ c (0 : Fin 4) t) (iblk h m ρ c (1 : Fin 4) t) (iblk h m ρ c (2 : Fin 4) t) a0 a1 q0).2.2 _ _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  iintro ⟨H0, H1, H2, HT0, HT1, H3, HS0, HS1⟩
  isplitl [HS0 HS1 HT0 HT1]
  · isplitl [HS0]
    · iexists _; isplitr; swap
      · iexact HS0
      · ipureintro; intro _; rw [← hp]; exact ha0 h0
    isplitl [HS1]
    · iexists _; isplitr; swap
      · iexact HS1
      · ipureintro; intro _; rw [← hp]; exact ha1 h0
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  first | (iexists d3; iexact H3) | iexact H3

theorem sound_body (c : Dev nD) (t : Fin (cfgA h).N) : Sound h m ρ c t := by
  by_cases q0 : runs h t
  · by_cases q1 : loads h t
    · exact sound_A h m ρ c t q0 q1
    · exact sound_B h m ρ c t q0 q1
  · cases f3 : ((cfgA h).win (3 : Fin 4)).flush t
    · exact sound_C h m ρ c t q0 f3
    · exact sound_D h m ρ c t q0 f3

theorem body_obligation (c : Dev nD) : BodyObligation (dats h m ρ 0 c) (defs₀ (F := Ideal)) Variants.none () Set.univ := fun t => by
  rw [bigSep_W0]
  exact sound_body h m ρ c t

end Cert.ExpertsIdeal.Tab
-- ==== Proof.ExpTile.lean ====
module

public import proofs.«01_k».proof.Proof.ExpRun
public import Idealize.ShloMosaic.Lib.Pointwise
public import Idealize.ShloMosaic.Lib.VecWindow
public import Idealize.ShloMosaic.Lib.Pipeline.ValueKit
public import Idealize.ShloMosaic.Lib.Tactic.CleanTypes

@[expose] public section

set_option maxRecDepth 16384

noncomputable section

/-! The kernel's tile at an index. -/

namespace Cert.ExpTile

open Cert.ExpertsIdeal Cert.ExpertsIdeal.Gen Cert.ExpertsIdeal.Tab Idealize.ShloMosaic Idealize.ShloMosaic.TcCoe Idealize.ShloMosaic.Pointwise

/-- The gated unit's output, of its two inputs. -/
def gate (g u : EReal) : EReal := g * Ideal.div 1 (1 + Ideal.exp (-g)) * u

theorem keep0_at (x1 : Vec Ideal S1x4096x384 .f32) (o : ℕ) (ib) (k : Fin 512) (f : Fin 384) (ho : o + 512 ≤ 4096) :
    View.readAt (Elt Ideal) scM0_0.view (Rect.unit (s := S4096x384) ![o, 0] S512x384.size ib).toLoadRect (keep0 x1) (ix2 k f) = x1 (ix3 0 ⟨o + k, by omega⟩ f) := by
  have e : scM0_0.view.read (Elt Ideal) (keep0 x1) = k0_pay7 x1 := by
    unfold keep0 kernelRun0_A.sl.HS0_1
    rw [View.readAt_rep_full]
    exact View.read_writes_full _ _ _ _ _
  rw [View.readAt_apply, e]
  unfold_payloads
  pointwise

theorem keep1_at (x2 : Vec Ideal S1x192x4096 .f32) (o : ℕ) (ib) (k : Fin 192) (f : Fin 512) (ho : o + 512 ≤ 4096) :
    View.readAt (Elt Ideal) scM0_1.view (Rect.unit (s := S192x4096) ![0, o] S192x512.size ib).toLoadRect (keep1 x2) (ix2 k f) = x2 (ix3 0 k ⟨o + f, by omega⟩) := by
  have e : scM0_1.view.read (Elt Ideal) (keep1 x2) = k0_pay8 x2 := by
    unfold keep1 kernelRun0_A.sl.HS1_1
    rw [View.readAt_rep_full]
    exact View.read_writes_full _ _ _ _ _
  rw [View.readAt_apply, e]
  unfold_payloads
  pointwise

theorem rows_at (x0 : Vec Ideal S512x4096 .bf16) (o : ℕ) (ib) (r k : Fin 512) (ho : o + 512 ≤ 4096) :
    View.readAt (Elt Ideal) (Memref.whole cc0_stg0_0).view (Rect.unit (s := S512x4096) ![0, o] S512x512.size ib).toLoadRect ((Memref.whole cc0_stg0_0).view.rep x0) (ix2 r k) = x0 (ix2 r ⟨o + k, by omega⟩) := by
  rw [View.readAt_rep]
  show x0 _ = x0 _
  congr 1
  funext a
  fin_cases a <;> apply Fin.ext <;> simp

theorem sum8 (g : Fin 4096 → EReal) :
    ∑ d, g d = ((((∑ k : Fin 512, g ⟨0 + k, by omega⟩) + ∑ k : Fin 512, g ⟨2048 + k, by omega⟩) + ((∑ k : Fin 512, g ⟨512 + k, by omega⟩) + ∑ k : Fin 512, g ⟨2560 + k, by omega⟩))
      + ((∑ k : Fin 512, g ⟨1024 + k, by omega⟩) + ∑ k : Fin 512, g ⟨3072 + k, by omega⟩)) + ((∑ k : Fin 512, g ⟨1536 + k, by omega⟩) + ∑ k : Fin 512, g ⟨3584 + k, by omega⟩) := by
  have e : ∑ d, g d = ∑ j : Fin 8, ∑ k : Fin 512, g ⟨512 * j + k, by omega⟩ := by
    rw [← (finProdFinEquiv (m := 8) (n := 512)).sum_comp g, Fintype.sum_prod_type]
    refine Finset.sum_congr rfl fun j _ => Finset.sum_congr rfl fun k _ => congrArg g (Fin.ext ?_)
    show (k : ℕ) + 512 * j = 512 * j + k
    omega
  rw [e, Fin.sum_univ_eight]
  show ((((((((∑ k : Fin 512, g ⟨0 + k, by omega⟩) + ∑ k : Fin 512, g ⟨512 + k, by omega⟩) + ∑ k : Fin 512, g ⟨1024 + k, by omega⟩) + ∑ k : Fin 512, g ⟨1536 + k, by omega⟩) + ∑ k : Fin 512, g ⟨2048 + k, by omega⟩)
    + ∑ k : Fin 512, g ⟨2560 + k, by omega⟩) + ∑ k : Fin 512, g ⟨3072 + k, by omega⟩) + ∑ k : Fin 512, g ⟨3584 + k, by omega⟩) = _
  ac_rfl

/-- Column `k` of the product of eight column chunks by eight row chunks, in the kernel's order. -/
def dots (v15 v16 v17 v18 v24 v25 v32 v33 : Vec Ideal S512x512 .bf16) (v19 v21 v26 v28 v34 v36 v40 v42 : Vec Ideal S512x384 .bf16) (r : Fin 512) (f : Fin 384) : EReal :=
  (∑ x, v15 (ix2 r x) * v19 (ix2 x f) + ∑ x, v16 (ix2 r x) * v21 (ix2 x f) + (∑ x, v17 (ix2 r x) * v26 (ix2 x f) + ∑ x, v18 (ix2 r x) * v28 (ix2 x f))
    + (∑ x, v24 (ix2 r x) * v34 (ix2 x f) + ∑ x, v25 (ix2 r x) * v36 (ix2 x f))) + (∑ x, v32 (ix2 r x) * v40 (ix2 x f) + ∑ x, v33 (ix2 r x) * v42 (ix2 x f))

theorem pay_at (v15 v16 v17 v18 v24 v25 v32 v33 : Vec Ideal S512x512 .bf16) (v19 v21 v26 v28 v34 v36 v40 v42 : Vec Ideal S512x384 .bf16) (r : Fin 512) (f : Fin 192) :
    k0_pay10 (F := Ideal) v24 v25 (k0_pay9 (F := Ideal) v15 v16 v17 v18 v19 v21 v26 v28) v32 v33 v34 v36 v40 v42 (ix2 r f)
      = gate (dots v15 v16 v17 v18 v24 v25 v32 v33 v19 v21 v26 v28 v34 v36 v40 v42 r ⟨f, by omega⟩)
          (dots v15 v16 v17 v18 v24 v25 v32 v33 v19 v21 v26 v28 v34 v36 v40 v42 r ⟨192 + f, by omega⟩) := by
  unfold_payloads
  pointwise [gate, dots]
  rfl

/-- A row of activations from the kernel's two inputs. -/
def act (x0 : Vec Ideal S512x4096 .bf16) (x1 : Vec Ideal S1x4096x384 .f32) (r : Fin 512) (f : Fin 192) : EReal :=
  gate (∑ d, x0 (ix2 r d) * x1 (ix3 0 d ⟨f, by omega⟩)) (∑ d, x0 (ix2 r d) * x1 (ix3 0 d ⟨192 + f, by omega⟩))

/-- A column chunk of the rows, as the body loads it. -/
def slab (x0 : Vec Ideal S512x4096 .bf16) (o : ℕ) (ib : ∀ a, (![0, o] : Fin 2 → ℕ) a + S512x512.size a ≤ S512x4096.size a) : Vec Ideal S512x512 .bf16 :=
  View.readAt (Elt Ideal) (Memref.whole cc0_stg0_0).view (Rect.unit (s := S512x4096) ![0, o] S512x512.size ib).toLoadRect ((Memref.whole cc0_stg0_0).view.rep x0)

/-- A row chunk of the kept weights, as the body loads it. -/
def wslab (x1 : Vec Ideal S1x4096x384 .f32) (o : ℕ) (ib : ∀ a, (![o, 0] : Fin 2 → ℕ) a + S512x384.size a ≤ S4096x384.size a) : Vec Ideal S512x384 .bf16 :=
  View.readAt (Elt Ideal) scM0_0.view (Rect.unit (s := S4096x384) ![o, 0] S512x384.size ib).toLoadRect (keep0 x1)

theorem part (x0 : Vec Ideal S512x4096 .bf16) (x1 : Vec Ideal S1x4096x384 .f32) (o : ℕ) (ia ib) (r : Fin 512) (f : Fin 384) (ho : o + 512 ≤ 4096) :
    ∑ x : Fin 512, slab x0 o ia (ix2 r x) * wslab x1 o ib (ix2 x f) = ∑ k : Fin 512, x0 (ix2 r ⟨o + k, by omega⟩) * x1 (ix3 0 ⟨o + k, by omega⟩ f) :=
  Finset.sum_congr rfl fun k _ => congrArg₂ (· * ·) (rows_at x0 o ia r k ho) (keep0_at x1 o ib k f ho)

theorem dots_at (x0 : Vec Ideal S512x4096 .bf16) (x1 : Vec Ideal S1x4096x384 .f32) (r : Fin 512) (f : Fin 384) (a0 a1 a2 a3 a4 a5 a6 a7 b0 b1 b2 b3 b4 b5 b6 b7) :
    dots (slab x0 0 a0) (slab x0 2048 a1) (slab x0 512 a2) (slab x0 2560 a3) (slab x0 1024 a4) (slab x0 3072 a5) (slab x0 1536 a6) (slab x0 3584 a7)
      (wslab x1 0 b0) (wslab x1 2048 b1) (wslab x1 512 b2) (wslab x1 2560 b3) (wslab x1 1024 b4) (wslab x1 3072 b5) (wslab x1 1536 b6) (wslab x1 3584 b7) r f
      = ∑ d, x0 (ix2 r d) * x1 (ix3 0 d f) := by
  unfold dots
  rw [sum8, part x0 x1 0 a0 b0 r f (by omega), part x0 x1 2048 a1 b1 r f (by omega), part x0 x1 512 a2 b2 r f (by omega), part x0 x1 2560 a3 b3 r f (by omega),
    part x0 x1 1024 a4 b4 r f (by omega), part x0 x1 3072 a5 b5 r f (by omega), part x0 x1 1536 a6 b6 r f (by omega), part x0 x1 3584 a7 b7 r f (by omega)]

theorem acts_eq (c : Dev nD) (x0 : Vec Ideal S512x4096 .bf16) (x1 : Vec Ideal S1x4096x384 .f32) :
    kernelRun0_B.sl.r_7 c (Memref.whole cc0_stg0_0) x0 (keep0 x1)
      = k0_pay10 (F := Ideal) (slab x0 1024 inb_S512x4096_S512x512_0_1024) (slab x0 3072 inb_S512x4096_S512x512_0_3072)
          (k0_pay9 (F := Ideal) (slab x0 0 inb_S512x4096_S512x512_0_0) (slab x0 2048 inb_S512x4096_S512x512_0_2048) (slab x0 512 inb_S512x4096_S512x512_0_512) (slab x0 2560 inb_S512x4096_S512x512_0_2560)
            (wslab x1 0 inb_S4096x384_S512x384_0_0) (wslab x1 2048 inb_S4096x384_S512x384_2048_0) (wslab x1 512 inb_S4096x384_S512x384_512_0) (wslab x1 2560 inb_S4096x384_S512x384_2560_0))
          (slab x0 1536 inb_S512x4096_S512x512_0_1536) (slab x0 3584 inb_S512x4096_S512x512_0_3584)
          (wslab x1 1024 inb_S4096x384_S512x384_1024_0) (wslab x1 3072 inb_S4096x384_S512x384_3072_0) (wslab x1 1536 inb_S4096x384_S512x384_1536_0) (wslab x1 3584 inb_S4096x384_S512x384_3584_0) := by
  simp only [kernelRun0_B.sl.r_7, kernelRun0_B.sl.r_5, kernelRun0_B.sl.r, kernelRun0_B.sl.r_1, kernelRun0_B.sl.r_2, kernelRun0_B.sl.r_3, kernelRun0_B.sl.r_4, kernelRun0_B.sl.r_6, kernelRun0_B.sl.v4, kernelRun0_B.sl.v11, kernelRun0_B.sl.v12, kernelRun0_B.sl.v13, kernelRun0_B.sl.v14, slab, wslab]

theorem act_at (c : Dev nD) (x0 : Vec Ideal S512x4096 .bf16) (x1 : Vec Ideal S1x4096x384 .f32) (r : Fin 512) (f : Fin 192) :
    kernelRun0_B.sl.r_7 c (Memref.whole cc0_stg0_0) x0 (keep0 x1) (ix2 r f) = act x0 x1 r f := by
  rw [acts_eq, pay_at, dots_at, dots_at]
  rfl

theorem down_at (a : FVec Ideal S512x192 .bf16) (w : Vec Ideal S192x512 .bf16) (r k : Fin 512) :
    k0_pay6 (F := Ideal) a w (ix2 r k) = ∑ f : Fin 192, a (ix2 r f) * w (ix2 f k) := by
  unfold_payloads
  pointwise

/-- A row of the tile, from the row's activations. -/
def row (x0 : Vec Ideal S512x4096 .bf16) (x1 : Vec Ideal S1x4096x384 .f32) (x2 : Vec Ideal S1x192x4096 .f32) (r : Fin 512) (d : Fin 4096) : EReal :=
  ∑ f : Fin 192, act x0 x1 r f * x2 (ix3 0 f d)

theorem piece_at (c : Dev nD) (x0 : Vec Ideal S512x4096 .bf16) (x1 : Vec Ideal S1x4096x384 .f32) (x2 : Vec Ideal S1x192x4096 .f32) (o : ℕ) (ib) (r k : Fin 512) (d : Fin 4096) (hd : (d : ℕ) = o + k) :
    k0_pay6 (F := Ideal) (kernelRun0_B.sl.r_7 c (Memref.whole cc0_stg0_0) x0 (keep0 x1))
      (View.readAt (Elt Ideal) scM0_1.view (Rect.unit (s := S192x4096) ![0, o] S192x512.size ib).toLoadRect (keep1 x2)) (ix2 r k) = row x0 x1 x2 r d := by
  have h := ib (1 : Fin 2)
  change o + 512 ≤ 4096 at h
  have e : d = ⟨o + k, by omega⟩ := Fin.ext hd
  rw [down_at, e]
  exact Finset.sum_congr rfl fun f _ => congrArg₂ (· * ·) (act_at c x0 x1 r f) (keep1_at x2 o ib f k h)

theorem tile_at (c : Dev nD) (x0 : Vec Ideal S512x4096 .bf16) (x1 : Vec Ideal S1x4096x384 .f32) (x2 : Vec Ideal S1x192x4096 .f32) (y : S512x4096.Idx) (r : Fin 512) (d : Fin 4096)
    (hr : (y 0 : ℕ) = r) (hd : (y 1 : ℕ) = d) : tile c x0 x1 x2 y = row x0 x1 x2 r d := by
  unfold tile
  rw [View.read_writes_apply_eq_canon _ _ _ (kernelRun0_B.sl.HO3_8 c (Memref.whole cc0_stg0_0) x0 (keep0 x1) (keep1 x2)) (View.cover_of_tiledL (kernelRun0_B.sl.HO3_8 c (Memref.whole cc0_stg0_0) x0 (keep0 x1) (keep1 x2)) S512x512.size (by sl_kernel_rfl) y)]
  unfold kernelRun0_B.sl.HO3_8
  canon_tiles x h
  all_goals
    obtain ⟨a, b, rfl⟩ : ∃ (a : Fin 512) (b : Fin 512), x = ix2 a b := ⟨x 0, x 1, eq_ix2 x⟩
    have ha : (ix2 a b : S512x512.Idx) 0 = a := rfl
    have hb : (ix2 a b : S512x512.Idx) 1 = b := rfl
    simp only [ha, hb] at h0 h1
    obtain rfl : a = r := Fin.ext (by omega)
  case piece0 => exact piece_at c x0 x1 x2 3584 _ a b d (by omega)
  case piece1 => exact piece_at c x0 x1 x2 1536 _ a b d (by omega)
  case piece2 => exact piece_at c x0 x1 x2 3072 _ a b d (by omega)
  case piece3 => exact piece_at c x0 x1 x2 1024 _ a b d (by omega)
  case piece4 => exact piece_at c x0 x1 x2 2560 _ a b d (by omega)
  case piece5 => exact piece_at c x0 x1 x2 512 _ a b d (by omega)
  case piece6 => exact piece_at c x0 x1 x2 2048 _ a b d (by omega)
  case piece7 => exact piece_at c x0 x1 x2 0 _ a b d (by omega)

end Cert.ExpTile
-- ==== Proof.ExpLaunch.lean ====
module

public import proofs.«01_k».proof.Proof.ExpRun
public import Idealize.ShloMosaic.Lib.Pipeline.Quiescent
public import Idealize.ShloMosaic.Lib.Pipeline.TableIdle
public import Idealize.ShloMosaic.Lib.Pipeline.FrameBody
public import Idealize.ShloMosaic.Lib.Pipeline.ValueKit
public import Idealize.ShloMosaic.Lib.VecWindow
public import Idealize.ShloMosaic.Lib.Ring
public import Idealize.ShloMosaic.Adequacy

/-! The grouped experts at any admissible tables: the launch, what every run leaves, and the arguments unchanged. -/

@[expose] public section

set_option maxRecDepth 16384
set_option Elab.async false

noncomputable section

namespace Cert.ExpertsIdeal.Tab

open Cert.ExpertsIdeal Cert.ExpertsIdeal.Gen
open Idealize.ShloMosaic Idealize.ShloMosaic.Pointwise
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable {T0 : S352.Idx → BitVec 32} {T1 : S1.Idx → BitVec 32} (h : Good T0 T1)
variable (m : (ℓ : Loc nD τ sig) → Buf (Elt Ideal) ℓ) (ρ : Dev nD → PrngReg)

/-- The memory holds the tables. -/
def Pinned (T0 : S352.Idx → BitVec 32) (T1 : S1.Idx → BitVec 32) : Prop :=
  (∀ c : Dev nD, m ((c.tc : Thread nD τ).loc main_arg0) = T0) ∧ (∀ c : Dev nD, m ((c.tc : Thread nD τ).loc main_arg1) = T1)

abbrev EP : Emb (UR sig nD τ) 𝕄 := emb₁

/-- The launch element. -/
def u₀ : UR sig nD τ :=
  initOf (Pipeline.cells (pcs h) ((launch0 (F := Ideal)).cellOf_inj fun _ => adm h))
    (Pipeline.launchToks (pcs h) ((launch0 (F := Ideal)).cellOf_inj fun _ => adm h))

theorem share_eq (c : Dev nD) (w : Fin (cfgA h).W) : (dats h m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point. -/
theorem phi0_intro (c : Dev nD) :
    iprop(BI.emp ∗ Pipeline.prefHeld pre0 c (fun _ => fullShare.right) (adm h).1 ∗ Pipeline.scopedRest spec0 c) ⊢ (dats h m ρ 0 c).Φ 0 := by
  rw [prefHeld_eq, scopedRest0_eq, show (dats h m ρ 0 c).Φ 0 = Phi h m ρ c 0 from rfl]
  unfold Phi Held
  iintro ⟨-, ⟨HT0, HT1⟩, ⟨%a0, HS0⟩, ⟨%a1, HS1⟩⟩
  isplitl [HS0]
  · iexists a0; isplitr; swap
    · iexact HS0
    · ipureintro; intro z; exact absurd rfl z
  isplitl [HS1]
  · iexists a1; isplitr; swap
    · iexact HS1
    · ipureintro; intro z; exact absurd rfl z
  isplitl [HT0]
  · iexact HT0
  iexact HT1

/-- After the last point the scratches are given back. -/
theorem phiN_exit (c : Dev nD) : (dats h m ρ 0 c).Φ (Fin.last (cfgA h).N) ⊢ iprop(BI.emp ∗ Pipeline.scopedRest spec0 c) := by
  rw [scopedRest0_eq, show (dats h m ρ 0 c).Φ (Fin.last (cfgA h).N) = Phi h m ρ c (Fin.last _) from rfl]
  unfold Phi Held
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Ideal) → Prop := fun r =>
  ∀ c : Dev nD, (∀ w : Fin (cfgA h).W, r.2.mem (((cfgA h).win w).arr.view.loc (c : Thread nD τ)) = (dats h m ρ 0 c).arrAt w (cfgA h).N)
    ∧ ∀ j, r.2.mem ((c : Thread nD τ).loc (pre0.ref j)) = (adm h).1 j

theorem V_pre (hp : Pinned m T0 T1) (c : Dev nD) (j : Fin 2) : m ((c : Thread nD τ).loc (pre0.ref j)) = (adm h).1 j := by
  fin_cases j
  · exact hp.1 c
  · exact hp.2 c

set_option backward.isDefEq.respectTransparency.types false in
set_option maxHeartbeats 4000000 in
/-- Every run ends, each array at the computed contents, the tables as they were, the counters zero. -/
theorem run_main_quiescent (hp : Pinned m T0 T1) : θ_run (defs (F := Ideal)) (onTc (τ := τ) (main (F := Ideal))) (s₀ m ρ) (fun r => QC h m ρ r ∧ r.2.sem = fun _ => 0) :=
  Pipeline.θ_run_region_noSem_pf_quiescent pcfgs (fun _ => adm h) (dats h m ρ) () ((launch0 (F := Ideal)).cellOf_inj fun _ => adm h) (0 : Fin 1)
    (launch0 (F := Ideal)).win.to₀ (launch0 (F := Ideal)).pre EP defs₀ Variants.none m ρ main
    (hbody := fun c => (body_obligation h m ρ c).loose) (hne := (launch0 (F := Ideal)).block_pos)
    (harr := (launch0 (F := Ideal)).arr_whole) (hstage := (launch0 (F := Ideal)).stage_whole) (howed := fun _ _ => rfl)
    (u₀ := u₀ h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs h) (dats h m ρ) 0 (launch0 (F := Ideal)).win.arr_inj c (launch0 (F := Ideal)).arr_whole
      (share_eq h m ρ c) _ _ fun _ => rfl)
    (hpf := V_pre h m hp)
    (X := fun _ => iprop(emp)) (Y := fun _ => iprop(emp)) (Z := fun _ => iprop(emp))
    (hX := fun c => by rw [unscopedRestP0_eq]; iintro -; isplitr <;> iempintro)
    (hin := phi0_intro h m ρ)
    (hout := phiN_exit h m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned m T0 T1) : θ_run (defs (F := Ideal)) (onTc (τ := τ) (main (F := Ideal))) (s₀ m ρ) (QC h m ρ) :=
  (θ_run defs _ _).mono (fun _ h => h.1) (run_main_quiescent h m ρ hp)

include h

/-- The frame without the counters: the argument arrays end unchanged. -/
theorem unchanged (hp : Pinned m T0 T1) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ k c => ⟨((k c).2 0).trans (hp.1 c).symm, ((k c).2 1).trans (hp.2 c).symm, ((k c).1 (0 : Fin 4)).trans ((dats h m ρ 0 c).arrAt_in (0 : Fin 4) rfl _), ((k c).1 (1 : Fin 4)).trans ((dats h m ρ 0 c).arrAt_in (1 : Fin 4) rfl _), ((k c).1 (2 : Fin 4)).trans ((dats h m ρ 0 c).arrAt_in (2 : Fin 4) rfl _)⟩) (run_main h m ρ hp)

/-- Every run from the tables' memory ends, the arguments unchanged and the counters zero. -/
theorem frame (hp : Pinned m T0 T1) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged h m ρ hp) ((θ_run defs _ _).mono (fun _ h => h.2) (run_main_quiescent h m ρ hp))

end Cert.ExpertsIdeal.Tab
-- ==== Proof.ExpFinal.lean ====
module

public import proofs.«01_k».proof.Proof.ExpTile
public import proofs.«01_k».proof.Proof.ExpLaunch

@[expose] public section

set_option maxRecDepth 16384

noncomputable section

/-! The array the experts' region leaves, on the rows of the tiles the count names. -/

namespace Cert.ExpTile

open Cert.ExpertsIdeal Cert.ExpertsIdeal.Gen Cert.ExpertsIdeal.Tab Idealize.ShloMosaic Idealize.ShloMosaic.TcCoe Idealize.ShloMosaic.Pointwise Idealize.SL.Sem

/-- An element of the result: its row through expert `e`. -/
def elt (X : S180224x4096.Idx → EReal) (G : S64x4096x384.Idx → EReal) (D : S64x192x4096.Idx → EReal) (e : Fin 64) (t : Fin 180224) (d : Fin 4096) : EReal :=
  ∑ f : Fin 192, gate (∑ j, X (ix2 t j) * G (ix3 e j ⟨f, by omega⟩)) (∑ j, X (ix2 t j) * G (ix3 e j ⟨192 + f, by omega⟩)) * D (ix3 e f d)

variable {T0 : S352.Idx → BitVec 32} {T1 : S1.Idx → BitVec 32} (h : Good T0 T1)
variable (m : (ℓ : Loc nD τ sig) → Buf (Elt Ideal) ℓ) (ρ : Dev nD → PrngReg)

/-- Every element through its tile's expert. -/
def whole (c : Dev nD) : S180224x4096.Idx → EReal := fun i =>
  elt (m (c.tc.loc main_arg2)) (m (c.tc.loc main_arg3)) (m (c.tc.loc main_arg4))
    ⟨expert T0 ⟨(i 0 : Fin 180224) / 512, by have : (i 0).val < 180224 := (i 0).isLt; omega⟩, h.te _⟩ (i 0) (i 1)

theorem blk3_at (t : Fin (cfgA h).N) (g : S180224x4096.Idx → EReal) (y : S512x4096.Idx) :
    ((((cfgA h).win (3 : Fin 4)).blk t).view.read (Elt Ideal) g : S512x4096.Idx → _) y
      = g (ix2 ⟨min t.val (count T1 - 1) * 512 + (y 0).val, by have h1 : t.val < 352 := t.isLt; have h2 : (y 0).val < 512 := (y 0).isLt; omega⟩ (y 1)) := by
  have e := at3 h t
  blk_ext [e]

theorem tileOf_at (c : Dev nD) (t : Fin (cfgA h).N) (hl : t.val < count T1) (y : S512x4096.Idx) :
    tileOf h m ρ c t y = whole h m c (ix2 ⟨t.val * 512 + (y 0).val, by have h1 : t.val < 352 := t.isLt; have h2 : (y 0).val < 512 := (y 0).isLt; omega⟩ (y 1)) := by
  have h1 : t.val < 352 := t.isLt
  have h2 : (y 0).val < 512 := (y 0).isLt
  unfold tileOf
  refine (tile_at c _ _ _ y (y 0) (y 1) rfl rfl).trans ?_
  have e0 : ∀ j : Fin 4096, (iblk h m ρ c (0 : Fin 4) t : S512x4096.Idx → EReal) (ix2 (y 0) j) = m (c.tc.loc main_arg2) (ix2 (⟨t.val * 512 + (y 0).val, by omega⟩ : Fin 180224) j) := fun j => by
    refine (iblk0_at h m ρ c t _).trans (congrArg (m (c.tc.loc main_arg2)) ?_)
    refine congrArg₂ ix2 (Fin.ext ?_) rfl
    show min t.val (count T1 - 1) * 512 + (y 0).val = t.val * 512 + (y 0).val
    rw [show min t.val (count T1 - 1) = t.val by omega]
  have ee : (⟨expert T0 t, h.te _⟩ : Fin 64) = ⟨expert T0 ⟨(t.val * 512 + (y 0).val) / 512, by omega⟩, h.te _⟩ := by
    apply Fin.ext
    show expert T0 t = expert T0 _
    congr 1
    apply Fin.ext
    show t.val = (t.val * 512 + (y 0).val) / 512
    omega
  unfold row act whole elt
  refine Finset.sum_congr rfl fun f _ => congrArg₂ (· * ·) (congrArg₂ gate (Finset.sum_congr rfl fun j _ => congrArg₂ (· * ·) (e0 j) ?_) (Finset.sum_congr rfl fun j _ => congrArg₂ (· * ·) (e0 j) ?_)) ?_
  · refine (iblk1_at h m ρ c t _).trans ?_
    rw [ee]; rfl
  · refine (iblk1_at h m ρ c t _).trans ?_
    rw [ee]; rfl
  · refine (iblk2_at h m ρ c t _).trans ?_
    rw [ee]; rfl

theorem tileAt_val (t : Fin (cfgA h).N) : (tileAt h t).val = min t.val (count T1 - 1) := rfl

theorem tileAt_lt (t : Fin (cfgA h).N) : (tileAt h t).val < count T1 := by
  have hc := count_pos h
  show min t.val (count T1 - 1) < count T1
  omega

attribute [local irreducible] tileOf whole tileAt iblk in
theorem flushed3 (c : Dev nD) (t : Fin (cfgA h).N) :
    (dats h m ρ 0 c).flushed (3 : Fin 4) t = (((cfgA h).win (3 : Fin 4)).blk t).view.read (Elt Ideal) (whole h m c) := by
  have hc := count_pos h
  funext y
  have e : (dats h m ρ 0 c).flushed (3 : Fin 4) t = (tileOf h m ρ c (tileAt h t) : S512x4096.Idx → _) := (congrArg id (after3 h m ρ c t))
  refine (congrFun e y).trans ?_
  exact (tileOf_at h m ρ c (tileAt h t) (tileAt_lt h t) y).trans ((blk3_at h t _ y).trans (congrArg (whole h m c) (congrArg₂ ix2 (Fin.ext (congrArg (fun n : ℕ => n * 512 + (y 0).val) (tileAt_val h t).symm)) rfl))).symm

/-- The region's array, at a row of a tile the count names. -/
theorem final (c : Dev nD) (r : Fin 180224) (d : Fin 4096) (hr : (r : ℕ) < min (count T1) 352 * 512) :
    (dats h m ρ 0 c).arrAt (3 : Fin 4) (cfgA h).N (ix2 r d : S180224x4096.Idx) = whole h m c (ix2 r d) := by
  have hc := count_pos h
  have hN := N_eq h
  obtain ⟨t, ht, hf⟩ : ∃ t : Fin (cfgA h).N, min t.val (count T1 - 1) = r / 512 ∧ ((cfgA h).win (3 : Fin 4)).flush t = true := by
    by_cases hk : (r : ℕ) / 512 + 1 < count T1
    · exact ⟨⟨r / 512, by omega⟩, by show min ((r : ℕ) / 512) (count T1 - 1) = r / 512; omega, (flush3 h _).mpr (Or.inl hk)⟩
    · exact ⟨⟨351, by omega⟩, by show min 351 (count T1 - 1) = r / 512; omega, (flush3 h _).mpr (Or.inr rfl)⟩
  refine (dats h m ρ 0 c).arrAt_apply_of_mem (3 : Fin 4) (whole h m c) (fun t _ => flushed3 h m ρ c t) (cfgA h).N t (ix2 r d : S180224x4096.Idx) t.isLt hf ?_
  refine (((cfgA h).win (3 : Fin 4)).emb_mem_blk_iff t (ix2 r d : S180224x4096.Idx)).mpr ?_
  have hd := d.isLt
  have e := at3 h t
  intro a
  rw [e]
  fin_cases a
  · show min t.val (count T1 - 1) * 512 ≤ r.val ∧ r.val < min t.val (count T1 - 1) * 512 + 512
    omega
  · show 0 * 4096 ≤ d.val ∧ d.val < 0 * 4096 + 4096
    omega

end Cert.ExpTile
-- ==== Proof.ExpPre.lean ====
module

public import proofs.«01_k».proof.Defs
public import proofs.«01_k».proof.Proof.ExpLaunch
public import proofs.«01_k».proof.Proof.Gen.Pre_tables
public import Idealize.ShloMosaic.Lib.Pointwise

/-! The precondition says the tables are admissible, so every run ends with the arguments unchanged. -/

@[expose] public section

set_option maxRecDepth 16384

noncomputable section

namespace Cert.ExpertsIdeal.Tab

open Cert.ExpertsIdeal Cert.ExpertsIdeal.Gen
open Idealize.ShloMosaic Idealize.ShloMosaic.TcCoe Idealize.ShloMosaic.Pointwise Idealize.SL.Sem

theorem and_bits (a b c : Bool) (h : BitVec.ofBool a &&& BitVec.ofBool b &&& BitVec.ofBool c = 1#1) : a = true ∧ b = true ∧ c = true := by
  revert a b c; decide

theorem word_bounds (a b : BitVec 32) (h : IntOp.andi (IntOp.andi (IntOp.cmpi .sge a 0#32) (IntOp.cmpi .slt a 64#32)) (IntOp.cmpi .sge b 1#32) = 1#1) :
    a.toNat < 64 ∧ 1 ≤ b.toNat ∧ b.toNat < 2 ^ 31 := by
  obtain ⟨h1, h2, h3⟩ := and_bits _ _ _ h
  have e1 : (0#32).toInt ≤ a.toInt := by simpa [BitVec.sle] using h1
  have e2 : a.toInt < (64#32).toInt := by simpa [BitVec.slt] using h2
  have e3 : (1#32).toInt ≤ b.toInt := by simpa [BitVec.sle] using h3
  rw [show (0#32).toInt = 0 from rfl, BitVec.toInt_eq_toNat_cond] at e1
  rw [show (64#32).toInt = 64 from rfl, BitVec.toInt_eq_toNat_cond] at e2
  rw [show (1#32).toInt = 1 from rfl, BitVec.toInt_eq_toNat_cond] at e3
  have := a.isLt; have := b.isLt
  split at e1 <;> split at e2 <;> split at e3 <;> omega

theorem good_of_pre (T0 : IVec Pre_tables.S352 32) (T1 : IVec Pre_tables.S1 32) (X G D)
    (h : @Cert.Pre_tables.fn Cert.Pre_tables.Gen.facts Ideal _ T0 T1 X G D = fun _ => 1#1) : Good T0 T1 := by
  have key : ∀ x : S352.Idx, (T0 x).toNat < 64 ∧ 1 ≤ (T1 (ix1 0)).toNat ∧ (T1 (ix1 0)).toNat < 2 ^ 31 := fun x => by
    have hx := congrFun h x
    pointwise [Cert.Pre_tables.fn] at hx
    exact word_bounds _ _ hx
  exact ⟨fun x => (key x).1, fun x => by rw [word1 T1 x]; exact (key (ix1 0)).2.1, fun x => by rw [word1 T1 x]; exact (key (ix1 0)).2.2⟩

/-- The device. -/
def dev0 : Dev nD := ⟨0, by decide⟩

theorem dev_eq (c : Dev nD) : c = dev0 := by
  have h : ∀ c : Dev nD, c = dev0 := by decide
  exact h c

theorem pinned (m : (ℓ : Loc nD τ sig) → Buf (Elt Ideal) ℓ) :
    Pinned m (m ((dev0.tc : Thread nD τ).loc main_arg0)) (m ((dev0.tc : Thread nD τ).loc main_arg1)) :=
  ⟨fun c => by rw [dev_eq c], fun c => by rw [dev_eq c]⟩

theorem framed : Cert.quiescent_ExpertsIdeal (hExpertsIdeal := Cert.ExpertsIdeal.Gen.facts) (hPre_tables := Cert.Pre_tables.Gen.facts) :=
  fun m g hpre => frame (good_of_pre _ _ _ _ _ (hpre dev0)) m g (pinned m)

end Cert.ExpertsIdeal.Tab
-- ==== Proof.ExpRef.lean ====
module

public import proofs.«01_k».proof.Proof.Gen.ExpertsSpecIdeal.Run
public import Idealize.ShloMosaic.Lib.Pointwise
public import Idealize.ShloMosaic.Lib.Tactic.CleanTypes

@[expose] public section

set_option maxRecDepth 16384

noncomputable section

/-! The reference experts' result at an index. -/

namespace Cert.ExpRef

open Cert.ExpertsSpecIdeal Cert.ExpertsSpecIdeal.Gen Idealize.ShloMosaic Idealize.ShloMosaic.Pointwise

/-- Every row through every expert's gate and up projections. -/
def prods (X : FVec Ideal S180224x4096 .bf16) (G : FVec Ideal S64x4096x384 .f32) : FVec Ideal S180224x64x384 .f32 :=
  Host.dotGeneral dot_S180224x4096_S64x4096x384_S180224x64x384_1_1_0_02_n_n none (extf .f32 X bitsLt_bf16_f32) G

def acts (P : FVec Ideal S180224x64x384 .f32) : FVec Ideal S180224x64x192 .f32 :=
  mulf (mulf (extractStridedSlice S180224x64x192 ![0, 0, 0] P slices_S180224x64x384_S180224x64x192_0_0_0) (Host.divf (broadcastInDim S180224x64x192 ![] bcast_S_S180224x64x192 (constant S_ .f32 0x3F800000#32)) (addf (broadcastInDim S180224x64x192 ![] bcast_S_S180224x64x192 (constant S_ .f32 0x3F800000#32)) (Host.exp (Host.negf (extractStridedSlice S180224x64x192 ![0, 0, 0] P slices_S180224x64x384_S180224x64x192_0_0_0)))))) (extractStridedSlice S180224x64x192 ![0, 0, 192] P slices_S180224x64x384_S180224x64x192_0_0_192)

/-- One at a row's own expert, zero elsewhere. -/
def hot (T : IVec S352 32) : FVec Ideal S180224x64x192 .f32 :=
  broadcastInDim S180224x64x192 ![0, 1, 2] bcast_S180224x64x1_S180224x64x192_0_1_2 (uitofp .f32 (broadcastInDim S180224x64x1 ![0, 1] bcast_S180224x64_S180224x64x1_0_1 (cmpi .eq (broadcastInDim S180224x64 ![0, 1] bcast_S180224x1_S180224x64_0_1 (broadcastInDim S180224x1 ![0] bcast_S180224_S180224x1_0 (shapeCast _ (broadcastInDim S352x512 ![0] bcast_S352_S352x512_0 T) shapeCasts_S352x512_S180224))) (broadcastInDim S180224x64 ![0, 1] bcast_S1x64_S180224x64_0_1 (broadcastInDim S1x64 ![1] bcast_S64_S1x64_1 (iotaInDim S64 32 0))))))

def outs (A H : FVec Ideal S180224x64x192 .f32) (D : FVec Ideal S64x192x4096 .f32) : FVec Ideal S180224x4096 .bf16 :=
  truncf .bf16 (Host.dotGeneral dot_S180224x64x192_S64x192x4096_S180224x4096_12_01_0_2_n_n none (mulf A H) D) bitsLt_bf16_f32

/-- The reference, of its arguments. -/
def ref (T : IVec S352 32) (X : FVec Ideal S180224x4096 .bf16) (G : FVec Ideal S64x4096x384 .f32) (D : FVec Ideal S64x192x4096 .f32) : FVec Ideal S180224x4096 .bf16 :=
  outs (acts (prods X G)) (hot T) D

theorem prods_at (X : FVec Ideal S180224x4096 .bf16) (G : FVec Ideal S64x4096x384 .f32) (t : Fin 180224) (e : Fin 64) (f : Fin 384) :
    prods X G (ix3 t e f) = ∑ d, X (ix2 t d) * G (ix3 e d f) := by
  unfold prods
  pointwise

theorem acts_at (P : FVec Ideal S180224x64x384 .f32) (t : Fin 180224) (e : Fin 64) (f : Fin 192) :
    acts P (ix3 t e f) = P (ix3 t e ⟨f, by omega⟩) * Ideal.div 1 (1 + Ideal.exp (-P (ix3 t e ⟨f, by omega⟩))) * P (ix3 t e ⟨192 + f, by omega⟩) := by
  unfold acts
  pointwise

theorem hot_at (T : IVec S352 32) (t : Fin 180224) (e : Fin 64) (f : Fin 192) :
    hot T (ix3 t e f) = FloatOps.uitofp FTy.f32 (IntOp.cmpi CmpIPredicate.eq (T (ix1 ⟨t / 512, by omega⟩)) (BitVec.ofNat 32 e)) := by
  unfold hot
  pointwise

theorem outs_at (A H : FVec Ideal S180224x64x192 .f32) (D : FVec Ideal S64x192x4096 .f32) (t : Fin 180224) (d : Fin 4096) :
    outs A H D (ix2 t d) = ∑ e : Fin 64, ∑ f : Fin 192, A (ix3 t e f) * H (ix3 t e f) * D (ix3 e f d) := by
  unfold outs
  pointwise

/-- A word below sixty-four marks one expert alone. -/
theorem hot_val (T : IVec S352 32) (t : Fin 180224) (e : Fin 64) (f : Fin 192) :
    hot T (ix3 t e f) = if (T (ix1 ⟨t / 512, by omega⟩)).toNat = e then 1 else 0 := by
  rw [hot_at]
  have he : (BitVec.ofNat 32 (e : ℕ)).toNat = e := by
    rw [BitVec.toNat_ofNat]; exact Nat.mod_eq_of_lt (by have := e.isLt; omega)
  by_cases hc : T (ix1 ⟨t / 512, by omega⟩) = BitVec.ofNat 32 e
  · rw [if_pos (by rw [hc, he])]
    simp [IntOp.cmpi, hc, FloatOps.uitofp]
  · rw [if_neg (fun h' => hc (BitVec.eq_of_toNat_eq (by rw [h', he])))]
    simp [IntOp.cmpi, hc, FloatOps.uitofp]

/-- A row of the reference goes through its own expert alone. -/
theorem ref_at (T : IVec S352 32) (X : FVec Ideal S180224x4096 .bf16) (G : FVec Ideal S64x4096x384 .f32) (D : FVec Ideal S64x192x4096 .f32)
    (t : Fin 180224) (d : Fin 4096) (e : Fin 64) (he : (T (ix1 ⟨t / 512, by omega⟩)).toNat = e) :
    ref T X G D (ix2 t d) = ∑ f : Fin 192, acts (prods X G) (ix3 t e f) * D (ix3 e f d) := by
  unfold ref
  rw [outs_at, Finset.sum_eq_single e]
  · refine Finset.sum_congr rfl fun f _ => ?_
    rw [hot_val, if_pos he, mul_one]
  · intro b _ hb
    refine Finset.sum_eq_zero fun f _ => ?_
    rw [hot_val, if_neg (fun h' => hb (Fin.ext (by omega))), mul_zero, zero_mul]
  · exact fun h' => absurd (Finset.mem_univ _) h'

end Cert.ExpRef
-- ==== Proof.Exp.lean ====
module

public import proofs.«01_k».proof.Defs
public import proofs.«01_k».proof.Proof.ExpFinal
public import proofs.«01_k».proof.Proof.ExpPre
public import proofs.«01_k».proof.Proof.ExpRef
public import proofs.«01_k».proof.Proof.Gen.On_live_rows

@[expose] public section

set_option maxRecDepth 16384

noncomputable section

/-! The experts' kernel and the reference experts agree on the live rows. -/

namespace Cert.Exp

open Cert.ExpertsIdeal Cert.ExpertsIdeal.Tab Cert.ExpTile
open Idealize.ShloMosaic Idealize.ShloMosaic.TcCoe Idealize.ShloMosaic.Pointwise Idealize.SL.Sem

/-- The mask's comparison, as numbers. -/
theorem word_lt (w : BitVec 32) (n : ℕ) (hn : n < 180224) (hw : w.toNat < 2 ^ 31)
    (e : IntOp.cmpi .slt (BitVec.ofNat 32 n) (IntOp.muli (IntOp.minsi w 352#32) 512#32) = 1#1) : n < min w.toNat 352 * 512 := by
  have hm : (IntOp.minsi w 352#32).toNat = min w.toNat 352 := by
    unfold IntOp.minsi
    have h1 : w.toInt = w.toNat := by rw [BitVec.toInt_eq_toNat_cond, if_pos (by omega)]
    by_cases hc : w.slt 352#32
    · have h2 : w.toInt < (352#32).toInt := by simpa [BitVec.slt] using hc
      rw [show (352#32).toInt = 352 from rfl, h1] at h2
      rw [if_pos hc]
      omega
    · have h2 : ¬ w.toInt < (352#32).toInt := by simpa [BitVec.slt] using hc
      rw [show (352#32).toInt = 352 from rfl, h1] at h2
      rw [if_neg hc, show (352#32).toNat = 352 from rfl]
      omega
  have hp : (IntOp.muli (IntOp.minsi w 352#32) 512#32).toNat = min w.toNat 352 * 512 := by
    show (IntOp.minsi w 352#32 * 512#32).toNat = _
    rw [BitVec.toNat_mul, hm, show (512#32).toNat = 512 from rfl]
    omega
  have h3 : (BitVec.ofNat 32 n).toInt < (IntOp.muli (IntOp.minsi w 352#32) 512#32).toInt := by
    revert e
    generalize IntOp.muli (IntOp.minsi w 352#32) 512#32 = z
    intro e
    have e' : BitVec.ofBool (decide ((BitVec.ofNat 32 n).toInt < z.toInt)) = 1#1 := e
    by_contra hn'
    rw [decide_eq_false hn'] at e'
    exact absurd e' (by decide)
  rw [BitVec.toInt_eq_toNat_cond, BitVec.toInt_eq_toNat_cond, hp, BitVec.toNat_ofNat] at h3
  split at h3 <;> split at h3 <;> omega

theorem live (T0 : IVec On_live_rows.S352 32) (T1 : IVec On_live_rows.S1 32) (X G D) (h : Good T0 T1) (r : Fin 180224) (d : Fin 4096)
    (e : @Cert.On_live_rows.fn Cert.On_live_rows.Gen.facts Ideal _ T0 T1 X G D (ix2 r d) = 1#1) : (r : ℕ) < min (count T1) 352 * 512 := by
  pointwise [Cert.On_live_rows.fn] at e
  exact word_lt _ _ r.isLt (h.small _) e

/-- The reference at a row, through the row's expert. -/
theorem ref_elt (T : IVec ExpertsSpecIdeal.S352 32) (X : FVec Ideal ExpertsSpecIdeal.S180224x4096 .bf16) (G : FVec Ideal ExpertsSpecIdeal.S64x4096x384 .f32) (D : FVec Ideal ExpertsSpecIdeal.S64x192x4096 .f32)
    (t : Fin 180224) (d : Fin 4096) (e : Fin 64) (he : (T (ix1 ⟨t / 512, by omega⟩)).toNat = e) :
    ExpRef.ref T X G D (ix2 t d) = elt X G D e t d := by
  rw [ExpRef.ref_at T X G D t d e he]
  refine Finset.sum_congr rfl fun f _ => ?_
  rw [ExpRef.acts_at, ExpRef.prods_at, ExpRef.prods_at]
  rfl

/-- The claim about the values of the experts' call. -/
theorem algebraic :
    Cert.algebraic_ExpertsIdeal_ExpertsSpecIdeal_on_live_rows (hExpertsIdeal := Cert.ExpertsIdeal.Gen.facts)
      (hExpertsSpecIdeal := Cert.ExpertsSpecIdeal.Gen.facts) (hPre_tables := Cert.Pre_tables.Gen.facts) (hOn_live_rows := Cert.On_live_rows.Gen.facts) := by
  intro m g m' g' hpre hagree
  have h := good_of_pre _ _ _ _ _ (hpre dev0)
  have hp := pinned m
  refine ⟨fun c => whole h m c, ?_, ?_⟩
  · refine (θ_run _ _ _).mono (fun r k c => ⟨fun i hi => ?_, ((k c).2 0).trans (hp.1 c).symm, ((k c).2 1).trans (hp.2 c).symm, ((k c).1 (0 : Fin 4)).trans ((dats h m g 0 c).arrAt_in (0 : Fin 4) rfl _), ((k c).1 (1 : Fin 4)).trans ((dats h m g 0 c).arrAt_in (1 : Fin 4) rfl _), ((k c).1 (2 : Fin 4)).trans ((dats h m g 0 c).arrAt_in (2 : Fin 4) rfl _)⟩) (run_main h m g hp)
    obtain ⟨a, b, rfl⟩ : ∃ (a : Fin 180224) (b : Fin 4096), i = ix2 a b := ⟨i 0, i 1, eq_ix2 i⟩
    obtain rfl := dev_eq c
    exact (congrFun ((k dev0).1 (3 : Fin 4)) (ix2 a b)).trans (final h m g dev0 a b (live _ _ _ _ _ h a b hi))
  · refine (θ_run _ _ _).mono (fun r k c => ⟨fun i hi => ?_, (k c).2⟩) (Cert.ExpertsSpecIdeal.Value.run m' g')
    obtain ⟨a, b, rfl⟩ : ∃ (a : Fin 180224) (b : Fin 4096), i = ix2 a b := ⟨i 0, i 1, eq_ix2 i⟩
    obtain rfl := dev_eq c
    obtain ⟨e0, e1, e2, e3, e4⟩ := hagree dev0
    refine (congrFun (k dev0).1 (ix2 a b)).trans ?_
    rw [e0, e2, e3, e4]
    exact ref_elt _ _ _ _ a b _ rfl

end Cert.Exp

end
-- ==== Proof.LastLaunchB.lean ====
module

public import proofs.«01_k».proof.Proof.LastRunB
public import Idealize.ShloMosaic.Lib.Pipeline.Quiescent
public import Idealize.ShloMosaic.Lib.Pipeline.TableIdle
public import Idealize.ShloMosaic.Lib.Pipeline.FrameBody
public import Idealize.ShloMosaic.Lib.Pipeline.ValueKit
public import Idealize.ShloMosaic.Lib.VecWindow
public import Idealize.ShloMosaic.Lib.Ring
public import Idealize.ShloMosaic.Adequacy

/-! The grouped experts at any admissible tables: the launch, what every run leaves, and the arguments unchanged. -/

@[expose] public section

set_option maxRecDepth 16384
set_option Elab.async false

noncomputable section

namespace Cert.LastExperts.Tab

open Cert.LastExperts Cert.LastExperts.Gen
open Idealize.ShloMosaic Idealize.ShloMosaic.Pointwise
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

variable {T0 : S320.Idx → BitVec 32} {T1 : S1.Idx → BitVec 32} (h : Good T0 T1)
variable (m : (ℓ : Loc nD τ sig) → Buf (Elt Bits) ℓ) (ρ : Dev nD → PrngReg)

/-- The memory holds the tables. -/
def Pinned (T0 : S320.Idx → BitVec 32) (T1 : S1.Idx → BitVec 32) : Prop :=
  (∀ c : Dev nD, m ((c.tc : Thread nD τ).loc main_arg0) = T0) ∧ (∀ c : Dev nD, m ((c.tc : Thread nD τ).loc main_arg1) = T1)

abbrev EP : Emb (UR sig nD τ) 𝕄 := emb₁

/-- The launch element. -/
def u₀ : UR sig nD τ :=
  initOf (Pipeline.cells (pcs h) ((launch0 (F := Bits)).cellOf_inj fun _ => adm h))
    (Pipeline.launchToks (pcs h) ((launch0 (F := Bits)).cellOf_inj fun _ => adm h))

theorem share_eq (c : Dev nD) (w : Fin (cfgA h).W) : (dats h m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point. -/
theorem phi0_intro (c : Dev nD) :
    iprop(BI.emp ∗ Pipeline.prefHeld pre0 c (fun _ => fullShare.right) (adm h).1 ∗ Pipeline.scopedRest spec0 c) ⊢ (dats h m ρ 0 c).Φ 0 := by
  rw [prefHeld_eq, scopedRest0_eq, show (dats h m ρ 0 c).Φ 0 = Phi h m ρ c 0 from rfl]
  unfold Phi Held
  iintro ⟨-, ⟨HT0, HT1⟩, ⟨%a0, HS0⟩, ⟨%a1, HS1⟩⟩
  isplitl [HS0]
  · iexists a0; isplitr; swap
    · iexact HS0
    · ipureintro; intro z; exact absurd rfl z
  isplitl [HS1]
  · iexists a1; isplitr; swap
    · iexact HS1
    · ipureintro; intro z; exact absurd rfl z
  isplitl [HT0]
  · iexact HT0
  iexact HT1

/-- After the last point the scratches are given back. -/
theorem phiN_exit (c : Dev nD) : (dats h m ρ 0 c).Φ (Fin.last (cfgA h).N) ⊢ iprop(BI.emp ∗ Pipeline.scopedRest spec0 c) := by
  rw [scopedRest0_eq, show (dats h m ρ 0 c).Φ (Fin.last (cfgA h).N) = Phi h m ρ c (Fin.last _) from rfl]
  unfold Phi Held
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Bits) → Prop := fun r =>
  ∀ c : Dev nD, (∀ w : Fin (cfgA h).W, r.2.mem (((cfgA h).win w).arr.view.loc (c : Thread nD τ)) = (dats h m ρ 0 c).arrAt w (cfgA h).N)
    ∧ ∀ j, r.2.mem ((c : Thread nD τ).loc (pre0.ref j)) = (adm h).1 j

theorem V_pre (hp : Pinned m T0 T1) (c : Dev nD) (j : Fin 2) : m ((c : Thread nD τ).loc (pre0.ref j)) = (adm h).1 j := by
  fin_cases j
  · exact hp.1 c
  · exact hp.2 c

set_option backward.isDefEq.respectTransparency.types false in
set_option maxHeartbeats 4000000 in
/-- Every run ends, each array at the computed contents, the tables as they were, the counters zero. -/
theorem run_main_quiescent (hp : Pinned m T0 T1) : θ_run (defs (F := Bits)) (onTc (τ := τ) (main (F := Bits))) (s₀ m ρ) (fun r => QC h m ρ r ∧ r.2.sem = fun _ => 0) :=
  Pipeline.θ_run_region_noSem_pf_quiescent pcfgs (fun _ => adm h) (dats h m ρ) () ((launch0 (F := Bits)).cellOf_inj fun _ => adm h) (0 : Fin 1)
    (launch0 (F := Bits)).win.to₀ (launch0 (F := Bits)).pre EP defs₀ Variants.none m ρ main
    (hbody := fun c => (body_obligation h m ρ c).loose) (hne := (launch0 (F := Bits)).block_pos)
    (harr := (launch0 (F := Bits)).arr_whole) (hstage := (launch0 (F := Bits)).stage_whole) (howed := fun _ _ => rfl)
    (u₀ := u₀ h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs h) (dats h m ρ) 0 (launch0 (F := Bits)).win.arr_inj c (launch0 (F := Bits)).arr_whole
      (share_eq h m ρ c) _ _ fun _ => rfl)
    (hpf := V_pre h m hp)
    (X := fun _ => iprop(emp)) (Y := fun _ => iprop(emp)) (Z := fun _ => iprop(emp))
    (hX := fun c => by rw [unscopedRestP0_eq]; iintro -; isplitr <;> iempintro)
    (hin := phi0_intro h m ρ)
    (hout := phiN_exit h m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned m T0 T1) : θ_run (defs (F := Bits)) (onTc (τ := τ) (main (F := Bits))) (s₀ m ρ) (QC h m ρ) :=
  (θ_run defs _ _).mono (fun _ h => h.1) (run_main_quiescent h m ρ hp)

include h

/-- The frame without the counters: the argument arrays end unchanged. -/
theorem unchanged (hp : Pinned m T0 T1) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ k c => ⟨((k c).2 0).trans (hp.1 c).symm, ((k c).2 1).trans (hp.2 c).symm, ((k c).1 (0 : Fin 4)).trans ((dats h m ρ 0 c).arrAt_in (0 : Fin 4) rfl _), ((k c).1 (1 : Fin 4)).trans ((dats h m ρ 0 c).arrAt_in (1 : Fin 4) rfl _), ((k c).1 (2 : Fin 4)).trans ((dats h m ρ 0 c).arrAt_in (2 : Fin 4) rfl _)⟩) (run_main h m ρ hp)

/-- Every run from the tables' memory ends, the arguments unchanged and the counters zero. -/
theorem frame (hp : Pinned m T0 T1) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged h m ρ hp) ((θ_run defs _ _).mono (fun _ h => h.2) (run_main_quiescent h m ρ hp))

end Cert.LastExperts.Tab
-- ==== Proof.LastTab.lean ====
module

public import proofs.«01_k».proof.Proof.Gen.LastExpertsIdeal.Flash.Runs
public import Idealize.ShloMosaic.Lib.WordArith
public import Idealize.ShloMosaic.Lib.WordCmp
public import Idealize.ShloMosaic.Lib.Pointwise
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody

@[expose] public section

set_option maxRecDepth 16384

noncomputable section

namespace Cert.LastExpertsIdeal.Tab

open Cert.LastExpertsIdeal Cert.LastExpertsIdeal.Gen
open Idealize.ShloMosaic Idealize.ShloMosaic.Pointwise

/-- What the precondition says of the two tables: the experts are below 64, there is at least one tile. -/
structure Good (T0 : S320.Idx → BitVec 32) (T1 : S1.Idx → BitVec 32) : Prop where
  te : ∀ x, (T0 x).toNat < 64
  nt : ∀ x, 1 ≤ (T1 x).toNat
  small : ∀ x, (T1 x).toNat < 2 ^ 31

variable (T0 : S320.Idx → BitVec 32) (T1 : S1.Idx → BitVec 32)

/-- The number of tiles. -/
def count : ℕ := (T1 (ix1 0)).toNat

/-- The expert of tile `n`. -/
def expert (n : Fin 320) : ℕ := (T0 (ix1 n)).toNat

/-- The tables as the region reads them. -/
def pf : pre0.Contents (Elt Ideal) :=
  fun | ⟨0, _⟩ => T0 | ⟨1, _⟩ => T1 | ⟨_ + 2, h⟩ => absurd h (by simp)

theorem word1 (x : S1.Idx) : T1 x = T1 (ix1 0) := by
  have h : (x 0).val < 1 := (x 0).isLt
  congr 1; funext a; fin_cases a; apply Fin.ext
  show (x 0).val = 0
  omega

/-- The last tile's word. -/
theorem last_word {T0 T1} (h : Good T0 T1) (i : grid0.Coords) (x : S1.Idx) :
    (Scalar.minsi (BitVec.ofNat 32 (i 0).val) (Scalar.subi (T1 x) 1#32)).toNat = min (i 0).val (count T1 - 1) := by
  have hi : (i 0).val < 320 := (i 0).isLt
  have h1 := h.nt x; have h2 := h.small x
  have e : (Scalar.subi (T1 x) 1#32).toNat = (T1 x).toNat - 1 := by
    show (T1 x - 1#32).toNat = _
    rw [BitVec.toNat_sub]; simp; omega
  have e0 : (BitVec.ofNat 32 (i 0).val).toNat = (i 0).val := by simp; omega
  show (IntOp.minsi _ _).toNat = _
  rw [WordArith.toNat_minsi_of_lt _ _ (by omega) (by omega), e, e0]
  rw [word1 T1 x]; rfl

theorem index0 {T0 T1} (h : Good T0 T1) (i : grid0.Coords) :
    cc0_transform_0 inb_S1_S1_0 numel1_S1 (pf T0 T1) i = ![min (i 0).val (count T1 - 1), 0] := by
  unfold cc0_transform_0
  exact congrArg (fun n => ![n, 0]) (last_word h i _)

theorem index3 {T0 T1} (h : Good T0 T1) (i : grid0.Coords) :
    cc0_transform_3 inb_S1_S1_0 numel1_S1 (pf T0 T1) i = ![min (i 0).val (count T1 - 1), 0] := by
  unfold cc0_transform_3
  exact congrArg (fun n => ![n, 0]) (last_word h i _)

theorem word0 (i : grid0.Coords) (x : S320.Idx) (h : ((x 0 : Fin _) : ℕ) = (i 0).val) : T0 x = T0 (ix1 (i 0)) := by
  congr 1; funext a; fin_cases a; exact Fin.ext h

theorem off_val (i : grid0.Coords) : (Scalar.indexCast (BitVec.ofNat 32 (i 0).val)).toNat = (i 0).val := by
  have hi : (i 0).val < 320 := (i 0).isLt
  show (BitVec.ofNat 32 (i 0).val).toNat = _
  simp; omega

theorem index1 (i : grid0.Coords) :
    cc0_transform_1 k0_off1_inb numel1_S1 (pf T0 T1) i = ![expert T0 (i 0), 0, 0] := by
  unfold cc0_transform_1
  refine congrArg (fun n : BitVec 32 => ![n.toNat, 0, 0]) (word0 T0 i _ ?_)
  exact (Nat.add_zero _).trans (off_val i)

theorem index2 (i : grid0.Coords) :
    cc0_transform_2 k0_off1_inb numel1_S1 (pf T0 T1) i = ![expert T0 (i 0), 0, 0] := by
  unfold cc0_transform_2
  refine congrArg (fun n : BitVec 32 => ![n.toNat, 0, 0]) (word0 T0 i _ ?_)
  exact (Nat.add_zero _).trans (off_val i)

variable {T0 T1}

theorem ok (h : Good T0 T1) : ok0 (F := Ideal) (pf T0 T1) := by
  have hb : ∀ i : grid0.Coords, min (i 0).val (count T1 - 1) < 320 := fun i => by
    have hi : (i 0).val < 320 := (i 0).isLt
    omega
  have he : ∀ i : grid0.Coords, expert T0 (i 0) < 64 := fun i => h.te _
  refine ⟨fun i => ⟨?_, .inr (Affine.block_words_dvd (by decide) (by decide))⟩, fun i => ⟨?_, .inl rfl⟩, fun i => ⟨?_, .inl rfl⟩, fun i => ⟨?_, .inr (Affine.block_words_dvd (by decide) (by decide))⟩⟩
  · rw [index0 h]; intro a; have := hb i; fin_cases a <;> simp [S512x4096, S163840x4096] <;> omega
  · rw [index1]; intro a; have := he i; fin_cases a <;> simp [S1x4096x384, S64x4096x384] <;> omega
  · rw [index2]; intro a; have := he i; fin_cases a <;> simp [S1x192x4096, S64x192x4096] <;> omega
  · rw [index3 h]; intro a; have := hb i; fin_cases a <;> simp [S512x4096, S163840x4096] <;> omega

theorem coord (t : Fin grid0.N) : (grid0.coords t 0).val = t.val := by
  have h : ∀ t : Fin 320, (grid0.coords t 0).val = t.val := by decide +kernel
  exact h t

/-- The body runs at the tiles below the count. -/
theorem runs_iff (h : Good T0 T1) (i : grid0.Coords) (x : S1.Idx) : k0_cond1 i (T1 x) = 1#1 ↔ (i 0).val < count T1 := by
  have hi : (i 0).val < 320 := (i 0).isLt
  have h2 := h.small x
  have e0 : (BitVec.ofNat 32 (i 0).val).toNat = (i 0).val := by simp; omega
  have e : (i 0).val < count T1 ↔ (BitVec.ofNat 32 (i 0).val).slt (T1 x) = true := by
    rw [show count T1 = (T1 x).toNat from by rw [word1 T1 x]; rfl, BitVec.slt, decide_eq_true_eq, BitVec.toInt_eq_toNat_of_lt (by omega), BitVec.toInt_eq_toNat_of_lt (by omega), e0]
    omega
  rw [e]
  show IntOp.cmpi .ne ((BitVec.ofBool _).setWidth 32) 0#32 = 1#1 ↔ _
  show IntOp.cmpi .ne ((BitVec.ofBool (BitVec.slt (BitVec.ofNat 32 (i 0).val) (T1 x))).setWidth 32) 0#32 = 1#1 ↔ _
  generalize BitVec.slt (BitVec.ofNat 32 (i 0).val) (T1 x) = b
  revert b; decide

/-- Where the weights are kept the tile is not the first and its expert is the one before's. -/
theorem kept_words (a u v : BitVec 32)
    (h : ¬(Scalar.cmpi .ne (Scalar.extui (Scalar.ori (Scalar.cmpi .eq a 0#32) (Scalar.cmpi .ne u v))) 0#32) = 1#1) : a ≠ 0#32 ∧ u = v := by
  have key : ∀ p q : Bool, ¬(Scalar.cmpi .ne ((Scalar.extui (Scalar.ori (BitVec.ofBool p) (BitVec.ofBool q)) : BitVec 32)) 0#32) = 1#1 → p = false ∧ q = false := by decide
  have := key (a == 0#32) (u != v) h
  simpa using this

end Cert.LastExpertsIdeal.Tab

end
-- ==== Proof.LastRun.lean ====
module

public import proofs.«01_k».proof.Proof.LastTab
public import Idealize.ShloMosaic.Lib.Pipeline.Quiescent
public import Idealize.ShloMosaic.Lib.Pipeline.TableIdle
public import Idealize.ShloMosaic.Lib.Pipeline.FrameBody
public import Idealize.ShloMosaic.Lib.Pipeline.ValueKit
public import Idealize.ShloMosaic.Lib.VecWindow
public import Idealize.ShloMosaic.Lib.Ring
public import Idealize.ShloMosaic.Adequacy

/-! The grouped experts at any admissible tables: the schedule in closed form, the body at a point, and what a run leaves. -/

@[expose] public section

set_option maxRecDepth 16384
set_option Elab.async false

noncomputable section

namespace Cert.LastExpertsIdeal.Tab

open Cert.LastExpertsIdeal Cert.LastExpertsIdeal.Gen
open Idealize.ShloMosaic Idealize.ShloMosaic.Pointwise
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable {T0 : S320.Idx → BitVec 32} {T1 : S1.Idx → BitVec 32} (h : Good T0 T1)

/-- The region at the tables. -/
def adm : (pcfg0 (F := Ideal)).Adm := ⟨pf T0 T1, ok h⟩
abbrev cfgA : Pipeline.Cfg sig Λ₀ := cfg0 (F := Ideal) (adm h)
abbrev pcs : Fin 1 → Pipeline.Cfg sig Λ₀ := Pipeline.pin (pcfgs (F := Ideal)) fun _ => adm h
abbrev crd (t : Fin (cfgA h).N) : (cfgA h).grid.Coords := (cfgA h).grid.coords t
abbrev st0 (t : Fin (cfgA h).N) : Memref sig .tc .vmem S512x4096 .bf16 := spec0_0.stage ((cfgA h).slots t (0 : Fin 4))
abbrev hst0 (t : Fin (cfgA h).N) : (st0 h t).IsWhole := hstage0_0 (((cfgA h).slots t (0 : Fin 4)).cast nbuf0_0)
abbrev st1 (t : Fin (cfgA h).N) : Memref sig .tc .vmem S1x4096x384 .f32 := spec0_1.stage ((cfgA h).slots t (1 : Fin 4))
abbrev hst1 (t : Fin (cfgA h).N) : (st1 h t).IsWhole := hstage0_1 (((cfgA h).slots t (1 : Fin 4)).cast nbuf0_1)
abbrev st2 (t : Fin (cfgA h).N) : Memref sig .tc .vmem S1x192x4096 .f32 := spec0_2.stage ((cfgA h).slots t (2 : Fin 4))
abbrev hst2 (t : Fin (cfgA h).N) : (st2 h t).IsWhole := hstage0_2 (((cfgA h).slots t (2 : Fin 4)).cast nbuf0_2)
abbrev st3 (t : Fin (cfgA h).N) : Memref sig .tc .vmem S512x4096 .bf16 := spec0_3.stage ((cfgA h).slots t (3 : Fin 4))
abbrev hst3 (t : Fin (cfgA h).N) : (st3 h t).IsWhole := hstage0_3 (((cfgA h).slots t (3 : Fin 4)).cast nbuf0_3)

theorem N_eq : (cfgA h).N = 320 := rfl

theorem crd_val (t : Fin (cfgA h).N) : (crd h t 0).val = t.val := coord t

theorem crd_eq (t : Fin (cfgA h).N) : (crd h t 0 : Fin 320) = (t : Fin 320) := Fin.ext (crd_val h t)

/-- The tile a point works on: its own, the last one when there are no more. -/
def tileAt (t : Fin (cfgA h).N) : Fin (cfgA h).N := ⟨min t.val (count T1 - 1), by have := t.isLt; omega⟩

theorem at0 (t : Fin (cfgA h).N) : ((cfgA h).win (0 : Fin 4)).index t = ![min t.val (count T1 - 1), 0] := by
  rw [← crd_val h t]; exact index0 h (crd h t)
theorem at1 (t : Fin (cfgA h).N) : ((cfgA h).win (1 : Fin 4)).index t = ![expert T0 t, 0, 0] := by
  exact (index1 T0 T1 (crd h t)).trans (congrArg (fun n : Fin 320 => ![expert T0 n, 0, 0]) (crd_eq h t))
theorem at2 (t : Fin (cfgA h).N) : ((cfgA h).win (2 : Fin 4)).index t = ![expert T0 t, 0, 0] := by
  exact (index2 T0 T1 (crd h t)).trans (congrArg (fun n : Fin 320 => ![expert T0 n, 0, 0]) (crd_eq h t))
theorem at3 (t : Fin (cfgA h).N) : ((cfgA h).win (3 : Fin 4)).index t = ![min t.val (count T1 - 1), 0] := by
  rw [← crd_val h t]; exact index3 h (crd h t)

theorem count_pos (h : Good T0 T1) : 1 ≤ count T1 := h.nt _

/-! ## The schedule -/

/-- The body runs at the point. -/
def runs (t : Fin (cfgA h).N) : Prop :=
  k0_cond1 (crd h t) (View.readAt (Elt Ideal) (tbM0_1).view (Rect.unit (s := S1) ![0] S1.size inb_S1_S1_0).toLoadRect T1 (Shape.Idx.first (numel1_S1.symm ▸ Nat.one_pos))) = 1#1

theorem runs_lt (t : Fin (cfgA h).N) : runs h t ↔ t.val < count T1 := by
  rw [← crd_val h t]; exact runs_iff h (crd h t) _

theorem idle3 (t : Fin (cfgA h).N) : (cfgA h).idle (3 : Fin 4) ((cfgA h).grid.coords t) = decide (count T1 ≤ t.val) := by
  have key : ∀ v : BitVec 32, (∃ x, v = T1 x) → (!(k0_cond1 (crd h t) v == 1#1)) = decide (count T1 ≤ t.val) := by
    rintro v ⟨x, rfl⟩
    have e := (runs_iff h (crd h t) x).trans (by rw [crd_val h t])
    by_cases hc : t.val < count T1
    · rw [e.2 hc]; simp [hc]
    · have : k0_cond1 (crd h t) (T1 x) ≠ 1#1 := fun hk => hc (e.1 hk)
      rw [decide_eq_true (show count T1 ≤ t.val by omega)]; simpa using this
  exact key _ ⟨_, rfl⟩

theorem flush3 (t : Fin (cfgA h).N) : ((cfgA h).win (3 : Fin 4)).flush t = true ↔ t.val + 1 < count T1 ∨ t.val = 319 := by
  rw [Pipeline.Window.flush_eq_flushF]
  unfold Pipeline.Window.flushF
  have ht : t.val < 320 := t.isLt
  rw [show ((cfgA h).win (3 : Fin 4)).isOut = true from rfl, Bool.true_and, Bool.or_eq_true, decide_eq_true_eq, decide_eq_true_eq]
  have hN : (cfgA h).grid.N = 320 := rfl
  constructor
  · rintro (e | ⟨hn, a, ha⟩)
    · right; omega
    · left
      rw [at3, at3] at ha
      by_contra hc
      apply ha
      have e : min (t.val + 1) (count T1 - 1) = min t.val (count T1 - 1) := by omega
      exact congrFun (congrArg (fun n : ℕ => ![n, 0]) e) a
  · rintro (e | e)
    · by_cases h319 : t.val = 319
      · left; omega
      · right
        refine ⟨by omega, (0 : Fin 2), ?_⟩
        rw [at3, at3]
        show min (t.val + 1) _ ≠ min t.val _
        omega
    · left; omega

theorem fresh3 (n : ℕ) (hn : n < 320) (hc : count T1 ≤ n) : (cfgA h).fresh (3 : Fin 4) n = false := by
  induction n with
  | zero => have := count_pos h; omega
  | succ k ih =>
    rw [Pipeline.Cfg.fresh_succ _ _ k (show k < (cfgA h).N from by have := N_eq h; omega), idle3]
    have hf : ((cfgA h).win (3 : Fin 4)).flush ⟨k, (show k < (cfgA h).N from by have := N_eq h; omega)⟩ = false := by
      rw [← Bool.not_eq_true, flush3]; simp only; omega
    rw [hf, Bool.false_or]
    by_cases hk : count T1 ≤ k
    · rw [ih (by omega) hk, Bool.and_false]
    · rw [decide_eq_false (by simpa using hk), Bool.false_and]

/-! ## The blocks -/

variable (m : (ℓ : Loc nD τ sig) → Buf (Elt Ideal) ℓ) (ρ : Dev nD → PrngReg)

/-- Window `w`'s block at point `t`, read off its array at launch. -/
def iblk (c : Dev nD) (w : Fin (cfgA h).W) (t : Fin (cfgA h).N) : (((cfgA h).win w).xblock (crd h t)).Idx → Elt Ideal ((cfgA h).win w).elt :=
  (((cfgA h).win w).blk t).view.read (Elt Ideal) ((s₀ m ρ).mem (((cfgA h).win w).arr.view.loc (c : Thread nD τ)))

theorem iblk0_at (c : Dev nD) (t : Fin (cfgA h).N) (y : S512x4096.Idx) :
    (iblk h m ρ c (0 : Fin 4) t : S512x4096.Idx → _) y = m (c.tc.loc main_arg2) (ix2 ⟨min t.val (count T1 - 1) * 512 + (y 0).val, by have h1 : t.val < 320 := t.isLt; have h2 : (y 0).val < 512 := (y 0).isLt; omega⟩ (y 1)) := by
  have e := at0 h t
  blk_ext [iblk, e]

theorem iblk1_at (c : Dev nD) (t : Fin (cfgA h).N) (y : S1x4096x384.Idx) :
    (iblk h m ρ c (1 : Fin 4) t : S1x4096x384.Idx → _) y = m (c.tc.loc main_arg3) (ix3 ⟨expert T0 t, h.te _⟩ (y 1) (y 2)) := by
  have e := at1 h t
  blk_ext [iblk, e]

theorem iblk2_at (c : Dev nD) (t : Fin (cfgA h).N) (y : S1x192x4096.Idx) :
    (iblk h m ρ c (2 : Fin 4) t : S1x192x4096.Idx → _) y = m (c.tc.loc main_arg4) (ix3 ⟨expert T0 t, h.te _⟩ (y 1) (y 2)) := by
  have e := at2 h t
  blk_ext [iblk, e]

/-- Two points of one expert see one pair of weight blocks. -/
theorem iblk1_eq (c : Dev nD) (t u : Fin (cfgA h).N) (e : expert T0 t = expert T0 u) :
    (iblk h m ρ c (1 : Fin 4) t : S1x4096x384.Idx → _) = (iblk h m ρ c (1 : Fin 4) u : S1x4096x384.Idx → _) := by
  funext y
  refine (iblk1_at h m ρ c t y).trans (Eq.trans ?_ (iblk1_at h m ρ c u y).symm)
  congr 2; exact Fin.ext e

theorem iblk2_eq (c : Dev nD) (t u : Fin (cfgA h).N) (e : expert T0 t = expert T0 u) :
    (iblk h m ρ c (2 : Fin 4) t : S1x192x4096.Idx → _) = (iblk h m ρ c (2 : Fin 4) u : S1x192x4096.Idx → _) := by
  funext y
  refine (iblk2_at h m ρ c t y).trans (Eq.trans ?_ (iblk2_at h m ρ c u y).symm)
  congr 2; exact Fin.ext e

/-! ## What the body leaves -/

/-- The scratches once the weights are reloaded: the blocks cast. -/
def keep0 (x1 : S1x4096x384.Idx → Elt Ideal .f32) := scM0_0.view.writes (Elt Ideal) scM0_0.view.junk (kernelRun0_A.sl.HS0_1 (Memref.whole cc0_stg1_0) x1)
def keep1 (x2 : S1x192x4096.Idx → Elt Ideal .f32) := scM0_1.view.writes (Elt Ideal) scM0_1.view.junk (kernelRun0_A.sl.HS1_1 (Memref.whole cc0_stg2_0) x2)

/-- The tile the body stores, from its rows and its expert's weights. -/
def tile (c : Dev nD) (x0 : S512x4096.Idx → Elt Ideal .bf16) (x1 : S1x4096x384.Idx → Elt Ideal .f32) (x2 : S1x192x4096.Idx → Elt Ideal .f32) : S512x4096.Idx → Elt Ideal .bf16 :=
  VO0_3.read (Elt Ideal) (VO0_3.writes (Elt Ideal) VO0_3.junk (kernelRun0_B.sl.HO3_8 c (Memref.whole cc0_stg0_0) x0 (keep0 x1) (keep1 x2)))

theorem scr0 (a : Memref sig .tc .vmem S1x4096x384 .f32) (x1) : kernelRun0_A.sl.HS0_1 a x1 = kernelRun0_A.sl.HS0_1 (Memref.whole cc0_stg1_0) x1 := by
  unfold kernelRun0_A.sl.HS0_1; rw [View.readAt_rep, View.readAt_rep]
theorem scr1 (a : Memref sig .tc .vmem S1x192x4096 .f32) (x2) : kernelRun0_A.sl.HS1_1 a x2 = kernelRun0_A.sl.HS1_1 (Memref.whole cc0_stg2_0) x2 := by
  unfold kernelRun0_A.sl.HS1_1; rw [View.readAt_rep, View.readAt_rep]

theorem pieces_B (c : Dev nD) (a : Memref sig .tc .vmem S512x4096 .bf16) (x0 s0 s1) :
    kernelRun0_B.sl.HO3_8 c a x0 s0 s1 = kernelRun0_B.sl.HO3_8 c (Memref.whole cc0_stg0_0) x0 s0 s1 := by
  simp only [kernelRun0_B.sl.HO3_8, kernelRun0_B.sl.r, kernelRun0_B.sl.r_1, kernelRun0_B.sl.r_10, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v11, kernelRun0_B.sl.v12, kernelRun0_B.sl.v13, kernelRun0_B.sl.v14, kernelRun0_B.sl.v4, View.readAt_rep]

theorem pieces_A (c : Dev nD) (a3 : Memref sig .tc .vmem S512x4096 .bf16) (a4 : Memref sig .tc .vmem S1x4096x384 .f32) (a5 : Memref sig .tc .vmem S1x192x4096 .f32) (x0 x1 x2) :
    kernelRun0_A.sl.HO3_8 a3 a4 a5 x0 x1 x2 = kernelRun0_B.sl.HO3_8 c (Memref.whole cc0_stg0_0) x0 (keep0 x1) (keep1 x2) := by
  simp only [kernelRun0_A.sl.HO3_8, kernelRun0_A.sl.r, kernelRun0_A.sl.r_1, kernelRun0_A.sl.r_10, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v11, kernelRun0_A.sl.v12, kernelRun0_A.sl.v13, kernelRun0_A.sl.v14, kernelRun0_A.sl.v19, kernelRun0_A.sl.v21, kernelRun0_A.sl.v26, kernelRun0_A.sl.v28, kernelRun0_A.sl.v34, kernelRun0_A.sl.v36, kernelRun0_A.sl.v4, kernelRun0_A.sl.v40, kernelRun0_A.sl.v42, kernelRun0_A.sl.v52, kernelRun0_A.sl.v54, kernelRun0_A.sl.v56, kernelRun0_A.sl.v58, kernelRun0_A.sl.v64, kernelRun0_A.sl.v66, kernelRun0_A.sl.v72, kernelRun0_A.sl.v74,
    kernelRun0_B.sl.HO3_8, kernelRun0_B.sl.r, kernelRun0_B.sl.r_1, kernelRun0_B.sl.r_10, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v11, kernelRun0_B.sl.v12, kernelRun0_B.sl.v13, kernelRun0_B.sl.v14, kernelRun0_B.sl.v4, View.readAt_rep, View.readCov, keep0, keep1, scr0 a4 x1, scr1 a5 x2]

/-! ## The invariant and the data -/

/-- The tile whose expert's weights the scratches hold before point `n`. -/
def lastAt (n : ℕ) : Fin (cfgA h).N := ⟨min (n - 1) (count T1 - 1) % 320, Nat.mod_lt _ (by decide)⟩

theorem lastAt_succ (t : Fin (cfgA h).N) : lastAt h (t.val + 1) = tileAt h t := by
  have ht : t.val < 320 := t.isLt
  apply Fin.ext; show min (t.val + 1 - 1) (count T1 - 1) % 320 = min t.val (count T1 - 1)
  rw [Nat.mod_eq_of_lt (by omega)]; omega

theorem lastAt_val (t : Fin (cfgA h).N) : (lastAt h t.val).val = min (t.val - 1) (count T1 - 1) := by
  have ht : t.val < 320 := t.isLt
  exact Nat.mod_eq_of_lt (by omega)

/-- The scratches at tile `u`'s weights where `z`, the body's halves of the tables. -/
def Held (c : Dev nD) (z : Prop) (u : Fin (cfgA h).N) : sProp 𝕄 :=
  iprop((∃ a, ⌜z → a = keep0 (iblk h m ρ c (1 : Fin 4) u)⌝ ∗ (scM0_0.view.loc (c : Thread nD τ) ↦{fullShare} a))
    ∗ (∃ a, ⌜z → a = keep1 (iblk h m ρ c (2 : Fin 4) u)⌝ ∗ (scM0_1.view.loc (c : Thread nD τ) ↦{fullShare} a))
    ∗ (tbM0_0.view.loc (c : Thread nD τ) ↦{fullShare.right} T0) ∗ (tbM0_1.view.loc (c : Thread nD τ) ↦{fullShare.right} T1))

/-- Before point `t`: from the second on, the scratches hold the weights of the tile worked on last. -/
def Phi (c : Dev nD) (t : Fin ((cfgA h).N + 1)) : sProp 𝕄 := Held h m ρ c (t.val ≠ 0) (lastAt h t.val)

theorem Phi_before (c : Dev nD) (t : Fin (cfgA h).N) : Phi h m ρ c t.castSucc = Held h m ρ c (t.val ≠ 0) (lastAt h t.val) := rfl
theorem Phi_after (c : Dev nD) (t : Fin (cfgA h).N) : Phi h m ρ c t.succ = Held h m ρ c (t.val + 1 ≠ 0) (tileAt h t) :=
  congrArg (Held h m ρ c (t.val + 1 ≠ 0)) (lastAt_succ h t)

/-- The tile of a point's rows and its expert. -/
def tileOf (c : Dev nD) (t : Fin (cfgA h).N) : S512x4096.Idx → Elt Ideal .bf16 :=
  tile c (iblk h m ρ c (0 : Fin 4) t) (iblk h m ρ c (1 : Fin 4) t) (iblk h m ρ c (2 : Fin 4) t)

def dats (_ : Fin 1) (c : Dev nD) : Dat τ (Elt Ideal) Unit ℕ (UR sig nD τ) ℕ (cfgA h) c where
  A w := (s₀ m ρ).mem (((cfgA h).win w).arr.view.loc (c : Thread nD τ))
  after w t := match w with
    | ⟨0, _⟩ => iblk h m ρ c (0 : Fin 4) t
    | ⟨1, _⟩ => iblk h m ρ c (1 : Fin 4) t
    | ⟨2, _⟩ => iblk h m ρ c (2 : Fin 4) t
    | ⟨3, _⟩ => tileOf h m ρ c (tileAt h t)
  Φ t := Phi h m ρ c t
  q _ := fullShare
  owed _ := 0

theorem after0 (c : Dev nD) (t : Fin (cfgA h).N) : (dats h m ρ 0 c).after (0 : Fin 4) t = iblk h m ρ c (0 : Fin 4) t := rfl
theorem after1 (c : Dev nD) (t : Fin (cfgA h).N) : (dats h m ρ 0 c).after (1 : Fin 4) t = iblk h m ρ c (1 : Fin 4) t := rfl
theorem after2 (c : Dev nD) (t : Fin (cfgA h).N) : (dats h m ρ 0 c).after (2 : Fin 4) t = iblk h m ρ c (2 : Fin 4) t := rfl
attribute [local irreducible] tileOf in
theorem after3 (c : Dev nD) (t : Fin (cfgA h).N) : (dats h m ρ 0 c).after (3 : Fin 4) t = tileOf h m ρ c (tileAt h t) := rfl

theorem before0 (c : Dev nD) (t : Fin (cfgA h).N) (d) : (dats h m ρ 0 c).before (0 : Fin 4) t d = iblk h m ρ c (0 : Fin 4) t :=
  ((dats h m ρ 0 c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA h).N) (d) : (dats h m ρ 0 c).before (1 : Fin 4) t d = iblk h m ρ c (1 : Fin 4) t :=
  ((dats h m ρ 0 c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA h).N) (d) : (dats h m ρ 0 c).before (2 : Fin 4) t d = iblk h m ρ c (2 : Fin 4) t :=
  ((dats h m ρ 0 c).before_in_eq_fetched (2 : Fin 4) rfl (fun _ => rfl) (fun _ _ _ => rfl) (fun t => by rw [after2]; unfold Dat.blockOf iblk; rfl) t d).trans
    (by unfold Dat.fetched Dat.blockOf iblk; rfl)

/-- Past the count the tile stays. -/
theorem tileAt_pred (t : Fin (cfgA h).N) (hc : count T1 ≤ t.val) : tileAt h t = tileAt h ⟨t.val - 1, by omega⟩ := by
  apply Fin.ext; show min t.val (count T1 - 1) = min (t.val - 1) (count T1 - 1); omega

theorem before3 (c : Dev nD) (t : Fin (cfgA h).N) (d) (hc : count T1 ≤ t.val) :
    (dats h m ρ 0 c).before (3 : Fin 4) t d = tileOf h m ρ c (tileAt h t) := by
  rw [(dats h m ρ 0 c).before_out_traj (3 : Fin 4) rfl (fun _ _ => rfl) (fun u hu hi _ => by
    rw [idle3, decide_eq_true_eq] at hi
    rw [after3, after3, tileAt_pred h u hi]) t.val t rfl d]
  rw [fresh3 h t.val t.isLt hc, after3, tileAt_pred h t hc]; rfl

theorem lastAt_past (t : Fin (cfgA h).N) (hc : count T1 ≤ t.val) : lastAt h t.val = tileAt h t := by
  apply Fin.ext; rw [lastAt_val]; show min (t.val - 1) (count T1 - 1) = min t.val (count T1 - 1); omega

theorem tileAt_live (t : Fin (cfgA h).N) (hc : t.val < count T1) : tileAt h t = t := by
  apply Fin.ext; show min t.val (count T1 - 1) = t.val; omega

/-! ## The body at a point -/

/-- The weights are reloaded at the point. -/
def loads (t : Fin (cfgA h).N) : Prop :=
  (Scalar.cmpi .ne (Scalar.extui (Scalar.ori (Scalar.cmpi .eq (BitVec.ofNat 32 ((crd h t) 0).val) 0#32) (Scalar.cmpi .ne
    (View.readAt (Elt Ideal) (tbM0_0).view (Rect.unit (s := S320) (k0_off2 (crd h t)) S1.size (k0_off2_inb (crd h t))).toLoadRect T0 (Shape.Idx.first (numel1_S1.symm ▸ Nat.one_pos)))
    (View.readAt (Elt Ideal) (tbM0_0).view (Rect.unit (s := S320) (k0_off3 (crd h t)) S1.size (k0_off3_inb (crd h t))).toLoadRect T0 (Shape.Idx.first (numel1_S1.symm ▸ Nat.one_pos)))))) 0#32) = 1#1

theorem prev_val (i : grid0.Coords) (h0 : (i 0).val ≠ 0) :
    (Scalar.indexCast (Scalar.maxsi (Scalar.subi (BitVec.ofNat 32 (i 0).val) 1#32) 0#32)).toNat = (i 0).val - 1 := by
  have hi : (i 0).val < 320 := (i 0).isLt
  have e0 : (BitVec.ofNat 32 (i 0).val).toNat = (i 0).val := by simp; omega
  have e : (Scalar.subi (BitVec.ofNat 32 (i 0).val) 1#32).toNat = (i 0).val - 1 := by
    show (BitVec.ofNat 32 (i 0).val - 1#32).toNat = _
    rw [BitVec.toNat_sub, e0]; simp; omega
  show (IntOp.maxsi _ _).toNat = _
  unfold IntOp.maxsi
  split
  · exact e
  · rename_i hs
    rw [BitVec.slt, decide_eq_true_eq, BitVec.toInt_eq_toNat_of_lt (x := Scalar.subi _ _) (by omega), e] at hs
    simp at hs ⊢; omega

/-- Where they are kept the point is not the first and its expert is the one before's. -/
theorem kept (t : Fin (cfgA h).N) (hl : ¬ loads h t) :
    t.val ≠ 0 ∧ ∀ u : Fin (cfgA h).N, u.val = t.val - 1 → expert T0 t = expert T0 u := by
  have ht : t.val < 320 := t.isLt
  have hi : (crd h t 0).val < 320 := (crd h t 0).isLt
  obtain ⟨ha, hb⟩ := kept_words _ _ _ hl
  have h0 : t.val ≠ 0 := by
    intro e; apply ha; rw [crd_val h t, e]
  refine ⟨h0, fun u hu => ?_⟩
  have e1 := word0 T0 (crd h t) ((Rect.unit (s := S320) (k0_off2 (crd h t)) S1.size (k0_off2_inb (crd h t))).toLoadRect.idx (Shape.Idx.first (numel1_S1.symm ▸ Nat.one_pos)))
    ((Nat.add_zero _).trans (off_val (crd h t)))
  have e2 : T0 ((Rect.unit (s := S320) (k0_off3 (crd h t)) S1.size (k0_off3_inb (crd h t))).toLoadRect.idx (Shape.Idx.first (numel1_S1.symm ▸ Nat.one_pos))) = T0 (ix1 (u : Fin 320)) := by
    congr 1; funext a; fin_cases a; apply Fin.ext
    refine ((Nat.add_zero _).trans (prev_val (crd h t) (by rw [crd_val]; exact h0))).trans ?_
    rw [crd_val]; exact hu.symm
  have e3 : T0 (ix1 (t : Fin 320)) = T0 (ix1 (u : Fin 320)) := by
    rw [← crd_eq h t]; exact e1.symm.trans (hb.trans e2)
  exact congrArg BitVec.toNat e3

/-- The body at point `t` on its staging memrefs. -/
abbrev bodyAt (t : Fin (cfgA h).N) : Prog (TpuEff nD τ sig (Elt Ideal) Λ₀ .tc) PUnit :=
  cc0_grouped_experts (crd h t) (Memref.whole main_arg0) (Memref.isWhole_whole _) (Memref.whole main_arg1) (Memref.isWhole_whole _) (st0 h t) (hst0 h t) (st1 h t) (hst1 h t) (st2 h t) (hst2 h t) (st3 h t) (hst3 h t) (Memref.whole cc0_scratch0) (Memref.isWhole_whole _) (Memref.whole cc0_scratch1) (Memref.isWhole_whole _)

/-- The body's obligation at a point. -/
def Sound (c : Dev nD) (t : Fin (cfgA h).N) : Prop :=
    iprop((dats h m ρ 0 c).Φ t.castSucc ∗ (dats h m ρ 0 c).owesAt () t.castSucc
        ∗ (∃ d, owns (c : Thread nD τ) (st0 h t) fullShare ((dats h m ρ 0 c).before (0 : Fin 4) t d))
        ∗ (∃ d, owns (c : Thread nD τ) (st1 h t) fullShare ((dats h m ρ 0 c).before (1 : Fin 4) t d))
        ∗ (∃ d, owns (c : Thread nD τ) (st2 h t) fullShare ((dats h m ρ 0 c).before (2 : Fin 4) t d))
        ∗ (∃ d, owns (c : Thread nD τ) (st3 h t) fullShare ((dats h m ρ 0 c).before (3 : Fin 4) t d)))
      ⊢ wp frame (wpE (defs₀ (F := Ideal)) Variants.none c none) Set.univ (bodyAt h t) fun _ =>
          iprop((dats h m ρ 0 c).Φ t.succ ∗ (dats h m ρ 0 c).owesAt () t.succ
            ∗ bigSep Finset.univ fun w : Fin (cfgA h).W =>
                match (cfgA h).idle w ((cfgA h).grid.coords t) with
                | true =>
                  match ((cfgA h).win w).flush t with
                  | false => iprop(∃ d, owns (c : Thread nD τ) (((cfgA h).win w).stage ((cfgA h).slots t w)) fullShare ((dats h m ρ 0 c).before w t d))
                  | true => owns (c : Thread nD τ) (((cfgA h).win w).stage ((cfgA h).slots t w)) fullShare ((dats h m ρ 0 c).after w t)
                | false => owns (c : Thread nD τ) (((cfgA h).win w).stage ((cfgA h).slots t w)) fullShare ((dats h m ρ 0 c).after w t))

attribute [local irreducible] keep0 keep1 iblk lastAt tileAt tileOf

section
variable (c : Dev nD) (i : grid0.Coords) (a3 : Memref sig .tc .vmem S512x4096 .bf16) (h3 : a3.IsWhole) (a4 : Memref sig .tc .vmem S1x4096x384 .f32) (h4 : a4.IsWhole)
  (a5 : Memref sig .tc .vmem S1x192x4096 .f32) (h5 : a5.IsWhole) (a6 : Memref sig .tc .vmem S512x4096 .bf16) (h6 : a6.IsWhole)
theorem runA_out {x0 x1 x2 k q} : (kernelRun0_A c i a3 h3 a4 h4 a5 h5 a6 h6 T0 T1 x0 x1 x2 k q).1 = kernelRun0_A.sl.HO3_8 a3 a4 a5 x0 x1 x2 := rfl
attribute [local irreducible] View.writes kernelRun0_A.sl.HS0_1 in
theorem runA_scr0 {x0 x1 x2 k q} : (kernelRun0_A c i a3 h3 a4 h4 a5 h5 a6 h6 T0 T1 x0 x1 x2 k q).2.1 = scM0_0.view.writes (Elt Ideal) scM0_0.view.junk (kernelRun0_A.sl.HS0_1 a4 x1) := rfl
attribute [local irreducible] View.writes kernelRun0_A.sl.HS1_1 in
theorem runA_scr1 {x0 x1 x2 k q} : (kernelRun0_A c i a3 h3 a4 h4 a5 h5 a6 h6 T0 T1 x0 x1 x2 k q).2.2.1 = scM0_1.view.writes (Elt Ideal) scM0_1.view.junk (kernelRun0_A.sl.HS1_1 a5 x2) := rfl
theorem runB_out {x0 x1 x2 s0 s1 k q} : (kernelRun0_B c i a3 h3 a4 h4 a5 h5 a6 h6 T0 T1 x0 x1 x2 s0 s1 k q).1 = kernelRun0_B.sl.HO3_8 c a3 x0 s0 s1 := rfl
end

theorem tileOf_A (c : Dev nD) (t : Fin (cfgA h).N) (a3 : Memref sig .tc .vmem S512x4096 .bf16) (a4 : Memref sig .tc .vmem S1x4096x384 .f32) (a5 : Memref sig .tc .vmem S1x192x4096 .f32) :
    VO0_3.read (Elt Ideal) (VO0_3.writes (Elt Ideal) VO0_3.junk (kernelRun0_A.sl.HO3_8 a3 a4 a5 (iblk h m ρ c (0 : Fin 4) t) (iblk h m ρ c (1 : Fin 4) t) (iblk h m ρ c (2 : Fin 4) t))) = tileOf h m ρ c t := by
  unfold tileOf tile; rw [pieces_A c]

theorem tileOf_B (c : Dev nD) (t : Fin (cfgA h).N) (a3 : Memref sig .tc .vmem S512x4096 .bf16) (s0 s1) (e0 : s0 = keep0 (iblk h m ρ c (1 : Fin 4) t)) (e1 : s1 = keep1 (iblk h m ρ c (2 : Fin 4) t)) :
    VO0_3.read (Elt Ideal) (VO0_3.writes (Elt Ideal) VO0_3.junk (kernelRun0_B.sl.HO3_8 c a3 (iblk h m ρ c (0 : Fin 4) t) s0 s1)) = tileOf h m ρ c t := by
  unfold tileOf tile; rw [pieces_B c, e0, e1]

theorem keep0_A (a : Memref sig .tc .vmem S1x4096x384 .f32) (x1) : scM0_0.view.writes (Elt Ideal) scM0_0.view.junk (kernelRun0_A.sl.HS0_1 a x1) = keep0 x1 := by
  unfold keep0; rw [scr0]
theorem keep1_A (a : Memref sig .tc .vmem S1x192x4096 .f32) (x2) : scM0_1.view.writes (Elt Ideal) scM0_1.view.junk (kernelRun0_A.sl.HS1_1 a x2) = keep1 x2 := by
  unfold keep1; rw [scr1]

set_option maxHeartbeats 1000000 in
theorem sound_A (c : Dev nD) (t : Fin (cfgA h).N) (q0 : runs h t) (q1 : loads h t) : Sound h m ρ c t := by
  unfold Sound
  rw [bigSep_W0]
  have i3 := idle3 h t
  have hc := (runs_lt h t).1 q0
  rw [decide_eq_false (by omega)] at i3
  rewrite [i3]
  simp only [before0, before1, before2, after0, after1, after2, after3]
  rewrite [show (dats h m ρ 0 c).Φ t.succ = Phi h m ρ c t.succ from rfl, show (dats h m ρ 0 c).Φ t.castSucc = Phi h m ρ c t.castSucc from rfl,
    show (dats h m ρ 0 c).owesAt () t.succ = (dats h m ρ 0 c).owesAt () t.castSucc from rfl, Phi_before, Phi_after, tileAt_live h t hc]
  unfold Held
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  iapply ((kernelRun0_A c (crd h t) (st0 h t) (hst0 h t) (st1 h t) (hst1 h t) (st2 h t) (hst2 h t) (st3 h t) (hst3 h t) T0 T1 (iblk h m ρ c (0 : Fin 4) t) (iblk h m ρ c (1 : Fin 4) t) (iblk h m ρ c (2 : Fin 4) t) q0 q1).2.2.2 a0 a1 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  iintro ⟨H0, H1, H2, HT0, HT1, ⟨%e3, H3⟩, HS0, HS1⟩
  isplitl [HS0 HS1 HT0 HT1]
  · isplitl [HS0]
    · iexists _; isplitr; swap
      · iexact HS0
      · ipureintro; intro _; exact (runA_scr0 _ _ _ _ _ _ _ _ _ _).trans (keep0_A _ _)
    isplitl [HS1]
    · iexists _; isplitr; swap
      · iexact HS1
      · ipureintro; intro _; exact (runA_scr1 _ _ _ _ _ _ _ _ _ _).trans (keep1_A _ _)
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  unfold owns; iexists _; isplitr; swap
  · iexact H3
  · ipureintro
    exact (View.read_writes_of_cover _ _ _ _ _ (cover0_A_3 c _ _ _ _ _ _ _ _ _ _ _ _ _ _ _ _)).trans
      ((congrArg (fun L => VO0_3.read (Elt Ideal) (VO0_3.writes (Elt Ideal) VO0_3.junk L)) (runA_out c _ _ _ _ _ _ _ _ _)).trans (tileOf_A h m ρ c t _ _ _))

set_option maxHeartbeats 1000000 in
theorem sound_B (c : Dev nD) (t : Fin (cfgA h).N) (q0 : runs h t) (q1 : ¬ loads h t) : Sound h m ρ c t := by
  unfold Sound
  rw [bigSep_W0]
  have i3 := idle3 h t
  have hc := (runs_lt h t).1 q0
  rw [decide_eq_false (by omega)] at i3
  obtain ⟨h0, hx⟩ := kept h t q1
  have hl : (lastAt h t.val).val = t.val - 1 := by rw [lastAt_val]; omega
  have w1 := iblk1_eq h m ρ c t _ (hx _ hl)
  have w2 := iblk2_eq h m ρ c t _ (hx _ hl)
  rewrite [i3]
  simp only [before0, before1, before2, after0, after1, after2, after3]
  rewrite [show (dats h m ρ 0 c).Φ t.succ = Phi h m ρ c t.succ from rfl, show (dats h m ρ 0 c).Φ t.castSucc = Phi h m ρ c t.castSucc from rfl,
    show (dats h m ρ 0 c).owesAt () t.succ = (dats h m ρ 0 c).owesAt () t.castSucc from rfl, Phi_before, Phi_after, tileAt_live h t hc]
  unfold Held
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  iapply ((kernelRun0_B c (crd h t) (st0 h t) (hst0 h t) (st1 h t) (hst1 h t) (st2 h t) (hst2 h t) (st3 h t) (hst3 h t) T0 T1 (iblk h m ρ c (0 : Fin 4) t) (iblk h m ρ c (1 : Fin 4) t) (iblk h m ρ c (2 : Fin 4) t) a0 a1 q0 q1).2.2.2 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  iintro ⟨H0, H1, H2, HT0, HT1, ⟨%e3, H3⟩, HS0, HS1⟩
  isplitl [HS0 HS1 HT0 HT1]
  · isplitl [HS0]
    · iexists _; isplitr; swap
      · iexact HS0
      · ipureintro; intro _; exact (ha0 h0).trans (congrArg keep0 w1.symm)
    isplitl [HS1]
    · iexists _; isplitr; swap
      · iexact HS1
      · ipureintro; intro _; exact (ha1 h0).trans (congrArg keep1 w2.symm)
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  unfold owns; iexists _; isplitr; swap
  · iexact H3
  · ipureintro
    refine (View.read_writes_of_cover _ _ _ _ _ (cover0_B_3 c _ _ _ _ _ _ _ _ _ _ _ _ _ _ _ _ _ _)).trans
      ((congrArg (fun L => VO0_3.read (Elt Ideal) (VO0_3.writes (Elt Ideal) VO0_3.junk L)) (runB_out c _ _ _ _ _ _ _ _ _)).trans (tileOf_B h m ρ c t _ _ _ ((ha0 h0).trans (congrArg keep0 w1.symm)) ((ha1 h0).trans (congrArg keep1 w2.symm))))

set_option maxHeartbeats 1000000 in
theorem sound_C (c : Dev nD) (t : Fin (cfgA h).N) (q0 : ¬ runs h t) (f3 : ((cfgA h).win (3 : Fin 4)).flush t = false) : Sound h m ρ c t := by
  unfold Sound
  rw [bigSep_W0]
  have i3 := idle3 h t
  have hc : count T1 ≤ t.val := by by_contra hk; exact q0 ((runs_lt h t).2 (by omega))
  have h0 : t.val ≠ 0 := by have := count_pos h; omega
  have hp := lastAt_past h t hc
  rw [decide_eq_true hc] at i3
  rewrite [i3]
  simp only [before0, before1, before2, f3, after0, after1, after2, after3]
  rewrite [show (dats h m ρ 0 c).Φ t.succ = Phi h m ρ c t.succ from rfl, show (dats h m ρ 0 c).Φ t.castSucc = Phi h m ρ c t.castSucc from rfl,
    show (dats h m ρ 0 c).owesAt () t.succ = (dats h m ρ 0 c).owesAt () t.castSucc from rfl, Phi_before, Phi_after]
  unfold Held
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  iapply ((kernelRun0_C c (crd h t) (st0 h t) (hst0 h t) (st1 h t) (hst1 h t) (st2 h t) (hst2 h t) (st3 h t) (hst3 h t) T0 T1 (iblk h m ρ c (0 : Fin 4) t) (iblk h m ρ c (1 : Fin 4) t) (iblk h m ρ c (2 : Fin 4) t) a0 a1 q0).2.2 _ _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  iintro ⟨H0, H1, H2, HT0, HT1, H3, HS0, HS1⟩
  isplitl [HS0 HS1 HT0 HT1]
  · isplitl [HS0]
    · iexists _; isplitr; swap
      · iexact HS0
      · ipureintro; intro _; rw [← hp]; exact ha0 h0
    isplitl [HS1]
    · iexists _; isplitr; swap
      · iexact HS1
      · ipureintro; intro _; rw [← hp]; exact ha1 h0
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  first | (iexists d3; iexact H3) | iexact H3

set_option maxHeartbeats 1000000 in
theorem sound_D (c : Dev nD) (t : Fin (cfgA h).N) (q0 : ¬ runs h t) (f3 : ((cfgA h).win (3 : Fin 4)).flush t = true) : Sound h m ρ c t := by
  unfold Sound
  rw [bigSep_W0]
  have i3 := idle3 h t
  have hc : count T1 ≤ t.val := by by_contra hk; exact q0 ((runs_lt h t).2 (by omega))
  have h0 : t.val ≠ 0 := by have := count_pos h; omega
  have hp := lastAt_past h t hc
  rw [decide_eq_true hc] at i3
  have b3 := fun d => before3 h m ρ c t d hc
  rewrite [i3]
  simp only [before0, before1, before2, f3, b3, after0, after1, after2, after3]
  rewrite [show (dats h m ρ 0 c).Φ t.succ = Phi h m ρ c t.succ from rfl, show (dats h m ρ 0 c).Φ t.castSucc = Phi h m ρ c t.castSucc from rfl,
    show (dats h m ρ 0 c).owesAt () t.succ = (dats h m ρ 0 c).owesAt () t.castSucc from rfl, Phi_before, Phi_after]
  unfold Held
  iintro ⟨⟨⟨%a0, %ha0, HS0⟩, ⟨%a1, %ha1, HS1⟩, HT0, HT1⟩, Ho, ⟨%d0, H0⟩, ⟨%d1, H1⟩, ⟨%d2, H2⟩, ⟨%d3, H3⟩⟩
  iapply ((kernelRun0_C c (crd h t) (st0 h t) (hst0 h t) (st1 h t) (hst1 h t) (st2 h t) (hst2 h t) (st3 h t) (hst3 h t) T0 T1 (iblk h m ρ c (0 : Fin 4) t) (iblk h m ρ c (1 : Fin 4) t) (iblk h m ρ c (2 : Fin 4) t) a0 a1 q0).2.2 _ _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  iintro ⟨H0, H1, H2, HT0, HT1, H3, HS0, HS1⟩
  isplitl [HS0 HS1 HT0 HT1]
  · isplitl [HS0]
    · iexists _; isplitr; swap
      · iexact HS0
      · ipureintro; intro _; rw [← hp]; exact ha0 h0
    isplitl [HS1]
    · iexists _; isplitr; swap
      · iexact HS1
      · ipureintro; intro _; rw [← hp]; exact ha1 h0
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  first | (iexists d3; iexact H3) | iexact H3

theorem sound_body (c : Dev nD) (t : Fin (cfgA h).N) : Sound h m ρ c t := by
  by_cases q0 : runs h t
  · by_cases q1 : loads h t
    · exact sound_A h m ρ c t q0 q1
    · exact sound_B h m ρ c t q0 q1
  · cases f3 : ((cfgA h).win (3 : Fin 4)).flush t
    · exact sound_C h m ρ c t q0 f3
    · exact sound_D h m ρ c t q0 f3

theorem body_obligation (c : Dev nD) : BodyObligation (dats h m ρ 0 c) (defs₀ (F := Ideal)) Variants.none () Set.univ := fun t => by
  rw [bigSep_W0]
  exact sound_body h m ρ c t

end Cert.LastExpertsIdeal.Tab
-- ==== Proof.LastTile.lean ====
module

public import proofs.«01_k».proof.Proof.LastRun
public import Idealize.ShloMosaic.Lib.Pointwise
public import Idealize.ShloMosaic.Lib.VecWindow
public import Idealize.ShloMosaic.Lib.Pipeline.ValueKit
public import Idealize.ShloMosaic.Lib.Tactic.CleanTypes

@[expose] public section

set_option maxRecDepth 16384

noncomputable section

/-! The kernel's tile at an index. -/

namespace Cert.LastTile

open Cert.LastExpertsIdeal Cert.LastExpertsIdeal.Gen Cert.LastExpertsIdeal.Tab Idealize.ShloMosaic Idealize.ShloMosaic.TcCoe Idealize.ShloMosaic.Pointwise

/-- The gated unit's output, of its two inputs. -/
def gate (g u : EReal) : EReal := g * Ideal.div 1 (1 + Ideal.exp (-g)) * u

theorem keep0_at (x1 : Vec Ideal S1x4096x384 .f32) (o : ℕ) (ib) (k : Fin 512) (f : Fin 384) (ho : o + 512 ≤ 4096) :
    View.readAt (Elt Ideal) scM0_0.view (Rect.unit (s := S4096x384) ![o, 0] S512x384.size ib).toLoadRect (keep0 x1) (ix2 k f) = x1 (ix3 0 ⟨o + k, by omega⟩ f) := by
  have e : scM0_0.view.read (Elt Ideal) (keep0 x1) = k0_pay7 x1 := by
    unfold keep0 kernelRun0_A.sl.HS0_1
    rw [View.readAt_rep_full]
    exact View.read_writes_full _ _ _ _ _
  rw [View.readAt_apply, e]
  unfold_payloads
  pointwise

theorem keep1_at (x2 : Vec Ideal S1x192x4096 .f32) (o : ℕ) (ib) (k : Fin 192) (f : Fin 512) (ho : o + 512 ≤ 4096) :
    View.readAt (Elt Ideal) scM0_1.view (Rect.unit (s := S192x4096) ![0, o] S192x512.size ib).toLoadRect (keep1 x2) (ix2 k f) = x2 (ix3 0 k ⟨o + f, by omega⟩) := by
  have e : scM0_1.view.read (Elt Ideal) (keep1 x2) = k0_pay8 x2 := by
    unfold keep1 kernelRun0_A.sl.HS1_1
    rw [View.readAt_rep_full]
    exact View.read_writes_full _ _ _ _ _
  rw [View.readAt_apply, e]
  unfold_payloads
  pointwise

theorem rows_at (x0 : Vec Ideal S512x4096 .bf16) (o : ℕ) (ib) (r k : Fin 512) (ho : o + 512 ≤ 4096) :
    View.readAt (Elt Ideal) (Memref.whole cc0_stg0_0).view (Rect.unit (s := S512x4096) ![0, o] S512x512.size ib).toLoadRect ((Memref.whole cc0_stg0_0).view.rep x0) (ix2 r k) = x0 (ix2 r ⟨o + k, by omega⟩) := by
  rw [View.readAt_rep]
  show x0 _ = x0 _
  congr 1
  funext a
  fin_cases a <;> apply Fin.ext <;> simp

theorem sum8 (g : Fin 4096 → EReal) :
    ∑ d, g d = ((((∑ k : Fin 512, g ⟨0 + k, by omega⟩) + ∑ k : Fin 512, g ⟨2048 + k, by omega⟩) + ((∑ k : Fin 512, g ⟨512 + k, by omega⟩) + ∑ k : Fin 512, g ⟨2560 + k, by omega⟩))
      + ((∑ k : Fin 512, g ⟨1024 + k, by omega⟩) + ∑ k : Fin 512, g ⟨3072 + k, by omega⟩)) + ((∑ k : Fin 512, g ⟨1536 + k, by omega⟩) + ∑ k : Fin 512, g ⟨3584 + k, by omega⟩) := by
  have e : ∑ d, g d = ∑ j : Fin 8, ∑ k : Fin 512, g ⟨512 * j + k, by omega⟩ := by
    rw [← (finProdFinEquiv (m := 8) (n := 512)).sum_comp g, Fintype.sum_prod_type]
    refine Finset.sum_congr rfl fun j _ => Finset.sum_congr rfl fun k _ => congrArg g (Fin.ext ?_)
    show (k : ℕ) + 512 * j = 512 * j + k
    omega
  rw [e, Fin.sum_univ_eight]
  show ((((((((∑ k : Fin 512, g ⟨0 + k, by omega⟩) + ∑ k : Fin 512, g ⟨512 + k, by omega⟩) + ∑ k : Fin 512, g ⟨1024 + k, by omega⟩) + ∑ k : Fin 512, g ⟨1536 + k, by omega⟩) + ∑ k : Fin 512, g ⟨2048 + k, by omega⟩)
    + ∑ k : Fin 512, g ⟨2560 + k, by omega⟩) + ∑ k : Fin 512, g ⟨3072 + k, by omega⟩) + ∑ k : Fin 512, g ⟨3584 + k, by omega⟩) = _
  ac_rfl

/-- Column `k` of the product of eight column chunks by eight row chunks, in the kernel's order. -/
def dots (v15 v16 v17 v18 v24 v25 v32 v33 : Vec Ideal S512x512 .bf16) (v19 v21 v26 v28 v34 v36 v40 v42 : Vec Ideal S512x384 .bf16) (r : Fin 512) (f : Fin 384) : EReal :=
  (∑ x, v15 (ix2 r x) * v19 (ix2 x f) + ∑ x, v16 (ix2 r x) * v21 (ix2 x f) + (∑ x, v17 (ix2 r x) * v26 (ix2 x f) + ∑ x, v18 (ix2 r x) * v28 (ix2 x f))
    + (∑ x, v24 (ix2 r x) * v34 (ix2 x f) + ∑ x, v25 (ix2 r x) * v36 (ix2 x f))) + (∑ x, v32 (ix2 r x) * v40 (ix2 x f) + ∑ x, v33 (ix2 r x) * v42 (ix2 x f))

theorem pay_at (v15 v16 v17 v18 v24 v25 v32 v33 : Vec Ideal S512x512 .bf16) (v19 v21 v26 v28 v34 v36 v40 v42 : Vec Ideal S512x384 .bf16) (r : Fin 512) (f : Fin 192) :
    k0_pay10 (F := Ideal) v24 v25 (k0_pay9 (F := Ideal) v15 v16 v17 v18 v19 v21 v26 v28) v32 v33 v34 v36 v40 v42 (ix2 r f)
      = gate (dots v15 v16 v17 v18 v24 v25 v32 v33 v19 v21 v26 v28 v34 v36 v40 v42 r ⟨f, by omega⟩)
          (dots v15 v16 v17 v18 v24 v25 v32 v33 v19 v21 v26 v28 v34 v36 v40 v42 r ⟨192 + f, by omega⟩) := by
  unfold_payloads
  pointwise [gate, dots]
  rfl

/-- A row of activations from the kernel's two inputs. -/
def act (x0 : Vec Ideal S512x4096 .bf16) (x1 : Vec Ideal S1x4096x384 .f32) (r : Fin 512) (f : Fin 192) : EReal :=
  gate (∑ d, x0 (ix2 r d) * x1 (ix3 0 d ⟨f, by omega⟩)) (∑ d, x0 (ix2 r d) * x1 (ix3 0 d ⟨192 + f, by omega⟩))

/-- A column chunk of the rows, as the body loads it. -/
def slab (x0 : Vec Ideal S512x4096 .bf16) (o : ℕ) (ib : ∀ a, (![0, o] : Fin 2 → ℕ) a + S512x512.size a ≤ S512x4096.size a) : Vec Ideal S512x512 .bf16 :=
  View.readAt (Elt Ideal) (Memref.whole cc0_stg0_0).view (Rect.unit (s := S512x4096) ![0, o] S512x512.size ib).toLoadRect ((Memref.whole cc0_stg0_0).view.rep x0)

/-- A row chunk of the kept weights, as the body loads it. -/
def wslab (x1 : Vec Ideal S1x4096x384 .f32) (o : ℕ) (ib : ∀ a, (![o, 0] : Fin 2 → ℕ) a + S512x384.size a ≤ S4096x384.size a) : Vec Ideal S512x384 .bf16 :=
  View.readAt (Elt Ideal) scM0_0.view (Rect.unit (s := S4096x384) ![o, 0] S512x384.size ib).toLoadRect (keep0 x1)

theorem part (x0 : Vec Ideal S512x4096 .bf16) (x1 : Vec Ideal S1x4096x384 .f32) (o : ℕ) (ia ib) (r : Fin 512) (f : Fin 384) (ho : o + 512 ≤ 4096) :
    ∑ x : Fin 512, slab x0 o ia (ix2 r x) * wslab x1 o ib (ix2 x f) = ∑ k : Fin 512, x0 (ix2 r ⟨o + k, by omega⟩) * x1 (ix3 0 ⟨o + k, by omega⟩ f) :=
  Finset.sum_congr rfl fun k _ => congrArg₂ (· * ·) (rows_at x0 o ia r k ho) (keep0_at x1 o ib k f ho)

theorem dots_at (x0 : Vec Ideal S512x4096 .bf16) (x1 : Vec Ideal S1x4096x384 .f32) (r : Fin 512) (f : Fin 384) (a0 a1 a2 a3 a4 a5 a6 a7 b0 b1 b2 b3 b4 b5 b6 b7) :
    dots (slab x0 0 a0) (slab x0 2048 a1) (slab x0 512 a2) (slab x0 2560 a3) (slab x0 1024 a4) (slab x0 3072 a5) (slab x0 1536 a6) (slab x0 3584 a7)
      (wslab x1 0 b0) (wslab x1 2048 b1) (wslab x1 512 b2) (wslab x1 2560 b3) (wslab x1 1024 b4) (wslab x1 3072 b5) (wslab x1 1536 b6) (wslab x1 3584 b7) r f
      = ∑ d, x0 (ix2 r d) * x1 (ix3 0 d f) := by
  unfold dots
  rw [sum8, part x0 x1 0 a0 b0 r f (by omega), part x0 x1 2048 a1 b1 r f (by omega), part x0 x1 512 a2 b2 r f (by omega), part x0 x1 2560 a3 b3 r f (by omega),
    part x0 x1 1024 a4 b4 r f (by omega), part x0 x1 3072 a5 b5 r f (by omega), part x0 x1 1536 a6 b6 r f (by omega), part x0 x1 3584 a7 b7 r f (by omega)]

theorem acts_eq (c : Dev nD) (x0 : Vec Ideal S512x4096 .bf16) (x1 : Vec Ideal S1x4096x384 .f32) :
    kernelRun0_B.sl.r_7 c (Memref.whole cc0_stg0_0) x0 (keep0 x1)
      = k0_pay10 (F := Ideal) (slab x0 1024 inb_S512x4096_S512x512_0_1024) (slab x0 3072 inb_S512x4096_S512x512_0_3072)
          (k0_pay9 (F := Ideal) (slab x0 0 inb_S512x4096_S512x512_0_0) (slab x0 2048 inb_S512x4096_S512x512_0_2048) (slab x0 512 inb_S512x4096_S512x512_0_512) (slab x0 2560 inb_S512x4096_S512x512_0_2560)
            (wslab x1 0 inb_S4096x384_S512x384_0_0) (wslab x1 2048 inb_S4096x384_S512x384_2048_0) (wslab x1 512 inb_S4096x384_S512x384_512_0) (wslab x1 2560 inb_S4096x384_S512x384_2560_0))
          (slab x0 1536 inb_S512x4096_S512x512_0_1536) (slab x0 3584 inb_S512x4096_S512x512_0_3584)
          (wslab x1 1024 inb_S4096x384_S512x384_1024_0) (wslab x1 3072 inb_S4096x384_S512x384_3072_0) (wslab x1 1536 inb_S4096x384_S512x384_1536_0) (wslab x1 3584 inb_S4096x384_S512x384_3584_0) := by
  simp only [kernelRun0_B.sl.r_7, kernelRun0_B.sl.r_5, kernelRun0_B.sl.r, kernelRun0_B.sl.r_1, kernelRun0_B.sl.r_2, kernelRun0_B.sl.r_3, kernelRun0_B.sl.r_4, kernelRun0_B.sl.r_6, kernelRun0_B.sl.v4, kernelRun0_B.sl.v11, kernelRun0_B.sl.v12, kernelRun0_B.sl.v13, kernelRun0_B.sl.v14, slab, wslab]

theorem act_at (c : Dev nD) (x0 : Vec Ideal S512x4096 .bf16) (x1 : Vec Ideal S1x4096x384 .f32) (r : Fin 512) (f : Fin 192) :
    kernelRun0_B.sl.r_7 c (Memref.whole cc0_stg0_0) x0 (keep0 x1) (ix2 r f) = act x0 x1 r f := by
  rw [acts_eq, pay_at, dots_at, dots_at]
  rfl

theorem down_at (a : FVec Ideal S512x192 .bf16) (w : Vec Ideal S192x512 .bf16) (r k : Fin 512) :
    k0_pay6 (F := Ideal) a w (ix2 r k) = ∑ f : Fin 192, a (ix2 r f) * w (ix2 f k) := by
  unfold_payloads
  pointwise

/-- A row of the tile, from the row's activations. -/
def row (x0 : Vec Ideal S512x4096 .bf16) (x1 : Vec Ideal S1x4096x384 .f32) (x2 : Vec Ideal S1x192x4096 .f32) (r : Fin 512) (d : Fin 4096) : EReal :=
  ∑ f : Fin 192, act x0 x1 r f * x2 (ix3 0 f d)

theorem piece_at (c : Dev nD) (x0 : Vec Ideal S512x4096 .bf16) (x1 : Vec Ideal S1x4096x384 .f32) (x2 : Vec Ideal S1x192x4096 .f32) (o : ℕ) (ib) (r k : Fin 512) (d : Fin 4096) (hd : (d : ℕ) = o + k) :
    k0_pay6 (F := Ideal) (kernelRun0_B.sl.r_7 c (Memref.whole cc0_stg0_0) x0 (keep0 x1))
      (View.readAt (Elt Ideal) scM0_1.view (Rect.unit (s := S192x4096) ![0, o] S192x512.size ib).toLoadRect (keep1 x2)) (ix2 r k) = row x0 x1 x2 r d := by
  have h := ib (1 : Fin 2)
  change o + 512 ≤ 4096 at h
  have e : d = ⟨o + k, by omega⟩ := Fin.ext hd
  rw [down_at, e]
  exact Finset.sum_congr rfl fun f _ => congrArg₂ (· * ·) (act_at c x0 x1 r f) (keep1_at x2 o ib f k h)

theorem tile_at (c : Dev nD) (x0 : Vec Ideal S512x4096 .bf16) (x1 : Vec Ideal S1x4096x384 .f32) (x2 : Vec Ideal S1x192x4096 .f32) (y : S512x4096.Idx) (r : Fin 512) (d : Fin 4096)
    (hr : (y 0 : ℕ) = r) (hd : (y 1 : ℕ) = d) : tile c x0 x1 x2 y = row x0 x1 x2 r d := by
  unfold tile
  rw [View.read_writes_apply_eq_canon _ _ _ (kernelRun0_B.sl.HO3_8 c (Memref.whole cc0_stg0_0) x0 (keep0 x1) (keep1 x2)) (View.cover_of_tiledL (kernelRun0_B.sl.HO3_8 c (Memref.whole cc0_stg0_0) x0 (keep0 x1) (keep1 x2)) S512x512.size (by sl_kernel_rfl) y)]
  unfold kernelRun0_B.sl.HO3_8
  canon_tiles x h
  all_goals
    obtain ⟨a, b, rfl⟩ : ∃ (a : Fin 512) (b : Fin 512), x = ix2 a b := ⟨x 0, x 1, eq_ix2 x⟩
    have ha : (ix2 a b : S512x512.Idx) 0 = a := rfl
    have hb : (ix2 a b : S512x512.Idx) 1 = b := rfl
    simp only [ha, hb] at h0 h1
    obtain rfl : a = r := Fin.ext (by omega)
  case piece0 => exact piece_at c x0 x1 x2 3584 _ a b d (by omega)
  case piece1 => exact piece_at c x0 x1 x2 1536 _ a b d (by omega)
  case piece2 => exact piece_at c x0 x1 x2 3072 _ a b d (by omega)
  case piece3 => exact piece_at c x0 x1 x2 1024 _ a b d (by omega)
  case piece4 => exact piece_at c x0 x1 x2 2560 _ a b d (by omega)
  case piece5 => exact piece_at c x0 x1 x2 512 _ a b d (by omega)
  case piece6 => exact piece_at c x0 x1 x2 2048 _ a b d (by omega)
  case piece7 => exact piece_at c x0 x1 x2 0 _ a b d (by omega)

end Cert.LastTile
-- ==== Proof.LastLaunch.lean ====
module

public import proofs.«01_k».proof.Proof.LastRun
public import Idealize.ShloMosaic.Lib.Pipeline.Quiescent
public import Idealize.ShloMosaic.Lib.Pipeline.TableIdle
public import Idealize.ShloMosaic.Lib.Pipeline.FrameBody
public import Idealize.ShloMosaic.Lib.Pipeline.ValueKit
public import Idealize.ShloMosaic.Lib.VecWindow
public import Idealize.ShloMosaic.Lib.Ring
public import Idealize.ShloMosaic.Adequacy

/-! The grouped experts at any admissible tables: the launch, what every run leaves, and the arguments unchanged. -/

@[expose] public section

set_option maxRecDepth 16384
set_option Elab.async false

noncomputable section

namespace Cert.LastExpertsIdeal.Tab

open Cert.LastExpertsIdeal Cert.LastExpertsIdeal.Gen
open Idealize.ShloMosaic Idealize.ShloMosaic.Pointwise
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable {T0 : S320.Idx → BitVec 32} {T1 : S1.Idx → BitVec 32} (h : Good T0 T1)
variable (m : (ℓ : Loc nD τ sig) → Buf (Elt Ideal) ℓ) (ρ : Dev nD → PrngReg)

/-- The memory holds the tables. -/
def Pinned (T0 : S320.Idx → BitVec 32) (T1 : S1.Idx → BitVec 32) : Prop :=
  (∀ c : Dev nD, m ((c.tc : Thread nD τ).loc main_arg0) = T0) ∧ (∀ c : Dev nD, m ((c.tc : Thread nD τ).loc main_arg1) = T1)

abbrev EP : Emb (UR sig nD τ) 𝕄 := emb₁

/-- The launch element. -/
def u₀ : UR sig nD τ :=
  initOf (Pipeline.cells (pcs h) ((launch0 (F := Ideal)).cellOf_inj fun _ => adm h))
    (Pipeline.launchToks (pcs h) ((launch0 (F := Ideal)).cellOf_inj fun _ => adm h))

theorem share_eq (c : Dev nD) (w : Fin (cfgA h).W) : (dats h m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point. -/
theorem phi0_intro (c : Dev nD) :
    iprop(BI.emp ∗ Pipeline.prefHeld pre0 c (fun _ => fullShare.right) (adm h).1 ∗ Pipeline.scopedRest spec0 c) ⊢ (dats h m ρ 0 c).Φ 0 := by
  rw [prefHeld_eq, scopedRest0_eq, show (dats h m ρ 0 c).Φ 0 = Phi h m ρ c 0 from rfl]
  unfold Phi Held
  iintro ⟨-, ⟨HT0, HT1⟩, ⟨%a0, HS0⟩, ⟨%a1, HS1⟩⟩
  isplitl [HS0]
  · iexists a0; isplitr; swap
    · iexact HS0
    · ipureintro; intro z; exact absurd rfl z
  isplitl [HS1]
  · iexists a1; isplitr; swap
    · iexact HS1
    · ipureintro; intro z; exact absurd rfl z
  isplitl [HT0]
  · iexact HT0
  iexact HT1

/-- After the last point the scratches are given back. -/
theorem phiN_exit (c : Dev nD) : (dats h m ρ 0 c).Φ (Fin.last (cfgA h).N) ⊢ iprop(BI.emp ∗ Pipeline.scopedRest spec0 c) := by
  rw [scopedRest0_eq, show (dats h m ρ 0 c).Φ (Fin.last (cfgA h).N) = Phi h m ρ c (Fin.last _) from rfl]
  unfold Phi Held
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Ideal) → Prop := fun r =>
  ∀ c : Dev nD, (∀ w : Fin (cfgA h).W, r.2.mem (((cfgA h).win w).arr.view.loc (c : Thread nD τ)) = (dats h m ρ 0 c).arrAt w (cfgA h).N)
    ∧ ∀ j, r.2.mem ((c : Thread nD τ).loc (pre0.ref j)) = (adm h).1 j

theorem V_pre (hp : Pinned m T0 T1) (c : Dev nD) (j : Fin 2) : m ((c : Thread nD τ).loc (pre0.ref j)) = (adm h).1 j := by
  fin_cases j
  · exact hp.1 c
  · exact hp.2 c

set_option backward.isDefEq.respectTransparency.types false in
set_option maxHeartbeats 4000000 in
/-- Every run ends, each array at the computed contents, the tables as they were, the counters zero. -/
theorem run_main_quiescent (hp : Pinned m T0 T1) : θ_run (defs (F := Ideal)) (onTc (τ := τ) (main (F := Ideal))) (s₀ m ρ) (fun r => QC h m ρ r ∧ r.2.sem = fun _ => 0) :=
  Pipeline.θ_run_region_noSem_pf_quiescent pcfgs (fun _ => adm h) (dats h m ρ) () ((launch0 (F := Ideal)).cellOf_inj fun _ => adm h) (0 : Fin 1)
    (launch0 (F := Ideal)).win.to₀ (launch0 (F := Ideal)).pre EP defs₀ Variants.none m ρ main
    (hbody := fun c => (body_obligation h m ρ c).loose) (hne := (launch0 (F := Ideal)).block_pos)
    (harr := (launch0 (F := Ideal)).arr_whole) (hstage := (launch0 (F := Ideal)).stage_whole) (howed := fun _ _ => rfl)
    (u₀ := u₀ h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs h) (dats h m ρ) 0 (launch0 (F := Ideal)).win.arr_inj c (launch0 (F := Ideal)).arr_whole
      (share_eq h m ρ c) _ _ fun _ => rfl)
    (hpf := V_pre h m hp)
    (X := fun _ => iprop(emp)) (Y := fun _ => iprop(emp)) (Z := fun _ => iprop(emp))
    (hX := fun c => by rw [unscopedRestP0_eq]; iintro -; isplitr <;> iempintro)
    (hin := phi0_intro h m ρ)
    (hout := phiN_exit h m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned m T0 T1) : θ_run (defs (F := Ideal)) (onTc (τ := τ) (main (F := Ideal))) (s₀ m ρ) (QC h m ρ) :=
  (θ_run defs _ _).mono (fun _ h => h.1) (run_main_quiescent h m ρ hp)

include h

/-- The frame without the counters: the argument arrays end unchanged. -/
theorem unchanged (hp : Pinned m T0 T1) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ k c => ⟨((k c).2 0).trans (hp.1 c).symm, ((k c).2 1).trans (hp.2 c).symm, ((k c).1 (0 : Fin 4)).trans ((dats h m ρ 0 c).arrAt_in (0 : Fin 4) rfl _), ((k c).1 (1 : Fin 4)).trans ((dats h m ρ 0 c).arrAt_in (1 : Fin 4) rfl _), ((k c).1 (2 : Fin 4)).trans ((dats h m ρ 0 c).arrAt_in (2 : Fin 4) rfl _)⟩) (run_main h m ρ hp)

/-- Every run from the tables' memory ends, the arguments unchanged and the counters zero. -/
theorem frame (hp : Pinned m T0 T1) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged h m ρ hp) ((θ_run defs _ _).mono (fun _ h => h.2) (run_main_quiescent h m ρ hp))

end Cert.LastExpertsIdeal.Tab
-- ==== Proof.LastFinal.lean ====
module

public import proofs.«01_k».proof.Proof.LastTile
public import proofs.«01_k».proof.Proof.LastLaunch

@[expose] public section

set_option maxRecDepth 16384

noncomputable section

/-! The array the experts' region leaves, on the rows of the tiles the count names. -/

namespace Cert.LastTile

open Cert.LastExpertsIdeal Cert.LastExpertsIdeal.Gen Cert.LastExpertsIdeal.Tab Idealize.ShloMosaic Idealize.ShloMosaic.TcCoe Idealize.ShloMosaic.Pointwise Idealize.SL.Sem

/-- An element of the result: its row through expert `e`. -/
def elt (X : S163840x4096.Idx → EReal) (G : S64x4096x384.Idx → EReal) (D : S64x192x4096.Idx → EReal) (e : Fin 64) (t : Fin 163840) (d : Fin 4096) : EReal :=
  ∑ f : Fin 192, gate (∑ j, X (ix2 t j) * G (ix3 e j ⟨f, by omega⟩)) (∑ j, X (ix2 t j) * G (ix3 e j ⟨192 + f, by omega⟩)) * D (ix3 e f d)

variable {T0 : S320.Idx → BitVec 32} {T1 : S1.Idx → BitVec 32} (h : Good T0 T1)
variable (m : (ℓ : Loc nD τ sig) → Buf (Elt Ideal) ℓ) (ρ : Dev nD → PrngReg)

/-- Every element through its tile's expert. -/
def whole (c : Dev nD) : S163840x4096.Idx → EReal := fun i =>
  elt (m (c.tc.loc main_arg2)) (m (c.tc.loc main_arg3)) (m (c.tc.loc main_arg4))
    ⟨expert T0 ⟨(i 0 : Fin 163840) / 512, by have : (i 0).val < 163840 := (i 0).isLt; omega⟩, h.te _⟩ (i 0) (i 1)

theorem blk3_at (t : Fin (cfgA h).N) (g : S163840x4096.Idx → EReal) (y : S512x4096.Idx) :
    ((((cfgA h).win (3 : Fin 4)).blk t).view.read (Elt Ideal) g : S512x4096.Idx → _) y
      = g (ix2 ⟨min t.val (count T1 - 1) * 512 + (y 0).val, by have h1 : t.val < 320 := t.isLt; have h2 : (y 0).val < 512 := (y 0).isLt; omega⟩ (y 1)) := by
  have e := at3 h t
  blk_ext [e]

theorem tileOf_at (c : Dev nD) (t : Fin (cfgA h).N) (hl : t.val < count T1) (y : S512x4096.Idx) :
    tileOf h m ρ c t y = whole h m c (ix2 ⟨t.val * 512 + (y 0).val, by have h1 : t.val < 320 := t.isLt; have h2 : (y 0).val < 512 := (y 0).isLt; omega⟩ (y 1)) := by
  have h1 : t.val < 320 := t.isLt
  have h2 : (y 0).val < 512 := (y 0).isLt
  unfold tileOf
  refine (tile_at c _ _ _ y (y 0) (y 1) rfl rfl).trans ?_
  have e0 : ∀ j : Fin 4096, (iblk h m ρ c (0 : Fin 4) t : S512x4096.Idx → EReal) (ix2 (y 0) j) = m (c.tc.loc main_arg2) (ix2 (⟨t.val * 512 + (y 0).val, by omega⟩ : Fin 163840) j) := fun j => by
    refine (iblk0_at h m ρ c t _).trans (congrArg (m (c.tc.loc main_arg2)) ?_)
    refine congrArg₂ ix2 (Fin.ext ?_) rfl
    show min t.val (count T1 - 1) * 512 + (y 0).val = t.val * 512 + (y 0).val
    rw [show min t.val (count T1 - 1) = t.val by omega]
  have ee : (⟨expert T0 t, h.te _⟩ : Fin 64) = ⟨expert T0 ⟨(t.val * 512 + (y 0).val) / 512, by omega⟩, h.te _⟩ := by
    apply Fin.ext
    show expert T0 t = expert T0 _
    congr 1
    apply Fin.ext
    show t.val = (t.val * 512 + (y 0).val) / 512
    omega
  unfold row act whole elt
  refine Finset.sum_congr rfl fun f _ => congrArg₂ (· * ·) (congrArg₂ gate (Finset.sum_congr rfl fun j _ => congrArg₂ (· * ·) (e0 j) ?_) (Finset.sum_congr rfl fun j _ => congrArg₂ (· * ·) (e0 j) ?_)) ?_
  · refine (iblk1_at h m ρ c t _).trans ?_
    rw [ee]; rfl
  · refine (iblk1_at h m ρ c t _).trans ?_
    rw [ee]; rfl
  · refine (iblk2_at h m ρ c t _).trans ?_
    rw [ee]; rfl

theorem tileAt_val (t : Fin (cfgA h).N) : (tileAt h t).val = min t.val (count T1 - 1) := rfl

theorem tileAt_lt (t : Fin (cfgA h).N) : (tileAt h t).val < count T1 := by
  have hc := count_pos h
  show min t.val (count T1 - 1) < count T1
  omega

attribute [local irreducible] tileOf whole tileAt iblk in
theorem flushed3 (c : Dev nD) (t : Fin (cfgA h).N) :
    (dats h m ρ 0 c).flushed (3 : Fin 4) t = (((cfgA h).win (3 : Fin 4)).blk t).view.read (Elt Ideal) (whole h m c) := by
  have hc := count_pos h
  funext y
  have e : (dats h m ρ 0 c).flushed (3 : Fin 4) t = (tileOf h m ρ c (tileAt h t) : S512x4096.Idx → _) := (congrArg id (after3 h m ρ c t))
  refine (congrFun e y).trans ?_
  exact (tileOf_at h m ρ c (tileAt h t) (tileAt_lt h t) y).trans ((blk3_at h t _ y).trans (congrArg (whole h m c) (congrArg₂ ix2 (Fin.ext (congrArg (fun n : ℕ => n * 512 + (y 0).val) (tileAt_val h t).symm)) rfl))).symm

/-- The region's array, at a row of a tile the count names. -/
theorem final (c : Dev nD) (r : Fin 163840) (d : Fin 4096) (hr : (r : ℕ) < min (count T1) 320 * 512) :
    (dats h m ρ 0 c).arrAt (3 : Fin 4) (cfgA h).N (ix2 r d : S163840x4096.Idx) = whole h m c (ix2 r d) := by
  have hc := count_pos h
  have hN := N_eq h
  obtain ⟨t, ht, hf⟩ : ∃ t : Fin (cfgA h).N, min t.val (count T1 - 1) = r / 512 ∧ ((cfgA h).win (3 : Fin 4)).flush t = true := by
    by_cases hk : (r : ℕ) / 512 + 1 < count T1
    · exact ⟨⟨r / 512, by omega⟩, by show min ((r : ℕ) / 512) (count T1 - 1) = r / 512; omega, (flush3 h _).mpr (Or.inl hk)⟩
    · exact ⟨⟨319, by omega⟩, by show min 319 (count T1 - 1) = r / 512; omega, (flush3 h _).mpr (Or.inr rfl)⟩
  refine (dats h m ρ 0 c).arrAt_apply_of_mem (3 : Fin 4) (whole h m c) (fun t _ => flushed3 h m ρ c t) (cfgA h).N t (ix2 r d : S163840x4096.Idx) t.isLt hf ?_
  refine (((cfgA h).win (3 : Fin 4)).emb_mem_blk_iff t (ix2 r d : S163840x4096.Idx)).mpr ?_
  have hd := d.isLt
  have e := at3 h t
  intro a
  rw [e]
  fin_cases a
  · show min t.val (count T1 - 1) * 512 ≤ r.val ∧ r.val < min t.val (count T1 - 1) * 512 + 512
    omega
  · show 0 * 4096 ≤ d.val ∧ d.val < 0 * 4096 + 4096
    omega

end Cert.LastTile
-- ==== Proof.LastPre.lean ====
module

public import proofs.«01_k».proof.Defs
public import proofs.«01_k».proof.Proof.LastLaunch
public import proofs.«01_k».proof.Proof.Gen.Pre_last_tables
public import Idealize.ShloMosaic.Lib.Pointwise

/-! The precondition says the tables are admissible, so every run ends with the arguments unchanged. -/

@[expose] public section

set_option maxRecDepth 16384

noncomputable section

namespace Cert.LastExpertsIdeal.Tab

open Cert.LastExpertsIdeal Cert.LastExpertsIdeal.Gen
open Idealize.ShloMosaic Idealize.ShloMosaic.TcCoe Idealize.ShloMosaic.Pointwise Idealize.SL.Sem

theorem and_bits (a b c : Bool) (h : BitVec.ofBool a &&& BitVec.ofBool b &&& BitVec.ofBool c = 1#1) : a = true ∧ b = true ∧ c = true := by
  revert a b c; decide

theorem word_bounds (a b : BitVec 32) (h : IntOp.andi (IntOp.andi (IntOp.cmpi .sge a 0#32) (IntOp.cmpi .slt a 64#32)) (IntOp.cmpi .sge b 1#32) = 1#1) :
    a.toNat < 64 ∧ 1 ≤ b.toNat ∧ b.toNat < 2 ^ 31 := by
  obtain ⟨h1, h2, h3⟩ := and_bits _ _ _ h
  have e1 : (0#32).toInt ≤ a.toInt := by simpa [BitVec.sle] using h1
  have e2 : a.toInt < (64#32).toInt := by simpa [BitVec.slt] using h2
  have e3 : (1#32).toInt ≤ b.toInt := by simpa [BitVec.sle] using h3
  rw [show (0#32).toInt = 0 from rfl, BitVec.toInt_eq_toNat_cond] at e1
  rw [show (64#32).toInt = 64 from rfl, BitVec.toInt_eq_toNat_cond] at e2
  rw [show (1#32).toInt = 1 from rfl, BitVec.toInt_eq_toNat_cond] at e3
  have := a.isLt; have := b.isLt
  split at e1 <;> split at e2 <;> split at e3 <;> omega

theorem good_of_pre (T0 : IVec Pre_last_tables.S320 32) (T1 : IVec Pre_last_tables.S1 32) (X G D)
    (h : @Cert.Pre_last_tables.fn Cert.Pre_last_tables.Gen.facts Ideal _ T0 T1 X G D = fun _ => 1#1) : Good T0 T1 := by
  have key : ∀ x : S320.Idx, (T0 x).toNat < 64 ∧ 1 ≤ (T1 (ix1 0)).toNat ∧ (T1 (ix1 0)).toNat < 2 ^ 31 := fun x => by
    have hx := congrFun h x
    pointwise [Cert.Pre_last_tables.fn] at hx
    exact word_bounds _ _ hx
  exact ⟨fun x => (key x).1, fun x => by rw [word1 T1 x]; exact (key (ix1 0)).2.1, fun x => by rw [word1 T1 x]; exact (key (ix1 0)).2.2⟩

/-- The device. -/
def dev0 : Dev nD := ⟨0, by decide⟩

theorem dev_eq (c : Dev nD) : c = dev0 := by
  have h : ∀ c : Dev nD, c = dev0 := by decide
  exact h c

theorem pinned (m : (ℓ : Loc nD τ sig) → Buf (Elt Ideal) ℓ) :
    Pinned m (m ((dev0.tc : Thread nD τ).loc main_arg0)) (m ((dev0.tc : Thread nD τ).loc main_arg1)) :=
  ⟨fun c => by rw [dev_eq c], fun c => by rw [dev_eq c]⟩

theorem framed : Cert.quiescent_LastExpertsIdeal (hLastExpertsIdeal := Cert.LastExpertsIdeal.Gen.facts) (hPre_last_tables := Cert.Pre_last_tables.Gen.facts) :=
  fun m g hpre => frame (good_of_pre _ _ _ _ _ (hpre dev0)) m g (pinned m)

end Cert.LastExpertsIdeal.Tab
-- ==== Proof.LastRef.lean ====
module

public import proofs.«01_k».proof.Proof.Gen.LastExpertsSpecIdeal.Run
public import Idealize.ShloMosaic.Lib.Pointwise
public import Idealize.ShloMosaic.Lib.Tactic.CleanTypes

@[expose] public section

set_option maxRecDepth 16384

noncomputable section

/-! The reference experts' result at an index. -/

namespace Cert.LastRef

open Cert.LastExpertsSpecIdeal Cert.LastExpertsSpecIdeal.Gen Idealize.ShloMosaic Idealize.ShloMosaic.Pointwise

/-- Every row through every expert's gate and up projections. -/
def prods (X : FVec Ideal S163840x4096 .bf16) (G : FVec Ideal S64x4096x384 .f32) : FVec Ideal S163840x64x384 .f32 :=
  Host.dotGeneral dot_S163840x4096_S64x4096x384_S163840x64x384_1_1_0_02_n_n none (extf .f32 X bitsLt_bf16_f32) G

def acts (P : FVec Ideal S163840x64x384 .f32) : FVec Ideal S163840x64x192 .f32 :=
  mulf (mulf (extractStridedSlice S163840x64x192 ![0, 0, 0] P slices_S163840x64x384_S163840x64x192_0_0_0) (Host.divf (broadcastInDim S163840x64x192 ![] bcast_S_S163840x64x192 (constant S_ .f32 0x3F800000#32)) (addf (broadcastInDim S163840x64x192 ![] bcast_S_S163840x64x192 (constant S_ .f32 0x3F800000#32)) (Host.exp (Host.negf (extractStridedSlice S163840x64x192 ![0, 0, 0] P slices_S163840x64x384_S163840x64x192_0_0_0)))))) (extractStridedSlice S163840x64x192 ![0, 0, 192] P slices_S163840x64x384_S163840x64x192_0_0_192)

/-- One at a row's own expert, zero elsewhere. -/
def hot (T : IVec S320 32) : FVec Ideal S163840x64x192 .f32 :=
  broadcastInDim S163840x64x192 ![0, 1, 2] bcast_S163840x64x1_S163840x64x192_0_1_2 (uitofp .f32 (broadcastInDim S163840x64x1 ![0, 1] bcast_S163840x64_S163840x64x1_0_1 (cmpi .eq (broadcastInDim S163840x64 ![0, 1] bcast_S163840x1_S163840x64_0_1 (broadcastInDim S163840x1 ![0] bcast_S163840_S163840x1_0 (shapeCast _ (broadcastInDim S320x512 ![0] bcast_S320_S320x512_0 T) shapeCasts_S320x512_S163840))) (broadcastInDim S163840x64 ![0, 1] bcast_S1x64_S163840x64_0_1 (broadcastInDim S1x64 ![1] bcast_S64_S1x64_1 (iotaInDim S64 32 0))))))

def outs (A H : FVec Ideal S163840x64x192 .f32) (D : FVec Ideal S64x192x4096 .f32) : FVec Ideal S163840x4096 .bf16 :=
  truncf .bf16 (Host.dotGeneral dot_S163840x64x192_S64x192x4096_S163840x4096_12_01_0_2_n_n none (mulf A H) D) bitsLt_bf16_f32

/-- The reference, of its arguments. -/
def ref (T : IVec S320 32) (X : FVec Ideal S163840x4096 .bf16) (G : FVec Ideal S64x4096x384 .f32) (D : FVec Ideal S64x192x4096 .f32) : FVec Ideal S163840x4096 .bf16 :=
  outs (acts (prods X G)) (hot T) D

theorem prods_at (X : FVec Ideal S163840x4096 .bf16) (G : FVec Ideal S64x4096x384 .f32) (t : Fin 163840) (e : Fin 64) (f : Fin 384) :
    prods X G (ix3 t e f) = ∑ d, X (ix2 t d) * G (ix3 e d f) := by
  unfold prods
  pointwise

theorem acts_at (P : FVec Ideal S163840x64x384 .f32) (t : Fin 163840) (e : Fin 64) (f : Fin 192) :
    acts P (ix3 t e f) = P (ix3 t e ⟨f, by omega⟩) * Ideal.div 1 (1 + Ideal.exp (-P (ix3 t e ⟨f, by omega⟩))) * P (ix3 t e ⟨192 + f, by omega⟩) := by
  unfold acts
  pointwise

theorem hot_at (T : IVec S320 32) (t : Fin 163840) (e : Fin 64) (f : Fin 192) :
    hot T (ix3 t e f) = FloatOps.uitofp FTy.f32 (IntOp.cmpi CmpIPredicate.eq (T (ix1 ⟨t / 512, by omega⟩)) (BitVec.ofNat 32 e)) := by
  unfold hot
  pointwise

theorem outs_at (A H : FVec Ideal S163840x64x192 .f32) (D : FVec Ideal S64x192x4096 .f32) (t : Fin 163840) (d : Fin 4096) :
    outs A H D (ix2 t d) = ∑ e : Fin 64, ∑ f : Fin 192, A (ix3 t e f) * H (ix3 t e f) * D (ix3 e f d) := by
  unfold outs
  pointwise

/-- A word below sixty-four marks one expert alone. -/
theorem hot_val (T : IVec S320 32) (t : Fin 163840) (e : Fin 64) (f : Fin 192) :
    hot T (ix3 t e f) = if (T (ix1 ⟨t / 512, by omega⟩)).toNat = e then 1 else 0 := by
  rw [hot_at]
  have he : (BitVec.ofNat 32 (e : ℕ)).toNat = e := by
    rw [BitVec.toNat_ofNat]; exact Nat.mod_eq_of_lt (by have := e.isLt; omega)
  by_cases hc : T (ix1 ⟨t / 512, by omega⟩) = BitVec.ofNat 32 e
  · rw [if_pos (by rw [hc, he])]
    simp [IntOp.cmpi, hc, FloatOps.uitofp]
  · rw [if_neg (fun h' => hc (BitVec.eq_of_toNat_eq (by rw [h', he])))]
    simp [IntOp.cmpi, hc, FloatOps.uitofp]

/-- A row of the reference goes through its own expert alone. -/
theorem ref_at (T : IVec S320 32) (X : FVec Ideal S163840x4096 .bf16) (G : FVec Ideal S64x4096x384 .f32) (D : FVec Ideal S64x192x4096 .f32)
    (t : Fin 163840) (d : Fin 4096) (e : Fin 64) (he : (T (ix1 ⟨t / 512, by omega⟩)).toNat = e) :
    ref T X G D (ix2 t d) = ∑ f : Fin 192, acts (prods X G) (ix3 t e f) * D (ix3 e f d) := by
  unfold ref
  rw [outs_at, Finset.sum_eq_single e]
  · refine Finset.sum_congr rfl fun f _ => ?_
    rw [hot_val, if_pos he, mul_one]
  · intro b _ hb
    refine Finset.sum_eq_zero fun f _ => ?_
    rw [hot_val, if_neg (fun h' => hb (Fin.ext (by omega))), mul_zero, zero_mul]
  · exact fun h' => absurd (Finset.mem_univ _) h'

end Cert.LastRef
-- ==== Proof.LastExp.lean ====
module

public import proofs.«01_k».proof.Defs
public import proofs.«01_k».proof.Proof.LastFinal
public import proofs.«01_k».proof.Proof.LastPre
public import proofs.«01_k».proof.Proof.LastRef
public import proofs.«01_k».proof.Proof.Gen.On_last_live_rows

@[expose] public section

set_option maxRecDepth 16384

noncomputable section

/-! The experts' kernel and the reference experts agree on the live rows. -/

namespace Cert.Last

open Cert.LastExpertsIdeal Cert.LastExpertsIdeal.Tab Cert.LastTile
open Idealize.ShloMosaic Idealize.ShloMosaic.TcCoe Idealize.ShloMosaic.Pointwise Idealize.SL.Sem

/-- The mask's comparison, as numbers. -/
theorem word_lt (w : BitVec 32) (n : ℕ) (hn : n < 163840) (hw : w.toNat < 2 ^ 31)
    (e : IntOp.cmpi .slt (BitVec.ofNat 32 n) (IntOp.muli (IntOp.minsi w 320#32) 512#32) = 1#1) : n < min w.toNat 320 * 512 := by
  have hm : (IntOp.minsi w 320#32).toNat = min w.toNat 320 := by
    unfold IntOp.minsi
    have h1 : w.toInt = w.toNat := by rw [BitVec.toInt_eq_toNat_cond, if_pos (by omega)]
    by_cases hc : w.slt 320#32
    · have h2 : w.toInt < (320#32).toInt := by simpa [BitVec.slt] using hc
      rw [show (320#32).toInt = 320 from rfl, h1] at h2
      rw [if_pos hc]
      omega
    · have h2 : ¬ w.toInt < (320#32).toInt := by simpa [BitVec.slt] using hc
      rw [show (320#32).toInt = 320 from rfl, h1] at h2
      rw [if_neg hc, show (320#32).toNat = 320 from rfl]
      omega
  have hp : (IntOp.muli (IntOp.minsi w 320#32) 512#32).toNat = min w.toNat 320 * 512 := by
    show (IntOp.minsi w 320#32 * 512#32).toNat = _
    rw [BitVec.toNat_mul, hm, show (512#32).toNat = 512 from rfl]
    omega
  have h3 : (BitVec.ofNat 32 n).toInt < (IntOp.muli (IntOp.minsi w 320#32) 512#32).toInt := by
    revert e
    generalize IntOp.muli (IntOp.minsi w 320#32) 512#32 = z
    intro e
    have e' : BitVec.ofBool (decide ((BitVec.ofNat 32 n).toInt < z.toInt)) = 1#1 := e
    by_contra hn'
    rw [decide_eq_false hn'] at e'
    exact absurd e' (by decide)
  rw [BitVec.toInt_eq_toNat_cond, BitVec.toInt_eq_toNat_cond, hp, BitVec.toNat_ofNat] at h3
  split at h3 <;> split at h3 <;> omega

theorem live (T0 : IVec On_last_live_rows.S320 32) (T1 : IVec On_last_live_rows.S1 32) (X G D) (h : Good T0 T1) (r : Fin 163840) (d : Fin 4096)
    (e : @Cert.On_last_live_rows.fn Cert.On_last_live_rows.Gen.facts Ideal _ T0 T1 X G D (ix2 r d) = 1#1) : (r : ℕ) < min (count T1) 320 * 512 := by
  pointwise [Cert.On_last_live_rows.fn] at e
  exact word_lt _ _ r.isLt (h.small _) e

/-- The reference at a row, through the row's expert. -/
theorem ref_elt (T : IVec LastExpertsSpecIdeal.S320 32) (X : FVec Ideal LastExpertsSpecIdeal.S163840x4096 .bf16) (G : FVec Ideal LastExpertsSpecIdeal.S64x4096x384 .f32) (D : FVec Ideal LastExpertsSpecIdeal.S64x192x4096 .f32)
    (t : Fin 163840) (d : Fin 4096) (e : Fin 64) (he : (T (ix1 ⟨t / 512, by omega⟩)).toNat = e) :
    LastRef.ref T X G D (ix2 t d) = elt X G D e t d := by
  rw [LastRef.ref_at T X G D t d e he]
  refine Finset.sum_congr rfl fun f _ => ?_
  rw [LastRef.acts_at, LastRef.prods_at, LastRef.prods_at]
  rfl

/-- The claim about the values of the experts' call. -/
theorem algebraic :
    Cert.algebraic_LastExpertsIdeal_LastExpertsSpecIdeal_on_last_live_rows (hLastExpertsIdeal := Cert.LastExpertsIdeal.Gen.facts)
      (hLastExpertsSpecIdeal := Cert.LastExpertsSpecIdeal.Gen.facts) (hPre_last_tables := Cert.Pre_last_tables.Gen.facts) (hOn_last_live_rows := Cert.On_last_live_rows.Gen.facts) := by
  intro m g m' g' hpre hagree
  have h := good_of_pre _ _ _ _ _ (hpre dev0)
  have hp := pinned m
  refine ⟨fun c => whole h m c, ?_, ?_⟩
  · refine (θ_run _ _ _).mono (fun r k c => ⟨fun i hi => ?_, ((k c).2 0).trans (hp.1 c).symm, ((k c).2 1).trans (hp.2 c).symm, ((k c).1 (0 : Fin 4)).trans ((dats h m g 0 c).arrAt_in (0 : Fin 4) rfl _), ((k c).1 (1 : Fin 4)).trans ((dats h m g 0 c).arrAt_in (1 : Fin 4) rfl _), ((k c).1 (2 : Fin 4)).trans ((dats h m g 0 c).arrAt_in (2 : Fin 4) rfl _)⟩) (run_main h m g hp)
    obtain ⟨a, b, rfl⟩ : ∃ (a : Fin 163840) (b : Fin 4096), i = ix2 a b := ⟨i 0, i 1, eq_ix2 i⟩
    obtain rfl := dev_eq c
    exact (congrFun ((k dev0).1 (3 : Fin 4)) (ix2 a b)).trans (final h m g dev0 a b (live _ _ _ _ _ h a b hi))
  · refine (θ_run _ _ _).mono (fun r k c => ⟨fun i hi => ?_, (k c).2⟩) (Cert.LastExpertsSpecIdeal.Value.run m' g')
    obtain ⟨a, b, rfl⟩ : ∃ (a : Fin 163840) (b : Fin 4096), i = ix2 a b := ⟨i 0, i 1, eq_ix2 i⟩
    obtain rfl := dev_eq c
    obtain ⟨e0, e1, e2, e3, e4⟩ := hagree dev0
    refine (congrFun (k dev0).1 (ix2 a b)).trans ?_
    rw [e0, e2, e3, e4]
    exact ref_elt _ _ _ _ a b _ rfl

end Cert.Last

end
-- ==== Proof.Out.lean ====
module

public import proofs.«01_k».proof.Proof.Gen.OutputIdeal.Value
public import proofs.«01_k».proof.Proof.Gen.OutputSpecIdeal.Run
public import proofs.«01_k».proof.Defs
public import Idealize.ShloMosaic.Lib.Pointwise
public import Idealize.ShloMosaic.Lib.Tactic.CleanTypes
public import Idealize.ShloMosaic.Lib.Pipeline.ValueKit
public import Idealize.ShloMosaic.Lib.Pipeline.Covers

@[expose] public section

set_option maxRecDepth 16384

noncomputable section

/-! The output projection added to the stream: the kernel's array is the reference's. -/

namespace Cert.Out

open Idealize.ShloMosaic Idealize.ShloMosaic.TcCoe Idealize.SL.Sem Idealize.ShloMosaic.Pointwise

/-- The element at row `r`, column `d`: the stream's plus the batch's gate times the product's. -/
def elt (A : FVec Ideal Cert.OutputIdeal.S18432x4096 .bf16) (W : FVec Ideal Cert.OutputIdeal.S4096x4096 .bf16)
    (H : FVec Ideal Cert.OutputIdeal.S18432x4096 .f32) (M : FVec Ideal Cert.OutputIdeal.S16x6x4096 .f32)
    (r : Fin 18432) (d : Fin 4096) : EReal :=
  H (ix2 r d) + M (ix3 ⟨min (r / 2048) 8, by omega⟩ 2 d) * ∑ k : Fin 4096, A (ix2 r k) * W (ix2 k d)

section kernel

open Cert.OutputIdeal Cert.OutputIdeal.Gen

theorem out_at (x0 : Vec Ideal S1024x4096 .bf16) (x1 : Vec Ideal S4096x512 .bf16) (x2 : Vec Ideal S1024x512 .f32)
    (x3 : Vec Ideal S1x6x512 .f32) (y : S1024x512.Idx) (r : Fin 1024) (d : Fin 512) (hr : (y 0 : ℕ) = r) (hd : (y 1 : ℕ) = d) :
    out0_4 x0 x1 x2 x3 y = x2 (ix2 r d) + x3 (ix3 0 2 d) * ∑ k : Fin 4096, x0 (ix2 r k) * x1 (ix2 k d) := by
  unfold out0_4
  canon_tiles x h
  obtain ⟨a, b, rfl⟩ : ∃ (a : Fin 1024) (b : Fin 512), x = ix2 a b := ⟨x 0, x 1, eq_ix2 x⟩
  obtain rfl : a = r := Fin.ext (h0.symm.trans hr)
  obtain rfl : b = d := Fin.ext (h1.symm.trans hd)
  unfold_payloads
  pointwise

theorem idx : ∀ t : Fin grid0.N,
    (win0_0.index t = ![t.val / 8, 0] ∧ win0_1.index t = ![0, t.val % 8])
    ∧ (win0_2.index t = ![t.val / 8, t.val % 8] ∧ win0_3.index t = ![min (t.val / 16) 8, 0, t.val % 8])
    ∧ win0_4.index t = ![t.val / 8, t.val % 8] := by
  decide +kernel

variable (m : (ℓ : Loc nD τ sig) → Buf (Elt Ideal) ℓ)

theorem final (c : Dev nD) :
    (dats m 0 c).arrAt 4 cfg0.N = fun i => elt (m ((c : Thread nD τ).loc main_arg0)) (m ((c : Thread nD τ).loc main_arg1))
      (m ((c : Thread nD τ).loc main_arg2)) (m ((c : Thread nD τ).loc main_arg3)) (i 0) (i 1) := by
  refine (dats m 0 c).arrAt_eq_of_covers 4 _ (by decide +kernel) fun t hf y => ?_
  obtain ⟨⟨e0, e1⟩, ⟨e2, e3⟩, e4⟩ := idx t
  blk_simp [e4]
  rw [after0_4]
  have hR : (((win0_4.blk t).view.emb y 0 : Fin 18432) : ℕ) = t.val / 8 * 1024 + (y 0).val := by blk_simp [e4]
  have hC : (((win0_4.blk t).view.emb y 1 : Fin 4096) : ℕ) = t.val % 8 * 512 + (y 1).val := by blk_simp [e4]
  have hy0 : (y 0).val < 1024 := (y 0).isLt
  have hy1 : (y 1).val < 512 := (y 1).isLt
  have ht : t.val < 144 := t.isLt
  generalize ((win0_4.blk t).view.emb y 0 : Fin 18432) = R at hR ⊢
  generalize ((win0_4.blk t).view.emb y 1 : Fin 4096) = C at hC ⊢
  refine (out_at _ _ _ _ y ⟨(y 0).val, hy0⟩ ⟨(y 1).val, hy1⟩ rfl rfl).trans ?_
  unfold elt
  refine congrArg₂ (· + ·) ?_ (congrArg₂ (· * ·) ?_ (Finset.sum_congr rfl fun k _ => congrArg₂ (· * ·) ?_ ?_))
  · blk_ext [iblk, V, e2]
  · blk_ext [iblk, V, e3]
  · blk_ext [iblk, V, e0]
  · blk_ext [iblk, V, e1]

end kernel

section reference

open Cert.OutputSpecIdeal Cert.OutputSpecIdeal.Gen

/-- The projection. -/
def prod (A : FVec Ideal S18432x4096 .bf16) (W : FVec Ideal S4096x4096 .bf16) : FVec Ideal S18432x4096 .f32 :=
  Host.dotGeneral dot_S18432x4096_S4096x4096_S18432x4096_1_0_0_1_n_n none (extf .f32 A bitsLt_bf16_f32) (extf .f32 W bitsLt_bf16_f32)

/-- The gates by batch. -/
def gates (M : FVec Ideal S16x6x4096 .f32) : FVec Ideal S16x4096 .f32 :=
  shapeCast _ (extractStridedSlice S16x1x4096 ![0, 2, 0] M slices_S16x6x4096_S16x1x4096_0_2_0) shapeCasts_S16x1x4096_S16x4096

def top (P H : FVec Ideal S18432x4096 .f32) (G : FVec Ideal S16x4096 .f32) : FVec Ideal S16384x4096 .f32 :=
  shapeCast _ (addf (shapeCast _ (extractStridedSlice S16384x4096 ![0, 0] H slices_S18432x4096_S16384x4096_0_0) shapeCasts_S16384x4096_S8x2048x4096) (mulf (broadcastInDim S8x2048x4096 ![0, 1, 2] bcast_S8x1x4096_S8x2048x4096_0_1_2 (broadcastInDim S8x1x4096 ![0, 2] bcast_S8x4096_S8x1x4096_0_2 (extractStridedSlice S8x4096 ![0, 0] G slices_S16x4096_S8x4096_0_0))) (shapeCast _ (extractStridedSlice S16384x4096 ![0, 0] P slices_S18432x4096_S16384x4096_0_0) shapeCasts_S16384x4096_S8x2048x4096))) shapeCasts_S8x2048x4096_S16384x4096

def bot (P H : FVec Ideal S18432x4096 .f32) (G : FVec Ideal S16x4096 .f32) : FVec Ideal S2048x4096 .f32 :=
  addf (extractStridedSlice S2048x4096 ![16384, 0] H slices_S18432x4096_S2048x4096_16384_0) (mulf (broadcastInDim S2048x4096 ![0, 1] bcast_S1x4096_S2048x4096_0_1 (broadcastInDim S1x4096 ![1] bcast_S4096_S1x4096_1 (shapeCast _ (extractStridedSlice S1x4096 ![8, 0] G slices_S16x4096_S1x4096_8_0) shapeCasts_S1x4096_S4096))) (extractStridedSlice S2048x4096 ![16384, 0] P slices_S18432x4096_S2048x4096_16384_0))

def res (A : FVec Ideal S18432x4096 .bf16) (W : FVec Ideal S4096x4096 .bf16) (H : FVec Ideal S18432x4096 .f32)
    (M : FVec Ideal S16x6x4096 .f32) : FVec Ideal S18432x4096 .f32 :=
  concatenate S18432x4096 0 [⟨S16384x4096, top (prod A W) H (gates M)⟩, ⟨S2048x4096, bot (prod A W) H (gates M)⟩] concatenates_S16384x4096_S2048x4096_S18432x4096_d0

theorem prod_at (A : FVec Ideal S18432x4096 .bf16) (W : FVec Ideal S4096x4096 .bf16) (r : Fin 18432) (d : Fin 4096) :
    prod A W (ix2 r d) = ∑ k : Fin 4096, A (ix2 r k) * W (ix2 k d) := by
  unfold prod
  pointwise

theorem gates_at (M : FVec Ideal S16x6x4096 .f32) (b : Fin 16) (d : Fin 4096) : gates M (ix2 b d) = M (ix3 b 2 d) := by
  unfold gates
  pointwise

theorem top_at (P H : FVec Ideal S18432x4096 .f32) (G : FVec Ideal S16x4096 .f32) (r : Fin 16384) (d : Fin 4096) :
    top P H G (ix2 r d) = H (ix2 ⟨r, by omega⟩ d) + G (ix2 ⟨r / 2048, by omega⟩ d) * P (ix2 ⟨r, by omega⟩ d) := by
  unfold top
  pointwise

theorem bot_at (P H : FVec Ideal S18432x4096 .f32) (G : FVec Ideal S16x4096 .f32) (r : Fin 2048) (d : Fin 4096) :
    bot P H G (ix2 r d) = H (ix2 ⟨16384 + r, by omega⟩ d) + G (ix2 8 d) * P (ix2 ⟨16384 + r, by omega⟩ d) := by
  unfold bot
  pointwise

theorem res_at (A : FVec Ideal S18432x4096 .bf16) (W : FVec Ideal S4096x4096 .bf16) (H : FVec Ideal S18432x4096 .f32)
    (M : FVec Ideal S16x6x4096 .f32) (r : Fin 18432) (d : Fin 4096) : res A W H M (ix2 r d) = elt A W H M r d := by
  unfold res elt
  pointwise
  split
  · rename_i h
    rw [top_at, prod_at, gates_at]
    refine congrArg₂ (· + ·) rfl (congrArg₂ (· * ·) (congrArg M ?_) rfl)
    refine congrArg (fun b : Fin 16 => ix3 b 2 d) (Fin.ext ?_)
    show (r : ℕ) / 2048 = min ((r : ℕ) / 2048) 8
    omega
  · rename_i h
    have e : (⟨16384 + (r - 16384), by omega⟩ : Fin 18432) = r := Fin.ext (by show 16384 + ((r : ℕ) - 16384) = r; omega)
    rw [bot_at, prod_at, gates_at, e]
    refine congrArg₂ (· + ·) rfl (congrArg₂ (· * ·) (congrArg M ?_) rfl)
    refine congrArg (fun b : Fin 16 => ix3 b 2 d) (Fin.ext ?_)
    show 8 = min ((r : ℕ) / 2048) 8
    omega

end reference

/-- The claim about the values of the output projection. -/
theorem algebraic :
    Cert.algebraic_OutputIdeal_OutputSpecIdeal (hOutputIdeal := Cert.OutputIdeal.Gen.facts)
      (hOutputSpecIdeal := Cert.OutputSpecIdeal.Gen.facts) := by
  intro m g m' g' _ hagree
  refine ⟨fun c => fun i => elt (m ((c.tc : Thread _ _).loc Cert.OutputIdeal.main_arg0)) (m ((c.tc : Thread _ _).loc Cert.OutputIdeal.main_arg1))
      (m ((c.tc : Thread _ _).loc Cert.OutputIdeal.main_arg2)) (m ((c.tc : Thread _ _).loc Cert.OutputIdeal.main_arg3)) (i 0) (i 1),
    (θ_run _ _ _).mono (fun r h c => ⟨(h c).1.trans (final m c), (h c).2⟩) (Cert.OutputIdeal.Value.run_blocks m g),
    (θ_run _ _ _).mono (fun r h c => ⟨(h c).1.trans ?_, (h c).2⟩) (Cert.OutputSpecIdeal.Value.run m' g')⟩
  funext i
  idx_vars i
  refine (res_at (m' ((c.tc : Thread _ _).loc Cert.OutputSpecIdeal.main_arg0)) (m' ((c.tc : Thread _ _).loc Cert.OutputSpecIdeal.main_arg1))
    (m' ((c.tc : Thread _ _).loc Cert.OutputSpecIdeal.main_arg2)) (m' ((c.tc : Thread _ _).loc Cert.OutputSpecIdeal.main_arg3)) _ _).trans ?_
  rw [(hagree c).1, (hagree c).2.1, (hagree c).2.2.1, (hagree c).2.2.2]

end Cert.Out

end
-- ==== Proof.Mls.lean ====
module

public import proofs.«01_k».proof.Proof.Gen.MlstmInIdeal.Value
public import proofs.«01_k».proof.Proof.Gen.MlstmInSpecIdeal.Run
public import proofs.«01_k».proof.Defs
public import Idealize.ShloMosaic.Lib.Pointwise
public import Idealize.ShloMosaic.Lib.Tactic.CleanTypes
public import Idealize.ShloMosaic.Lib.Pipeline.ValueKit
public import Idealize.ShloMosaic.Lib.Pipeline.Covers
public import Idealize.ShloMosaic.Lib.WholeRead

@[expose] public section

set_option maxRecDepth 16384

noncomputable section

/-! The input projection of the recurrent mixer: the kernel's array is the reference's. -/

namespace Cert.Mls

open Idealize.ShloMosaic Idealize.ShloMosaic.TcCoe Idealize.SL.Sem Idealize.ShloMosaic.Pointwise

/-- The factor of a column: a sixteenth for the queries', one for the rest. -/
def factor (d : ℕ) : EReal := if d < 2048 then Ideal.ofBits FTy.f32 0x3D800000#32 else 1

/-- The element at row `r`, column `d`: the product's times the column's factor. -/
def elt (A : FVec Ideal Cert.MlstmInIdeal.S18432x4096 .bf16) (W : FVec Ideal Cert.MlstmInIdeal.S4096x12320 .bf16)
    (r : Fin 18432) (d : Fin 12288) : EReal :=
  (∑ k : Fin 4096, A (ix2 r k) * W (ix2 k ⟨d, by omega⟩)) * factor d

section kernel

open Cert.MlstmInIdeal Cert.MlstmInIdeal.Gen

theorem pay_at (i : grid0.Coords) (x0 : Vec Ideal S1024x4096 .bf16) (x1 : Vec Ideal S4096x512 .bf16) (r : Fin 1024) (d : Fin 512) :
    k0_pay1 i x0 x1 (ix2 r d) = (∑ k : Fin 4096, x0 (ix2 r k) * x1 (ix2 k d)) * factor ((i 1).val * 512) := by
  unfold_payloads
  pointwise [factor]
  refine congrArg₂ (· * ·) rfl ?_
  have hi : (i 1).val < 24 := (i 1).isLt
  generalize (i 1).val = n at hi
  interval_cases n <;> rfl

theorem out_at (c : Dev nD) (i : grid0.Coords) (arg2 : Memref sig .tc .vmem S1024x4096 .bf16) (harg2 : arg2.IsWhole) (arg3 : Memref sig .tc .vmem S4096x512 .bf16) (harg3 : arg3.IsWhole) (arg4 : Memref sig .tc .vmem S1024x512 .bf16) (harg4 : arg4.IsWhole)
    (x0 : Vec Ideal S1024x4096 .bf16) (x1 : Vec Ideal S4096x512 .bf16)
    (y : S1024x512.Idx) (r : Fin 1024) (d : Fin 512) (hr : (y 0 : ℕ) = r) (hd : (y 1 : ℕ) = d) :
    out0_A_2 c i arg2 harg2 arg3 harg3 arg4 harg4 x0 x1 y = k0_pay1 i x0 x1 (ix2 r d) := by
  unfold out0_A_2
  rw [View.read_writes_apply_eq_canon _ _ _ _ (cover0_A_2 c i arg2 harg2 arg3 harg3 arg4 harg4 x0 x1 y)]
  unfold kernelRun0_A
  canon_tiles x h
  obtain ⟨a, b, rfl⟩ : ∃ (a : Fin 1024) (b : Fin 512), x = ix2 a b := ⟨x 0, x 1, eq_ix2 x⟩
  obtain rfl : a = r := Fin.ext (h0.symm.trans hr)
  obtain rfl : b = d := Fin.ext (h1.symm.trans hd)
  refine congrFun (congrArg₂ (k0_pay1 i) ?_ ?_) _
  · funext z
    rw [Memref.IsWhole.readAt_unread]
    idx_vars z
    refine congrArg _ (funext fun e => Fin.ext ((Rect.idx_unit_val _ _ _ _ e).trans ?_))
    fin_cases e <;> exact Nat.zero_add _
  · funext z
    rw [Memref.IsWhole.readAt_unread]
    idx_vars z
    refine congrArg _ (funext fun e => Fin.ext ((Rect.idx_unit_val _ _ _ _ e).trans ?_))
    fin_cases e <;> exact Nat.zero_add _

theorem idx : ∀ t : Fin grid0.N,
    (win0_0.index t = ![t.val / 24, 0] ∧ win0_1.index t = ![0, t.val % 24]) ∧ win0_2.index t = ![t.val / 24, t.val % 24]
    ∧ (grid0.coords t 1).val = t.val % 24 := by
  decide +kernel

variable (m : (ℓ : Loc nD τ sig) → Buf (Elt Ideal) ℓ)

theorem right (c : Dev nD) (t : Fin cfg0.N) (k : Fin 4096) (d : Fin 512) (C : Fin 12320) (hC : (C : ℕ) = t.val % 24 * 512 + d) :
    X0_1 m c t (ix2 k d : S4096x512.Idx) = m ((c : Thread nD τ).loc main_arg1) (ix2 k C) := by
  obtain ⟨⟨_, e1⟩, _⟩ := idx t
  unfold X0_1 Pipeline.Window.fill
  rw [dif_pos (moved0_1 t _)]
  have ht : t.val < 432 := t.isLt
  blk_ext [iblk, V, e1]

theorem final (c : Dev nD) :
    (dats m 0 c).arrAt 2 cfg0.N = fun i => elt (m ((c : Thread nD τ).loc main_arg0)) (m ((c : Thread nD τ).loc main_arg1)) (i 0) (i 1) := by
  refine (dats m 0 c).arrAt_eq_of_covers 2 _ (by decide +kernel) fun t hf y => ?_
  obtain ⟨⟨e0, e1⟩, e2, e3⟩ := idx t
  blk_simp [e2]
  rw [after0_2]
  have hR : (((win0_2.blk t).view.emb y 0 : Fin 18432) : ℕ) = t.val / 24 * 1024 + (y 0).val := by blk_simp [e2]
  have hC : (((win0_2.blk t).view.emb y 1 : Fin 12288) : ℕ) = t.val % 24 * 512 + (y 1).val := by blk_simp [e2]
  have hy0 : (y 0).val < 1024 := (y 0).isLt
  have hy1 : (y 1).val < 512 := (y 1).isLt
  have ht : t.val < 432 := t.isLt
  generalize ((win0_2.blk t).view.emb y 0 : Fin 18432) = R at hR ⊢
  generalize ((win0_2.blk t).view.emb y 1 : Fin 12288) = C at hC ⊢
  refine (out_at _ _ _ _ _ _ _ _ _ _ y ⟨(y 0).val, hy0⟩ ⟨(y 1).val, hy1⟩ rfl rfl).trans ((pay_at _ _ _ _ _).trans ?_)
  unfold elt
  refine congrArg₂ (· * ·) (Finset.sum_congr rfl fun k _ => congrArg₂ (· * ·) ?_ ?_) ?_
  · blk_ext [iblk, V, e0]
  · exact right m c t k _ _ hC
  · unfold factor
    rw [e3]
    refine if_congr ?_ rfl rfl
    omega

end kernel

section reference

open Cert.MlstmInSpecIdeal Cert.MlstmInSpecIdeal.Gen

/-- The projection. -/
def prod (A : FVec Ideal S18432x4096 .bf16) (W : FVec Ideal S4096x12320 .bf16) : FVec Ideal S18432x12320 .f32 :=
  Host.dotGeneral dot_S18432x4096_S4096x12320_S18432x12320_1_0_0_1_n_n none (extf .f32 A bitsLt_bf16_f32) (extf .f32 W bitsLt_bf16_f32)

def res (P : FVec Ideal S18432x12320 .f32) : FVec Ideal S18432x12288 .bf16 :=
  truncf .bf16 ((concatenate S18432x12288 1 [⟨S18432x2048, ((mulf (extractStridedSlice S18432x2048 ![0, 0] P slices_S18432x12320_S18432x2048_0_0) (broadcastInDim S18432x2048 ![] bcast_S_S18432x2048 (constant S_ .f32 0x3D800000#32))) : (⟨S18432x2048, .f32⟩ : BufTy).Contents (Elt Ideal))⟩, ⟨S18432x2048, ((extractStridedSlice S18432x2048 ![0, 2048] P slices_S18432x12320_S18432x2048_0_2048) : (⟨S18432x2048, .f32⟩ : BufTy).Contents (Elt Ideal))⟩, ⟨S18432x4096, ((extractStridedSlice S18432x4096 ![0, 4096] P slices_S18432x12320_S18432x4096_0_4096) : (⟨S18432x4096, .f32⟩ : BufTy).Contents (Elt Ideal))⟩, ⟨S18432x4096, ((extractStridedSlice S18432x4096 ![0, 8192] P slices_S18432x12320_S18432x4096_0_8192) : (⟨S18432x4096, .f32⟩ : BufTy).Contents (Elt Ideal))⟩] concatenates_S18432x2048_S18432x2048_S18432x4096_S18432x4096_S18432x12288_d1 : (⟨S18432x12288, .f32⟩ : BufTy).Contents (Elt Ideal))) bitsLt_bf16_f32

theorem prod_at (A : FVec Ideal S18432x4096 .bf16) (W : FVec Ideal S4096x12320 .bf16) (r : Fin 18432) (d : Fin 12320) :
    prod A W (ix2 r d) = ∑ k : Fin 4096, A (ix2 r k) * W (ix2 k d) := by
  unfold prod
  pointwise

theorem res_at (P : FVec Ideal S18432x12320 .f32) (r : Fin 18432) (d : Fin 12288) :
    res P (ix2 r d) = P (ix2 r ⟨d, by omega⟩) * factor d := by
  unfold res factor
  pointwise
  have hd : (d : ℕ) < 12288 := d.isLt
  have key : ∀ (n : ℕ) (hn : n < 12320), n = d → P (ix2 r ⟨n, hn⟩) = P (ix2 r ⟨d, by omega⟩) := by
    intro n hn e
    subst e
    rfl
  by_cases h1 : (d : ℕ) < 2048
  · exact (dif_pos h1).trans (congrArg₂ (· * ·) rfl (if_pos h1).symm)
  refine Eq.trans ?_ ((congrArg₂ (· * ·) rfl (if_neg h1)).trans (mul_one _)).symm
  refine (dif_neg h1).trans ?_
  by_cases h2 : (d : ℕ) - 2048 < 2048
  · exact (dif_pos h2).trans (key _ _ (by omega))
  refine (dif_neg h2).trans ?_
  by_cases h3 : (d : ℕ) - 2048 - 2048 < 4096
  · exact (dif_pos h3).trans (key _ _ (by omega))
  exact (dif_neg h3).trans (key _ _ (by omega))

end reference

/-- The claim about the values of the recurrent mixer's input projection. -/
theorem algebraic :
    Cert.algebraic_MlstmInIdeal_MlstmInSpecIdeal (hMlstmInIdeal := Cert.MlstmInIdeal.Gen.facts)
      (hMlstmInSpecIdeal := Cert.MlstmInSpecIdeal.Gen.facts) := by
  intro m g m' g' _ hagree
  refine ⟨fun c => fun i => elt (m ((c.tc : Thread _ _).loc Cert.MlstmInIdeal.main_arg0)) (m ((c.tc : Thread _ _).loc Cert.MlstmInIdeal.main_arg1)) (i 0) (i 1),
    (θ_run _ _ _).mono (fun r h c => ⟨(h c).1.trans (final m c), (h c).2⟩) (Cert.MlstmInIdeal.Value.run_blocks m g),
    (θ_run _ _ _).mono (fun r h c => ⟨(h c).1.trans ?_, (h c).2⟩) (Cert.MlstmInSpecIdeal.Value.run m' g')⟩
  funext i
  idx_vars i
  refine (res_at (prod (m' ((c.tc : Thread _ _).loc Cert.MlstmInSpecIdeal.main_arg0)) (m' ((c.tc : Thread _ _).loc Cert.MlstmInSpecIdeal.main_arg1))) _ _).trans ?_
  rw [prod_at, (hagree c).1, (hagree c).2]
  rfl

end Cert.Mls

end
-- ==== Proof.QkvMath.lean ====
module

public import Idealize.ShloMosaic.Lib.Pointwise
public import Idealize.ShloMosaic.Lib.Tactic.CleanTypes
public import Idealize.ShloMosaic.Lib.Pipeline.ValueKit
public import Idealize.ShloMosaic.Lib.Pipeline.Covers

@[expose] public section

set_option maxRecDepth 16384

noncomputable section

/-! The projection's head arithmetic on extended reals: the mean-square normalisation, the rotation and the choice by
    column block. -/

namespace Cert.QkvMath

open Idealize.ShloMosaic

/-- The factor of the queries. -/
def scale : EReal := Ideal.ofBits FTy.f32 0x3DB504F3#32

/-- A head divided by the root of its mean square, times its gain. -/
def normed (p g : Fin 128 → EReal) (e : Fin 128) : EReal :=
  p e * Ideal.rsqrt (Ideal.div (∑ x, p x * p x) (Ideal.ofBits FTy.f32 0x43000000#32) + Ideal.ofBits FTy.f32 0x358637BD#32) * g e

/-- A head's rotation: an element by the first table, the one half a head away by the second. -/
def rot (x c s : Fin 128 → EReal) (d : Fin 128) : EReal :=
  x d * c d + x ⟨(d + 128 - 64) % 128, by omega⟩ * s d

/-- What column block `j` writes: the queries rotated and scaled, the keys rotated, the values as they are. -/
def head (j : ℕ) (x p c s : Fin 128 → EReal) (d : Fin 128) : EReal :=
  if j < 10 then rot x c s d * (if j < 8 then scale else 1) else p d

/-- The choice by column block as it is computed, on 32-bit integers. -/
def sel (n : ℕ) (b : BitVec 32) (x y : EReal) : EReal := Scalar.select (Scalar.cmpi .slt (BitVec.ofNat 32 n) b) x y

theorem sel8 (n : ℕ) (hn : n < 12) (x y : EReal) : sel n 8#32 x y = if n < 8 then x else y := by
  interval_cases n <;> rfl

theorem sel10 (n : ℕ) (hn : n < 12) (x y : EReal) : sel n 10#32 x y = if n < 10 then x else y := by
  interval_cases n <;> rfl

end Cert.QkvMath

end
-- ==== Proof.QkvBlk.lean ====
module

public import proofs.«01_k».proof.Proof.Gen.QkvIdeal.Value
public import proofs.«01_k».proof.Proof.QkvMath
public import Idealize.ShloMosaic.Lib.Pointwise
public import Idealize.ShloMosaic.Lib.Tactic.CleanTypes
public import Idealize.ShloMosaic.Lib.Pipeline.ValueKit
public import Idealize.ShloMosaic.Lib.Pipeline.Covers

@[expose] public section

set_option maxRecDepth 16384

noncomputable section

namespace Cert.QkvBlk

open Cert.QkvIdeal Cert.QkvIdeal.Gen Idealize.ShloMosaic Idealize.ShloMosaic.TcCoe Idealize.ShloMosaic.Pointwise

/-- A head's product of a row block and a column block. -/
def part (x0 : Vec Ideal S1024x4096 .bf16) (x1 : Vec Ideal S4096x512 .bf16) (R : Fin 1024) (g : Fin 4) (e : Fin 128) : EReal :=
  ∑ k : Fin 4096, x0 (ix2 R k) * x1 (ix2 k ⟨g * 128 + e, by omega⟩)

/-- The gain of a column block's heads. -/
def gain (n : ℕ) (x4 x5 : Vec Ideal S1x128 .f32) (e : Fin 128) : EReal := QkvMath.sel n 8#32 (x4 (ix2 0 e)) (x5 (ix2 0 e))

/-- A head of the block at column block `n`. -/
def headB (n : ℕ) (x p c s : Fin 128 → EReal) (d : Fin 128) : EReal :=
  QkvMath.sel n 10#32 (QkvMath.rot x c s d * QkvMath.sel n 8#32 QkvMath.scale 1) (p d)

theorem headB_eq (n : ℕ) (hn : n < 12) (x p c s : Fin 128 → EReal) (d : Fin 128) : headB n x p c s d = QkvMath.head n x p c s d := by
  unfold headB QkvMath.head
  rw [QkvMath.sel10 n hn, QkvMath.sel8 n hn]

theorem row_lt (a : Fin 256) (n : ℕ) (h : n ≤ 768) : n + (a : ℕ) < 1024 := by omega

theorem out_at (i : grid0.Coords) (x0 : Vec Ideal S1024x4096 .bf16) (x1 : Vec Ideal S4096x512 .bf16) (x2 x3 : Vec Ideal S1024x128 .f32)
    (x4 x5 : Vec Ideal S1x128 .f32) (y : S1024x512.Idx) (R : Fin 1024) (g : Fin 4) (d : Fin 128)
    (hr : (y 0 : ℕ) = R) (hd : (y 1 : ℕ) = g * 128 + d) :
    out0_6 i x0 x1 x2 x3 x4 x5 y = headB (i 1).val (QkvMath.normed (part x0 x1 R g) (gain (i 1).val x4 x5)) (part x0 x1 R g)
      (fun e => x2 (ix2 R e)) (fun e => x3 (ix2 R e)) d := by
  unfold_out out0_6
  canon_tiles x h
  all_goals
    obtain ⟨a, b, rfl⟩ : ∃ (a : Fin 256) (b : Fin 128), x = ix2 a b := ⟨x 0, x 1, eq_ix2 x⟩
    have ha : (ix2 a b : S256x128.Idx) 0 = a := rfl
    have hb : (ix2 a b : S256x128.Idx) 1 = b := rfl
    simp only [ha, hb] at h0 h1
    have ha2 : (a : ℕ) < 256 := a.isLt
    have hb2 : (b : ℕ) < 128 := b.isLt
    have hd2 : (d : ℕ) < 128 := d.isLt
  case piece0 =>
    obtain rfl : R = ⟨768 + a, row_lt a 768 (by decide)⟩ := Fin.ext (by show (R : ℕ) = 768 + a; omega)
    obtain rfl : g = 3 := Fin.ext (by show (g : ℕ) = 3; omega)
    obtain rfl : b = d := Fin.ext (by change _ = 3 * 128 + (d : ℕ) at hd; omega)
    unfold_payloads
    pointwise [headB, part, gain, QkvMath.sel, QkvMath.normed, QkvMath.rot, QkvMath.scale]
  case piece1 =>
    obtain rfl : R = ⟨768 + a, row_lt a 768 (by decide)⟩ := Fin.ext (by show (R : ℕ) = 768 + a; omega)
    obtain rfl : g = 2 := Fin.ext (by show (g : ℕ) = 2; omega)
    obtain rfl : b = d := Fin.ext (by change _ = 2 * 128 + (d : ℕ) at hd; omega)
    unfold_payloads
    pointwise [headB, part, gain, QkvMath.sel, QkvMath.normed, QkvMath.rot, QkvMath.scale]
  case piece2 =>
    obtain rfl : R = ⟨768 + a, row_lt a 768 (by decide)⟩ := Fin.ext (by show (R : ℕ) = 768 + a; omega)
    obtain rfl : g = 1 := Fin.ext (by show (g : ℕ) = 1; omega)
    obtain rfl : b = d := Fin.ext (by change _ = 1 * 128 + (d : ℕ) at hd; omega)
    unfold_payloads
    pointwise [headB, part, gain, QkvMath.sel, QkvMath.normed, QkvMath.rot, QkvMath.scale]
  case piece3 =>
    obtain rfl : R = ⟨768 + a, row_lt a 768 (by decide)⟩ := Fin.ext (by show (R : ℕ) = 768 + a; omega)
    obtain rfl : g = 0 := Fin.ext (by show (g : ℕ) = 0; omega)
    obtain rfl : b = d := Fin.ext (by change _ = 0 * 128 + (d : ℕ) at hd; omega)
    unfold_payloads
    pointwise [headB, part, gain, QkvMath.sel, QkvMath.normed, QkvMath.rot, QkvMath.scale]
  case piece4 =>
    obtain rfl : R = ⟨512 + a, row_lt a 512 (by decide)⟩ := Fin.ext (by show (R : ℕ) = 512 + a; omega)
    obtain rfl : g = 3 := Fin.ext (by show (g : ℕ) = 3; omega)
    obtain rfl : b = d := Fin.ext (by change _ = 3 * 128 + (d : ℕ) at hd; omega)
    unfold_payloads
    pointwise [headB, part, gain, QkvMath.sel, QkvMath.normed, QkvMath.rot, QkvMath.scale]
  case piece5 =>
    obtain rfl : R = ⟨512 + a, row_lt a 512 (by decide)⟩ := Fin.ext (by show (R : ℕ) = 512 + a; omega)
    obtain rfl : g = 2 := Fin.ext (by show (g : ℕ) = 2; omega)
    obtain rfl : b = d := Fin.ext (by change _ = 2 * 128 + (d : ℕ) at hd; omega)
    unfold_payloads
    pointwise [headB, part, gain, QkvMath.sel, QkvMath.normed, QkvMath.rot, QkvMath.scale]
  case piece6 =>
    obtain rfl : R = ⟨512 + a, row_lt a 512 (by decide)⟩ := Fin.ext (by show (R : ℕ) = 512 + a; omega)
    obtain rfl : g = 1 := Fin.ext (by show (g : ℕ) = 1; omega)
    obtain rfl : b = d := Fin.ext (by change _ = 1 * 128 + (d : ℕ) at hd; omega)
    unfold_payloads
    pointwise [headB, part, gain, QkvMath.sel, QkvMath.normed, QkvMath.rot, QkvMath.scale]
  case piece7 =>
    obtain rfl : R = ⟨512 + a, row_lt a 512 (by decide)⟩ := Fin.ext (by show (R : ℕ) = 512 + a; omega)
    obtain rfl : g = 0 := Fin.ext (by show (g : ℕ) = 0; omega)
    obtain rfl : b = d := Fin.ext (by change _ = 0 * 128 + (d : ℕ) at hd; omega)
    unfold_payloads
    pointwise [headB, part, gain, QkvMath.sel, QkvMath.normed, QkvMath.rot, QkvMath.scale]
  case piece8 =>
    obtain rfl : R = ⟨256 + a, row_lt a 256 (by decide)⟩ := Fin.ext (by show (R : ℕ) = 256 + a; omega)
    obtain rfl : g = 3 := Fin.ext (by show (g : ℕ) = 3; omega)
    obtain rfl : b = d := Fin.ext (by change _ = 3 * 128 + (d : ℕ) at hd; omega)
    unfold_payloads
    pointwise [headB, part, gain, QkvMath.sel, QkvMath.normed, QkvMath.rot, QkvMath.scale]
  case piece9 =>
    obtain rfl : R = ⟨256 + a, row_lt a 256 (by decide)⟩ := Fin.ext (by show (R : ℕ) = 256 + a; omega)
    obtain rfl : g = 2 := Fin.ext (by show (g : ℕ) = 2; omega)
    obtain rfl : b = d := Fin.ext (by change _ = 2 * 128 + (d : ℕ) at hd; omega)
    unfold_payloads
    pointwise [headB, part, gain, QkvMath.sel, QkvMath.normed, QkvMath.rot, QkvMath.scale]
  case piece10 =>
    obtain rfl : R = ⟨256 + a, row_lt a 256 (by decide)⟩ := Fin.ext (by show (R : ℕ) = 256 + a; omega)
    obtain rfl : g = 1 := Fin.ext (by show (g : ℕ) = 1; omega)
    obtain rfl : b = d := Fin.ext (by change _ = 1 * 128 + (d : ℕ) at hd; omega)
    unfold_payloads
    pointwise [headB, part, gain, QkvMath.sel, QkvMath.normed, QkvMath.rot, QkvMath.scale]
  case piece11 =>
    obtain rfl : R = ⟨256 + a, row_lt a 256 (by decide)⟩ := Fin.ext (by show (R : ℕ) = 256 + a; omega)
    obtain rfl : g = 0 := Fin.ext (by show (g : ℕ) = 0; omega)
    obtain rfl : b = d := Fin.ext (by change _ = 0 * 128 + (d : ℕ) at hd; omega)
    unfold_payloads
    pointwise [headB, part, gain, QkvMath.sel, QkvMath.normed, QkvMath.rot, QkvMath.scale]
  case piece12 =>
    obtain rfl : R = ⟨0 + a, row_lt a 0 (by decide)⟩ := Fin.ext (by show (R : ℕ) = 0 + a; omega)
    obtain rfl : g = 3 := Fin.ext (by show (g : ℕ) = 3; omega)
    obtain rfl : b = d := Fin.ext (by change _ = 3 * 128 + (d : ℕ) at hd; omega)
    unfold_payloads
    pointwise [headB, part, gain, QkvMath.sel, QkvMath.normed, QkvMath.rot, QkvMath.scale]
  case piece13 =>
    obtain rfl : R = ⟨0 + a, row_lt a 0 (by decide)⟩ := Fin.ext (by show (R : ℕ) = 0 + a; omega)
    obtain rfl : g = 2 := Fin.ext (by show (g : ℕ) = 2; omega)
    obtain rfl : b = d := Fin.ext (by change _ = 2 * 128 + (d : ℕ) at hd; omega)
    unfold_payloads
    pointwise [headB, part, gain, QkvMath.sel, QkvMath.normed, QkvMath.rot, QkvMath.scale]
  case piece14 =>
    obtain rfl : R = ⟨0 + a, row_lt a 0 (by decide)⟩ := Fin.ext (by show (R : ℕ) = 0 + a; omega)
    obtain rfl : g = 1 := Fin.ext (by show (g : ℕ) = 1; omega)
    obtain rfl : b = d := Fin.ext (by change _ = 1 * 128 + (d : ℕ) at hd; omega)
    unfold_payloads
    pointwise [headB, part, gain, QkvMath.sel, QkvMath.normed, QkvMath.rot, QkvMath.scale]
  case piece15 =>
    obtain rfl : R = ⟨0 + a, row_lt a 0 (by decide)⟩ := Fin.ext (by show (R : ℕ) = 0 + a; omega)
    obtain rfl : g = 0 := Fin.ext (by show (g : ℕ) = 0; omega)
    obtain rfl : b = d := Fin.ext (by change _ = 0 * 128 + (d : ℕ) at hd; omega)
    unfold_payloads
    pointwise [headB, part, gain, QkvMath.sel, QkvMath.normed, QkvMath.rot, QkvMath.scale]

end Cert.QkvBlk

end
-- ==== Proof.QkvRef.lean ====
module

public import proofs.«01_k».proof.Proof.Gen.QkvSpecIdeal.Run
public import proofs.«01_k».proof.Proof.QkvMath
public import Idealize.ShloMosaic.Lib.Pointwise
public import Idealize.ShloMosaic.Lib.Tactic.CleanTypes
public import Idealize.ShloMosaic.Lib.Pipeline.ValueKit
public import Idealize.ShloMosaic.Lib.Pipeline.Covers

@[expose] public section

set_option maxRecDepth 16384

noncomputable section

/-! The reference projection's result at an index. -/

namespace Cert.QkvRef

open Cert.QkvSpecIdeal Cert.QkvSpecIdeal.Gen Idealize.ShloMosaic Idealize.ShloMosaic.Pointwise

/-- The projection, its queries and its keys by head. -/
def prod (A : FVec Ideal S18432x4096 .bf16) (W : FVec Ideal S4096x6144 .bf16) : FVec Ideal S18432x6144 .f32 :=
  Host.dotGeneral dot_S18432x4096_S4096x6144_S18432x6144_1_0_0_1_n_n none (extf .f32 A bitsLt_bf16_f32) (extf .f32 W bitsLt_bf16_f32)
def qs (P : FVec Ideal S18432x6144 .f32) : FVec Ideal S18432x32x128 .f32 :=
  shapeCast _ (extractStridedSlice S18432x4096 ![0, 0] P slices_S18432x6144_S18432x4096_0_0) shapeCasts_S18432x4096_S18432x32x128
def ks (P : FVec Ideal S18432x6144 .f32) : FVec Ideal S18432x8x128 .f32 :=
  shapeCast _ (extractStridedSlice S18432x1024 ![0, 4096] P slices_S18432x6144_S18432x1024_0_4096) shapeCasts_S18432x1024_S18432x8x128

/-- The rotation of the queries and of the keys. -/
def rotQ (X : FVec Ideal S18432x32x128 .f32) (C S : FVec Ideal S18432x128 .f32) : FVec Ideal S18432x32x128 .f32 :=
  concatenate S18432x32x128 2 [⟨S18432x32x64, (addf (mulf (extractStridedSlice S18432x32x64 ![0, 0, 0] X slices_S18432x32x128_S18432x32x64_0_0_0) (broadcastInDim S18432x32x64 ![0, 1, 2] bcast_S18432x1x64_S18432x32x64_0_1_2 (extractStridedSlice S18432x1x64 ![0, 0, 0] (broadcastInDim S18432x1x128 ![0, 2] bcast_S18432x128_S18432x1x128_0_2 C) slices_S18432x1x128_S18432x1x64_0_0_0))) (mulf (extractStridedSlice S18432x32x64 ![0, 0, 64] X slices_S18432x32x128_S18432x32x64_0_0_64) (broadcastInDim S18432x32x64 ![0, 1, 2] bcast_S18432x1x64_S18432x32x64_0_1_2 (extractStridedSlice S18432x1x64 ![0, 0, 0] (broadcastInDim S18432x1x128 ![0, 2] bcast_S18432x128_S18432x1x128_0_2 S) slices_S18432x1x128_S18432x1x64_0_0_0))))⟩, ⟨S18432x32x64, (addf (mulf (extractStridedSlice S18432x32x64 ![0, 0, 64] X slices_S18432x32x128_S18432x32x64_0_0_64) (broadcastInDim S18432x32x64 ![0, 1, 2] bcast_S18432x1x64_S18432x32x64_0_1_2 (extractStridedSlice S18432x1x64 ![0, 0, 64] (broadcastInDim S18432x1x128 ![0, 2] bcast_S18432x128_S18432x1x128_0_2 C) slices_S18432x1x128_S18432x1x64_0_0_64))) (mulf (extractStridedSlice S18432x32x64 ![0, 0, 0] X slices_S18432x32x128_S18432x32x64_0_0_0) (broadcastInDim S18432x32x64 ![0, 1, 2] bcast_S18432x1x64_S18432x32x64_0_1_2 (extractStridedSlice S18432x1x64 ![0, 0, 64] (broadcastInDim S18432x1x128 ![0, 2] bcast_S18432x128_S18432x1x128_0_2 S) slices_S18432x1x128_S18432x1x64_0_0_64))))⟩] concatenates_S18432x32x64_S18432x32x64_S18432x32x128_d2

def rotK (X : FVec Ideal S18432x8x128 .f32) (C S : FVec Ideal S18432x128 .f32) : FVec Ideal S18432x8x128 .f32 :=
  concatenate S18432x8x128 2 [⟨S18432x8x64, (addf (mulf (extractStridedSlice S18432x8x64 ![0, 0, 0] X slices_S18432x8x128_S18432x8x64_0_0_0) (broadcastInDim S18432x8x64 ![0, 1, 2] bcast_S18432x1x64_S18432x8x64_0_1_2 (extractStridedSlice S18432x1x64 ![0, 0, 0] (broadcastInDim S18432x1x128 ![0, 2] bcast_S18432x128_S18432x1x128_0_2 C) slices_S18432x1x128_S18432x1x64_0_0_0))) (mulf (extractStridedSlice S18432x8x64 ![0, 0, 64] X slices_S18432x8x128_S18432x8x64_0_0_64) (broadcastInDim S18432x8x64 ![0, 1, 2] bcast_S18432x1x64_S18432x8x64_0_1_2 (extractStridedSlice S18432x1x64 ![0, 0, 0] (broadcastInDim S18432x1x128 ![0, 2] bcast_S18432x128_S18432x1x128_0_2 S) slices_S18432x1x128_S18432x1x64_0_0_0))))⟩, ⟨S18432x8x64, (addf (mulf (extractStridedSlice S18432x8x64 ![0, 0, 64] X slices_S18432x8x128_S18432x8x64_0_0_64) (broadcastInDim S18432x8x64 ![0, 1, 2] bcast_S18432x1x64_S18432x8x64_0_1_2 (extractStridedSlice S18432x1x64 ![0, 0, 64] (broadcastInDim S18432x1x128 ![0, 2] bcast_S18432x128_S18432x1x128_0_2 C) slices_S18432x1x128_S18432x1x64_0_0_64))) (mulf (extractStridedSlice S18432x8x64 ![0, 0, 0] X slices_S18432x8x128_S18432x8x64_0_0_0) (broadcastInDim S18432x8x64 ![0, 1, 2] bcast_S18432x1x64_S18432x8x64_0_1_2 (extractStridedSlice S18432x1x64 ![0, 0, 64] (broadcastInDim S18432x1x128 ![0, 2] bcast_S18432x128_S18432x1x128_0_2 S) slices_S18432x1x128_S18432x1x64_0_0_64))))⟩] concatenates_S18432x8x64_S18432x8x64_S18432x8x128_d2

def res (P : FVec Ideal S18432x6144 .f32) (Q : FVec Ideal S18432x32x128 .f32) (K : FVec Ideal S18432x8x128 .f32) (C S : FVec Ideal S18432x128 .f32) :
    FVec Ideal S18432x6144 .bf16 :=
  truncf .bf16 ((concatenate S18432x6144 1 [⟨S18432x4096, ((shapeCast _ (mulf (rotQ Q C S) (broadcastInDim S18432x32x128 ![] bcast_S_S18432x32x128 (constant S_ .f32 0x3DB504F3#32))) shapeCasts_S18432x32x128_S18432x4096) : (⟨S18432x4096, .f32⟩ : BufTy).Contents (Elt Ideal))⟩, ⟨S18432x1024, ((shapeCast _ (rotK K C S) shapeCasts_S18432x8x128_S18432x1024) : (⟨S18432x1024, .f32⟩ : BufTy).Contents (Elt Ideal))⟩, ⟨S18432x1024, ((extractStridedSlice S18432x1024 ![0, 5120] P slices_S18432x6144_S18432x1024_0_5120) : (⟨S18432x1024, .f32⟩ : BufTy).Contents (Elt Ideal))⟩] concatenates_S18432x4096_S18432x1024_S18432x1024_S18432x6144_d1 : (⟨S18432x6144, .f32⟩ : BufTy).Contents (Elt Ideal))) bitsLt_bf16_f32

theorem prod_at (A : FVec Ideal S18432x4096 .bf16) (W : FVec Ideal S4096x6144 .bf16) (r : Fin 18432) (d : Fin 6144) :
    prod A W (ix2 r d) = ∑ k : Fin 4096, A (ix2 r k) * W (ix2 k d) := by
  unfold prod
  pointwise

theorem qs_at (P : FVec Ideal S18432x6144 .f32) (r : Fin 18432) (h : Fin 32) (e : Fin 128) :
    qs P (ix3 r h e) = P (ix2 r ⟨h * 128 + e, by omega⟩) := by
  unfold qs
  pointwise

theorem ks_at (P : FVec Ideal S18432x6144 .f32) (r : Fin 18432) (h : Fin 8) (e : Fin 128) :
    ks P (ix3 r h e) = P (ix2 r ⟨4096 + (h * 128 + e), by omega⟩) := by
  unfold ks
  pointwise

def nrmQ (X : FVec Ideal S18432x32x128 .f32) (G : FVec Ideal S128 .f32) : FVec Ideal S18432x32x128 .f32 :=
  mulf (mulf X (broadcastInDim S18432x32x128 ![0, 1, 2] bcast_S18432x32x1_S18432x32x128_0_1_2 (Host.rsqrt (addf (Host.divf (broadcastInDim S18432x32x1 ![0, 1] bcast_S18432x32_S18432x32x1_0_1 (Host.reduceAdd (mulf X X) (constant S_ .f32 0x00000000#32) reducesTo_S18432x32x128_S18432x32_d2 h_S_)) (broadcastInDim S18432x32x1 ![] bcast_S_S18432x32x1 (constant S_ .f32 0x43000000#32))) (broadcastInDim S18432x32x1 ![] bcast_S_S18432x32x1 (constant S_ .f32 0x358637BD#32)))))) (broadcastInDim S18432x32x128 ![0, 1, 2] bcast_S1x1x128_S18432x32x128_0_1_2 (broadcastInDim S1x1x128 ![2] bcast_S128_S1x1x128_2 G))

def nrmK (X : FVec Ideal S18432x8x128 .f32) (G : FVec Ideal S128 .f32) : FVec Ideal S18432x8x128 .f32 :=
  mulf (mulf X (broadcastInDim S18432x8x128 ![0, 1, 2] bcast_S18432x8x1_S18432x8x128_0_1_2 (Host.rsqrt (addf (Host.divf (broadcastInDim S18432x8x1 ![0, 1] bcast_S18432x8_S18432x8x1_0_1 (Host.reduceAdd (mulf X X) (constant S_ .f32 0x00000000#32) reducesTo_S18432x8x128_S18432x8_d2 h_S_)) (broadcastInDim S18432x8x1 ![] bcast_S_S18432x8x1 (constant S_ .f32 0x43000000#32))) (broadcastInDim S18432x8x1 ![] bcast_S_S18432x8x1 (constant S_ .f32 0x358637BD#32)))))) (broadcastInDim S18432x8x128 ![0, 1, 2] bcast_S1x1x128_S18432x8x128_0_1_2 (broadcastInDim S1x1x128 ![2] bcast_S128_S1x1x128_2 G))

theorem nrmQ_at (X : FVec Ideal S18432x32x128 .f32) (G : FVec Ideal S128 .f32) (r : Fin 18432) (h : Fin 32) (e : Fin 128) :
    nrmQ X G (ix3 r h e) = QkvMath.normed (fun e => X (ix3 r h e)) (fun e => G (ix1 e)) e := by
  unfold nrmQ
  pointwise [QkvMath.normed]

theorem nrmK_at (X : FVec Ideal S18432x8x128 .f32) (G : FVec Ideal S128 .f32) (r : Fin 18432) (h : Fin 8) (e : Fin 128) :
    nrmK X G (ix3 r h e) = QkvMath.normed (fun e => X (ix3 r h e)) (fun e => G (ix1 e)) e := by
  unfold nrmK
  pointwise [QkvMath.normed]

theorem rotQ_at (X : FVec Ideal S18432x32x128 .f32) (C S : FVec Ideal S18432x128 .f32) (r : Fin 18432) (h : Fin 32) (d : Fin 128) :
    rotQ X C S (ix3 r h d) = QkvMath.rot (fun e => X (ix3 r h e)) (fun e => C (ix2 r e)) (fun e => S (ix2 r e)) d := by
  unfold rotQ
  pointwise [QkvMath.rot]
  have hd : (d : ℕ) < 128 := d.isLt
  have key : ∀ (n : ℕ) (hn : n < 128) (e : Fin 128), n = e → (⟨n, hn⟩ : Fin 128) = e := fun n hn e h => Fin.ext h
  by_cases h1 : (d : ℕ) < 64
  · refine (dif_pos h1).trans (congrArg₂ (· + ·) rfl (congrArg₂ (· * ·) ?_ rfl))
    rw [key (64 + d) (by omega) ⟨(d + 128 - 64) % 128, by omega⟩ (by show 64 + (d : ℕ) = (d + 128 - 64) % 128; omega)]
  · refine (dif_neg h1).trans ?_
    rw [key (64 + (d - 64)) (by omega) d (by omega), key (d - 64) (by omega) ⟨(d + 128 - 64) % 128, by omega⟩ (by show (d : ℕ) - 64 = ((d : ℕ) + 128 - 64) % 128; omega)]

theorem rotK_at (X : FVec Ideal S18432x8x128 .f32) (C S : FVec Ideal S18432x128 .f32) (r : Fin 18432) (h : Fin 8) (d : Fin 128) :
    rotK X C S (ix3 r h d) = QkvMath.rot (fun e => X (ix3 r h e)) (fun e => C (ix2 r e)) (fun e => S (ix2 r e)) d := by
  unfold rotK
  pointwise [QkvMath.rot]
  have hd : (d : ℕ) < 128 := d.isLt
  have key : ∀ (n : ℕ) (hn : n < 128) (e : Fin 128), n = e → (⟨n, hn⟩ : Fin 128) = e := fun n hn e h => Fin.ext h
  by_cases h1 : (d : ℕ) < 64
  · refine (dif_pos h1).trans (congrArg₂ (· + ·) rfl (congrArg₂ (· * ·) ?_ rfl))
    rw [key (64 + d) (by omega) ⟨(d + 128 - 64) % 128, by omega⟩ (by show 64 + (d : ℕ) = (d + 128 - 64) % 128; omega)]
  · refine (dif_neg h1).trans ?_
    rw [key (64 + (d - 64)) (by omega) d (by omega), key (d - 64) (by omega) ⟨(d + 128 - 64) % 128, by omega⟩ (by show (d : ℕ) - 64 = ((d : ℕ) + 128 - 64) % 128; omega)]

theorem res_at (P : FVec Ideal S18432x6144 .f32) (Q : FVec Ideal S18432x32x128 .f32) (K : FVec Ideal S18432x8x128 .f32) (C S : FVec Ideal S18432x128 .f32)
    (r : Fin 18432) (d : Fin 6144) :
    res P Q K C S (ix2 r d) = if h : (d : ℕ) < 4096 then rotQ Q C S (ix3 r ⟨d / 128, by omega⟩ ⟨d % 128, by omega⟩) * QkvMath.scale
      else if h : (d : ℕ) - 4096 < 1024 then rotK K C S (ix3 r ⟨(d - 4096) / 128, by omega⟩ ⟨(d - 4096) % 128, by omega⟩)
      else P (ix2 r ⟨5120 + (d - 4096 - 1024), by omega⟩) := by
  unfold res
  pointwise [QkvMath.scale]

/-- A head's row of the projection. -/
def lane (A : FVec Ideal S18432x4096 .bf16) (W : FVec Ideal S4096x6144 .bf16) (r : Fin 18432) (h : Fin 48) (e : Fin 128) : EReal :=
  ∑ k : Fin 4096, A (ix2 r k) * W (ix2 k ⟨h * 128 + e, by omega⟩)

/-- The element at row `r`, column `d` of the result. -/
def elt (A : FVec Ideal S18432x4096 .bf16) (W : FVec Ideal S4096x6144 .bf16) (C S : FVec Ideal S18432x128 .f32) (GQ GK : FVec Ideal S128 .f32)
    (r : Fin 18432) (d : Fin 6144) : EReal :=
  QkvMath.head (d / 512)
    (QkvMath.normed (lane A W r ⟨d / 128, by omega⟩) (fun e => if (d : ℕ) / 512 < 8 then GQ (ix1 e) else GK (ix1 e)))
    (lane A W r ⟨d / 128, by omega⟩)
    (fun e => C (ix2 r e)) (fun e => S (ix2 r e)) ⟨d % 128, by omega⟩

end Cert.QkvRef

end
-- ==== Proof.Qkv.lean ====
module

public import proofs.«01_k».proof.Defs
public import proofs.«01_k».proof.Proof.QkvBlk
public import proofs.«01_k».proof.Proof.QkvRef

@[expose] public section

set_option maxRecDepth 16384

noncomputable section

/-! The projection to queries, keys and values: the kernel's array is the reference's. -/

namespace Cert.QkvVal

open Idealize.ShloMosaic Idealize.ShloMosaic.TcCoe Idealize.SL.Sem Idealize.ShloMosaic.Pointwise

section kernel

open Cert.QkvIdeal Cert.QkvIdeal.Gen

theorem idx : ∀ t : Fin grid0.N,
    ((win0_0.index t = ![t.val / 12, 0] ∧ win0_1.index t = ![0, t.val % 12])
    ∧ (win0_2.index t = ![t.val / 12, 0] ∧ win0_3.index t = ![t.val / 12, 0]))
    ∧ (win0_4.index t = ![0, 0] ∧ win0_5.index t = ![0, 0])
    ∧ win0_6.index t = ![t.val / 12, t.val % 12] ∧ (grid0.coords t 1).val = t.val % 12 := by
  decide +kernel

variable (m : (ℓ : Loc nD τ sig) → Buf (Elt Ideal) ℓ)

theorem V_gq (c : Dev nD) (e : Fin 128) : V m c main_v0 (ix2 0 e : S1x128.Idx) = m ((c : Thread nD τ).loc main_arg4) (ix1 e) := by
  have h : V m c main_v0 = shapeCast S1x128 (m ((c : Thread nD τ).loc main_arg4)) shapeCasts_S128_S1x128 := by
    unfold V
    after_results <;> rfl
  rw [h]
  pointwise

theorem V_gk (c : Dev nD) (e : Fin 128) : V m c main_v1 (ix2 0 e : S1x128.Idx) = m ((c : Thread nD τ).loc main_arg5) (ix1 e) := by
  have h : V m c main_v1 = shapeCast S1x128 (m ((c : Thread nD τ).loc main_arg5)) shapeCasts_S128_S1x128 := by
    unfold V
    after_results <;> rfl
  rw [h]
  pointwise

theorem gain4 (c : Dev nD) (t : Fin cfg0.N) (e : Fin 128) : iblk m c 4 t (ix2 0 e : S1x128.Idx) = m ((c : Thread nD τ).loc main_arg4) (ix1 e) := by
  obtain ⟨_, ⟨e4, _⟩, _⟩ := idx t
  refine Eq.trans ?_ (V_gq m c e)
  blk_ext [iblk, e4]

theorem gain5 (c : Dev nD) (t : Fin cfg0.N) (e : Fin 128) : iblk m c 5 t (ix2 0 e : S1x128.Idx) = m ((c : Thread nD τ).loc main_arg5) (ix1 e) := by
  obtain ⟨_, ⟨_, e5⟩, _⟩ := idx t
  refine Eq.trans ?_ (V_gk m c e)
  blk_ext [iblk, e5]

set_option maxHeartbeats 1000000 in
theorem final (c : Dev nD) :
    (dats m 0 c).arrAt 6 cfg0.N = fun i => QkvRef.elt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (i 0) (i 1) := by
  refine (dats m 0 c).arrAt_eq_of_covers 6 _ (by decide +kernel) fun t hf y => ?_
  obtain ⟨⟨⟨e0, e1⟩, e2, e3⟩, ⟨e4, e5⟩, e6, e7⟩ := idx t
  blk_simp [e6]
  rw [after0_6]
  have hR : (((win0_6.blk t).view.emb y 0 : Fin 18432) : ℕ) = t.val / 12 * 1024 + (y 0).val := by blk_simp [e6]
  have hC : (((win0_6.blk t).view.emb y 1 : Fin 6144) : ℕ) = t.val % 12 * 512 + (y 1).val := by blk_simp [e6]
  have hy0 : (y 0).val < 1024 := (y 0).isLt
  have hy1 : (y 1).val < 512 := (y 1).isLt
  have ht : t.val < 216 := t.isLt
  generalize ((win0_6.blk t).view.emb y 0 : Fin 18432) = R at hR ⊢
  generalize ((win0_6.blk t).view.emb y 1 : Fin 6144) = C at hC ⊢
  have hC2 : (C : ℕ) < 6144 := C.isLt
  refine (QkvBlk.out_at _ _ _ _ _ _ _ y ⟨(y 0).val, hy0⟩ ⟨(y 1).val / 128, by omega⟩ ⟨(y 1).val % 128, by omega⟩ rfl
    (by show (y 1).val = (y 1).val / 128 * 128 + (y 1).val % 128; omega)).trans ?_
  rw [QkvBlk.headB_eq _ (by rw [e7]; omega)]
  have hp : QkvBlk.part (iblk m c 0 t) (iblk m c 1 t) ⟨(y 0).val, hy0⟩ ⟨(y 1).val / 128, by omega⟩
      = QkvRef.lane (m ((c : Thread nD τ).loc main_arg0)) (m ((c : Thread nD τ).loc main_arg1)) R ⟨C / 128, by omega⟩ := by
    funext e
    refine Finset.sum_congr rfl fun k _ => congrArg₂ (· * ·) ?_ ?_
    · blk_ext [iblk, V, e0]
    · blk_ext [iblk, V, e1]
  have hg : QkvBlk.gain (grid0.coords t 1).val (iblk m c 4 t) (iblk m c 5 t)
      = fun e => if (C : ℕ) / 512 < 8 then m ((c : Thread nD τ).loc main_arg4) (ix1 e) else m ((c : Thread nD τ).loc main_arg5) (ix1 e) := by
    funext e
    unfold QkvBlk.gain
    rw [QkvMath.sel8 _ (by rw [e7]; omega), e7, gain4, gain5]
    exact if_congr (by omega) rfl rfl
  have hc : (fun e : Fin 128 => iblk m c 2 t (ix2 ⟨(y 0).val, hy0⟩ e : S1024x128.Idx)) = fun e => m ((c : Thread nD τ).loc main_arg2) (ix2 R e) := by
    funext e
    blk_ext [iblk, V, e2]
  have hs : (fun e : Fin 128 => iblk m c 3 t (ix2 ⟨(y 0).val, hy0⟩ e : S1024x128.Idx)) = fun e => m ((c : Thread nD τ).loc main_arg3) (ix2 R e) := by
    funext e
    blk_ext [iblk, V, e3]
  have hj : (grid0.coords t 1).val = C / 512 := by rw [e7]; omega
  have hd : (⟨(y 1).val % 128, by omega⟩ : Fin 128) = ⟨C % 128, by omega⟩ := Fin.ext (by show (y 1).val % 128 = (C : ℕ) % 128; omega)
  unfold QkvRef.elt
  rw [hg, hp, hj, hd]
  exact congrArg₂ (fun c s => QkvMath.head _ _ _ c s _) hc hs

end kernel

section reference

open Cert.QkvSpecIdeal Cert.QkvSpecIdeal.Gen QkvRef

theorem ref_at (A : FVec Ideal S18432x4096 .bf16) (W : FVec Ideal S4096x6144 .bf16) (C S : FVec Ideal S18432x128 .f32) (GQ GK : FVec Ideal S128 .f32)
    (r : Fin 18432) (d : Fin 6144) :
    res (prod A W) (nrmQ (qs (prod A W)) GQ) (nrmK (ks (prod A W)) GK) C S (ix2 r d) = elt A W C S GQ GK r d := by
  have hd : (d : ℕ) < 6144 := d.isLt
  have key : ∀ (n : ℕ) (hn : n < 6144) (n' : ℕ) (hn' : n' < 6144), n = n' →
      prod A W (ix2 r ⟨n, hn⟩) = ∑ k : Fin 4096, A (ix2 r k) * W (ix2 k ⟨n', hn'⟩) := by
    intro n hn n' hn' e
    subst e
    exact prod_at A W r _
  refine (res_at _ _ _ _ _ r d).trans ?_
  unfold elt QkvMath.head
  by_cases h1 : (d : ℕ) < 4096
  · refine (dif_pos h1).trans ?_
    rw [if_pos (by omega), if_pos (by omega), rotQ_at]
    refine congrArg₂ (· * ·) (congrArg (fun x => QkvMath.rot x _ _ _) (funext fun e => ?_)) rfl
    rw [nrmQ_at]
    refine congrArg₂ (fun p g => QkvMath.normed p g e) (funext fun e => ?_) (funext fun e => (if_pos (by omega)).symm)
    rw [qs_at]
    exact key _ _ _ _ rfl
  refine (dif_neg h1).trans ?_
  by_cases h2 : (d : ℕ) - 4096 < 1024
  · refine (dif_pos h2).trans ?_
    have e1 : (⟨((d : ℕ) - 4096) % 128, by omega⟩ : Fin 128) = ⟨d % 128, by omega⟩ := Fin.ext (by show ((d : ℕ) - 4096) % 128 = (d : ℕ) % 128; omega)
    rw [if_pos (by omega), if_neg (by omega), mul_one, rotK_at, e1]
    refine congrArg (fun x => QkvMath.rot x _ _ _) (funext fun e => ?_)
    rw [nrmK_at]
    refine congrArg₂ (fun p g => QkvMath.normed p g e) (funext fun e => ?_) (funext fun e => (if_neg (by omega)).symm)
    rw [ks_at]
    exact key _ _ _ _ (by show 4096 + (((d : ℕ) - 4096) / 128 * 128 + (e : ℕ)) = (d : ℕ) / 128 * 128 + e; omega)
  refine (dif_neg h2).trans ?_
  rw [if_neg (by omega)]
  exact key _ _ _ _ (by show 5120 + ((d : ℕ) - 4096 - 1024) = (d : ℕ) / 128 * 128 + (d : ℕ) % 128; omega)

end reference

/-- The claim about the values of the projection. -/
theorem algebraic :
    Cert.algebraic_QkvIdeal_QkvSpecIdeal (hQkvIdeal := Cert.QkvIdeal.Gen.facts)
      (hQkvSpecIdeal := Cert.QkvSpecIdeal.Gen.facts) := by
  intro m g m' g' _ hagree
  refine ⟨fun c => fun i => QkvRef.elt (m ((c.tc : Thread _ _).loc Cert.QkvIdeal.main_arg0))
      (m ((c.tc : Thread _ _).loc Cert.QkvIdeal.main_arg1))
      (m ((c.tc : Thread _ _).loc Cert.QkvIdeal.main_arg2))
      (m ((c.tc : Thread _ _).loc Cert.QkvIdeal.main_arg3))
      (m ((c.tc : Thread _ _).loc Cert.QkvIdeal.main_arg4))
      (m ((c.tc : Thread _ _).loc Cert.QkvIdeal.main_arg5)) (i 0) (i 1),
    (θ_run _ _ _).mono (fun r h c => ⟨(h c).1.trans (final m c), (h c).2⟩) (Cert.QkvIdeal.Value.run_blocks m g),
    (θ_run _ _ _).mono (fun r h c => ⟨(h c).1.trans ?_, (h c).2⟩) (Cert.QkvSpecIdeal.Value.run m' g')⟩
  funext i
  idx_vars i
  refine (ref_at (m' ((c.tc : Thread _ _).loc Cert.QkvSpecIdeal.main_arg0))
    (m' ((c.tc : Thread _ _).loc Cert.QkvSpecIdeal.main_arg1))
    (m' ((c.tc : Thread _ _).loc Cert.QkvSpecIdeal.main_arg2))
    (m' ((c.tc : Thread _ _).loc Cert.QkvSpecIdeal.main_arg3))
    (m' ((c.tc : Thread _ _).loc Cert.QkvSpecIdeal.main_arg4))
    (m' ((c.tc : Thread _ _).loc Cert.QkvSpecIdeal.main_arg5)) _ _).trans ?_
  obtain ⟨h0, h1, h2, h3, h4, h5⟩ := hagree c
  rw [h0, h1, h2, h3, h4, h5]

end Cert.QkvVal

end
-- ==== Proof.WinBlk.lean ====
module

public import proofs.«01_k».proof.Proof.Gen.WindowQkvIdeal.Value
public import proofs.«01_k».proof.Proof.QkvMath
public import Idealize.ShloMosaic.Lib.Pointwise
public import Idealize.ShloMosaic.Lib.Tactic.CleanTypes
public import Idealize.ShloMosaic.Lib.Pipeline.ValueKit
public import Idealize.ShloMosaic.Lib.Pipeline.Covers

@[expose] public section

set_option maxRecDepth 16384

noncomputable section

namespace Cert.WinBlk

open Cert.WindowQkvIdeal Cert.WindowQkvIdeal.Gen Idealize.ShloMosaic Idealize.ShloMosaic.TcCoe Idealize.ShloMosaic.Pointwise

/-- A head's product of a row block and a column block. -/
def part (x0 : Vec Ideal S1024x4096 .bf16) (x1 : Vec Ideal S4096x512 .bf16) (R : Fin 1024) (g : Fin 4) (e : Fin 128) : EReal :=
  ∑ k : Fin 4096, x0 (ix2 R k) * x1 (ix2 k ⟨g * 128 + e, by omega⟩)

/-- The gain of a column block's heads. -/
def gain (n : ℕ) (x4 x5 : Vec Ideal S1x128 .f32) (e : Fin 128) : EReal := QkvMath.sel n 8#32 (x4 (ix2 0 e)) (x5 (ix2 0 e))

/-- A head of the block at column block `n`. -/
def headB (n : ℕ) (x p c s : Fin 128 → EReal) (d : Fin 128) : EReal :=
  QkvMath.sel n 10#32 (QkvMath.rot x c s d * QkvMath.sel n 8#32 QkvMath.scale 1) (p d)

theorem headB_eq (n : ℕ) (hn : n < 12) (x p c s : Fin 128 → EReal) (d : Fin 128) : headB n x p c s d = QkvMath.head n x p c s d := by
  unfold headB QkvMath.head
  rw [QkvMath.sel10 n hn, QkvMath.sel8 n hn]

theorem row_lt (a : Fin 256) (n : ℕ) (h : n ≤ 768) : n + (a : ℕ) < 1024 := by omega

theorem out_at (i : grid0.Coords) (x0 : Vec Ideal S1024x4096 .bf16) (x1 : Vec Ideal S4096x512 .bf16) (x2 x3 : Vec Ideal S1024x128 .f32)
    (x4 x5 : Vec Ideal S1x128 .f32) (y : S1024x512.Idx) (R : Fin 1024) (g : Fin 4) (d : Fin 128)
    (hr : (y 0 : ℕ) = R) (hd : (y 1 : ℕ) = g * 128 + d) :
    out0_6 i x0 x1 x2 x3 x4 x5 y = headB (i 1).val ((part x0 x1 R g)) (part x0 x1 R g)
      (fun e => x2 (ix2 R e)) (fun e => x3 (ix2 R e)) d := by
  unfold_out out0_6
  canon_tiles x h
  all_goals
    obtain ⟨a, b, rfl⟩ : ∃ (a : Fin 256) (b : Fin 128), x = ix2 a b := ⟨x 0, x 1, eq_ix2 x⟩
    have ha : (ix2 a b : S256x128.Idx) 0 = a := rfl
    have hb : (ix2 a b : S256x128.Idx) 1 = b := rfl
    simp only [ha, hb] at h0 h1
    have ha2 : (a : ℕ) < 256 := a.isLt
    have hb2 : (b : ℕ) < 128 := b.isLt
    have hd2 : (d : ℕ) < 128 := d.isLt
  case piece0 =>
    obtain rfl : R = ⟨768 + a, row_lt a 768 (by decide)⟩ := Fin.ext (by show (R : ℕ) = 768 + a; omega)
    obtain rfl : g = 3 := Fin.ext (by show (g : ℕ) = 3; omega)
    obtain rfl : b = d := Fin.ext (by change _ = 3 * 128 + (d : ℕ) at hd; omega)
    unfold_payloads
    pointwise [headB, part, gain, QkvMath.sel, QkvMath.normed, QkvMath.rot, QkvMath.scale]
  case piece1 =>
    obtain rfl : R = ⟨768 + a, row_lt a 768 (by decide)⟩ := Fin.ext (by show (R : ℕ) = 768 + a; omega)
    obtain rfl : g = 2 := Fin.ext (by show (g : ℕ) = 2; omega)
    obtain rfl : b = d := Fin.ext (by change _ = 2 * 128 + (d : ℕ) at hd; omega)
    unfold_payloads
    pointwise [headB, part, gain, QkvMath.sel, QkvMath.normed, QkvMath.rot, QkvMath.scale]
  case piece2 =>
    obtain rfl : R = ⟨768 + a, row_lt a 768 (by decide)⟩ := Fin.ext (by show (R : ℕ) = 768 + a; omega)
    obtain rfl : g = 1 := Fin.ext (by show (g : ℕ) = 1; omega)
    obtain rfl : b = d := Fin.ext (by change _ = 1 * 128 + (d : ℕ) at hd; omega)
    unfold_payloads
    pointwise [headB, part, gain, QkvMath.sel, QkvMath.normed, QkvMath.rot, QkvMath.scale]
  case piece3 =>
    obtain rfl : R = ⟨768 + a, row_lt a 768 (by decide)⟩ := Fin.ext (by show (R : ℕ) = 768 + a; omega)
    obtain rfl : g = 0 := Fin.ext (by show (g : ℕ) = 0; omega)
    obtain rfl : b = d := Fin.ext (by change _ = 0 * 128 + (d : ℕ) at hd; omega)
    unfold_payloads
    pointwise [headB, part, gain, QkvMath.sel, QkvMath.normed, QkvMath.rot, QkvMath.scale]
  case piece4 =>
    obtain rfl : R = ⟨512 + a, row_lt a 512 (by decide)⟩ := Fin.ext (by show (R : ℕ) = 512 + a; omega)
    obtain rfl : g = 3 := Fin.ext (by show (g : ℕ) = 3; omega)
    obtain rfl : b = d := Fin.ext (by change _ = 3 * 128 + (d : ℕ) at hd; omega)
    unfold_payloads
    pointwise [headB, part, gain, QkvMath.sel, QkvMath.normed, QkvMath.rot, QkvMath.scale]
  case piece5 =>
    obtain rfl : R = ⟨512 + a, row_lt a 512 (by decide)⟩ := Fin.ext (by show (R : ℕ) = 512 + a; omega)
    obtain rfl : g = 2 := Fin.ext (by show (g : ℕ) = 2; omega)
    obtain rfl : b = d := Fin.ext (by change _ = 2 * 128 + (d : ℕ) at hd; omega)
    unfold_payloads
    pointwise [headB, part, gain, QkvMath.sel, QkvMath.normed, QkvMath.rot, QkvMath.scale]
  case piece6 =>
    obtain rfl : R = ⟨512 + a, row_lt a 512 (by decide)⟩ := Fin.ext (by show (R : ℕ) = 512 + a; omega)
    obtain rfl : g = 1 := Fin.ext (by show (g : ℕ) = 1; omega)
    obtain rfl : b = d := Fin.ext (by change _ = 1 * 128 + (d : ℕ) at hd; omega)
    unfold_payloads
    pointwise [headB, part, gain, QkvMath.sel, QkvMath.normed, QkvMath.rot, QkvMath.scale]
  case piece7 =>
    obtain rfl : R = ⟨512 + a, row_lt a 512 (by decide)⟩ := Fin.ext (by show (R : ℕ) = 512 + a; omega)
    obtain rfl : g = 0 := Fin.ext (by show (g : ℕ) = 0; omega)
    obtain rfl : b = d := Fin.ext (by change _ = 0 * 128 + (d : ℕ) at hd; omega)
    unfold_payloads
    pointwise [headB, part, gain, QkvMath.sel, QkvMath.normed, QkvMath.rot, QkvMath.scale]
  case piece8 =>
    obtain rfl : R = ⟨256 + a, row_lt a 256 (by decide)⟩ := Fin.ext (by show (R : ℕ) = 256 + a; omega)
    obtain rfl : g = 3 := Fin.ext (by show (g : ℕ) = 3; omega)
    obtain rfl : b = d := Fin.ext (by change _ = 3 * 128 + (d : ℕ) at hd; omega)
    unfold_payloads
    pointwise [headB, part, gain, QkvMath.sel, QkvMath.normed, QkvMath.rot, QkvMath.scale]
  case piece9 =>
    obtain rfl : R = ⟨256 + a, row_lt a 256 (by decide)⟩ := Fin.ext (by show (R : ℕ) = 256 + a; omega)
    obtain rfl : g = 2 := Fin.ext (by show (g : ℕ) = 2; omega)
    obtain rfl : b = d := Fin.ext (by change _ = 2 * 128 + (d : ℕ) at hd; omega)
    unfold_payloads
    pointwise [headB, part, gain, QkvMath.sel, QkvMath.normed, QkvMath.rot, QkvMath.scale]
  case piece10 =>
    obtain rfl : R = ⟨256 + a, row_lt a 256 (by decide)⟩ := Fin.ext (by show (R : ℕ) = 256 + a; omega)
    obtain rfl : g = 1 := Fin.ext (by show (g : ℕ) = 1; omega)
    obtain rfl : b = d := Fin.ext (by change _ = 1 * 128 + (d : ℕ) at hd; omega)
    unfold_payloads
    pointwise [headB, part, gain, QkvMath.sel, QkvMath.normed, QkvMath.rot, QkvMath.scale]
  case piece11 =>
    obtain rfl : R = ⟨256 + a, row_lt a 256 (by decide)⟩ := Fin.ext (by show (R : ℕ) = 256 + a; omega)
    obtain rfl : g = 0 := Fin.ext (by show (g : ℕ) = 0; omega)
    obtain rfl : b = d := Fin.ext (by change _ = 0 * 128 + (d : ℕ) at hd; omega)
    unfold_payloads
    pointwise [headB, part, gain, QkvMath.sel, QkvMath.normed, QkvMath.rot, QkvMath.scale]
  case piece12 =>
    obtain rfl : R = ⟨0 + a, row_lt a 0 (by decide)⟩ := Fin.ext (by show (R : ℕ) = 0 + a; omega)
    obtain rfl : g = 3 := Fin.ext (by show (g : ℕ) = 3; omega)
    obtain rfl : b = d := Fin.ext (by change _ = 3 * 128 + (d : ℕ) at hd; omega)
    unfold_payloads
    pointwise [headB, part, gain, QkvMath.sel, QkvMath.normed, QkvMath.rot, QkvMath.scale]
  case piece13 =>
    obtain rfl : R = ⟨0 + a, row_lt a 0 (by decide)⟩ := Fin.ext (by show (R : ℕ) = 0 + a; omega)
    obtain rfl : g = 2 := Fin.ext (by show (g : ℕ) = 2; omega)
    obtain rfl : b = d := Fin.ext (by change _ = 2 * 128 + (d : ℕ) at hd; omega)
    unfold_payloads
    pointwise [headB, part, gain, QkvMath.sel, QkvMath.normed, QkvMath.rot, QkvMath.scale]
  case piece14 =>
    obtain rfl : R = ⟨0 + a, row_lt a 0 (by decide)⟩ := Fin.ext (by show (R : ℕ) = 0 + a; omega)
    obtain rfl : g = 1 := Fin.ext (by show (g : ℕ) = 1; omega)
    obtain rfl : b = d := Fin.ext (by change _ = 1 * 128 + (d : ℕ) at hd; omega)
    unfold_payloads
    pointwise [headB, part, gain, QkvMath.sel, QkvMath.normed, QkvMath.rot, QkvMath.scale]
  case piece15 =>
    obtain rfl : R = ⟨0 + a, row_lt a 0 (by decide)⟩ := Fin.ext (by show (R : ℕ) = 0 + a; omega)
    obtain rfl : g = 0 := Fin.ext (by show (g : ℕ) = 0; omega)
    obtain rfl : b = d := Fin.ext (by change _ = 0 * 128 + (d : ℕ) at hd; omega)
    unfold_payloads
    pointwise [headB, part, gain, QkvMath.sel, QkvMath.normed, QkvMath.rot, QkvMath.scale]

end Cert.WinBlk

end
-- ==== Proof.WinRef.lean ====
module

public import proofs.«01_k».proof.Proof.Gen.WindowQkvSpecIdeal.Run
public import proofs.«01_k».proof.Proof.QkvMath
public import Idealize.ShloMosaic.Lib.Pointwise
public import Idealize.ShloMosaic.Lib.Tactic.CleanTypes
public import Idealize.ShloMosaic.Lib.Pipeline.ValueKit
public import Idealize.ShloMosaic.Lib.Pipeline.Covers

@[expose] public section

set_option maxRecDepth 16384

noncomputable section

/-! The reference projection's result at an index. -/

namespace Cert.WinRef

open Cert.WindowQkvSpecIdeal Cert.WindowQkvSpecIdeal.Gen Idealize.ShloMosaic Idealize.ShloMosaic.Pointwise

/-- The projection, its queries and its keys by head. -/
def prod (A : FVec Ideal S18432x4096 .bf16) (W : FVec Ideal S4096x6144 .bf16) : FVec Ideal S18432x6144 .f32 :=
  Host.dotGeneral dot_S18432x4096_S4096x6144_S18432x6144_1_0_0_1_n_n none (extf .f32 A bitsLt_bf16_f32) (extf .f32 W bitsLt_bf16_f32)
def qs (P : FVec Ideal S18432x6144 .f32) : FVec Ideal S18432x32x128 .f32 :=
  shapeCast _ (extractStridedSlice S18432x4096 ![0, 0] P slices_S18432x6144_S18432x4096_0_0) shapeCasts_S18432x4096_S18432x32x128
def ks (P : FVec Ideal S18432x6144 .f32) : FVec Ideal S18432x8x128 .f32 :=
  shapeCast _ (extractStridedSlice S18432x1024 ![0, 4096] P slices_S18432x6144_S18432x1024_0_4096) shapeCasts_S18432x1024_S18432x8x128

/-- The rotation of the queries and of the keys. -/
def rotQ (X : FVec Ideal S18432x32x128 .f32) (C S : FVec Ideal S18432x128 .f32) : FVec Ideal S18432x32x128 .f32 :=
  concatenate S18432x32x128 2 [⟨S18432x32x64, (addf (mulf (extractStridedSlice S18432x32x64 ![0, 0, 0] X slices_S18432x32x128_S18432x32x64_0_0_0) (broadcastInDim S18432x32x64 ![0, 1, 2] bcast_S18432x1x64_S18432x32x64_0_1_2 (extractStridedSlice S18432x1x64 ![0, 0, 0] (broadcastInDim S18432x1x128 ![0, 2] bcast_S18432x128_S18432x1x128_0_2 C) slices_S18432x1x128_S18432x1x64_0_0_0))) (mulf (extractStridedSlice S18432x32x64 ![0, 0, 64] X slices_S18432x32x128_S18432x32x64_0_0_64) (broadcastInDim S18432x32x64 ![0, 1, 2] bcast_S18432x1x64_S18432x32x64_0_1_2 (extractStridedSlice S18432x1x64 ![0, 0, 0] (broadcastInDim S18432x1x128 ![0, 2] bcast_S18432x128_S18432x1x128_0_2 S) slices_S18432x1x128_S18432x1x64_0_0_0))))⟩, ⟨S18432x32x64, (addf (mulf (extractStridedSlice S18432x32x64 ![0, 0, 64] X slices_S18432x32x128_S18432x32x64_0_0_64) (broadcastInDim S18432x32x64 ![0, 1, 2] bcast_S18432x1x64_S18432x32x64_0_1_2 (extractStridedSlice S18432x1x64 ![0, 0, 64] (broadcastInDim S18432x1x128 ![0, 2] bcast_S18432x128_S18432x1x128_0_2 C) slices_S18432x1x128_S18432x1x64_0_0_64))) (mulf (extractStridedSlice S18432x32x64 ![0, 0, 0] X slices_S18432x32x128_S18432x32x64_0_0_0) (broadcastInDim S18432x32x64 ![0, 1, 2] bcast_S18432x1x64_S18432x32x64_0_1_2 (extractStridedSlice S18432x1x64 ![0, 0, 64] (broadcastInDim S18432x1x128 ![0, 2] bcast_S18432x128_S18432x1x128_0_2 S) slices_S18432x1x128_S18432x1x64_0_0_64))))⟩] concatenates_S18432x32x64_S18432x32x64_S18432x32x128_d2

def rotK (X : FVec Ideal S18432x8x128 .f32) (C S : FVec Ideal S18432x128 .f32) : FVec Ideal S18432x8x128 .f32 :=
  concatenate S18432x8x128 2 [⟨S18432x8x64, (addf (mulf (extractStridedSlice S18432x8x64 ![0, 0, 0] X slices_S18432x8x128_S18432x8x64_0_0_0) (broadcastInDim S18432x8x64 ![0, 1, 2] bcast_S18432x1x64_S18432x8x64_0_1_2 (extractStridedSlice S18432x1x64 ![0, 0, 0] (broadcastInDim S18432x1x128 ![0, 2] bcast_S18432x128_S18432x1x128_0_2 C) slices_S18432x1x128_S18432x1x64_0_0_0))) (mulf (extractStridedSlice S18432x8x64 ![0, 0, 64] X slices_S18432x8x128_S18432x8x64_0_0_64) (broadcastInDim S18432x8x64 ![0, 1, 2] bcast_S18432x1x64_S18432x8x64_0_1_2 (extractStridedSlice S18432x1x64 ![0, 0, 0] (broadcastInDim S18432x1x128 ![0, 2] bcast_S18432x128_S18432x1x128_0_2 S) slices_S18432x1x128_S18432x1x64_0_0_0))))⟩, ⟨S18432x8x64, (addf (mulf (extractStridedSlice S18432x8x64 ![0, 0, 64] X slices_S18432x8x128_S18432x8x64_0_0_64) (broadcastInDim S18432x8x64 ![0, 1, 2] bcast_S18432x1x64_S18432x8x64_0_1_2 (extractStridedSlice S18432x1x64 ![0, 0, 64] (broadcastInDim S18432x1x128 ![0, 2] bcast_S18432x128_S18432x1x128_0_2 C) slices_S18432x1x128_S18432x1x64_0_0_64))) (mulf (extractStridedSlice S18432x8x64 ![0, 0, 0] X slices_S18432x8x128_S18432x8x64_0_0_0) (broadcastInDim S18432x8x64 ![0, 1, 2] bcast_S18432x1x64_S18432x8x64_0_1_2 (extractStridedSlice S18432x1x64 ![0, 0, 64] (broadcastInDim S18432x1x128 ![0, 2] bcast_S18432x128_S18432x1x128_0_2 S) slices_S18432x1x128_S18432x1x64_0_0_64))))⟩] concatenates_S18432x8x64_S18432x8x64_S18432x8x128_d2

def res (P : FVec Ideal S18432x6144 .f32) (Q : FVec Ideal S18432x32x128 .f32) (K : FVec Ideal S18432x8x128 .f32) (C S : FVec Ideal S18432x128 .f32) :
    FVec Ideal S18432x6144 .bf16 :=
  truncf .bf16 ((concatenate S18432x6144 1 [⟨S18432x4096, ((shapeCast _ (mulf (rotQ Q C S) (broadcastInDim S18432x32x128 ![] bcast_S_S18432x32x128 (constant S_ .f32 0x3DB504F3#32))) shapeCasts_S18432x32x128_S18432x4096) : (⟨S18432x4096, .f32⟩ : BufTy).Contents (Elt Ideal))⟩, ⟨S18432x1024, ((shapeCast _ (rotK K C S) shapeCasts_S18432x8x128_S18432x1024) : (⟨S18432x1024, .f32⟩ : BufTy).Contents (Elt Ideal))⟩, ⟨S18432x1024, ((extractStridedSlice S18432x1024 ![0, 5120] P slices_S18432x6144_S18432x1024_0_5120) : (⟨S18432x1024, .f32⟩ : BufTy).Contents (Elt Ideal))⟩] concatenates_S18432x4096_S18432x1024_S18432x1024_S18432x6144_d1 : (⟨S18432x6144, .f32⟩ : BufTy).Contents (Elt Ideal))) bitsLt_bf16_f32

theorem prod_at (A : FVec Ideal S18432x4096 .bf16) (W : FVec Ideal S4096x6144 .bf16) (r : Fin 18432) (d : Fin 6144) :
    prod A W (ix2 r d) = ∑ k : Fin 4096, A (ix2 r k) * W (ix2 k d) := by
  unfold prod
  pointwise

theorem qs_at (P : FVec Ideal S18432x6144 .f32) (r : Fin 18432) (h : Fin 32) (e : Fin 128) :
    qs P (ix3 r h e) = P (ix2 r ⟨h * 128 + e, by omega⟩) := by
  unfold qs
  pointwise

theorem ks_at (P : FVec Ideal S18432x6144 .f32) (r : Fin 18432) (h : Fin 8) (e : Fin 128) :
    ks P (ix3 r h e) = P (ix2 r ⟨4096 + (h * 128 + e), by omega⟩) := by
  unfold ks
  pointwise

theorem rotQ_at (X : FVec Ideal S18432x32x128 .f32) (C S : FVec Ideal S18432x128 .f32) (r : Fin 18432) (h : Fin 32) (d : Fin 128) :
    rotQ X C S (ix3 r h d) = QkvMath.rot (fun e => X (ix3 r h e)) (fun e => C (ix2 r e)) (fun e => S (ix2 r e)) d := by
  unfold rotQ
  pointwise [QkvMath.rot]
  have hd : (d : ℕ) < 128 := d.isLt
  have key : ∀ (n : ℕ) (hn : n < 128) (e : Fin 128), n = e → (⟨n, hn⟩ : Fin 128) = e := fun n hn e h => Fin.ext h
  by_cases h1 : (d : ℕ) < 64
  · refine (dif_pos h1).trans (congrArg₂ (· + ·) rfl (congrArg₂ (· * ·) ?_ rfl))
    rw [key (64 + d) (by omega) ⟨(d + 128 - 64) % 128, by omega⟩ (by show 64 + (d : ℕ) = (d + 128 - 64) % 128; omega)]
  · refine (dif_neg h1).trans ?_
    rw [key (64 + (d - 64)) (by omega) d (by omega), key (d - 64) (by omega) ⟨(d + 128 - 64) % 128, by omega⟩ (by show (d : ℕ) - 64 = ((d : ℕ) + 128 - 64) % 128; omega)]

theorem rotK_at (X : FVec Ideal S18432x8x128 .f32) (C S : FVec Ideal S18432x128 .f32) (r : Fin 18432) (h : Fin 8) (d : Fin 128) :
    rotK X C S (ix3 r h d) = QkvMath.rot (fun e => X (ix3 r h e)) (fun e => C (ix2 r e)) (fun e => S (ix2 r e)) d := by
  unfold rotK
  pointwise [QkvMath.rot]
  have hd : (d : ℕ) < 128 := d.isLt
  have key : ∀ (n : ℕ) (hn : n < 128) (e : Fin 128), n = e → (⟨n, hn⟩ : Fin 128) = e := fun n hn e h => Fin.ext h
  by_cases h1 : (d : ℕ) < 64
  · refine (dif_pos h1).trans (congrArg₂ (· + ·) rfl (congrArg₂ (· * ·) ?_ rfl))
    rw [key (64 + d) (by omega) ⟨(d + 128 - 64) % 128, by omega⟩ (by show 64 + (d : ℕ) = (d + 128 - 64) % 128; omega)]
  · refine (dif_neg h1).trans ?_
    rw [key (64 + (d - 64)) (by omega) d (by omega), key (d - 64) (by omega) ⟨(d + 128 - 64) % 128, by omega⟩ (by show (d : ℕ) - 64 = ((d : ℕ) + 128 - 64) % 128; omega)]

theorem res_at (P : FVec Ideal S18432x6144 .f32) (Q : FVec Ideal S18432x32x128 .f32) (K : FVec Ideal S18432x8x128 .f32) (C S : FVec Ideal S18432x128 .f32)
    (r : Fin 18432) (d : Fin 6144) :
    res P Q K C S (ix2 r d) = if h : (d : ℕ) < 4096 then rotQ Q C S (ix3 r ⟨d / 128, by omega⟩ ⟨d % 128, by omega⟩) * QkvMath.scale
      else if h : (d : ℕ) - 4096 < 1024 then rotK K C S (ix3 r ⟨(d - 4096) / 128, by omega⟩ ⟨(d - 4096) % 128, by omega⟩)
      else P (ix2 r ⟨5120 + (d - 4096 - 1024), by omega⟩) := by
  unfold res
  pointwise [QkvMath.scale]

/-- A head's row of the projection. -/
def lane (A : FVec Ideal S18432x4096 .bf16) (W : FVec Ideal S4096x6144 .bf16) (r : Fin 18432) (h : Fin 48) (e : Fin 128) : EReal :=
  ∑ k : Fin 4096, A (ix2 r k) * W (ix2 k ⟨h * 128 + e, by omega⟩)

/-- The element at row `r`, column `d` of the result. -/
def elt (A : FVec Ideal S18432x4096 .bf16) (W : FVec Ideal S4096x6144 .bf16) (C S : FVec Ideal S18432x128 .f32) (GQ GK : FVec Ideal S128 .f32)
    (r : Fin 18432) (d : Fin 6144) : EReal :=
  QkvMath.head (d / 512)
    (lane A W r ⟨d / 128, by omega⟩)
    (lane A W r ⟨d / 128, by omega⟩)
    (fun e => C (ix2 r e)) (fun e => S (ix2 r e)) ⟨d % 128, by omega⟩

end Cert.WinRef

end
-- ==== Proof.Win.lean ====
module

public import proofs.«01_k».proof.Defs
public import proofs.«01_k».proof.Proof.WinBlk
public import proofs.«01_k».proof.Proof.WinRef

@[expose] public section

set_option maxRecDepth 16384

noncomputable section

/-! The projection to queries, keys and values: the kernel's array is the reference's. -/

namespace Cert.WinVal

open Idealize.ShloMosaic Idealize.ShloMosaic.TcCoe Idealize.SL.Sem Idealize.ShloMosaic.Pointwise

section kernel

open Cert.WindowQkvIdeal Cert.WindowQkvIdeal.Gen

theorem idx : ∀ t : Fin grid0.N,
    ((win0_0.index t = ![t.val / 12, 0] ∧ win0_1.index t = ![0, t.val % 12])
    ∧ (win0_2.index t = ![t.val / 12, 0] ∧ win0_3.index t = ![t.val / 12, 0]))
    ∧ (win0_4.index t = ![0, 0] ∧ win0_5.index t = ![0, 0])
    ∧ win0_6.index t = ![t.val / 12, t.val % 12] ∧ (grid0.coords t 1).val = t.val % 12 := by
  decide +kernel

variable (m : (ℓ : Loc nD τ sig) → Buf (Elt Ideal) ℓ)

theorem final (c : Dev nD) :
    (dats m 0 c).arrAt 6 cfg0.N = fun i => WinRef.elt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (i 0) (i 1) := by
  refine (dats m 0 c).arrAt_eq_of_covers 6 _ (by decide +kernel) fun t hf y => ?_
  obtain ⟨⟨⟨e0, e1⟩, e2, e3⟩, ⟨e4, e5⟩, e6, e7⟩ := idx t
  blk_simp [e6]
  rw [after0_6]
  have hR : (((win0_6.blk t).view.emb y 0 : Fin 18432) : ℕ) = t.val / 12 * 1024 + (y 0).val := by blk_simp [e6]
  have hC : (((win0_6.blk t).view.emb y 1 : Fin 6144) : ℕ) = t.val % 12 * 512 + (y 1).val := by blk_simp [e6]
  have hy0 : (y 0).val < 1024 := (y 0).isLt
  have hy1 : (y 1).val < 512 := (y 1).isLt
  have ht : t.val < 216 := t.isLt
  generalize ((win0_6.blk t).view.emb y 0 : Fin 18432) = R at hR ⊢
  generalize ((win0_6.blk t).view.emb y 1 : Fin 6144) = C at hC ⊢
  have hC2 : (C : ℕ) < 6144 := C.isLt
  refine (WinBlk.out_at _ _ _ _ _ _ _ y ⟨(y 0).val, hy0⟩ ⟨(y 1).val / 128, by omega⟩ ⟨(y 1).val % 128, by omega⟩ rfl
    (by show (y 1).val = (y 1).val / 128 * 128 + (y 1).val % 128; omega)).trans ?_
  rw [WinBlk.headB_eq _ (by rw [e7]; omega)]
  have hp : WinBlk.part (iblk m c 0 t) (iblk m c 1 t) ⟨(y 0).val, hy0⟩ ⟨(y 1).val / 128, by omega⟩
      = WinRef.lane (m ((c : Thread nD τ).loc main_arg0)) (m ((c : Thread nD τ).loc main_arg1)) R ⟨C / 128, by omega⟩ := by
    funext e
    refine Finset.sum_congr rfl fun k _ => congrArg₂ (· * ·) ?_ ?_
    · blk_ext [iblk, V, e0]
    · blk_ext [iblk, V, e1]
  have hc : (fun e : Fin 128 => iblk m c 2 t (ix2 ⟨(y 0).val, hy0⟩ e : S1024x128.Idx)) = fun e => m ((c : Thread nD τ).loc main_arg2) (ix2 R e) := by
    funext e
    blk_ext [iblk, V, e2]
  have hs : (fun e : Fin 128 => iblk m c 3 t (ix2 ⟨(y 0).val, hy0⟩ e : S1024x128.Idx)) = fun e => m ((c : Thread nD τ).loc main_arg3) (ix2 R e) := by
    funext e
    blk_ext [iblk, V, e3]
  have hj : (grid0.coords t 1).val = C / 512 := by rw [e7]; omega
  have hd : (⟨(y 1).val % 128, by omega⟩ : Fin 128) = ⟨C % 128, by omega⟩ := Fin.ext (by show (y 1).val % 128 = (C : ℕ) % 128; omega)
  unfold WinRef.elt
  rw [hp, hj, hd]
  exact congrArg₂ (fun c s => QkvMath.head _ _ _ c s _) hc hs

end kernel

section reference

open Cert.WindowQkvSpecIdeal Cert.WindowQkvSpecIdeal.Gen WinRef

theorem ref_at (A : FVec Ideal S18432x4096 .bf16) (W : FVec Ideal S4096x6144 .bf16) (C S : FVec Ideal S18432x128 .f32) (GQ GK : FVec Ideal S128 .f32)
    (r : Fin 18432) (d : Fin 6144) :
    res (prod A W) (qs (prod A W)) (ks (prod A W)) C S (ix2 r d) = elt A W C S GQ GK r d := by
  have hd : (d : ℕ) < 6144 := d.isLt
  have key : ∀ (n : ℕ) (hn : n < 6144) (n' : ℕ) (hn' : n' < 6144), n = n' →
      prod A W (ix2 r ⟨n, hn⟩) = ∑ k : Fin 4096, A (ix2 r k) * W (ix2 k ⟨n', hn'⟩) := by
    intro n hn n' hn' e
    subst e
    exact prod_at A W r _
  refine (res_at _ _ _ _ _ r d).trans ?_
  unfold elt QkvMath.head
  by_cases h1 : (d : ℕ) < 4096
  · refine (dif_pos h1).trans ?_
    rw [if_pos (by omega), if_pos (by omega), rotQ_at]
    refine congrArg₂ (· * ·) (congrArg (fun x => QkvMath.rot x _ _ _) (funext fun e => ?_)) rfl
    rw [qs_at]
    exact key _ _ _ _ rfl
  refine (dif_neg h1).trans ?_
  by_cases h2 : (d : ℕ) - 4096 < 1024
  · refine (dif_pos h2).trans ?_
    have e1 : (⟨((d : ℕ) - 4096) % 128, by omega⟩ : Fin 128) = ⟨d % 128, by omega⟩ := Fin.ext (by show ((d : ℕ) - 4096) % 128 = (d : ℕ) % 128; omega)
    rw [if_pos (by omega), if_neg (by omega), mul_one, rotK_at, e1]
    refine congrArg (fun x => QkvMath.rot x _ _ _) (funext fun e => ?_)
    rw [ks_at]
    exact key _ _ _ _ (by show 4096 + (((d : ℕ) - 4096) / 128 * 128 + (e : ℕ)) = (d : ℕ) / 128 * 128 + e; omega)
  refine (dif_neg h2).trans ?_
  rw [if_neg (by omega)]
  exact key _ _ _ _ (by show 5120 + ((d : ℕ) - 4096 - 1024) = (d : ℕ) / 128 * 128 + (d : ℕ) % 128; omega)

end reference

/-- The claim about the values of the projection. -/
theorem algebraic :
    Cert.algebraic_WindowQkvIdeal_WindowQkvSpecIdeal (hWindowQkvIdeal := Cert.WindowQkvIdeal.Gen.facts)
      (hWindowQkvSpecIdeal := Cert.WindowQkvSpecIdeal.Gen.facts) := by
  intro m g m' g' _ hagree
  refine ⟨fun c => fun i => WinRef.elt (m ((c.tc : Thread _ _).loc Cert.WindowQkvIdeal.main_arg0))
      (m ((c.tc : Thread _ _).loc Cert.WindowQkvIdeal.main_arg1))
      (m ((c.tc : Thread _ _).loc Cert.WindowQkvIdeal.main_arg2))
      (m ((c.tc : Thread _ _).loc Cert.WindowQkvIdeal.main_arg3))
      (m ((c.tc : Thread _ _).loc Cert.WindowQkvIdeal.main_arg4))
      (m ((c.tc : Thread _ _).loc Cert.WindowQkvIdeal.main_arg5)) (i 0) (i 1),
    (θ_run _ _ _).mono (fun r h c => ⟨(h c).1.trans (final m c), (h c).2⟩) (Cert.WindowQkvIdeal.Value.run_blocks m g),
    (θ_run _ _ _).mono (fun r h c => ⟨(h c).1.trans ?_, (h c).2⟩) (Cert.WindowQkvSpecIdeal.Value.run m' g')⟩
  funext i
  idx_vars i
  refine (ref_at (m' ((c.tc : Thread _ _).loc Cert.WindowQkvSpecIdeal.main_arg0))
    (m' ((c.tc : Thread _ _).loc Cert.WindowQkvSpecIdeal.main_arg1))
    (m' ((c.tc : Thread _ _).loc Cert.WindowQkvSpecIdeal.main_arg2))
    (m' ((c.tc : Thread _ _).loc Cert.WindowQkvSpecIdeal.main_arg3))
    (m' ((c.tc : Thread _ _).loc Cert.WindowQkvSpecIdeal.main_arg4))
    (m' ((c.tc : Thread _ _).loc Cert.WindowQkvSpecIdeal.main_arg5)) _ _).trans ?_
  obtain ⟨h0, h1, h2, h3, h4, h5⟩ := hagree c
  rw [h0, h1, h2, h3, h4, h5]

end Cert.WinVal

end
-- ==== Proof.FinPreB.lean ====
module

public import proofs.«01_k».proof.Defs
public import proofs.«01_k».proof.Proof.FinFrameB
public import proofs.«01_k».proof.Proof.Gen.Pre_rows_taken
public import Idealize.ShloMosaic.Lib.Pointwise
public import Idealize.ShloMosaic.Lib.Pipeline.ValueKit

/-! The precondition says the table names rows that exist, so every run ends with the arguments unchanged. -/

@[expose] public section

set_option maxRecDepth 16384

noncomputable section

namespace Cert.Finish.Gather

open Cert.Finish Cert.Finish.Gen
open Idealize.ShloMosaic Idealize.ShloMosaic.TcCoe Idealize.ShloMosaic.Pointwise Idealize.SL.Sem

theorem and_two (a b : Bool) (h : BitVec.ofBool a &&& BitVec.ofBool b = 1#1) : a = true ∧ b = true := by
  revert a b; decide

theorem lt_of_bits (a : BitVec 32) (h : IntOp.andi (IntOp.cmpi .sge a 0#32) (IntOp.cmpi .slt a 163840#32) = 1#1) : a.toNat < 163840 := by
  obtain ⟨h1, h2⟩ := and_two _ _ h
  have e1 : (0#32).toInt ≤ a.toInt := by simpa [BitVec.sle] using h1
  have e2 : a.toInt < (163840#32).toInt := by simpa [BitVec.slt] using h2
  rw [show (0#32).toInt = 0 from rfl, BitVec.toInt_eq_toNat_cond] at e1
  rw [show (163840#32).toInt = 163840 from rfl, BitVec.toInt_eq_toNat_cond] at e2
  have := a.isLt
  split at e1 <;> split at e2 <;> omega

theorem lt_of_pre (H) (T : IVec Pre_rows_taken.S8x16384 32) (Y W S M N)
    (h : @Cert.Pre_rows_taken.fn Cert.Pre_rows_taken.Gen.facts Bits _ H T Y W S M N = fun _ => 1#1) (y : Pre_rows_taken.S8x16384.Idx) : (T y).toNat < 163840 := by
  have hy := congrFun h y
  pointwise [Cert.Pre_rows_taken.fn] at hy
  exact lt_of_bits _ hy

/-- Every row the table names exists. -/
abbrev Exist (m : (ℓ : Loc nD τ sig) → Buf (Elt Bits) ℓ) : Prop :=
  ∀ (c : Dev nD) (y : S8x16384.Idx), ((m ((c : Thread nD τ).loc main_arg1) : S8x16384.Idx → BitVec 32) y).toNat < 163840

theorem named (m : (ℓ : Loc nD τ sig) → Buf (Elt Bits) ℓ) (h : Exist m) : Named (F := Bits) m := by
  intro c t y
  have e : ∃ z : S8x16384.Idx, (iblk m c 1 t : S8x128.Idx → BitVec 32) y = (m ((c : Thread nD τ).loc main_arg1) : S8x16384.Idx → BitVec 32) z :=
    ⟨(win0_1.blk t).view.emb y, congrFun (V_main_arg1 m c) _⟩
  obtain ⟨z, hz⟩ := e
  rw [hz]
  exact h c z

theorem framed : Cert.quiescent_Finish (hFinish := Cert.Finish.Gen.facts) (hPre_rows_taken := Cert.Pre_rows_taken.Gen.facts) :=
  fun m g hpre => keeps m g (named m fun c => lt_of_pre _ _ _ _ _ _ _ (hpre c))

end Cert.Finish.Gather

end
-- ==== Proof.FinRun.lean ====
module

public import proofs.«01_k».proof.Proof.Gen.FinishIdeal.Frame
public import proofs.«01_k».proof.Proof.Gen.FinishIdeal.Skeleton
public import Idealize.ShloMosaic.Lib.Pipeline.Quiescent
public import Idealize.ShloMosaic.Lib.Pipeline.FrameBody
public import Idealize.ShloMosaic.Lib.Batch
public import Idealize.ShloMosaic.Lib.Ring
public import Idealize.ShloMosaic.Adequacy

/-! The gather of the experts' rows in the last row-wise call: the rows started one by one, then waited for. -/

@[expose] public section

set_option maxRecDepth 16384
set_option Elab.async false

noncomputable section

namespace Cert.FinishIdeal.Gather

open Cert.FinishIdeal Cert.FinishIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The rows by number -/

theorem src_inb (n : ℕ) (h : n < 163840) : ∀ a, (![n, 0] : Fin 2 → ℕ) a + S1x2048.size a ≤ S163840x2048.size a := by
  intro a; fin_cases a
  · show n + 1 ≤ 163840; omega
  · show 0 + 2048 ≤ 2048; omega
theorem dst_inb (i t : ℕ) (hi : i < 8) (ht : t < 128) : ∀ a, (![i, t, 0] : Fin 3 → ℕ) a + S1x1x2048.size a ≤ S8x128x2048.size a := by
  intro a; fin_cases a
  · show i + 1 ≤ 8; omega
  · show t + 1 ≤ 128; omega
  · show 0 + 2048 ≤ 2048; omega

/-- A row of the experts' rows. -/
def src (n : ℕ) (h : n < 163840) : Memref sig .tc .hbm S1x2048 .i32 :=
  (Memref.whole main_arg2).slice (Rect.unit (s := S163840x2048) ![n, 0] S1x2048.size (src_inb n h)) (fun _ => rfl)
/-- A row of the rows taken: which expert's of the token, and which token. -/
def dst (i t : ℕ) (hi : i < 8) (ht : t < 128) : Memref sig .tc .vmem S1x2048 .i32 :=
  ((Memref.whole cc0_scratch0).slice (Rect.unit (s := S8x128x2048) ![i, t, 0] S1x1x2048.size (dst_inb i t hi ht)) (fun _ => rfl)).squeeze S1x2048 squeezes_S1x1x2048_S1x2048

/-- What one row counts for. -/
def NN : ℕ := sig.dmaCredit .tc (Kind.tc.table .vmem) (Memref.whole cc0_scratch0 : Memref sig .tc .vmem S8x128x2048 .i32).view.buf S1x2048 .i32
theorem amount_eq (i t : ℕ) (hi : i < 8) (ht : t < 128) : (dst i t hi ht).view.amount (SemLoc.dma (cc0_scratch1.sem)) = NN := rfl
theorem NN_pos : 0 < NN := sig.dmaCredit_pos _ _ _ _ _ (by decide)

section Names

variable (c : Dev nD) (ys : S163840x2048.Idx → BitVec 32) (f : S8x128x2048.Idx → BitVec 32) (w : ℕ → ℕ → BitVec 32)
  (hw : ∀ i t, (w i t).toNat < 163840)

abbrev tokAt (i t : ℕ) : sProp 𝕄 :=
  (src (w i t).toNat (hw i t)).view.loc (c : Thread nD τ) ↦[(src (w i t).toNat (hw i t)).view.set]{Transfers.shareTokN fullShare (8 * t + i)} ys
abbrev blkAt (i t : ℕ) (hi : i < 8) (ht : t < 128) (f : S8x128x2048.Idx → BitVec 32) : sProp 𝕄 :=
  (dst i t hi ht).view.loc (c : Thread nD τ) ↦[(dst i t hi ht).view.set]{fullShare} f
/-- What the row taken leaves. -/
abbrev put (i t : ℕ) (hi : i < 8) (ht : t < 128) : S8x128x2048.Idx → BitVec 32 :=
  (dst i t hi ht).view.write (Elt F) f (ReadAs.same.apply ((src (w i t).toNat (hw i t)).view.read (Elt F) ys)) Finset.univ

theorem i_lt (j : Fin 1024) : j.val % 8 < 8 := Nat.mod_lt _ (by decide)
theorem t_lt (j : Fin 1024) : j.val / 8 < 128 := by have := j.isLt; omega

abbrev tok (j : Fin 1024) : sProp 𝕄 := tokAt c ys w hw (j.val % 8) (j.val / 8)
abbrev blk (j : Fin 1024) : sProp 𝕄 := blkAt c (j.val % 8) (j.val / 8) (i_lt j) (t_lt j) f
/-- The row landed, and the share of the rows back. -/
abbrev got (j : Fin 1024) : sProp 𝕄 :=
  iprop(blkAt c (j.val % 8) (j.val / 8) (i_lt j) (t_lt j) (put (F := F) ys f w hw (j.val % 8) (j.val / 8) (i_lt j) (t_lt j)) ∗ tok c ys w hw j)

abbrev batch (j u : ℕ) : sProp 𝕄 :=
  Transfers.Batch (countersEmb (U := Pipeline.UD sig nD τ)) (c : Thread nD τ) (.dma cc0_scratch1.sem) () NN (got (F := F) c ys f w hw) j u

end Names

section Issue

variable (c : Dev nD) (ys : S163840x2048.Idx → BitVec 32) (f : S8x128x2048.Idx → BitVec 32) (w : ℕ → ℕ → BitVec 32)
  (hw : ∀ i t, (w i t).toNat < 163840)

/-- One copy of a batch started. -/
theorem issue_gen {Q : PUnit → sProp 𝕄} {k : PUnit → Prog (TpuEff nD τ sig (Elt F) Λ₀ .tc) PUnit}
    (s : Memref sig .tc .hbm S1x2048 .i32) (d : Memref sig .tc .vmem S1x2048 .i32) (q : PosShare TreeShare)
    (fs : Buf (Elt F) (s.view.loc (c : Thread nD τ))) (fd : Buf (Elt F) (d.view.loc (c : Thread nD τ)))
    (D : Fin 1024 → sProp 𝕄) (N : ℕ) (hN : d.view.amount (SemLoc.dma cc0_scratch1.sem) = N) (j : ℕ) (hj : j < 1024) {h1} {h2} {h3}
    (hD : iprop((d.view.loc (c : Thread nD τ) ↦[d.view.set]{fullShare} (d.view.write (Elt F) fd (ReadAs.same.apply (s.view.read (Elt F) fs)) Finset.univ))
      ∗ (s.view.loc (c : Thread nD τ) ↦[s.view.set]{q} fs)) ⊢ D ⟨j, hj⟩) :
    iprop((s.view.loc (c : Thread nD τ) ↦[s.view.set]{q} fs) ∗ (d.view.loc (c : Thread nD τ) ↦[d.view.set]{fullShare} fd)
        ∗ Transfers.Batch (countersEmb (U := Pipeline.UD sig nD τ)) (c : Thread nD τ) (.dma cc0_scratch1.sem) () N D j 0)
      ⊢ iprop((Transfers.Batch (countersEmb (U := Pipeline.UD sig nD τ)) (c : Thread nD τ) (.dma cc0_scratch1.sem) () N D (j + 1) 0
          -∗ wp frame (wpE (defs₀ (F := F)) Variants.none (c : Thread nD τ) none) Set.univ (k ⟨⟩) Q)
        -∗ wp frame (wpE (defs₀ (F := F)) Variants.none (c : Thread nD τ) none) Set.univ
          (.op (.enqueueDma s (.here d) (.dma cc0_scratch1.sem) h1 h2 h3) k) Q) :=
  Transfers.wp_dmaBatch (countersEmb (U := Pipeline.UD sig nD τ)) Variants.none (c : Thread nD τ) none () N hN (Finset.Subset.refl _) hj (Nat.zero_le _) hD

/-- One row started. -/
theorem issue_one {Q : PUnit → sProp 𝕄} (i t : ℕ) (hi : i < 8) (ht : t < 128) {k : PUnit → Prog (TpuEff nD τ sig (Elt F) Λ₀ .tc) PUnit}
    (v : BitVec 32) (hv : v = w i t) (o1 : Fin 2 → ℕ) (ho1 : o1 = ![v.toNat, 0]) (b1 : ∀ a, o1 a + S1x2048.size a ≤ S163840x2048.size a)
    (o2 : Fin 3 → ℕ) (ho2 : o2 = ![i, t, 0]) (b2 : ∀ a, o2 a + S1x1x2048.size a ≤ S8x128x2048.size a) {h1} {h2} {h3} :
    iprop(tokAt c ys w hw i t ∗ blkAt c i t hi ht f ∗ batch (F := F) c ys f w hw (8 * t + i) 0)
      ⊢ iprop((batch (F := F) c ys f w hw (8 * t + i + 1) 0 -∗ wp frame (wpE (defs₀ (F := F)) Variants.none (c : Thread nD τ) none) Set.univ (k ⟨⟩) Q)
        -∗ wp frame (wpE (defs₀ (F := F)) Variants.none (c : Thread nD τ) none) Set.univ
          (.op (.enqueueDma ((Memref.whole main_arg2).slice (Rect.unit (s := S163840x2048) o1 S1x2048.size b1) (fun _ => rfl))
            (.here (((Memref.whole cc0_scratch0).slice (Rect.unit (s := S8x128x2048) o2 S1x1x2048.size b2) (fun _ => rfl)).squeeze S1x2048 squeezes_S1x1x2048_S1x2048))
            (.dma cc0_scratch1.sem) h1 h2 h3) k) Q) := by
  subst hv ho1 ho2
  have hj : 8 * t + i < 1024 := by omega
  have e1 : (8 * t + i) % 8 = i := by omega
  have e2 : (8 * t + i) / 8 = t := by omega
  have hD : iprop(blkAt c i t hi ht (put (F := F) ys f w hw i t hi ht)
        ∗ tokAt c ys w hw i t) ⊢ (got (F := F) c ys f w hw ⟨8 * t + i, hj⟩ : sProp 𝕄) := by
    generalize hJ : (⟨8 * t + i, hj⟩ : Fin 1024) = J
    have f1 : J.val % 8 = i := by rw [← hJ]; exact e1
    have f2 : J.val / 8 = t := by rw [← hJ]; exact e2
    clear e1 e2 hJ
    subst f1 f2
    exact Entails.refl
  exact issue_gen c (src (w i t).toNat (hw i t)) (dst i t hi ht) (Transfers.shareTokN fullShare (8 * t + i)) ys f (got (F := F) c ys f w hw) NN (amount_eq i t hi ht) (8 * t + i) hj hD

variable (ic : grid0.Coords) (M1 : Memref sig .tc .vmem S128x4096 .f32) (h1 : M1.IsWhole) (M2 : Memref sig .tc .smem S8x128 .i32) (h2 : M2.IsWhole) (M4 : Memref sig .tc .vmem S128x128 .f32) (h4 : M4.IsWhole) (M5 : Memref sig .tc .vmem S128x4096 .bf16) (h5 : M5.IsWhole) (M6 : Memref sig .tc .vmem S1x6x4096 .f32) (h6 : M6.IsWhole) (M7 : Memref sig .tc .vmem S1x4096 .f32) (h7 : M7.IsWhole) (M8 : Memref sig .tc .vmem S128x4096 .f32) (h8 : M8.IsWhole)

abbrev toks (a : ℕ) : sProp 𝕄 := bigSep (Ring.rangeSet 1024 a 1024) (tok c ys w hw)
abbrev blks (a : ℕ) : sProp 𝕄 := bigSep (Ring.rangeSet 1024 a 1024) (blk c f)

theorem toks_head (i t : ℕ) (hi : i < 8) (ht : t < 128) :
    (toks c ys w hw (8 * t + i) : sProp 𝕄) = iprop(tokAt c ys w hw i t ∗ toks c ys w hw (8 * t + i + 1)) := by
  have hj : 8 * t + i < 1024 := by omega
  unfold toks
  rw [Ring.bigSep_rangeSet_head hj hj]
  generalize hJ : (⟨8 * t + i, hj⟩ : Fin 1024) = J
  have f1 : J.val % 8 = i := by rw [← hJ]; show (8 * t + i) % 8 = i; omega
  have f2 : J.val / 8 = t := by rw [← hJ]; show (8 * t + i) / 8 = t; omega
  have f3 : 8 * t + i + 1 = J.val + 1 := by rw [← hJ]
  rw [f3]
  clear hJ f3
  subst f1 f2
  rfl

theorem blks_head (i t : ℕ) (hi : i < 8) (ht : t < 128) :
    (blks c f (8 * t + i) : sProp 𝕄) = iprop(blkAt c i t hi ht f ∗ blks c f (8 * t + i + 1)) := by
  have hj : 8 * t + i < 1024 := by omega
  unfold blks
  rw [Ring.bigSep_rangeSet_head hj hj]
  generalize hJ : (⟨8 * t + i, hj⟩ : Fin 1024) = J
  have f1 : J.val % 8 = i := by rw [← hJ]; show (8 * t + i) % 8 = i; omega
  have f2 : J.val / 8 = t := by rw [← hJ]; show (8 * t + i) / 8 = t; omega
  have f3 : 8 * t + i + 1 = J.val + 1 := by rw [← hJ]
  rw [f3]
  clear hJ f3
  subst f1 f2
  rfl

/-- Before a trip of the first loop. -/
def issueAt (f2 : Buf (Elt F) (M2.view.loc (c : Thread nD τ))) (t : ℕ) (_ : Unit) : sProp 𝕄 :=
  iprop((M2.view.loc (c : Thread nD τ) ↦[M2.view.set]{fullShare} f2) ∗ batch (F := F) c ys f w hw (8 * t) 0
    ∗ toks c ys w hw (8 * t) ∗ blks c f (8 * t))

abbrev issueBody : Fin k0_t1_loop.trips → Unit → Prog (TpuEff nD τ sig (Elt F) Λ₀ .tc) Unit :=
  k0_t1_body (F := F) ic M1 h1 M2 h2 (Memref.whole main_arg2) (Memref.isWhole_whole _) M4 h4 M5 h5 M6 h6 M7 h7 M8 h8 (Memref.whole cc0_scratch0) (Memref.isWhole_whole _) cc0_scratch1

theorem chk1 (v : BitVec 32) (h : v.toNat < 163840) : k0_chk1 v := by
  intro a; fin_cases a
  · show v.toNat + 1 ≤ 163840; omega
  · show 0 + 2048 ≤ 2048; omega

/-- The words the loop reads are the table's. -/
abbrev Words (f2 : Buf (Elt F) (M2.view.loc (c : Thread nD τ))) : Prop :=
  ∀ (i t : ℕ) (o : Fin 2 → ℕ) (_ : o = ![i, t]) (b : ∀ a, o a + S1x1.size a ≤ S8x128.size a) x,
    View.readAt (Elt F) M2.view (Rect.unit (s := S8x128) o S1x1.size b).toLoadRect f2 x = w i t

theorem issue_step (f2 : Buf (Elt F) (M2.view.loc (c : Thread nD τ))) (hf : Words (F := F) c w M2 f2) (t : Fin k0_t1_loop.trips) (acc : Unit) :
    issueAt (F := F) c ys f w hw M2 f2 t acc ⊢ wp frame (wpE (defs₀ (F := F)) Variants.none (c : Thread nD τ) none) Set.univ (issueBody (F := F) ic M1 h1 M2 h2 M4 h4 M5 h5 M6 h6 M7 h7 M8 h8 t acc)
      (issueAt (F := F) c ys f w hw M2 f2 (t.val + 1)) := by
  have ht : t.val < 128 := t.isLt
  unfold issueAt
  iintro ⟨H2, HB, HT, HK⟩
  unfold issueBody k0_t1_body
  rw [k0_part1_eq_skeleton]
  unfold k0_part1_skel
  ihave HT' := (Entails.of_eq (toks_head c ys w hw 0 t.val (by decide) ht)) $$ HT
  ihave HK' := (Entails.of_eq (blks_head c f 0 t.val (by decide) ht)) $$ HK
  icases HT' with ⟨Ht, HT⟩
  icases HK' with ⟨Hk, HK⟩
  sl_exec
  have v1 : issue_step.sl.r c M2 f2 t = w 0 t.val := hf 0 t.val _ (k0_off1_eq t) _ _
  have c1 : k0_chk1 (issue_step.sl.r c M2 f2 t) := chk1 _ (by rw [v1]; exact hw _ _)
  sl_exec
  iapply (issue_one (F := F) c ys f w hw 0 t.val (by decide) ht _ v1 _ rfl _ _ (k0_off2_eq t) _) $$ [Ht Hk HB]
  · isplitl [Ht]; · iexact Ht
    isplitl [Hk]; · iexact Hk
    iexact HB
  iintro HB
  ihave HT' := (Entails.of_eq (toks_head c ys w hw 1 t.val (by decide) ht)) $$ HT
  ihave HK' := (Entails.of_eq (blks_head c f 1 t.val (by decide) ht)) $$ HK
  icases HT' with ⟨Ht, HT⟩
  icases HK' with ⟨Hk, HK⟩
  sl_exec
  have v2 : issue_step.sl.r_1 c M2 f2 t = w 1 t.val := hf 1 t.val _ (k0_off4_eq t) _ _
  have c2 : k0_chk2 (issue_step.sl.r_1 c M2 f2 t) := chk1 _ (by rw [v2]; exact hw _ _)
  sl_exec
  iapply (issue_one (F := F) c ys f w hw 1 t.val (by decide) ht _ v2 _ rfl _ _ (k0_off5_eq t) _) $$ [Ht Hk HB]
  · isplitl [Ht]; · iexact Ht
    isplitl [Hk]; · iexact Hk
    iexact HB
  iintro HB
  ihave HT' := (Entails.of_eq (toks_head c ys w hw 2 t.val (by decide) ht)) $$ HT
  ihave HK' := (Entails.of_eq (blks_head c f 2 t.val (by decide) ht)) $$ HK
  icases HT' with ⟨Ht, HT⟩
  icases HK' with ⟨Hk, HK⟩
  sl_exec
  have v3 : issue_step.sl.r_2 c M2 f2 t = w 2 t.val := hf 2 t.val _ (k0_off7_eq t) _ _
  have c3 : k0_chk3 (issue_step.sl.r_2 c M2 f2 t) := chk1 _ (by rw [v3]; exact hw _ _)
  sl_exec
  iapply (issue_one (F := F) c ys f w hw 2 t.val (by decide) ht _ v3 _ rfl _ _ (k0_off8_eq t) _) $$ [Ht Hk HB]
  · isplitl [Ht]; · iexact Ht
    isplitl [Hk]; · iexact Hk
    iexact HB
  iintro HB
  ihave HT' := (Entails.of_eq (toks_head c ys w hw 3 t.val (by decide) ht)) $$ HT
  ihave HK' := (Entails.of_eq (blks_head c f 3 t.val (by decide) ht)) $$ HK
  icases HT' with ⟨Ht, HT⟩
  icases HK' with ⟨Hk, HK⟩
  sl_exec
  have v4 : issue_step.sl.r_3 c M2 f2 t = w 3 t.val := hf 3 t.val _ (k0_off10_eq t) _ _
  have c4 : k0_chk4 (issue_step.sl.r_3 c M2 f2 t) := chk1 _ (by rw [v4]; exact hw _ _)
  sl_exec
  iapply (issue_one (F := F) c ys f w hw 3 t.val (by decide) ht _ v4 _ rfl _ _ (k0_off11_eq t) _) $$ [Ht Hk HB]
  · isplitl [Ht]; · iexact Ht
    isplitl [Hk]; · iexact Hk
    iexact HB
  iintro HB
  ihave HT' := (Entails.of_eq (toks_head c ys w hw 4 t.val (by decide) ht)) $$ HT
  ihave HK' := (Entails.of_eq (blks_head c f 4 t.val (by decide) ht)) $$ HK
  icases HT' with ⟨Ht, HT⟩
  icases HK' with ⟨Hk, HK⟩
  sl_exec
  have v5 : issue_step.sl.r_4 c M2 f2 t = w 4 t.val := hf 4 t.val _ (k0_off13_eq t) _ _
  have c5 : k0_chk5 (issue_step.sl.r_4 c M2 f2 t) := chk1 _ (by rw [v5]; exact hw _ _)
  sl_exec
  iapply (issue_one (F := F) c ys f w hw 4 t.val (by decide) ht _ v5 _ rfl _ _ (k0_off14_eq t) _) $$ [Ht Hk HB]
  · isplitl [Ht]; · iexact Ht
    isplitl [Hk]; · iexact Hk
    iexact HB
  iintro HB
  ihave HT' := (Entails.of_eq (toks_head c ys w hw 5 t.val (by decide) ht)) $$ HT
  ihave HK' := (Entails.of_eq (blks_head c f 5 t.val (by decide) ht)) $$ HK
  icases HT' with ⟨Ht, HT⟩
  icases HK' with ⟨Hk, HK⟩
  sl_exec
  have v6 : issue_step.sl.r_5 c M2 f2 t = w 5 t.val := hf 5 t.val _ (k0_off16_eq t) _ _
  have c6 : k0_chk6 (issue_step.sl.r_5 c M2 f2 t) := chk1 _ (by rw [v6]; exact hw _ _)
  sl_exec
  iapply (issue_one (F := F) c ys f w hw 5 t.val (by decide) ht _ v6 _ rfl _ _ (k0_off17_eq t) _) $$ [Ht Hk HB]
  · isplitl [Ht]; · iexact Ht
    isplitl [Hk]; · iexact Hk
    iexact HB
  iintro HB
  ihave HT' := (Entails.of_eq (toks_head c ys w hw 6 t.val (by decide) ht)) $$ HT
  ihave HK' := (Entails.of_eq (blks_head c f 6 t.val (by decide) ht)) $$ HK
  icases HT' with ⟨Ht, HT⟩
  icases HK' with ⟨Hk, HK⟩
  sl_exec
  have v7 : issue_step.sl.r_6 c M2 f2 t = w 6 t.val := hf 6 t.val _ (k0_off19_eq t) _ _
  have c7 : k0_chk7 (issue_step.sl.r_6 c M2 f2 t) := chk1 _ (by rw [v7]; exact hw _ _)
  sl_exec
  iapply (issue_one (F := F) c ys f w hw 6 t.val (by decide) ht _ v7 _ rfl _ _ (k0_off20_eq t) _) $$ [Ht Hk HB]
  · isplitl [Ht]; · iexact Ht
    isplitl [Hk]; · iexact Hk
    iexact HB
  iintro HB
  ihave HT' := (Entails.of_eq (toks_head c ys w hw 7 t.val (by decide) ht)) $$ HT
  ihave HK' := (Entails.of_eq (blks_head c f 7 t.val (by decide) ht)) $$ HK
  icases HT' with ⟨Ht, HT⟩
  icases HK' with ⟨Hk, HK⟩
  sl_exec
  have v8 : issue_step.sl.r_7 c M2 f2 t = w 7 t.val := hf 7 t.val _ (k0_off22_eq t) _ _
  have c8 : k0_chk8 (issue_step.sl.r_7 c M2 f2 t) := chk1 _ (by rw [v8]; exact hw _ _)
  sl_exec
  iapply (issue_one (F := F) c ys f w hw 7 t.val (by decide) ht _ v8 _ rfl _ _ (k0_off23_eq t) _) $$ [Ht Hk HB]
  · isplitl [Ht]; · iexact Ht
    isplitl [Hk]; · iexact Hk
    iexact HB
  iintro HB
  sl_exec
  sl_step
  isplitl [H2]; · iexact H2
  isplitl [HB]; · iexact HB
  isplitl [HT]; · iexact HT
  iexact HK

abbrev full (u : ℕ) : sProp 𝕄 := batch (F := F) c ys f w hw 1024 u
abbrev all : sProp 𝕄 := bigSep Finset.univ (got (F := F) c ys f w hw)

/-- One wait of the second loop, short of the last. -/
theorem wait_one {Q : PUnit → sProp 𝕄} {k : PUnit → Prog (TpuEff nD τ sig (Elt F) Λ₀ .tc) PUnit}
    (s : Memref sig .tc .hbm S1x2048 .i32) (d : Memref sig .tc .vmem S1x2048 .i32) (hN : d.view.dmaCredit = NN) {g1} {g2}
    (j : ℕ) (hj : j + 1 < 1024) (W : Waits sig Unit) :
    iprop(full (F := F) c ys f w hw (j * NN) ∗ owes (c : Thread nD τ) 0 W)
      ⊢ iprop((iprop(full (F := F) c ys f w hw ((j + 1) * NN) ∗ owes (c : Thread nD τ) 0 (insert (SemLoc.dma cc0_scratch1.sem, ()) W))
          -∗ wp frame (wpE (defs₀ (F := F)) Variants.none (c : Thread nD τ) none) Set.univ (k ⟨⟩) Q)
        -∗ wp frame (wpE (defs₀ (F := F)) Variants.none (c : Thread nD τ) none) Set.univ (.op (.waitDma2 cc0_scratch1.sem s d g1 g2) k) Q) := by
  have hu : j * NN + NN < NN * 1024 := by
    have := NN_pos
    calc j * NN + NN = (j + 1) * NN := (Nat.succ_mul j NN).symm
      _ < 1024 * NN := Nat.mul_lt_mul_of_pos_right hj this
      _ = NN * 1024 := Nat.mul_comm _ _
  have e : (j + 1) * NN = j * NN + NN := Nat.succ_mul j NN
  rw [e]
  exact Transfers.wp_waitBatch (countersEmb (U := Pipeline.UD sig nD τ)) Variants.none (c : Thread nD τ) none () hN hu

/-- The last wait. -/
theorem wait_last {Q : PUnit → sProp 𝕄} {k : PUnit → Prog (TpuEff nD τ sig (Elt F) Λ₀ .tc) PUnit}
    (s : Memref sig .tc .hbm S1x2048 .i32) (d : Memref sig .tc .vmem S1x2048 .i32) (hN : d.view.dmaCredit = NN) {g1} {g2}
    (j : ℕ) (hj : j + 1 = 1024) (W : Waits sig Unit) :
    iprop(full (F := F) c ys f w hw (j * NN) ∗ owes (c : Thread nD τ) 0 W)
      ⊢ iprop((iprop(all (F := F) c ys f w hw ∗ semVal ((c : Thread nD τ), SemLoc.dma cc0_scratch1.sem) 0 ∗ owes (c : Thread nD τ) 0 (insert (SemLoc.dma cc0_scratch1.sem, ()) W))
          -∗ wp frame (wpE (defs₀ (F := F)) Variants.none (c : Thread nD τ) none) Set.univ (k ⟨⟩) Q)
        -∗ wp frame (wpE (defs₀ (F := F)) Variants.none (c : Thread nD τ) none) Set.univ (.op (.waitDma2 cc0_scratch1.sem s d g1 g2) k) Q) := by
  have hu : j * NN + NN = NN * 1024 := by rw [← hj, Nat.mul_comm NN]; exact (Nat.succ_mul j NN).symm
  exact Transfers.wp_waitBatchLast (countersEmb (U := Pipeline.UD sig nD τ)) Variants.none (c : Thread nD τ) none () hN NN_pos hu

/-- Before a trip of the second loop. -/
def drainAt (t : ℕ) (_ : Unit) : sProp 𝕄 :=
  iprop((∃ W, owes (c : Thread nD τ) 0 W)
    ∗ (if t < 128 then full (F := F) c ys f w hw (8 * t * NN)
       else iprop(semVal ((c : Thread nD τ), SemLoc.dma cc0_scratch1.sem) 0 ∗ all (F := F) c ys f w hw)))

abbrev drainBody : Fin k0_t2_loop.trips → Unit → Prog (TpuEff nD τ sig (Elt F) Λ₀ .tc) Unit :=
  k0_t2_body (F := F) ic M1 h1 M2 h2 (Memref.whole main_arg2) (Memref.isWhole_whole _) M4 h4 M5 h5 M6 h6 M7 h7 M8 h8 (Memref.whole cc0_scratch0) (Memref.isWhole_whole _) cc0_scratch1

theorem drain_step (t : Fin k0_t2_loop.trips) (acc : Unit) :
    drainAt (F := F) c ys f w hw t acc ⊢ wp frame (wpE (defs₀ (F := F)) Variants.none (c : Thread nD τ) none) Set.univ (drainBody (F := F) ic M1 h1 M2 h2 M4 h4 M5 h5 M6 h6 M7 h7 M8 h8 t acc)
      (drainAt (F := F) c ys f w hw (t.val + 1)) := by
  have ht : t.val < 128 := t.isLt
  unfold drainAt
  rw [if_pos ht]
  iintro ⟨⟨%W, HO⟩, HB⟩
  unfold drainBody k0_t2_body
  rw [k0_part2_eq_skeleton]
  unfold k0_part2_skel
  sl_exec
  have eN : 8 * t.val * NN + NN + NN + NN + NN + NN + NN + NN = (8 * t.val + 7) * NN := by rw [Nat.add_mul]; omega
  rcases Nat.lt_or_ge (t.val + 1) 128 with hl | hl
  · rw [if_pos hl, eN]
    iapply (wait_one (F := F) c ys f w hw _ _ rfl (8 * t.val + 7) (by omega) _) $$ [HB HO]
    · isplitl [HB]; · iexact HB
      iexact HO
    iintro ⟨HB, HO⟩
    sl_exec
    sl_step
    isplitl [HO]; · iexists _; iexact HO
    iexact HB
  · rw [if_neg (Nat.not_lt.mpr hl), eN]
    iapply (wait_last (F := F) c ys f w hw _ _ rfl (8 * t.val + 7) (by omega) _) $$ [HB HO]
    · isplitl [HB]; · iexact HB
      iexact HO
    iintro ⟨HA, HS, HO⟩
    sl_exec
    sl_step
    isplitl [HO]; · iexists _; iexact HO
    isplitl [HS]; · iexact HS
    iexact HA

end Issue
end Cert.FinishIdeal.Gather

end
-- ==== Proof.FinBody.lean ====
module

public import proofs.«01_k».proof.Proof.FinRun
public import Idealize.ShloMosaic.Lib.Pointwise
public import Idealize.ShloMosaic.Lib.Pipeline.Value

/-! The body of the last row-wise call at one point: the rows taken, and what it stores. -/

@[expose] public section

set_option maxRecDepth 16384
set_option Elab.async false

noncomputable section

namespace Cert.FinishIdeal.Gather

open Cert.FinishIdeal Cert.FinishIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Split

variable (c : Dev nD) (ys : S163840x2048.Idx → BitVec 32) (f : S8x128x2048.Idx → BitVec 32) (w : ℕ → ℕ → BitVec 32)
  (hw : ∀ i t, (w i t).toNat < 163840)

/-- What the gather leaves: of each token and each of its experts, the row named. -/
def taken : S8x128x2048.Idx → BitVec 32 := fun y => ys (ix2 (n0 := 163840) (n1 := 2048) ⟨(w (y 0).val (y 1).val).toNat, hw _ _⟩ (y 2))

/-- The elements one row taken fills. -/
def rowSet (i t : ℕ) (hi : i < 8) (ht : t < 128) : Finset S8x128x2048.Idx := (Rect.unit (s := S8x128x2048) ![i, t, 0] S1x1x2048.size (dst_inb i t hi ht)).set
theorem dst_set (i t : ℕ) (hi : i < 8) (ht : t < 128) : (dst i t hi ht).view.set = rowSet i t hi ht :=
  (View.set_reshape _ _).trans (View.set_slice_whole _ _)

theorem mem_dst (i t : ℕ) (hi : i < 8) (ht : t < 128) (y : S8x128x2048.Idx) :
    y ∈ rowSet i t hi ht ↔ (y 0).val = i ∧ (y 1).val = t := by
  unfold rowSet
  rw [Rect.mem_set_unit]
  have h2 : (y 2).val < 2048 := (y 2).isLt
  constructor
  · intro h
    have a0 : i ≤ (y 0).val ∧ (y 0).val < i + 1 := h 0
    have a1 : t ≤ (y 1).val ∧ (y 1).val < t + 1 := h 1
    omega
  · rintro ⟨e0, e1⟩ a
    fin_cases a
    · show i ≤ (y 0).val ∧ (y 0).val < i + 1; omega
    · show t ≤ (y 1).val ∧ (y 1).val < t + 1; omega
    · show 0 ≤ (y 2).val ∧ (y 2).val < 0 + 2048; omega

theorem dst_emb (i t : ℕ) (hi : i < 8) (ht : t < 128) (x : S1x2048.Idx) :
    ((dst i t hi ht).view.emb x : S8x128x2048.Idx) = ix3 (n0 := 8) (n1 := 128) (n2 := 2048) ⟨i, hi⟩ ⟨t, ht⟩ (x 1) := by
  have e : ((dst i t hi ht).view.emb x : S8x128x2048.Idx)
      = (Rect.unit (s := S8x128x2048) ![i, t, 0] S1x1x2048.size (dst_inb i t hi ht)).emb (Shape.reshapeEquiv (s := S1x1x2048) (s' := S1x2048) squeezes_S1x1x2048_S1x2048.numel_eq x) := rfl
  have r : Shape.reshapeEquiv (s := S1x1x2048) (s' := S1x2048) squeezes_S1x1x2048_S1x2048.numel_eq x = Fin.cons (0 : Fin 1) x :=
    Shape.reshapeEquiv_cons_one _ x
  rw [e, r]
  have x0 : (x 0).val = 0 := by have : (x 0).val < 1 := (x 0).isLt; omega
  funext a
  refine Fin.ext ?_
  fin_cases a
  · show i + 1 * 0 = i; omega
  · show t + 1 * (x 0).val = t; omega
  · show 0 + 1 * (x 1).val = (x 1).val; omega

theorem src_emb (n : ℕ) (h : n < 163840) (x : S1x2048.Idx) :
    ((src n h).view.emb x : S163840x2048.Idx) = ix2 (n0 := 163840) (n1 := 2048) ⟨n, h⟩ (x 1) := by
  have x0 : (x 0).val = 0 := by have : (x 0).val < 1 := (x 0).isLt; omega
  funext a
  refine Fin.ext ?_
  fin_cases a
  · show n + 1 * (x 0).val = n; omega
  · show 0 + 1 * (x 1).val = (x 1).val; omega

theorem put_eq (i t : ℕ) (hi : i < 8) (ht : t < 128) (y : S8x128x2048.Idx) (hy : y ∈ (dst i t hi ht).view.set) :
    put (F := F) ys f w hw i t hi ht y = taken ys w hw y := by
  obtain ⟨x, -, hx⟩ := Finset.mem_map.1 hy
  have hx' : y = ix3 (n0 := 8) (n1 := 128) (n2 := 2048) ⟨i, hi⟩ ⟨t, ht⟩ (x 1) := hx.symm.trans (dst_emb i t hi ht x)
  have e1 : put (F := F) ys f w hw i t hi ht y = ys ((src (w i t).toNat (hw i t)).view.emb x) := by
    rw [← hx]
    exact View.write_emb_of_mem (Val := Elt F) (v := (dst i t hi ht).view) f _ (Finset.mem_univ x)
  rw [e1, hx']
  exact congrArg ys (src_emb _ _ x)

theorem dst_disjoint (b b' : Fin 1024) (h : b ≠ b') :
    Disjoint (rowSet (b.val % 8) (b.val / 8) (i_lt b) (t_lt b)) (rowSet (b'.val % 8) (b'.val / 8) (i_lt b') (t_lt b')) := by
  refine Finset.disjoint_left.2 fun y h1 h2 => h (Fin.ext ?_)
  have a1 := (mem_dst _ _ _ _ y).1 h1
  have a2 := (mem_dst _ _ _ _ y).1 h2
  omega
theorem dst_cover (y : S8x128x2048.Idx) : ∃ b : Fin 1024, y ∈ rowSet (b.val % 8) (b.val / 8) (i_lt b) (t_lt b) := by
  have b0 : (y 0).val < 8 := (y 0).isLt
  have b1 : (y 1).val < 128 := (y 1).isLt
  refine ⟨⟨8 * (y 1).val + (y 0).val, by omega⟩, ?_⟩
  refine (mem_dst _ _ _ _ y).2 ⟨?_, ?_⟩ <;> simp only [] <;> omega

abbrev ysLoc : Loc nD τ sig := (Memref.whole main_arg2 : Memref sig .tc .hbm S163840x2048 .i32).view.loc (c : Thread nD τ)
abbrev takenLoc : Loc nD τ sig := (Memref.whole cc0_scratch0 : Memref sig .tc .vmem S8x128x2048 .i32).view.loc (c : Thread nD τ)

/-- The elements of one of the experts' rows. -/
def srcSet (n : ℕ) (h : n < 163840) : Finset S163840x2048.Idx := (Rect.unit (s := S163840x2048) ![n, 0] S1x2048.size (src_inb n h)).set
theorem src_set (n : ℕ) (h : n < 163840) : (src n h).view.set = srcSet n h := View.set_slice_whole _ _

theorem blk_eq (i t : ℕ) (hi : i < 8) (ht : t < 128) (f : S8x128x2048.Idx → BitVec 32) :
    (blkAt c i t hi ht f : sProp 𝕄) = (takenLoc c ↦[(rowSet i t hi ht : Finset (Idx (takenLoc c)))]{fullShare} f) :=
  congrArg (fun S : Finset (Idx (takenLoc c)) => (takenLoc c ↦[S]{fullShare} f : sProp 𝕄)) (dst_set i t hi ht)
theorem tok_eq (i t : ℕ) :
    (tokAt c ys w hw i t : sProp 𝕄) = (ysLoc c ↦[(srcSet (w i t).toNat (hw i t) : Finset (Idx (ysLoc c)))]{Transfers.shareTokN fullShare (8 * t + i)} ys) :=
  congrArg (fun S : Finset (Idx (ysLoc c)) => (ysLoc c ↦[S]{Transfers.shareTokN fullShare (8 * t + i)} ys : sProp 𝕄)) (src_set _ _)

theorem scratch_split (f : Buf (Elt F) (takenLoc c)) : (takenLoc c ↦{fullShare} f : sProp 𝕄) = blks c f 0 := by
  refine (Ring.pointsTo_blocks (ℓ := takenLoc c) (B := Fin 1024) (fun b => rowSet (b.val % 8) (b.val / 8) (i_lt b) (t_lt b)) dst_disjoint
    (Finset.eq_univ_of_forall fun y => ?_) f).trans ?_
  · obtain ⟨b, hb⟩ := dst_cover y
    exact Finset.mem_biUnion.2 ⟨b, Finset.mem_univ _, hb⟩
  · unfold blks
    rw [Ring.rangeSet_univ]
    exact bigSep_congr fun j _ => (blk_eq c _ _ _ _ f).symm

/-- Of the experts' rows, what no copy reads. -/
def aside : sProp 𝕄 :=
  iprop((ysLoc c ↦[Finset.univ]{Transfers.shareDrop fullShare 1024} ys)
    ∗ bigSep Finset.univ fun j : Fin 1024 =>
        (ysLoc c ↦[Finset.univ \ (srcSet (w (j.val % 8) (j.val / 8)).toNat (hw _ _) : Finset (Idx (ysLoc c)))]{Transfers.shareTokN fullShare (8 * (j.val / 8) + j.val % 8)} ys))

theorem tok_split (j : Fin 1024) : (ysLoc c ↦[Finset.univ]{Transfers.shareTokN fullShare (8 * (j.val / 8) + j.val % 8)} ys : sProp 𝕄)
      ⊣⊢ iprop(tok c ys w hw j ∗ (ysLoc c ↦[Finset.univ \ (srcSet (w (j.val % 8) (j.val / 8)).toNat (hw _ _) : Finset (Idx (ysLoc c)))]{Transfers.shareTokN fullShare (8 * (j.val / 8) + j.val % 8)} ys)) := by
  unfold tok
  rw [tok_eq]
  exact pointsTo_split_subset (Finset.subset_univ _)

theorem toks_all : (bigSep (Finset.range 1024) (fun i => (ysLoc c ↦[Finset.univ]{Transfers.shareTokN fullShare i} ys : sProp 𝕄)))
      = bigSep Finset.univ (fun j : Fin 1024 => (ysLoc c ↦[Finset.univ]{Transfers.shareTokN fullShare (8 * (j.val / 8) + j.val % 8)} ys : sProp 𝕄)) := by
  rw [← Ring.rangeSet_univ]
  refine (Ring.bigSep_rangeSet_eq_range (NB := 1024) (lo := 0) (hi := 1024) (Nat.le_refl _) _ fun k h => ?_).symm
  have : 8 * ((0 + k) / 8) + (0 + k) % 8 = k := by omega
  simp only [this]

theorem both (Φ Ψ : Fin 1024 → sProp 𝕄) : (bigSep Finset.univ (fun j => iprop(Φ j ∗ Ψ j)) : sProp 𝕄) = iprop(bigSep Finset.univ Φ ∗ bigSep Finset.univ Ψ) :=
  bigSep_sep _ _ _

theorem rows_split : (ysLoc c ↦{fullShare} ys : sProp 𝕄) ⊢ iprop(aside (F := F) c ys w hw ∗ toks c ys w hw 0) := by
  refine (Transfers.pointsTo_toks_range fullShare 1024).1.trans ?_
  unfold aside toks
  rw [Ring.rangeSet_univ, toks_all]
  refine (sep_mono .rfl ((bigSep_mono (fun j _ => (tok_split c ys w hw j).1)).trans (Entails.of_eq (both _ _)))).trans ?_
  iintro ⟨HR, HT, HC⟩
  isplitl [HR HC]
  · isplitl [HR]; · iexact HR
    iexact HC
  iexact HT

theorem rows_join : (iprop(aside (F := F) c ys w hw ∗ toks c ys w hw 0) : sProp 𝕄) ⊢ (ysLoc c ↦{fullShare} ys) := by
  refine BIBase.Entails.trans ?_ (Transfers.pointsTo_toks_range fullShare 1024).2
  unfold aside toks
  rw [Ring.rangeSet_univ, toks_all]
  refine BIBase.Entails.trans ?_ (sep_mono .rfl ((Entails.of_eq (both _ _).symm).trans (bigSep_mono (fun j _ => (tok_split c ys w hw j).2))))
  iintro ⟨⟨HR, HC⟩, HT⟩
  isplitl [HR]; · iexact HR
  isplitl [HT]; · iexact HT
  iexact HC

theorem all_join : (all (F := F) c ys f w hw : sProp 𝕄) ⊢ iprop((takenLoc c ↦{fullShare} (taken ys w hw : Buf (Elt F) (takenLoc c))) ∗ toks c ys w hw 0) := by
  refine (Entails.of_eq (both (fun j => blkAt c (j.val % 8) (j.val / 8) (i_lt j) (t_lt j) (put (F := F) ys f w hw (j.val % 8) (j.val / 8) (i_lt j) (t_lt j))) (tok c ys w hw))).trans ?_
  rw [scratch_split]
  unfold blks toks
  rw [Ring.rangeSet_univ]
  refine sep_mono (bigSep_mono fun j _ => ?_) .rfl
  refine (pointsTo_congr fun y hy => put_eq (F := F) ys f w hw _ _ _ _ y hy).le

end Split

end Cert.FinishIdeal.Gather

end
-- ==== Proof.FinTriple.lean ====
module

public import proofs.«01_k».proof.Proof.FinBody
public import Idealize.ShloMosaic.Lib.WritesUnit
public import Idealize.ShloMosaic.Lib.VecWindow

/-! The body of the last row-wise call at one point: what it stores. -/

@[expose] public section

set_option maxRecDepth 16384
set_option Elab.async false

noncomputable section

namespace Cert.FinishIdeal.Gather

open Cert.FinishIdeal Cert.FinishIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The table's words by expert and token. -/
def word (d : S8x128.Idx → BitVec 32) (i t : ℕ) : BitVec 32 := if h : i < 8 ∧ t < 128 then d (ix2 (n0 := 8) (n1 := 128) ⟨i, h.1⟩ ⟨t, h.2⟩) else 0#32
theorem word_lt (d : S8x128.Idx → BitVec 32) (hd : ∀ y, (d y).toNat < 163840) (i t : ℕ) : (word d i t).toNat < 163840 := by
  unfold word; split
  · exact hd _
  · decide

theorem got_storable (c : Dev nD) (ys : S163840x2048.Idx → BitVec 32) (f : S8x128x2048.Idx → BitVec 32) (w : ℕ → ℕ → BitVec 32)
    (hw : ∀ i t, (w i t).toNat < 163840) (j : Fin 1024) : BI.Storable (upEmb : UEmb _ 𝕄) (got (F := F) c ys f w hw j) := by
  unfold got tok
  rw [blk_eq, tok_eq]
  infer_instance

/-- What is stored, from the blocks read. -/
def stored (v2 : Vec F S128x128 .f32) (v3 v5 : Vec F S128x2048 .bf16) (p0 p1 p2 p3 p4 p5 p6 p7 : Vec F S1x128x2048 .i32)
    (v136 : Vec F S128x4096 .f32) (v137 : Vec F S1x1x4096 .f32) (v152 : Vec F S1x4096 .f32) : FVec F S128x4096 .f32 :=
  k0_pay1 v2
    (k0_pay17 v2 (k0_pay10 v2 (k0_pay3 v2 v3 p0) (k0_pay7 v2 p1) p2 p3) (k0_pay13 p4) p5 p6)
    (k0_pay18 v2 (k0_pay11 v2 (k0_pay4 v2 v5 p0) (k0_pay6 p1) p2 p3) (k0_pay14 p4) p5 p6)
    (k0_pay19 p7) (k0_pay20 p7) 4294901760#32 v136 v137 v152

/-- The body past its two loops. -/
def rest (M1 : Memref sig .tc .vmem S128x4096 .f32) (M4 : Memref sig .tc .vmem S128x128 .f32) (M5 : Memref sig .tc .vmem S128x4096 .bf16)
    (M6 : Memref sig .tc .vmem S1x6x4096 .f32) (M7 : Memref sig .tc .vmem S1x4096 .f32) (M8 : Memref sig .tc .vmem S128x4096 .f32)
    (M9 : Memref sig .tc .vmem S8x128x2048 .i32) : Prog (TpuEff nD τ sig (Elt F) Λ₀ .tc) PUnit := do
  let v2 : Vec F S128x128 .f32 ← Prog.lift (.load M4 (Rect.unit (s := S128x128) ![0, 0] S128x128.size inb_S128x128_S128x128_0_0).toLoadRect (View.loadsAt_vmem h_S128x128))
  let v3 : Vec F S128x2048 .bf16 ← Prog.lift (.load M5 (Rect.unit (s := S128x4096) ![0, 0] S128x2048.size inb_S128x4096_S128x2048_0_0).toLoadRect (View.loadsAt_vmem h_S128x2048))
  let v5 : Vec F S128x2048 .bf16 ← Prog.lift (.load M5 (Rect.unit (s := S128x4096) ![0, 2048] S128x2048.size inb_S128x4096_S128x2048_0_2048).toLoadRect (View.loadsAt_vmem h_S128x2048))
  let p0 : Vec F S1x128x2048 .i32 ← Prog.lift (.load M9 (Rect.unit (s := S8x128x2048) ![0, 0, 0] S1x128x2048.size inb_S8x128x2048_S1x128x2048_0_0_0).toLoadRect (View.loadsAt_vmem h_S1x128x2048))
  let p1 : Vec F S1x128x2048 .i32 ← Prog.lift (.load M9 (Rect.unit (s := S8x128x2048) ![1, 0, 0] S1x128x2048.size inb_S8x128x2048_S1x128x2048_1_0_0).toLoadRect (View.loadsAt_vmem h_S1x128x2048))
  let p2 : Vec F S1x128x2048 .i32 ← Prog.lift (.load M9 (Rect.unit (s := S8x128x2048) ![2, 0, 0] S1x128x2048.size inb_S8x128x2048_S1x128x2048_2_0_0).toLoadRect (View.loadsAt_vmem h_S1x128x2048))
  let p3 : Vec F S1x128x2048 .i32 ← Prog.lift (.load M9 (Rect.unit (s := S8x128x2048) ![3, 0, 0] S1x128x2048.size inb_S8x128x2048_S1x128x2048_3_0_0).toLoadRect (View.loadsAt_vmem h_S1x128x2048))
  let p4 : Vec F S1x128x2048 .i32 ← Prog.lift (.load M9 (Rect.unit (s := S8x128x2048) ![4, 0, 0] S1x128x2048.size inb_S8x128x2048_S1x128x2048_4_0_0).toLoadRect (View.loadsAt_vmem h_S1x128x2048))
  let p5 : Vec F S1x128x2048 .i32 ← Prog.lift (.load M9 (Rect.unit (s := S8x128x2048) ![5, 0, 0] S1x128x2048.size inb_S8x128x2048_S1x128x2048_5_0_0).toLoadRect (View.loadsAt_vmem h_S1x128x2048))
  let p6 : Vec F S1x128x2048 .i32 ← Prog.lift (.load M9 (Rect.unit (s := S8x128x2048) ![6, 0, 0] S1x128x2048.size inb_S8x128x2048_S1x128x2048_6_0_0).toLoadRect (View.loadsAt_vmem h_S1x128x2048))
  let p7 : Vec F S1x128x2048 .i32 ← Prog.lift (.load M9 (Rect.unit (s := S8x128x2048) ![7, 0, 0] S1x128x2048.size inb_S8x128x2048_S1x128x2048_7_0_0).toLoadRect (View.loadsAt_vmem h_S1x128x2048))
  let v136 : Vec F S128x4096 .f32 ← Prog.lift (.load M1 (Rect.unit (s := S128x4096) ![0, 0] S128x4096.size inb_S128x4096_S128x4096_0_0).toLoadRect (View.loadsAt_vmem h_S128x4096))
  let v137 : Vec F S1x1x4096 .f32 ← Prog.lift (.load M6 (Rect.unit (s := S1x6x4096) ![0, 5, 0] S1x1x4096.size inb_S1x6x4096_S1x1x4096_0_5_0).toLoadRect (View.loadsAt_vmem h_S1x1x4096))
  let v152 : Vec F S1x4096 .f32 ← Prog.lift (.load M7 (Rect.unit (s := S1x4096) ![0, 0] S1x4096.size inb_S1x4096_S1x4096_0_0).toLoadRect (View.loadsAt_vmem h_S1x4096))
  let _ : Vec F S128x4096 .f32 ← Prog.lift (.load M8 (Rect.unit (s := S128x4096) ![0, 0] S128x4096.size inb_S128x4096_S128x4096_0_0).toLoadRect (View.loadsAt_vmem h_S128x4096))
  Prog.lift (.store M8 (Rect.unit (s := S128x4096) ![0, 0] S128x4096.size inb_S128x4096_S128x4096_0_0) (stored v2 v3 v5 p0 p1 p2 p3 p4 p5 p6 p7 v136 v137 v152) Finset.univ (View.stores_vmem_bits_univ h_S128x4096 rfl) (.inl rfl))
  pure ⟨⟩

section Body

variable (c : Dev nD) (ic : grid0.Coords) (M1 : Memref sig .tc .vmem S128x4096 .f32) (h1 : M1.IsWhole) (M2 : Memref sig .tc .smem S8x128 .i32) (h2 : M2.IsWhole) (M4 : Memref sig .tc .vmem S128x128 .f32) (h4 : M4.IsWhole) (M5 : Memref sig .tc .vmem S128x4096 .bf16) (h5 : M5.IsWhole) (M6 : Memref sig .tc .vmem S1x6x4096 .f32) (h6 : M6.IsWhole) (M7 : Memref sig .tc .vmem S1x4096 .f32) (h7 : M7.IsWhole) (M8 : Memref sig .tc .vmem S128x4096 .f32) (h8 : M8.IsWhole)
  (x1 : S128x4096.Idx → Elt F .f32) (d : S8x128.Idx → BitVec 32) (x4 : S128x128.Idx → Elt F .f32) (x5 : S128x4096.Idx → Elt F .bf16)
  (x6 : S1x6x4096.Idx → Elt F .f32) (x7 : S1x4096.Idx → Elt F .f32) (ys : S163840x2048.Idx → BitVec 32) (hd : ∀ y, (d y).toNat < 163840)

/-- What is stored, from the blocks held. -/
def storedAt (x1 : S128x4096.Idx → Elt F .f32) (x4 : S128x128.Idx → Elt F .f32) (x5 : S128x4096.Idx → Elt F .bf16)
    (x6 : S1x6x4096.Idx → Elt F .f32) (x7 : S1x4096.Idx → Elt F .f32) (g : (k : ℕ) → k < 8 → S1x128x2048.Idx → BitVec 32) : S128x4096.Idx → Elt F .f32 :=
  stored (F := F) x4 (fun y => x5 ((Rect.unit (s := S128x4096) ![0, 0] S128x2048.size inb_S128x4096_S128x2048_0_0).toLoadRect.idx y))
    (fun y => x5 ((Rect.unit (s := S128x4096) ![0, 2048] S128x2048.size inb_S128x4096_S128x2048_0_2048).toLoadRect.idx y))
    (g 0 (by decide)) (g 1 (by decide)) (g 2 (by decide)) (g 3 (by decide)) (g 4 (by decide)) (g 5 (by decide)) (g 6 (by decide)) (g 7 (by decide))
    x1 (fun y => x6 ((Rect.unit (s := S1x6x4096) ![0, 5, 0] S1x1x4096.size inb_S1x6x4096_S1x1x4096_0_5_0).toLoadRect.idx y)) x7

theorem slot_inb (k : ℕ) (hk : k < 8) : ∀ a, (![k, 0, 0] : Fin 3 → ℕ) a + S1x128x2048.size a ≤ S8x128x2048.size a := by
  intro a; fin_cases a
  · show k + 1 ≤ 8; omega
  · show 0 + 128 ≤ 128; omega
  · show 0 + 2048 ≤ 2048; omega

set_option maxHeartbeats 2000000 in
theorem tail (M9 : Memref sig .tc .vmem S8x128x2048 .i32) (x9 : Buf (Elt F) (M9.view.loc (c : Thread nD τ))) (R : sProp 𝕄) :
    (iprop((M1.view.loc (c : Thread nD τ) ↦[M1.view.set]{fullShare} M1.view.rep x1)
        ∗ (M4.view.loc (c : Thread nD τ) ↦[M4.view.set]{fullShare} M4.view.rep x4)
        ∗ (M5.view.loc (c : Thread nD τ) ↦[M5.view.set]{fullShare} M5.view.rep x5)
        ∗ (M6.view.loc (c : Thread nD τ) ↦[M6.view.set]{fullShare} M6.view.rep x6)
        ∗ (M7.view.loc (c : Thread nD τ) ↦[M7.view.set]{fullShare} M7.view.rep x7)
        ∗ (M9.view.loc (c : Thread nD τ) ↦[M9.view.set]{fullShare} x9)
        ∗ (∃ f8, M8.view.loc (c : Thread nD τ) ↦[M8.view.set]{fullShare} f8) ∗ R) : sProp 𝕄)
      ⊢ wp frame (wpE (defs₀ (F := F)) Variants.none (c : Thread nD τ) none) Set.univ (rest (F := F) M1 M4 M5 M6 M7 M8 M9)
          fun _ => iprop((M1.view.loc (c : Thread nD τ) ↦[M1.view.set]{fullShare} M1.view.rep x1)
        ∗ (M4.view.loc (c : Thread nD τ) ↦[M4.view.set]{fullShare} M4.view.rep x4)
        ∗ (M5.view.loc (c : Thread nD τ) ↦[M5.view.set]{fullShare} M5.view.rep x5)
        ∗ (M6.view.loc (c : Thread nD τ) ↦[M6.view.set]{fullShare} M6.view.rep x6)
        ∗ (M7.view.loc (c : Thread nD τ) ↦[M7.view.set]{fullShare} M7.view.rep x7)
        ∗ (M9.view.loc (c : Thread nD τ) ↦[M9.view.set]{fullShare} x9)
            ∗ owns (c : Thread nD τ) M8 fullShare (storedAt x1 x4 x5 x6 x7 fun k hk => View.readAt (Elt F) M9.view (Rect.unit (s := S8x128x2048) ![k, 0, 0] S1x128x2048.size (slot_inb k hk)).toLoadRect x9) ∗ R) := by
  iintro ⟨H1, H4, H5, H6, H7, H9, ⟨%f8, H8⟩, HR⟩
  unfold rest
  sl_exec
  sl_step
  isplitl [H1]; · iexact H1
  isplitl [H4]; · iexact H4
  isplitl [H5]; · iexact H5
  isplitl [H6]; · iexact H6
  isplitl [H7]; · iexact H7
  isplitl [H9]; · iexact H9
  isplitr [HR]; swap
  · iexact HR
  unfold owns
  iexists _
  isplitr; swap
  · iexact H8
  ipureintro
  funext y
  refine (View.read_writes_cons_unit_of_mem M8.view _ inb_S128x4096_S128x4096_0_0 _ [] y y rfl (fun a => by fin_cases a <;> exact (Nat.zero_add _).symm)).trans ?_
  have e1 := View.readAt_rep_full (Val := Elt F) M1.view x1 inb_S128x4096_S128x4096_0_0
  have e4 := View.readAt_rep_full (Val := Elt F) M4.view x4 inb_S128x128_S128x128_0_0
  have e7 := View.readAt_rep_full (Val := Elt F) M7.view x7 inb_S1x4096_S1x4096_0_0
  rw [e1, e4, e7, View.readAt_rep, View.readAt_rep, View.readAt_rep]
  rfl

theorem words : Words (F := F) c (word d) M2 (M2.view.rep (d : S8x128.Idx → Elt F .i32)) := by
  intro i t o ho b x
  have hi : i < 8 := by have := b 0; rw [ho] at this; have : i + 1 ≤ 8 := this; omega
  have ht : t < 128 := by have := b 1; rw [ho] at this; have : t + 1 ≤ 128 := this; omega
  rw [View.readAt_rep]
  unfold word
  rw [dif_pos ⟨hi, ht⟩]
  refine congrArg d (funext fun a => Fin.ext ?_)
  have x0 : (x 0).val < 1 := (x 0).isLt
  have x1 : (x 1).val < 1 := (x 1).isLt
  subst ho
  fin_cases a
  · show i + 1 * (x 0).val = i; omega
  · show t + 1 * (x 1).val = t; omega

/-- The rows taken for one of a token's experts. -/
def slot (g : S8x128x2048.Idx → BitVec 32) (k : ℕ) (hk : k < 8) : S1x128x2048.Idx → BitVec 32 :=
  fun y => g ((Rect.unit (s := S8x128x2048) ![k, 0, 0] S1x128x2048.size (slot_inb k hk)).toLoadRect.idx y)

theorem scratch_whole (g : Buf (Elt F) (takenLoc c)) : (takenLoc c ↦{fullShare} g : sProp 𝕄)
    = (takenLoc c ↦[((Memref.whole cc0_scratch0 : Memref sig .tc .vmem S8x128x2048 .i32).view.set : Finset (Idx (takenLoc c)))]{fullShare} g) :=
  congrArg (fun S : Finset (Idx (takenLoc c)) => (takenLoc c ↦[S]{fullShare} g : sProp 𝕄)) (View.set_whole (cc0_scratch0 : Ref sig .tc)).symm

include hd in
set_option maxHeartbeats 2000000 in
theorem run :
    (iprop((M1.view.loc (c : Thread nD τ) ↦[M1.view.set]{fullShare} M1.view.rep x1)
        ∗ (M2.view.loc (c : Thread nD τ) ↦[M2.view.set]{fullShare} M2.view.rep (d : S8x128.Idx → Elt F .i32))
        ∗ (M4.view.loc (c : Thread nD τ) ↦[M4.view.set]{fullShare} M4.view.rep x4)
        ∗ (M5.view.loc (c : Thread nD τ) ↦[M5.view.set]{fullShare} M5.view.rep x5)
        ∗ (M6.view.loc (c : Thread nD τ) ↦[M6.view.set]{fullShare} M6.view.rep x6)
        ∗ (M7.view.loc (c : Thread nD τ) ↦[M7.view.set]{fullShare} M7.view.rep x7)
        ∗ (∃ f8, M8.view.loc (c : Thread nD τ) ↦[M8.view.set]{fullShare} f8)
        ∗ (ysLoc c ↦{fullShare} ys)
        ∗ (∃ f : Buf (Elt F) (takenLoc c), takenLoc c ↦{fullShare} f)
        ∗ semVal ((c : Thread nD τ), SemLoc.dma cc0_scratch1.sem) 0
        ∗ (∃ W, owes (c : Thread nD τ) 0 W)) : sProp 𝕄)
      ⊢ wp frame (wpE (defs₀ (F := F)) Variants.none (c : Thread nD τ) none) Set.univ
          (cc0_rowwise ic M1 h1 M2 h2 (Memref.whole main_arg2) (Memref.isWhole_whole _) M4 h4 M5 h5 M6 h6 M7 h7 M8 h8 (Memref.whole cc0_scratch0) (Memref.isWhole_whole _) cc0_scratch1)
          fun _ => iprop((M1.view.loc (c : Thread nD τ) ↦[M1.view.set]{fullShare} M1.view.rep x1)
            ∗ (M4.view.loc (c : Thread nD τ) ↦[M4.view.set]{fullShare} M4.view.rep x4)
            ∗ (M5.view.loc (c : Thread nD τ) ↦[M5.view.set]{fullShare} M5.view.rep x5)
            ∗ (M6.view.loc (c : Thread nD τ) ↦[M6.view.set]{fullShare} M6.view.rep x6)
            ∗ (M7.view.loc (c : Thread nD τ) ↦[M7.view.set]{fullShare} M7.view.rep x7)
            ∗ (takenLoc c ↦[(Memref.whole cc0_scratch0 : Memref sig .tc .vmem S8x128x2048 .i32).view.set]{fullShare} (taken ys (word d) (word_lt d hd) : Buf (Elt F) (takenLoc c)))
            ∗ owns (c : Thread nD τ) M8 fullShare (storedAt x1 x4 x5 x6 x7 (slot (taken ys (word d) (word_lt d hd))))
            ∗ (M2.view.loc (c : Thread nD τ) ↦[M2.view.set]{fullShare} M2.view.rep (d : S8x128.Idx → Elt F .i32))
            ∗ (ysLoc c ↦{fullShare} ys)
            ∗ semVal ((c : Thread nD τ), SemLoc.dma cc0_scratch1.sem) 0
            ∗ (∃ W, owes (c : Thread nD τ) 0 W)) := by
  iintro ⟨H1, H2, H4, H5, H6, H7, ⟨%f8, H8⟩, HY, ⟨%f, HS⟩, HV, ⟨%W, HO⟩⟩
  ihave HY := (rows_split (F := F) c ys (word d) (word_lt d hd)) $$ HY
  icases HY with ⟨HA, HT⟩
  ihave HK := (Entails.of_eq (scratch_split (F := F) c f)) $$ HS
  haveI : ∀ j, BI.Storable (upEmb : UEmb _ 𝕄) (got (F := F) c ys f (word d) (word_lt d hd) j) := got_storable (F := F) c ys f (word d) (word_lt d hd)
  imod (Transfers.batch_alloc' (Lvl := ℕ) (countersEmb (U := Pipeline.UD sig nD τ)) (c : Thread nD τ) () NN (got (F := F) c ys f (word d) (word_lt d hd)) (sm := .dma cc0_scratch1.sem) (E := Set.univ)) $$ HV with HB
  rw [cc0_rowwise_eq_skeleton]
  unfold cc0_rowwise_skel
  rw [k0_part3_eq_skeleton, k0_part4_eq_skeleton, k0_part5_eq_skeleton]
  unfold k0_part3_skel k0_part4_skel k0_part5_skel
  simp only [bind_assoc]
  sl_for (issueAt (F := F) c ys f (word d) (word_lt d hd) M2 (M2.view.rep (d : S8x128.Idx → Elt F .i32))) $$ [H2 HB HT HK]
  · intro k acc
    exact issue_step (F := F) c ys f (word d) (word_lt d hd) ic M1 h1 M2 h2 M4 h4 M5 h5 M6 h6 M7 h7 M8 h8 _ (words c M2 d) k acc
  · unfold issueAt
    isplitl [H2]; · iexact H2
    isplitl [HB]; · iexact HB
    isplitl [HT]; · iexact HT
    iexact HK
  iintro %acc HL
  unfold issueAt
  icases HL with ⟨H2, HB, -, -⟩
  sl_for (drainAt (F := F) c ys f (word d) (word_lt d hd)) $$ [HB HO]
  · intro k acc
    exact drain_step (F := F) c ys f (word d) (word_lt d hd) ic M1 h1 M2 h2 M4 h4 M5 h5 M6 h6 M7 h7 M8 h8 k acc
  · unfold drainAt
    isplitl [HO]; · iexists _; iexact HO
    rw [if_pos (by decide)]
    iexact HB
  iintro %acc HL
  unfold drainAt
  rw [if_neg (by decide)]
  icases HL with ⟨⟨%W', HO⟩, HV, HG⟩
  ihave HG := (all_join (F := F) c ys f (word d) (word_lt d hd)) $$ HG
  icases HG with ⟨HS, HT⟩
  ihave HY := (rows_join (F := F) c ys (word d) (word_lt d hd)) $$ [HA HT]
  · isplitl [HA]; · iexact HA
    iexact HT
  have e : run.sl.prog.cont_2 M1 M4 M5 M6 M7 M8 acc = rest (F := F) M1 M4 M5 M6 M7 M8 (Memref.whole cc0_scratch0) := rfl
  rw [e]
  iapply (tail (F := F) c M1 M4 M5 M6 M7 M8 x1 x4 x5 x6 x7 (Memref.whole cc0_scratch0) (taken ys (word d) (word_lt d hd)) _)
  isplitl [H1]; · iexact H1
  isplitl [H4]; · iexact H4
  isplitl [H5]; · iexact H5
  isplitl [H6]; · iexact H6
  isplitl [H7]; · iexact H7
  isplitl [HS]
  · iapply (Entails.of_eq (scratch_whole (F := F) c (taken ys (word d) (word_lt d hd)))); iexact HS
  isplitl [H8]; · iexists _; iexact H8
  isplitl [H2]; · iexact H2
  isplitl [HY]; · iexact HY
  isplitl [HV]; · iexact HV
  iexists _; iexact HO

end Body

end Cert.FinishIdeal.Gather

end
-- ==== Proof.FinFrame.lean ====
module

public import proofs.«01_k».proof.Proof.FinTriple
public import Idealize.ShloMosaic.Lib.Pipeline.TableIdle

/-! The last row-wise call: what every point leaves, and the run of the whole call. -/

@[expose] public section

set_option maxRecDepth 16384
set_option Elab.async false

noncomputable section

namespace Cert.FinishIdeal.Gather

open Cert.FinishIdeal Cert.FinishIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem enter (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The copies' semaphore. -/
def cell : Fin 1 → SemLoc sig := fun _ => SemLoc.dma cc0_scratch1.sem
theorem cell_facts : Pipeline.OwnSemFacts spec0 cell := by decide
theorem cell_eq (c : Dev nD) :
    (Pipeline.ownSems0 (Ix := Unit) (Name := ℕ) (U := Pipeline.UD sig nD τ) (Lvl := ℕ) (Val := Elt F) (τ := τ) cell c : sProp 𝕄)
      = semVal ((c : Thread nD τ), SemLoc.dma cc0_scratch1.sem) 0 := by
  rw [Pipeline.ownSems0_eq_of_list c cell [0] (by decide) (by decide)]; rfl
/-- The experts' rows, which the body reads where they lie. -/
def left : Finset (Ref sig .tc) := {main_arg2}
theorem left_sub : left ⊆ Pipeline.restRefs sig spec0 := by decide
theorem left_eq (c : Dev nD) :
    (bigSep left (fun b => ((c : Thread nD τ).loc b) ↦{fullShare} V m c b) : sProp 𝕄) = (ysLoc c ↦{fullShare} V m c main_arg2) := by
  rw [BI.bigSep_eq_bigSepL_of_eq [main_arg2] (by decide) (by decide)]; rfl

/-- Every word of the table names a row. -/
abbrev Named : Prop := ∀ (c : Dev nD) (t : Fin cfg0.N) (y : S8x128.Idx), ((iblk m c 1 t : S8x128.Idx → BitVec 32) y).toNat < 163840

variable (hn : Named (F := F) m)

/-- What the call stores at a point. -/
def left6 (c : Dev nD) (t : Fin cfg0.N) : S128x4096.Idx → Elt F .f32 :=
  storedAt (F := F) (iblk m c 0 t) (iblk m c 2 t) (iblk m c 3 t) (iblk m c 4 t) (iblk m c 5 t)
    (slot (taken (V m c main_arg2) (word (iblk m c 1 t)) (word_lt _ (hn c t))))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => left6 m hn c t
  Φ _ := Pipeline.ΦD cell spec0 left (V m) c
  q _ := fullShare
  owed _ := 0

theorem A_eq (c : Dev nD) (w : Fin cfg0.W) : (dats m hn 0 c).A w = V m c (Pipeline.arrRef spec0 w) := by
  dsimp only [dats]
theorem after_0 (c : Dev nD) (t : Fin cfg0.N) : (dats m hn 0 c).after 0 t = iblk m c 0 t := by dsimp only [dats]
theorem after_1 (c : Dev nD) (t : Fin cfg0.N) : (dats m hn 0 c).after 1 t = iblk m c 1 t := by dsimp only [dats]
theorem after_2 (c : Dev nD) (t : Fin cfg0.N) : (dats m hn 0 c).after 2 t = iblk m c 2 t := by dsimp only [dats]
theorem after_3 (c : Dev nD) (t : Fin cfg0.N) : (dats m hn 0 c).after 3 t = iblk m c 3 t := by dsimp only [dats]
theorem after_4 (c : Dev nD) (t : Fin cfg0.N) : (dats m hn 0 c).after 4 t = iblk m c 4 t := by dsimp only [dats]
theorem after_5 (c : Dev nD) (t : Fin cfg0.N) : (dats m hn 0 c).after 5 t = iblk m c 5 t := by dsimp only [dats]
theorem after_6 (c : Dev nD) (t : Fin cfg0.N) : (dats m hn 0 c).after 6 t = left6 m hn c t := by dsimp only [dats]

theorem before_0 (c : Dev nD) (t : Fin cfg0.N) (d) : (dats m hn 0 c).before 0 t d = iblk m c 0 t :=
  ((dats m hn 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg0.N) (d) : (dats m hn 0 c).before 1 t d = iblk m c 1 t :=
  ((dats m hn 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg0.N) (d) : (dats m hn 0 c).before 2 t d = iblk m c 2 t :=
  ((dats m hn 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin cfg0.N) (d) : (dats m hn 0 c).before 3 t d = iblk m c 3 t :=
  ((dats m hn 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin cfg0.N) (d) : (dats m hn 0 c).before 4 t d = iblk m c 4 t :=
  ((dats m hn 0 c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)
theorem before_5 (c : Dev nD) (t : Fin cfg0.N) (d) : (dats m hn 0 c).before 5 t d = iblk m c 5 t :=
  ((dats m hn 0 c).before_in_eq_fetched 5 rfl (fun _ => rfl) (fun _ _ _ => rfl)
    (fun t => by rw [after_5]; unfold Dat.blockOf iblk; rw [A_eq]; try rfl) t d).trans (by unfold Dat.fetched Dat.blockOf iblk; rw [A_eq]; try rfl)

abbrev stg (w : Fin cfg0.W) (t : Fin cfg0.N) := (cfg0.win w).stage (cfg0.slots t w)

theorem sound (c : Dev nD) (t : Fin cfg0.N) :
    (iprop((dats m hn 0 c).Φ t.castSucc ∗ (dats m hn 0 c).owesAt () t.castSucc
        ∗ (∃ d, owns (c : Thread nD τ) (stg 0 t) fullShare ((dats m hn 0 c).before 0 t d))
        ∗ (∃ d, owns (c : Thread nD τ) (stg 1 t) fullShare ((dats m hn 0 c).before 1 t d))
        ∗ (∃ d, owns (c : Thread nD τ) (stg 2 t) fullShare ((dats m hn 0 c).before 2 t d))
        ∗ (∃ d, owns (c : Thread nD τ) (stg 3 t) fullShare ((dats m hn 0 c).before 3 t d))
        ∗ (∃ d, owns (c : Thread nD τ) (stg 4 t) fullShare ((dats m hn 0 c).before 4 t d))
        ∗ (∃ d, owns (c : Thread nD τ) (stg 5 t) fullShare ((dats m hn 0 c).before 5 t d))
        ∗ (∃ d, owns (c : Thread nD τ) (stg 6 t) fullShare ((dats m hn 0 c).before 6 t d))) : sProp 𝕄)
      ⊢ wp frame (wpE (defs₀ (F := F)) Variants.none (c : Thread nD τ) none) Set.univ (bodyAt0 t) fun _ =>
        iprop((dats m hn 0 c).Φ t.succ ∗ (dats m hn 0 c).owesAt () t.succ
          ∗ owns (c : Thread nD τ) (stg 0 t) fullShare ((dats m hn 0 c).after 0 t)
          ∗ owns (c : Thread nD τ) (stg 1 t) fullShare ((dats m hn 0 c).after 1 t)
          ∗ owns (c : Thread nD τ) (stg 2 t) fullShare ((dats m hn 0 c).after 2 t)
          ∗ owns (c : Thread nD τ) (stg 3 t) fullShare ((dats m hn 0 c).after 3 t)
          ∗ owns (c : Thread nD τ) (stg 4 t) fullShare ((dats m hn 0 c).after 4 t)
          ∗ owns (c : Thread nD τ) (stg 5 t) fullShare ((dats m hn 0 c).after 5 t)
          ∗ owns (c : Thread nD τ) (stg 6 t) fullShare ((dats m hn 0 c).after 6 t)) := by
  simp only [before_0, before_1, before_2, before_3, before_4, before_5, after_0, after_1, after_2, after_3, after_4, after_5, after_6]
  rw [show (dats m hn 0 c).Φ t.succ = Pipeline.ΦD cell spec0 left (V m) c from rfl, show (dats m hn 0 c).Φ t.castSucc = Pipeline.ΦD cell spec0 left (V m) c from rfl,
    Pipeline.ΦD_eq, scopedRest0_eq, cell_eq, left_eq]
  unfold Dat.owesAt Pipeline.owesWithin
  rw [show (dats m hn 0 c).owed t.castSucc = 0 from rfl, show (dats m hn 0 c).owed t.succ = 0 from rfl]
  iintro ⟨⟨⟨%f, HS⟩, Hg, HV, HY⟩, ⟨%W, -, HW⟩, ⟨%d0, H0⟩, ⟨%d1, H1⟩, ⟨%d2, H2⟩, ⟨%d3, H3⟩, ⟨%d4, H4⟩, ⟨%d5, H5⟩, ⟨%d6, H6⟩⟩
  unfold bodyAt0
  iapply wp_wand $$ [HS HV HY HW H0 H1 H2 H3 H4 H5 H6]
  · iapply (run (F := F) c _ _ _ _ _ _ _ _ _ _ _ _ _ _ _ (iblk m c 0 t) (iblk m c 1 t) (iblk m c 2 t) (iblk m c 3 t) (iblk m c 4 t) (iblk m c 5 t) (V m c main_arg2) (hn c t))
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]
    · unfold owns; icases H6 with ⟨%g, -, H6⟩; iexists g; iexact H6
    isplitl [HY]; · iexact HY
    isplitl [HS]; · iexists f; iexact HS
    isplitl [HV]; · iexact HV
    iexists W; iexact HW
  iintro %_ ⟨H0, H2, H3, H4, H5, HS, H6, H1, HY, HV, ⟨%W', HW⟩⟩
  isplitl [HS Hg HV HY]
  · isplitl [HS]
    · iexists _
      iapply (Entails.of_eq (scratch_whole (F := F) c _).symm); iexact HS
    isplitl [Hg]; · iexact Hg
    isplitl [HV]; · iexact HV
    iexact HY
  isplitl [HW]
  · iexists W'; isplitr; · ipureintro; exact fun _ _ => Or.inl trivial
    iexact HW
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  iexact H6

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m hn 0 c) (defs₀ (F := F)) Variants.none () Set.univ := fun t => by
  rw [bigSep_W0, bigSep_W0, row]
  exact triple_restated (sound m hn c t) rfl .rfl fun _ => .rfl

set_option backward.isDefEq.respectTransparency.types false in
theorem runs : θ_run defs (onTc (τ := τ) (main (F := F))) (s₀ m ρ) (fun r => Pipeline.FramePost cfgs (dats m hn) 0 (V m) r ∧ r.2.sem = fun _ => 0) :=
  Pipeline.θ_run_frame_dma (Q' := _) cfgs (dats m hn) (0 : Fin 1) launch0 cell defs₀ Variants.none cell_facts left left_sub m ρ main
    (hbody := fun c => (obligation m hn c).loose) (hshare := fun c => (dats m hn 0 c).share_full fun _ => rfl)
    (howed := fun _ _ => rfl) (V := V m) (hmain := enter m Variants.none) (hA := A_eq m hn)
    (hin := fun _ => .rfl) (hout := fun _ => .rfl)

include hn in
theorem keeps : θ_run defs (onTc (τ := τ) (main (F := F))) (s₀ m ρ) (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).1 0).trans (((dats m hn 0 c).arrAt_in 0 rfl _).trans ((A_eq m hn c 0).trans (V_main_arg0 m c))),
      ((h.1 c).1 1).trans (((dats m hn 0 c).arrAt_in 1 rfl _).trans ((A_eq m hn c 1).trans (V_main_arg1 m c))),
      ((h.1 c).2 main_arg2 (Pipeline.mem_restRefs_of main_arg2 (by decide) (by decide))).trans (V_main_arg2 m c),
      ((h.1 c).1 2).trans (((dats m hn 0 c).arrAt_in 2 rfl _).trans ((A_eq m hn c 2).trans (V_main_arg3 m c))),
      ((h.1 c).1 3).trans (((dats m hn 0 c).arrAt_in 3 rfl _).trans ((A_eq m hn c 3).trans (V_main_arg4 m c))),
      ((h.1 c).1 4).trans (((dats m hn 0 c).arrAt_in 4 rfl _).trans ((A_eq m hn c 4).trans (V_main_arg5 m c))),
      ((h.1 c).2 main_arg6 (Pipeline.mem_restRefs_of main_arg6 (by decide) (by decide))).trans (V_main_arg6 m c)⟩, h.2⟩) (runs m ρ hn)

include hn in
theorem leaves : θ_run defs (onTc (τ := τ) (main (F := F))) (s₀ m ρ) (fun r =>
    (∀ c : Dev nD, r.2.mem ((c.tc : Thread nD τ).loc main_v1) = (dats m hn 0 c).arrAt 6 cfg0.N)
    ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h => ⟨fun c => (h.1 c).1 6, fun c => ⟨((h.1 c).1 0).trans (((dats m hn 0 c).arrAt_in 0 rfl _).trans ((A_eq m hn c 0).trans (V_main_arg0 m c))),
      ((h.1 c).1 1).trans (((dats m hn 0 c).arrAt_in 1 rfl _).trans ((A_eq m hn c 1).trans (V_main_arg1 m c))),
      ((h.1 c).2 main_arg2 (Pipeline.mem_restRefs_of main_arg2 (by decide) (by decide))).trans (V_main_arg2 m c),
      ((h.1 c).1 2).trans (((dats m hn 0 c).arrAt_in 2 rfl _).trans ((A_eq m hn c 2).trans (V_main_arg3 m c))),
      ((h.1 c).1 3).trans (((dats m hn 0 c).arrAt_in 3 rfl _).trans ((A_eq m hn c 3).trans (V_main_arg4 m c))),
      ((h.1 c).1 4).trans (((dats m hn 0 c).arrAt_in 4 rfl _).trans ((A_eq m hn c 4).trans (V_main_arg5 m c))),
      ((h.1 c).2 main_arg6 (Pipeline.mem_restRefs_of main_arg6 (by decide) (by decide))).trans (V_main_arg6 m c)⟩⟩) (runs m ρ hn)

end Cert.FinishIdeal.Gather

end
-- ==== Proof.FinRef.lean ====
module

public import proofs.«01_k».proof.Proof.Gen.FinishSpecIdeal.Run
public import Idealize.ShloMosaic.Lib.Pointwise
public import Idealize.ShloMosaic.Lib.Tactic.CleanTypes

@[expose] public section

set_option maxRecDepth 16384

noncomputable section

/-! The reference of the last row-wise call, at an index. -/

namespace Cert.FinRef

open Cert.FinishSpecIdeal Cert.FinishSpecIdeal.Gen Idealize.ShloMosaic Idealize.ShloMosaic.Pointwise

/-- The table, a negative entry counted from the end. -/
def idxs (T : IVec S8x16384 32) : IVec S8x16384x1 32 :=
  broadcastInDim S8x16384x1 ![0, 1] bcast_S8x16384_S8x16384x1_0_1 (select (cmpi .slt T (broadcastInDim S8x16384 ![] bcast_S_S8x16384 (constantI S_ 32 0#32))) (addi T (broadcastInDim S8x16384 ![] bcast_S_S8x16384 (constantI S_ 32 163840#32))) T)

/-- The rows named. -/
def words (T : IVec S8x16384 32) (Y : IVec S163840x2048 32) : IVec S8x16384x2048 32 :=
  Host.gather gather_S163840x2048_S8x16384x1_S8x16384x2048_2_0_n_n_0_2_12048 Y (idxs T)

def halves (P : IVec S8x16384x2048 32) : FVec Ideal S8x16384x4096 .f32 :=
  concatenate S8x16384x4096 2 [⟨S8x16384x2048, (bitcastToFloat (F := Ideal) .f32 (Host.shli P (broadcastInDim S8x16384x2048 ![] bcast_S_S8x16384x2048 (constantI S_ 32 16#32))))⟩, ⟨S8x16384x2048, (bitcastToFloat (F := Ideal) .f32 (andi P (broadcastInDim S8x16384x2048 ![] bcast_S_S8x16384x2048 (constantI S_ 32 4294901760#32))))⟩] concatenates_S8x16384x2048_S8x16384x2048_S8x16384x4096_d2

def mixed (R : FVec Ideal S8x16384x4096 .f32) (W : FVec Ideal S16384x128 .f32) (S : FVec Ideal S16384x4096 .bf16) : FVec Ideal S16384x4096 .f32 :=
  addf (Host.reduceAdd (mulf R (broadcastInDim S8x16384x4096 ![0, 1, 2] bcast_S8x16384x1_S8x16384x4096_0_1_2 (broadcastInDim S8x16384x1 ![0, 1] bcast_S8x16384_S8x16384x1_0_1 (transpose S8x16384 [1, 0] (extractStridedSlice S16384x8 ![0, 0] W slices_S16384x128_S16384x8_0_0) transposes_S16384x8_S8x16384_1_0)))) (constant S_ .f32 0x00000000#32) reducesTo_S8x16384x4096_S16384x4096_d0 h_S_) (extf .f32 S bitsLt_bf16_f32)

def stream (H Y : FVec Ideal S16384x4096 .f32) (M : FVec Ideal S16x6x4096 .f32) : FVec Ideal S8x2048x4096 .f32 :=
  addf (shapeCast _ H shapeCasts_S16384x4096_S8x2048x4096) (mulf (broadcastInDim S8x2048x4096 ![0, 1, 2] bcast_S8x1x4096_S8x2048x4096_0_1_2 (broadcastInDim S8x1x4096 ![0, 2] bcast_S8x4096_S8x1x4096_0_2 (shapeCast _ (extractStridedSlice S8x1x4096 ![0, 5, 0] M slices_S16x6x4096_S8x1x4096_0_5_0) shapeCasts_S8x1x4096_S8x4096))) (shapeCast _ Y shapeCasts_S16384x4096_S8x2048x4096))

def normed (X : FVec Ideal S8x2048x4096 .f32) (N : FVec Ideal S4096 .f32) : FVec Ideal S16384x4096 .f32 :=
  shapeCast _ (mulf (mulf X (broadcastInDim S8x2048x4096 ![0, 1, 2] bcast_S8x2048x1_S8x2048x4096_0_1_2 (Host.rsqrt (addf (Host.divf (broadcastInDim S8x2048x1 ![0, 1] bcast_S8x2048_S8x2048x1_0_1 (Host.reduceAdd (mulf X X) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x358637BD#32))))))
    (broadcastInDim S8x2048x4096 ![0, 1, 2] bcast_S1x1x4096_S8x2048x4096_0_1_2 (broadcastInDim S1x1x4096 ![2] bcast_S4096_S1x1x4096_2 N))) shapeCasts_S8x2048x4096_S16384x4096

/-- The reference, of its arguments. -/
def ref (H : FVec Ideal S16384x4096 .f32) (T : IVec S8x16384 32) (Y : IVec S163840x2048 32) (W : FVec Ideal S16384x128 .f32)
    (S : FVec Ideal S16384x4096 .bf16) (M : FVec Ideal S16x6x4096 .f32) (N : FVec Ideal S4096 .f32) : FVec Ideal S16384x4096 .f32 :=
  normed (stream H (mixed (halves (words T Y)) W S) M) N

open Idealize.ShloMosaic.TcCoe in
theorem ref_eq (m : (ℓ : Loc nD τ sig) → Buf (Elt Ideal) ℓ) (c : Dev nD) :
    Cert.FinishSpecIdeal.Value.res_main_v43 m c = ref (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

theorem idxs_at (T : IVec S8x16384 32) (e : Fin 8) (r : Fin 16384) (h : (T (ix2 e r)).toNat < 163840) : idxs T (ix3 e r 0) = T (ix2 e r) := by
  unfold idxs
  pointwise
  have hl : IntOp.cmpi .slt (T (ix2 e r)) 0#32 = 0#1 := by
    have : ¬ (T (ix2 e r)).toInt < 0 := by
      rw [BitVec.toInt_eq_toNat_cond]; split <;> omega
    simp only [IntOp.cmpi, BitVec.slt, show (0#32).toInt = 0 from rfl, this, decide_false, BitVec.ofBool_false]
    rfl
  rw [hl]
  rfl

/-- The row of the experts' results that expert `e` of token `r` reads. -/
def row (T : IVec S8x16384 32) (e : Fin 8) (r : Fin 16384) : Fin 163840 := ⟨min (T (ix2 e r)).toNat 163839, by omega⟩

theorem gather_at (Y : IVec S163840x2048 32) (I : IVec S8x16384x1 32) (e : Fin 8) (r : Fin 16384) (d : Fin 2048) :
    Host.gather gather_S163840x2048_S8x16384x1_S8x16384x2048_2_0_n_n_0_2_12048 Y I (ix3 e r d)
      = Y (ix2 ⟨min (I (ix3 e r 0)).toInt.toNat 163839, by omega⟩ d) := by
  unfold Host.gather
  congr 1
  funext a
  refine Fin.ext ?_
  generalize hD : gather_S163840x2048_S8x16384x1_S8x16384x2048_2_0_n_n_0_2_12048 = D
  show D.start (ix3 e r d) I a + D.batchCoord (ix3 e r d) a + D.offCoord (ix3 e r d) a = _
  rw [GatherDims.batchCoord_eq_zero _ _ _ (by subst hD; exact List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (by subst hD; exact List.mem_singleton.mpr rfl))]
    subst hD
    unfold GatherDims.start
    rw [dif_pos (show (0 : Fin 2) ∈ gather_S163840x2048_S8x16384x1_S8x16384x2048_2_0_n_n_0_2_12048.startIndexMap from List.mem_singleton.mpr rfl)]
    have hsi : ∀ p, gather_S163840x2048_S8x16384x1_S8x16384x2048_2_0_n_n_0_2_12048.siIdx (ix3 e r d) ⟨0, p⟩ = ix3 e r 0 := by
      intro p
      funext b; refine Fin.ext ?_
      match b with
      | ⟨0, _⟩ => rfl
      | ⟨1, _⟩ => rfl
      | ⟨2, _⟩ => rfl
    exact congrArg (fun j => min (I j).toInt.toNat 163839) (hsi _)
  · subst hD
    unfold GatherDims.start GatherDims.offCoord
    rw [dif_neg (show (1 : Fin 2) ∉ gather_S163840x2048_S8x16384x1_S8x16384x2048_2_0_n_n_0_2_12048.startIndexMap from fun h => absurd (List.mem_singleton.mp h) (by decide)),
      dif_pos ((GatherDims.mem_sKept _ _).mpr ⟨fun h => absurd (List.mem_singleton.mp h) (by decide), List.not_mem_nil⟩)]
    show 0 + 0 + (d : ℕ) = d
    omega

theorem words_at (T : IVec S8x16384 32) (Y : IVec S163840x2048 32) (e : Fin 8) (r : Fin 16384) (d : Fin 2048) (h : (T (ix2 e r)).toNat < 163840) :
    words T Y (ix3 e r d) = Y (ix2 (row T e r) d) := by
  unfold words
  rw [gather_at]
  refine congrArg Y (congrArg (fun a : Fin 163840 => ix2 a d) (Fin.ext ?_))
  show min (idxs T (ix3 e r 0)).toInt.toNat 163839 = min (T (ix2 e r)).toNat 163839
  rw [idxs_at T e r h, BitVec.toInt_eq_toNat_cond, if_pos (by omega)]
  omega

/-- The lower half of a packed word. -/
def low (w : BitVec 32) : EReal := Ideal.ofBits .f32 (IntOp.shli .host w 16#32)

/-- The upper half of a packed word. -/
def high (w : BitVec 32) : EReal := Ideal.ofBits .f32 (IntOp.andi w 4294901760#32)

/-- Column `d` of a packed row. -/
def column (P : Fin 2048 → BitVec 32) (d : Fin 4096) : EReal :=
  if h : (d : ℕ) < 2048 then low (P ⟨d, h⟩) else high (P ⟨d - 2048, by omega⟩)

theorem halves_at (P : IVec S8x16384x2048 32) (e : Fin 8) (r : Fin 16384) (d : Fin 4096) :
    halves P (ix3 e r d) = column (fun k => P (ix3 e r k)) d := by
  unfold halves column low high
  pointwise

theorem mixed_at (R : FVec Ideal S8x16384x4096 .f32) (W : FVec Ideal S16384x128 .f32) (S : FVec Ideal S16384x4096 .bf16) (r : Fin 16384) (d : Fin 4096) :
    mixed R W S (ix2 r d) = ∑ e : Fin 8, R (ix3 e r d) * W (ix2 r ⟨e, by omega⟩) + S (ix2 r d) := by
  unfold mixed
  pointwise

theorem stream_at (H Y : FVec Ideal S16384x4096 .f32) (M : FVec Ideal S16x6x4096 .f32) (b : Fin 8) (t : Fin 2048) (d : Fin 4096) :
    stream H Y M (ix3 b t d) = H (ix2 ⟨b * 2048 + t, by omega⟩ d) + M (ix3 ⟨b, by omega⟩ 5 d) * Y (ix2 ⟨b * 2048 + t, by omega⟩ d) := by
  unfold stream
  pointwise

/-- A row over its root mean square, times the gain. -/
def unit (x : Fin 4096 → EReal) (n : EReal) (d : Fin 4096) : EReal :=
  x d * Ideal.rsqrt (Ideal.div (∑ k, x k * x k) (Ideal.ofBits FTy.f32 1166016512#32) + Ideal.ofBits FTy.f32 897988541#32) * n

theorem normed_at (X : FVec Ideal S8x2048x4096 .f32) (N : FVec Ideal S4096 .f32) (r : Fin 16384) (d : Fin 4096) :
    normed X N (ix2 r d) = unit (fun k => X (ix3 ⟨r / 2048, by omega⟩ ⟨r % 2048, by omega⟩ k)) (N (ix1 d)) d := by
  unfold normed unit
  pointwise

/-- The stream after the experts, of the arguments. -/
def after (H : FVec Ideal S16384x4096 .f32) (T : IVec S8x16384 32) (Y : IVec S163840x2048 32) (W : FVec Ideal S16384x128 .f32)
    (S : FVec Ideal S16384x4096 .bf16) (M : FVec Ideal S16x6x4096 .f32) (r : Fin 16384) (d : Fin 4096) : EReal :=
  H (ix2 r d) + M (ix3 ⟨r / 2048, by omega⟩ 5 d) * (∑ e : Fin 8, column (fun k => Y (ix2 (row T e r) k)) d * W (ix2 r ⟨e, by omega⟩) + S (ix2 r d))

/-- The result at row `r`, column `d`. -/
def elt (H : FVec Ideal S16384x4096 .f32) (T : IVec S8x16384 32) (Y : IVec S163840x2048 32) (W : FVec Ideal S16384x128 .f32)
    (S : FVec Ideal S16384x4096 .bf16) (M : FVec Ideal S16x6x4096 .f32) (N : FVec Ideal S4096 .f32) (r : Fin 16384) (d : Fin 4096) : EReal :=
  unit (after H T Y W S M r) (N (ix1 d)) d

theorem ref_at (H : FVec Ideal S16384x4096 .f32) (T : IVec S8x16384 32) (Y : IVec S163840x2048 32) (W : FVec Ideal S16384x128 .f32)
    (S : FVec Ideal S16384x4096 .bf16) (M : FVec Ideal S16x6x4096 .f32) (N : FVec Ideal S4096 .f32) (hT : ∀ y, (T y).toNat < 163840) (r : Fin 16384) (d : Fin 4096) :
    ref H T Y W S M N (ix2 r d) = elt H T Y W S M N r d := by
  unfold ref elt
  rw [normed_at]
  refine congrArg (fun x => unit x (N (ix1 d)) d) (funext fun k => ?_)
  have e : (⟨(⟨r / 2048, by omega⟩ : Fin 8) * 2048 + (⟨r % 2048, by omega⟩ : Fin 2048), by omega⟩ : Fin 16384) = r :=
    Fin.ext (by show (r : ℕ) / 2048 * 2048 + (r : ℕ) % 2048 = r; omega)
  rw [stream_at, e, mixed_at]
  unfold after
  refine congrArg (fun z => H (ix2 r k) + M (ix3 ⟨r / 2048, by omega⟩ 5 k) * (z + S (ix2 r k))) (Finset.sum_congr rfl fun i _ => ?_)
  rw [halves_at]
  refine congrArg (fun P => column P k * W (ix2 r ⟨i, by omega⟩)) (funext fun q => ?_)
  exact words_at T Y i r q (hT _)

end Cert.FinRef

end
-- ==== Proof.FinVal.lean ====
module

public import proofs.«01_k».proof.Proof.FinFrame
public import proofs.«01_k».proof.Proof.FinRef
public import Idealize.ShloMosaic.Lib.Pipeline.ValueKit
public import Idealize.ShloMosaic.Lib.Pipeline.Covers
public import Idealize.ShloMosaic.Lib.Pointwise
public import Idealize.ShloMosaic.Lib.Tactic.CleanTypes

/-! What the last row-wise call stores, element by element. -/

@[expose] public section

set_option maxRecDepth 16384

noncomputable section

namespace Cert.FinishIdeal.Gather

open Cert.FinishIdeal Cert.FinishIdeal.Gen
open Idealize.ShloMosaic Idealize.ShloMosaic.TcCoe Idealize.ShloMosaic.Pointwise
open Cert.FinRef (low high column unit row elt)

/-- The experts' sum over the shared expert's output, in the lower half of the columns. -/
def lower (W : FVec Ideal S128x128 .f32) (s : FVec Ideal S128x2048 .bf16) (p0 p1 p2 p3 p4 p5 p6 p7 : IVec S1x128x2048 32) : FVec Ideal S128x2048 .f32 :=
  addf (k0_pay17 (F := Ideal) W (k0_pay10 W (k0_pay3 W s p0) (k0_pay7 W p1) p2 p3) (k0_pay13 p4) p5 p6)
    (mulf (broadcastTo S128x2048 (extractStridedSlice S128x1 ![0, 7] W slices_S128x128_o0_7_S128x1) broadcasts_S128x1_S128x2048) (k0_pay20 p7))

/-- The same in the upper half. -/
def upper (W : FVec Ideal S128x128 .f32) (s : FVec Ideal S128x2048 .bf16) (p0 p1 p2 p3 p4 p5 p6 p7 : IVec S1x128x2048 32) : FVec Ideal S128x2048 .f32 :=
  addf (k0_pay18 (F := Ideal) W (k0_pay11 W (k0_pay4 W s p0) (k0_pay6 p1) p2 p3) (k0_pay14 p4) p5 p6)
    (mulf (broadcastTo S128x2048 (extractStridedSlice S128x1 ![0, 7] W slices_S128x128_o0_7_S128x1) broadcasts_S128x1_S128x2048)
      (bitcastToFloat .f32 (andi (k0_pay19 (F := Ideal) p7) (broadcast S128x2048 4294901760#32))))

def stream (lo hi : FVec Ideal S128x2048 .f32) (h : FVec Ideal S128x4096 .f32) (g : FVec Ideal S1x1x4096 .f32) : FVec Ideal S128x4096 .f32 :=
  addf h (mulf (broadcastTo S128x4096 (shapeCast S1x4096 g shapeCasts_S1x1x4096_S1x4096) broadcasts_S1x4096_S128x4096)
    (concatenate S128x4096 1 [⟨S128x2048, lo⟩, ⟨S128x2048, hi⟩] concatenates_S128x2048_S128x2048_S128x4096_d1))

def normed (x : FVec Ideal S128x4096 .f32) (g : FVec Ideal S1x4096 .f32) : FVec Ideal S128x4096 .f32 :=
  mulf (mulf x (broadcastTo S128x4096 (rsqrt (addf (divf (shapeCast S128x1 (multiReduction .add [1] S128 (mulf x x) 0x00000000#32 reduces_S128x4096_S128 (.inl rfl) rfl) shapeCasts_S128_S128x1) (broadcast S128x1 (Scalar.ofBits .f32 0x45800000#32))) (broadcast S128x1 (Scalar.ofBits .f32 0x358637BD#32)))) broadcasts_S128x1_S128x4096))
    (broadcastTo S128x4096 (shapeCast S1x4096 g shapeCasts_S1x4096_S1x4096) broadcasts_S1x4096_S128x4096)

theorem stored_eq (W : FVec Ideal S128x128 .f32) (s t : FVec Ideal S128x2048 .bf16) (p0 p1 p2 p3 p4 p5 p6 p7 : IVec S1x128x2048 32)
    (h : FVec Ideal S128x4096 .f32) (g : FVec Ideal S1x1x4096 .f32) (n : FVec Ideal S1x4096 .f32) :
    stored (F := Ideal) W s t p0 p1 p2 p3 p4 p5 p6 p7 h g n
      = normed (stream (lower W s p0 p1 p2 p3 p4 p5 p6 p7) (upper W t p0 p1 p2 p3 p4 p5 p6 p7) h g) n := rfl

/-- The eight slots. -/
abbrev pick (p : (k : ℕ) → k < 8 → IVec S1x128x2048 32) (e : Fin 8) : IVec S1x128x2048 32 := p e e.isLt

theorem sum8 (f : Fin 8 → EReal) : ∑ e, f e = f 0 + f 1 + f 2 + f 3 + f 4 + f 5 + f 6 + f 7 := by
  simp only [Fin.sum_univ_succ, Fin.sum_univ_zero, add_zero, ← add_assoc]
  rfl

theorem lower_at (W : FVec Ideal S128x128 .f32) (s : FVec Ideal S128x2048 .bf16) (p : (k : ℕ) → k < 8 → IVec S1x128x2048 32) (r : Fin 128) (d : Fin 2048) :
    lower W s (p 0 (by decide)) (p 1 (by decide)) (p 2 (by decide)) (p 3 (by decide)) (p 4 (by decide)) (p 5 (by decide)) (p 6 (by decide)) (p 7 (by decide)) (ix2 r d)
      = ∑ e : Fin 8, low (pick p e (ix3 0 r d)) * W (ix2 r ⟨e, by omega⟩) + s (ix2 r d) := by
  unfold lower k0_pay17 k0_pay10 k0_pay3 k0_pay7 k0_pay13 k0_pay20
  unfold_payloads
  pointwise
  rw [sum8, add_comm _ (s (ix2 r d))]
  simp only [← add_assoc]
  simp only [mul_comm (low _)]
  rfl

theorem upper_at (W : FVec Ideal S128x128 .f32) (s : FVec Ideal S128x2048 .bf16) (p : (k : ℕ) → k < 8 → IVec S1x128x2048 32) (r : Fin 128) (d : Fin 2048) :
    upper W s (p 0 (by decide)) (p 1 (by decide)) (p 2 (by decide)) (p 3 (by decide)) (p 4 (by decide)) (p 5 (by decide)) (p 6 (by decide)) (p 7 (by decide)) (ix2 r d)
      = ∑ e : Fin 8, high (pick p e (ix3 0 r d)) * W (ix2 r ⟨e, by omega⟩) + s (ix2 r d) := by
  unfold upper k0_pay18 k0_pay11 k0_pay4 k0_pay6 k0_pay14 k0_pay19
  unfold_payloads
  pointwise
  rw [sum8, add_comm _ (s (ix2 r d))]
  simp only [← add_assoc]
  simp only [mul_comm (high _)]
  rfl

theorem stream_at (lo hi : FVec Ideal S128x2048 .f32) (h : FVec Ideal S128x4096 .f32) (g : FVec Ideal S1x1x4096 .f32) (r : Fin 128) (d : Fin 4096) :
    stream lo hi h g (ix2 r d)
      = h (ix2 r d) + g (ix3 0 0 d) * if h : (d : ℕ) < 2048 then lo (ix2 r ⟨d, h⟩) else hi (ix2 r ⟨d - 2048, by omega⟩) := by
  unfold stream
  pointwise

theorem normed_at (x : FVec Ideal S128x4096 .f32) (g : FVec Ideal S1x4096 .f32) (r : Fin 128) (d : Fin 4096) :
    normed x g (ix2 r d) = unit (fun k => x (ix2 r k)) (g (ix2 0 d)) d := by
  unfold normed unit
  pointwise

/-- What is stored at a row and a column of a block. -/
theorem stored_at (x1 : FVec Ideal S128x4096 .f32) (x4 : FVec Ideal S128x128 .f32) (x5 : FVec Ideal S128x4096 .bf16) (x6 : FVec Ideal S1x6x4096 .f32)
    (x7 : FVec Ideal S1x4096 .f32) (g : (k : ℕ) → k < 8 → IVec S1x128x2048 32) (r : Fin 128) (d : Fin 4096) :
    storedAt (F := Ideal) x1 x4 x5 x6 x7 g (ix2 r d) = unit (fun k => x1 (ix2 r k) + x6 (ix3 0 5 k)
      * (∑ e : Fin 8, column (fun q => pick g e (ix3 0 r q)) k * x4 (ix2 r ⟨e, by omega⟩) + x5 (ix2 r k))) (x7 (ix2 0 d)) d := by
  unfold storedAt
  rw [stored_eq, normed_at]
  refine congrArg (fun x => unit x (x7 (ix2 0 d)) d) (funext fun k => ?_)
  rw [stream_at]
  refine congrArg₂ (· + ·) rfl (congrArg₂ (· * ·) ?_ ?_)
  · refine congrArg x6 ?_
    funext a; refine Fin.ext ?_
    match a with
    | ⟨0, _⟩ => rfl
    | ⟨1, _⟩ => rfl
    | ⟨2, _⟩ => exact (Rect.idx_unit_val _ _ _ _ _).trans (show 0 + (k : ℕ) = k by omega)
  · by_cases h : (k : ℕ) < 2048
    · rw [dif_pos h, lower_at]
      unfold column
      simp only [dif_pos h]
      refine congrArg₂ (· + ·) rfl (congrArg x5 ?_)
      funext a; refine Fin.ext ?_
      match a with
      | ⟨0, _⟩ => exact (Rect.idx_unit_val _ _ _ _ _).trans (show 0 + (r : ℕ) = r by omega)
      | ⟨1, _⟩ => exact (Rect.idx_unit_val _ _ _ _ _).trans (show 0 + (k : ℕ) = k by omega)
    · rw [dif_neg h, upper_at]
      unfold column
      simp only [dif_neg h]
      refine congrArg₂ (· + ·) rfl (congrArg x5 ?_)
      funext a; refine Fin.ext ?_
      match a with
      | ⟨0, _⟩ => exact (Rect.idx_unit_val _ _ _ _ _).trans (show 0 + (r : ℕ) = r by omega)
      | ⟨1, _⟩ => exact (Rect.idx_unit_val _ _ _ _ _).trans (show 2048 + ((k : ℕ) - 2048) = k by omega)

end Cert.FinishIdeal.Gather

end
-- ==== Proof.FinPre.lean ====
module

public import proofs.«01_k».proof.Defs
public import proofs.«01_k».proof.Proof.FinFrame
public import proofs.«01_k».proof.Proof.Gen.Pre_rows_taken
public import Idealize.ShloMosaic.Lib.Pointwise
public import Idealize.ShloMosaic.Lib.Pipeline.ValueKit

/-! The precondition says the table names rows that exist, so every run ends with the arguments unchanged. -/

@[expose] public section

set_option maxRecDepth 16384

noncomputable section

namespace Cert.FinishIdeal.Gather

open Cert.FinishIdeal Cert.FinishIdeal.Gen
open Idealize.ShloMosaic Idealize.ShloMosaic.TcCoe Idealize.ShloMosaic.Pointwise Idealize.SL.Sem

theorem and_two (a b : Bool) (h : BitVec.ofBool a &&& BitVec.ofBool b = 1#1) : a = true ∧ b = true := by
  revert a b; decide

theorem lt_of_bits (a : BitVec 32) (h : IntOp.andi (IntOp.cmpi .sge a 0#32) (IntOp.cmpi .slt a 163840#32) = 1#1) : a.toNat < 163840 := by
  obtain ⟨h1, h2⟩ := and_two _ _ h
  have e1 : (0#32).toInt ≤ a.toInt := by simpa [BitVec.sle] using h1
  have e2 : a.toInt < (163840#32).toInt := by simpa [BitVec.slt] using h2
  rw [show (0#32).toInt = 0 from rfl, BitVec.toInt_eq_toNat_cond] at e1
  rw [show (163840#32).toInt = 163840 from rfl, BitVec.toInt_eq_toNat_cond] at e2
  have := a.isLt
  split at e1 <;> split at e2 <;> omega

theorem lt_of_pre (H) (T : IVec Pre_rows_taken.S8x16384 32) (Y W S M N)
    (h : @Cert.Pre_rows_taken.fn Cert.Pre_rows_taken.Gen.facts Ideal _ H T Y W S M N = fun _ => 1#1) (y : Pre_rows_taken.S8x16384.Idx) : (T y).toNat < 163840 := by
  have hy := congrFun h y
  pointwise [Cert.Pre_rows_taken.fn] at hy
  exact lt_of_bits _ hy

/-- Every row the table names exists. -/
abbrev Exist (m : (ℓ : Loc nD τ sig) → Buf (Elt Ideal) ℓ) : Prop :=
  ∀ (c : Dev nD) (y : S8x16384.Idx), ((m ((c : Thread nD τ).loc main_arg1) : S8x16384.Idx → BitVec 32) y).toNat < 163840

theorem named (m : (ℓ : Loc nD τ sig) → Buf (Elt Ideal) ℓ) (h : Exist m) : Named (F := Ideal) m := by
  intro c t y
  have e : ∃ z : S8x16384.Idx, (iblk m c 1 t : S8x128.Idx → BitVec 32) y = (m ((c : Thread nD τ).loc main_arg1) : S8x16384.Idx → BitVec 32) z :=
    ⟨(win0_1.blk t).view.emb y, congrFun (V_main_arg1 m c) _⟩
  obtain ⟨z, hz⟩ := e
  rw [hz]
  exact h c z

theorem framed : Cert.quiescent_FinishIdeal (hFinishIdeal := Cert.FinishIdeal.Gen.facts) (hPre_rows_taken := Cert.Pre_rows_taken.Gen.facts) :=
  fun m g hpre => keeps m g (named m fun c => lt_of_pre _ _ _ _ _ _ _ (hpre c))

end Cert.FinishIdeal.Gather

end
-- ==== Proof.FinFinal.lean ====
module

public import proofs.«01_k».proof.Proof.FinVal
public import proofs.«01_k».proof.Proof.FinPre

/-! The array the last row-wise call leaves. -/

@[expose] public section

set_option maxRecDepth 16384

noncomputable section

namespace Cert.FinishIdeal.Gather

open Cert.FinishIdeal Cert.FinishIdeal.Gen
open Idealize.ShloMosaic Idealize.ShloMosaic.TcCoe Idealize.ShloMosaic.Pointwise Idealize.SL.Sem
open Cert.FinRef (low high column unit elt)

theorem idx : ∀ t : Fin grid0.N,
    ((win0_0.index t = ![t.val, 0] ∧ win0_1.index t = ![0, t.val]) ∧ (win0_2.index t = ![t.val, 0] ∧ win0_3.index t = ![t.val, 0]))
    ∧ (win0_4.index t = ![t.val / 16, 0, 0] ∧ win0_5.index t = ![0, 0]) ∧ win0_6.index t = ![t.val, 0] := by
  decide +kernel

variable (m : (ℓ : Loc nD τ sig) → Buf (Elt Ideal) ℓ) (hx : Exist m)

theorem gain_cast (X : FVec Ideal S4096 .f32) (k : Fin 4096) : (shapeCast S1x4096 X shapeCasts_S4096_S1x4096 : FVec Ideal S1x4096 .f32) (ix2 0 k) = X (ix1 k) := by
  pointwise

theorem V_gain (c : Dev nD) (k : Fin 4096) : V m c main_v0 (ix2 0 k : S1x4096.Idx) = m ((c : Thread nD τ).loc main_arg6) (ix1 k) := by
  have h : V m c main_v0 = shapeCast S1x4096 (m ((c : Thread nD τ).loc main_arg6)) shapeCasts_S4096_S1x4096 := by
    unfold V
    after_results <;> rfl
  rw [h]
  exact gain_cast _ k

theorem gain_at (c : Dev nD) (t : Fin cfg0.N) (k : Fin 4096) : iblk m c 5 t (ix2 0 k : S1x4096.Idx) = m ((c : Thread nD τ).loc main_arg6) (ix1 k) := by
  obtain ⟨_, ⟨_, e5⟩, _⟩ := idx t
  refine Eq.trans ?_ (V_gain m c k)
  blk_ext [iblk, e5]

theorem stream_blk (c : Dev nD) (t : Fin cfg0.N) (r : Fin 128) (k : Fin 4096) (R : Fin 16384) (hR : (R : ℕ) = t.val * 128 + r) :
    iblk m c 0 t (ix2 r k : S128x4096.Idx) = m ((c : Thread nD τ).loc main_arg0) (ix2 R k) := by
  obtain ⟨⟨⟨e0, _⟩, _⟩, _⟩ := idx t
  blk_ext [iblk, V, e0]

theorem table_blk (c : Dev nD) (t : Fin cfg0.N) (r : Fin 128) (e : Fin 8) (R : Fin 16384) (hR : (R : ℕ) = t.val * 128 + r) :
    iblk m c 1 t (ix2 e r : S8x128.Idx) = m ((c : Thread nD τ).loc main_arg1) (ix2 e R) := by
  obtain ⟨⟨⟨_, e1⟩, _⟩, _⟩ := idx t
  blk_ext [iblk, V, e1]

theorem weight_blk (c : Dev nD) (t : Fin cfg0.N) (r : Fin 128) (e : Fin 128) (R : Fin 16384) (hR : (R : ℕ) = t.val * 128 + r) :
    iblk m c 2 t (ix2 r e : S128x128.Idx) = m ((c : Thread nD τ).loc main_arg3) (ix2 R e) := by
  obtain ⟨⟨_, e2, _⟩, _⟩ := idx t
  blk_ext [iblk, V, e2]

theorem shared_blk (c : Dev nD) (t : Fin cfg0.N) (r : Fin 128) (k : Fin 4096) (R : Fin 16384) (hR : (R : ℕ) = t.val * 128 + r) :
    iblk m c 3 t (ix2 r k : S128x4096.Idx) = m ((c : Thread nD τ).loc main_arg4) (ix2 R k) := by
  obtain ⟨⟨_, _, e3⟩, _⟩ := idx t
  blk_ext [iblk, V, e3]

theorem gate_blk (c : Dev nD) (t : Fin cfg0.N) (r : Fin 128) (k : Fin 4096) (R : Fin 16384) (hR : (R : ℕ) = t.val * 128 + r) :
    iblk m c 4 t (ix3 0 5 k : S1x6x4096.Idx) = m ((c : Thread nD τ).loc main_arg5) (ix3 ⟨R / 2048, by omega⟩ 5 k) := by
  obtain ⟨_, ⟨e4, _⟩, _⟩ := idx t
  blk_ext [iblk, V, e4]

/-- The word of expert `e`'s slot at a token is the row's the table names. -/
theorem slot_at (c : Dev nD) (t : Fin cfg0.N) (r : Fin 128) (e : Fin 8) (q : Fin 2048) (R : Fin 16384) (hR : (R : ℕ) = t.val * 128 + r) :
    slot (taken (V m c main_arg2) (word (iblk m c 1 t)) (word_lt _ (named m hx c t))) e e.isLt (ix3 0 r q)
      = (m ((c : Thread nD τ).loc main_arg2) : S163840x2048.Idx → BitVec 32) (ix2 (FinRef.row (m ((c : Thread nD τ).loc main_arg1)) e R) q) := by
  rw [V_main_arg2]
  unfold slot taken
  refine congrArg _ ?_
  funext a; refine Fin.ext ?_
  match a with
  | ⟨0, _⟩ =>
    have hw : word (iblk m c 1 t) ((e : ℕ) + 1 * 0) (0 + 1 * (r : ℕ)) = m ((c : Thread nD τ).loc main_arg1) (ix2 e R) := by
      refine Eq.trans ?_ (table_blk m c t r e R hR)
      unfold word
      rw [dif_pos ⟨by omega, by omega⟩]
      refine congrArg _ (congrArg₂ (fun a b => ix2 (n0 := 8) (n1 := 128) a b) (Fin.ext ?_) (Fin.ext ?_))
      · show (e : ℕ) + 1 * 0 = e; omega
      · show 0 + 1 * (r : ℕ) = r; omega
    show (word (iblk m c 1 t) ((e : ℕ) + 1 * 0) (0 + 1 * (r : ℕ))).toNat = min (BitVec.toNat _) 163839
    rw [hw]
    have := hx c (ix2 e R)
    omega
  | ⟨1, _⟩ => show 0 + 1 * (q : ℕ) = q; omega

theorem final (c : Dev nD) :
    (dats m (named m hx) 0 c).arrAt 6 cfg0.N = fun i => elt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (i 0) (i 1) := by
  refine (dats m (named m hx) 0 c).arrAt_eq_of_covers 6 _ (by decide +kernel) fun t hf y => ?_
  obtain ⟨_, _, e6⟩ := idx t
  blk_simp [e6]
  rw [after_6]
  have hR : (((win0_6.blk t).view.emb y 0 : Fin 16384) : ℕ) = t.val * 128 + (y 0).val := by blk_simp [e6]
  have hC : (((win0_6.blk t).view.emb y 1 : Fin 4096) : ℕ) = (y 1).val := by blk_simp [e6]
  have hy0 : (y 0).val < 128 := (y 0).isLt
  have hy1 : (y 1).val < 4096 := (y 1).isLt
  generalize ((win0_6.blk t).view.emb y 0 : Fin 16384) = R at hR ⊢
  generalize ((win0_6.blk t).view.emb y 1 : Fin 4096) = C at hC ⊢
  obtain ⟨r, hr⟩ : ∃ r : Fin 128, (r : ℕ) = (y 0).val := ⟨⟨_, hy0⟩, rfl⟩
  have hy : y = (ix2 r C : S128x4096.Idx) := by
    funext a; refine Fin.ext ?_
    match a with
    | ⟨0, _⟩ => exact hr.symm
    | ⟨1, _⟩ => exact hC.symm
  have hR' : (R : ℕ) = t.val * 128 + r := by rw [hr]; exact hR
  rw [hy]
  refine (stored_at (iblk m c 0 t) (iblk m c 2 t) (iblk m c 3 t) (iblk m c 4 t) (iblk m c 5 t) _ r C).trans ?_
  unfold elt
  refine congrArg₂ (fun x n => unit x n C) (funext fun k => ?_) (gain_at m c t C)
  unfold FinRef.after
  refine congrArg₂ (· + ·) (stream_blk m c t r k R hR') (congrArg₂ (· * ·) (gate_blk m c t r k R hR')
    (congrArg₂ (· + ·) (Finset.sum_congr rfl fun e _ => congrArg₂ (· * ·) ?_ (weight_blk m c t r _ R hR')) (shared_blk m c t r k R hR')))
  exact congrArg (fun P => column P k) (funext fun q => slot_at m hx c t r e q R hR')

end Cert.FinishIdeal.Gather

end
-- ==== Proof.Fin.lean ====
module

public import proofs.«01_k».proof.Proof.FinFinal

/-! The last row-wise call: the kernel's array is the reference's. -/

@[expose] public section

set_option maxRecDepth 16384

noncomputable section

namespace Cert.FinVal

open Idealize.ShloMosaic Idealize.ShloMosaic.TcCoe Idealize.SL.Sem Idealize.ShloMosaic.Pointwise
open Cert.FinRef (elt)

/-- The claim about the values of the last row-wise call. -/
theorem algebraic :
    Cert.algebraic_FinishIdeal_FinishSpecIdeal (hFinishIdeal := Cert.FinishIdeal.Gen.facts)
      (hFinishSpecIdeal := Cert.FinishSpecIdeal.Gen.facts) (hPre_rows_taken := Cert.Pre_rows_taken.Gen.facts) := by
  intro m g m' g' hpre hagree
  have hx : Cert.FinishIdeal.Gather.Exist m := fun c => Cert.FinishIdeal.Gather.lt_of_pre _ _ _ _ _ _ _ (hpre c)
  have hn := Cert.FinishIdeal.Gather.named m hx
  refine ⟨fun c => fun i => elt (m ((c.tc : Thread _ _).loc Cert.FinishIdeal.main_arg0)) (m ((c.tc : Thread _ _).loc Cert.FinishIdeal.main_arg1))
      (m ((c.tc : Thread _ _).loc Cert.FinishIdeal.main_arg2)) (m ((c.tc : Thread _ _).loc Cert.FinishIdeal.main_arg3))
      (m ((c.tc : Thread _ _).loc Cert.FinishIdeal.main_arg4)) (m ((c.tc : Thread _ _).loc Cert.FinishIdeal.main_arg5))
      (m ((c.tc : Thread _ _).loc Cert.FinishIdeal.main_arg6)) (i 0) (i 1),
    (θ_run _ _ _).mono (fun r h c => ⟨(h.1 c).trans (Cert.FinishIdeal.Gather.final m hx c), h.2 c⟩) (Cert.FinishIdeal.Gather.leaves m g hn),
    (θ_run _ _ _).mono (fun r h c => ⟨(h c).1.trans ?_, (h c).2⟩) (Cert.FinishSpecIdeal.Value.run m' g')⟩
  obtain ⟨a0, a1, a2, a3, a4, a5, a6⟩ := hagree c
  refine (Cert.FinRef.ref_eq m' c).trans ?_
  rw [a0, a1, a2, a3, a4, a5, a6]
  funext i
  idx_vars i
  exact Cert.FinRef.ref_at _ _ _ _ _ _ _ (hx c) _ _

end Cert.FinVal

end
-- ==== Proof.lean ====
module

public import proofs.«01_k».proof.Defs
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionSpecIdeal
public import proofs.«01_k».proof.Proof.Gen.Pre_finite
public import proofs.«01_k».proof.Proof.Gen.Experts
public import proofs.«01_k».proof.Proof.Gen.Experts.Skeleton
public import proofs.«01_k».proof.Proof.Gen.Experts.Launch
public import proofs.«01_k».proof.Proof.Gen.Experts.Flash.Runs
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash.Runs
public import proofs.«01_k».proof.Proof.Gen.ExpertsSpecIdeal
public import proofs.«01_k».proof.Proof.Gen.ExpertsSpecIdeal.Run
public import proofs.«01_k».proof.Proof.Gen.Pre_tables
public import proofs.«01_k».proof.Proof.Gen.Pre_rows_taken
public import proofs.«01_k».proof.Proof.Gen.On_live_rows
public import proofs.«01_k».proof.Proof.Gen.LastExperts
public import proofs.«01_k».proof.Proof.Gen.LastExperts.Skeleton
public import proofs.«01_k».proof.Proof.Gen.LastExperts.Launch
public import proofs.«01_k».proof.Proof.Gen.LastExperts.Flash.Runs
public import proofs.«01_k».proof.Proof.Gen.LastExpertsIdeal
public import proofs.«01_k».proof.Proof.Gen.LastExpertsIdeal.Skeleton
public import proofs.«01_k».proof.Proof.Gen.LastExpertsIdeal.Launch
public import proofs.«01_k».proof.Proof.Gen.LastExpertsIdeal.Flash.Runs
public import proofs.«01_k».proof.Proof.Gen.LastExpertsSpecIdeal
public import proofs.«01_k».proof.Proof.Gen.LastExpertsSpecIdeal.Run
public import proofs.«01_k».proof.Proof.Gen.Pre_last_tables
public import proofs.«01_k».proof.Proof.Gen.On_last_live_rows
public import proofs.«01_k».proof.Proof.Gen.AttentionIdeal.Value
public import proofs.«01_k».proof.Proof.Gen.AttentionSpecIdeal.Run
public import proofs.«01_k».proof.Proof.Att
public import proofs.«01_k».proof.Proof.ExpPreB
public import proofs.«01_k».proof.Proof.Exp
public import proofs.«01_k».proof.Proof.LastPreB
public import proofs.«01_k».proof.Proof.LastExp
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputIdeal.Value
public import proofs.«01_k».proof.Proof.Gen.OutputSpecIdeal
public import proofs.«01_k».proof.Proof.Gen.OutputSpecIdeal.Run
public import proofs.«01_k».proof.Proof.Gen.MlstmIn
public import proofs.«01_k».proof.Proof.Gen.MlstmIn.Skeleton
public import proofs.«01_k».proof.Proof.Gen.MlstmIn.Launch
public import proofs.«01_k».proof.Proof.Gen.MlstmIn.Points
public import proofs.«01_k».proof.Proof.Gen.MlstmIn.Frame
public import proofs.«01_k».proof.Proof.Gen.MlstmInIdeal
public import proofs.«01_k».proof.Proof.Gen.MlstmInIdeal.Skeleton
public import proofs.«01_k».proof.Proof.Gen.MlstmInIdeal.Launch
public import proofs.«01_k».proof.Proof.Gen.MlstmInIdeal.Points
public import proofs.«01_k».proof.Proof.Gen.MlstmInIdeal.Frame
public import proofs.«01_k».proof.Proof.Gen.MlstmInIdeal.Value
public import proofs.«01_k».proof.Proof.Gen.MlstmInSpecIdeal
public import proofs.«01_k».proof.Proof.Gen.MlstmInSpecIdeal.Run
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvSpecIdeal
public import proofs.«01_k».proof.Proof.Gen.QkvSpecIdeal.Run
public import proofs.«01_k».proof.Proof.Gen.WindowQkv
public import proofs.«01_k».proof.Proof.Gen.WindowQkv.Skeleton
public import proofs.«01_k».proof.Proof.Gen.WindowQkv.Launch
public import proofs.«01_k».proof.Proof.Gen.WindowQkv.Points
public import proofs.«01_k».proof.Proof.Gen.WindowQkv.Frame
public import proofs.«01_k».proof.Proof.Gen.WindowQkvIdeal
public import proofs.«01_k».proof.Proof.Gen.WindowQkvIdeal.Skeleton
public import proofs.«01_k».proof.Proof.Gen.WindowQkvIdeal.Launch
public import proofs.«01_k».proof.Proof.Gen.WindowQkvIdeal.Points
public import proofs.«01_k».proof.Proof.Gen.WindowQkvIdeal.Frame
public import proofs.«01_k».proof.Proof.Gen.WindowQkvIdeal.Value
public import proofs.«01_k».proof.Proof.Gen.WindowQkvSpecIdeal
public import proofs.«01_k».proof.Proof.Gen.WindowQkvSpecIdeal.Run
public import proofs.«01_k».proof.Proof.Gen.Finish
public import proofs.«01_k».proof.Proof.Gen.Finish.Skeleton
public import proofs.«01_k».proof.Proof.Gen.Finish.Launch
public import proofs.«01_k».proof.Proof.Gen.Finish.Points
public import proofs.«01_k».proof.Proof.Gen.Finish.Frame
public import proofs.«01_k».proof.Proof.Gen.FinishIdeal
public import proofs.«01_k».proof.Proof.Gen.FinishIdeal.Skeleton
public import proofs.«01_k».proof.Proof.Gen.FinishIdeal.Launch
public import proofs.«01_k».proof.Proof.Gen.FinishIdeal.Points
public import proofs.«01_k».proof.Proof.Gen.FinishIdeal.Frame
public import proofs.«01_k».proof.Proof.Gen.FinishSpecIdeal
public import proofs.«01_k».proof.Proof.Gen.FinishSpecIdeal.Run
public import proofs.«01_k».proof.Proof.Out
public import proofs.«01_k».proof.Proof.Mls
public import proofs.«01_k».proof.Proof.Qkv
public import proofs.«01_k».proof.Proof.Win
public import proofs.«01_k».proof.Proof.FinPreB
public import proofs.«01_k».proof.Proof.Fin
public import Idealize.ShloMosaic.Adequacy
public import Idealize.ShloMosaic.Init

@[expose] public section

noncomputable section

namespace Cert.Proof

open Idealize.ShloMosaic Idealize.SL.Sem Cert.Attention

theorem claim : Cert.Claim := ⟨Cert.Attention.Gen.facts, Cert.AttentionIdeal.Gen.facts, Cert.AttentionSpecIdeal.Gen.facts,
    Cert.Experts.Gen.facts, Cert.ExpertsIdeal.Gen.facts, Cert.ExpertsSpecIdeal.Gen.facts,
    Cert.LastExperts.Gen.facts, Cert.LastExpertsIdeal.Gen.facts, Cert.LastExpertsSpecIdeal.Gen.facts,
    Cert.Output.Gen.facts, Cert.OutputIdeal.Gen.facts, Cert.OutputSpecIdeal.Gen.facts,
    Cert.MlstmIn.Gen.facts, Cert.MlstmInIdeal.Gen.facts, Cert.MlstmInSpecIdeal.Gen.facts,
    Cert.Qkv.Gen.facts, Cert.QkvIdeal.Gen.facts, Cert.QkvSpecIdeal.Gen.facts,
    Cert.WindowQkv.Gen.facts, Cert.WindowQkvIdeal.Gen.facts, Cert.WindowQkvSpecIdeal.Gen.facts,
    Cert.Finish.Gen.facts, Cert.FinishIdeal.Gen.facts, Cert.FinishSpecIdeal.Gen.facts,
    Cert.Pre_finite.Gen.facts, Cert.Pre_tables.Gen.facts, Cert.Pre_last_tables.Gen.facts, Cert.Pre_rows_taken.Gen.facts, Cert.On_live_rows.Gen.facts, Cert.On_last_live_rows.Gen.facts,
    fun m g _ => Cert.Attention.Gen.frame m g, fun m g _ => Cert.AttentionIdeal.Gen.frame m g, fun m g _ => Cert.AttentionIdeal.Gen.frame m g,
    fun m g _ => (θ_run _ _ _).mono (fun r h => ⟨fun c => (h c).2, sem_eq_zero_of_no_sems (by decide) r.2⟩) (Cert.AttentionSpecIdeal.Value.run m g), fun m g _ => (θ_run _ _ _).mono (fun r h => ⟨fun c => (h c).2, sem_eq_zero_of_no_sems (by decide) r.2⟩) (Cert.AttentionSpecIdeal.Value.run m g),
    Cert.Experts.Tab.framed, Cert.ExpertsIdeal.Tab.framed,
    fun m g _ => (θ_run _ _ _).mono (fun r h => ⟨fun c => (h c).2, sem_eq_zero_of_no_sems (by decide) r.2⟩) (Cert.ExpertsSpecIdeal.Value.run m g), fun m g _ => (θ_run _ _ _).mono (fun r h => ⟨fun c => (h c).2, sem_eq_zero_of_no_sems (by decide) r.2⟩) (Cert.ExpertsSpecIdeal.Value.run m g),
    Cert.LastExperts.Tab.framed, Cert.LastExpertsIdeal.Tab.framed,
    fun m g _ => (θ_run _ _ _).mono (fun r h => ⟨fun c => (h c).2, sem_eq_zero_of_no_sems (by decide) r.2⟩) (Cert.LastExpertsSpecIdeal.Value.run m g), fun m g _ => (θ_run _ _ _).mono (fun r h => ⟨fun c => (h c).2, sem_eq_zero_of_no_sems (by decide) r.2⟩) (Cert.LastExpertsSpecIdeal.Value.run m g),
    fun m g _ => Cert.Output.Gen.frame m g, fun m g _ => Cert.OutputIdeal.Gen.frame m g,
    fun m g _ => (θ_run _ _ _).mono (fun r h => ⟨fun c => (h c).2, sem_eq_zero_of_no_sems (by decide) r.2⟩) (Cert.OutputSpecIdeal.Value.run m g),
    fun m g _ => Cert.MlstmIn.Gen.frame m g, fun m g _ => Cert.MlstmInIdeal.Gen.frame m g,
    fun m g _ => (θ_run _ _ _).mono (fun r h => ⟨fun c => (h c).2, sem_eq_zero_of_no_sems (by decide) r.2⟩) (Cert.MlstmInSpecIdeal.Value.run m g),
    fun m g _ => Cert.Qkv.Gen.frame m g, fun m g _ => Cert.QkvIdeal.Gen.frame m g,
    fun m g _ => (θ_run _ _ _).mono (fun r h => ⟨fun c => (h c).2, sem_eq_zero_of_no_sems (by decide) r.2⟩) (Cert.QkvSpecIdeal.Value.run m g),
    fun m g _ => Cert.WindowQkv.Gen.frame m g, fun m g _ => Cert.WindowQkvIdeal.Gen.frame m g,
    fun m g _ => (θ_run _ _ _).mono (fun r h => ⟨fun c => (h c).2, sem_eq_zero_of_no_sems (by decide) r.2⟩) (Cert.WindowQkvSpecIdeal.Value.run m g),
    Cert.Finish.Gather.framed, Cert.FinishIdeal.Gather.framed,
    fun m g _ => (θ_run _ _ _).mono (fun r h => ⟨fun c => (h c).2, sem_eq_zero_of_no_sems (by decide) r.2⟩) (Cert.FinishSpecIdeal.Value.run m g), fun m g _ => (θ_run _ _ _).mono (fun r h => ⟨fun c => (h c).2, sem_eq_zero_of_no_sems (by decide) r.2⟩) (Cert.FinishSpecIdeal.Value.run m g),
    trivial, Cert.Att.algebraic, trivial, Cert.Exp.algebraic, trivial, Cert.Last.algebraic,
    trivial, Cert.Out.algebraic, trivial, Cert.Mls.algebraic, trivial, Cert.QkvVal.algebraic, trivial, Cert.WinVal.algebraic,
    trivial, Cert.FinVal.algebraic⟩

end Cert.Proof

end
